-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S8x1024x3 : Shape := ⟨3, ![8, 1024, 3]⟩
abbrev S16x1x9 : Shape := ⟨3, ![16, 1, 9]⟩
abbrev S32x1 : Shape := ⟨2, ![32, 1]⟩
abbrev S32 : Shape := ⟨1, ![32]⟩
abbrev S8x48x16x9 : Shape := ⟨4, ![8, 48, 16, 9]⟩
abbrev S8x48x32 : Shape := ⟨3, ![8, 48, 32]⟩
abbrev S8x96x16 : Shape := ⟨3, ![8, 96, 16]⟩
abbrev S8x96x32 : Shape := ⟨3, ![8, 96, 32]⟩
abbrev S8x16x16x9 : Shape := ⟨4, ![8, 16, 16, 9]⟩
abbrev S8x16x32 : Shape := ⟨3, ![8, 16, 32]⟩
abbrev S8x32x16 : Shape := ⟨3, ![8, 32, 16]⟩
abbrev S8x32x32 : Shape := ⟨3, ![8, 32, 32]⟩
abbrev S8x32x16x9 : Shape := ⟨4, ![8, 32, 16, 9]⟩
abbrev S8x64x16 : Shape := ⟨3, ![8, 64, 16]⟩
abbrev S8x64x32 : Shape := ⟨3, ![8, 64, 32]⟩
abbrev S1x16x9 : Shape := ⟨3, ![1, 16, 9]⟩
abbrev S1x32 : Shape := ⟨2, ![1, 32]⟩
abbrev S_ : Shape := ⟨0, ![]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel
  bcast_S_S16x1x9 : S_.BroadcastsInDim S16x1x9 (![] : Fin 0 → Fin S16x1x9.rank)
  reducesTo_S16x1x9_S_d0_1_2 : S16x1x9.ReducesTo [0, 1, 2] S_
  bcast_S_S32x1 : S_.BroadcastsInDim S32x1 (![] : Fin 0 → Fin S32x1.rank)
  reducesTo_S32x1_S_d0_1 : S32x1.ReducesTo [0, 1] S_
  bcast_S_S32 : S_.BroadcastsInDim S32 (![] : Fin 0 → Fin S32.rank)
  reducesTo_S32_S_d0 : S32.ReducesTo [0] S_
  bcast_S_S8x48x16x9 : S_.BroadcastsInDim S8x48x16x9 (![] : Fin 0 → Fin S8x48x16x9.rank)
  reducesTo_S8x48x16x9_S_d0_1_2_3 : S8x48x16x9.ReducesTo [0, 1, 2, 3] S_
  bcast_S_S8x48x32 : S_.BroadcastsInDim S8x48x32 (![] : Fin 0 → Fin S8x48x32.rank)
  reducesTo_S8x48x32_S_d0_1_2 : S8x48x32.ReducesTo [0, 1, 2] S_
  bcast_S_S8x96x16 : S_.BroadcastsInDim S8x96x16 (![] : Fin 0 → Fin S8x96x16.rank)
  reducesTo_S8x96x16_S_d0_1_2 : S8x96x16.ReducesTo [0, 1, 2] S_
  bcast_S_S8x96x32 : S_.BroadcastsInDim S8x96x32 (![] : Fin 0 → Fin S8x96x32.rank)
  reducesTo_S8x96x32_S_d0_1_2 : S8x96x32.ReducesTo [0, 1, 2] S_
  bcast_S_S8x16x16x9 : S_.BroadcastsInDim S8x16x16x9 (![] : Fin 0 → Fin S8x16x16x9.rank)
  reducesTo_S8x16x16x9_S_d0_1_2_3 : S8x16x16x9.ReducesTo [0, 1, 2, 3] S_
  bcast_S_S8x16x32 : S_.BroadcastsInDim S8x16x32 (![] : Fin 0 → Fin S8x16x32.rank)
  reducesTo_S8x16x32_S_d0_1_2 : S8x16x32.ReducesTo [0, 1, 2] S_
  bcast_S_S8x32x16 : S_.BroadcastsInDim S8x32x16 (![] : Fin 0 → Fin S8x32x16.rank)
  reducesTo_S8x32x16_S_d0_1_2 : S8x32x16.ReducesTo [0, 1, 2] S_
  bcast_S_S8x32x32 : S_.BroadcastsInDim S8x32x32 (![] : Fin 0 → Fin S8x32x32.rank)
  reducesTo_S8x32x32_S_d0_1_2 : S8x32x32.ReducesTo [0, 1, 2] S_
  bcast_S_S8x32x16x9 : S_.BroadcastsInDim S8x32x16x9 (![] : Fin 0 → Fin S8x32x16x9.rank)
  reducesTo_S8x32x16x9_S_d0_1_2_3 : S8x32x16x9.ReducesTo [0, 1, 2, 3] S_
  bcast_S_S8x64x16 : S_.BroadcastsInDim S8x64x16 (![] : Fin 0 → Fin S8x64x16.rank)
  reducesTo_S8x64x16_S_d0_1_2 : S8x64x16.ReducesTo [0, 1, 2] S_
  bcast_S_S8x64x32 : S_.BroadcastsInDim S8x64x32 (![] : Fin 0 → Fin S8x64x32.rank)
  reducesTo_S8x64x32_S_d0_1_2 : S8x64x32.ReducesTo [0, 1, 2] S_
  bcast_S_S1x16x9 : S_.BroadcastsInDim S1x16x9 (![] : Fin 0 → Fin S1x16x9.rank)
  reducesTo_S1x16x9_S_d0_1_2 : S1x16x9.ReducesTo [0, 1, 2] S_
  bcast_S_S1x32 : S_.BroadcastsInDim S1x32 (![] : Fin 0 → Fin S1x32.rank)
  reducesTo_S1x32_S_d0_1 : S1x32.ReducesTo [0, 1] S_

variable [Facts]

def fn_part6 {F : FTy → Type} [FloatOps F] (main_arg21 : FVec F S1x32 .f32) (main_v98 : IVec S_ 1) (main_v101 : IVec S1x16x9 1) (main_c_39 : IVec S_ 1) : IVec S_ 1 :=
  let main_v102 : IVec S_ 1 := (fun x v => Host.reduce IntOp.andi x v reducesTo_S1x16x9_S_d0_1_2 h_S_) main_v101 main_c_39
  let main_v103 : IVec S_ 1 := andi main_v98 main_v102
  let main_v104 : FVec F S1x32 .f32 := Host.absf main_arg21
  let main_cst_40 : FVec F S_ .f32 := constant S_ .f32 0x7F800000#32
  let main_v105 : FVec F S1x32 .f32 := broadcastInDim S1x32 ![] bcast_S_S1x32 main_cst_40
  let main_v106 : IVec S1x32 1 := cmpf .olt main_v104 main_v105
  let main_c_41 : IVec S_ 1 := constantI S_ 1 1#1
  let main_v107 : IVec S_ 1 := (fun x v => Host.reduce IntOp.andi x v reducesTo_S1x32_S_d0_1 h_S_) main_v106 main_c_41
  let main_v108 : IVec S_ 1 := andi main_v103 main_v107
  main_v108

def fn_part5 {F : FTy → Type} [FloatOps F] (main_arg18 : FVec F S8x32x16 .f32) (main_arg19 : FVec F S8x32x32 .f32) (main_arg20 : FVec F S1x16x9 .f32) (main_arg21 : FVec F S1x32 .f32) (main_v83 : IVec S_ 1) (main_v84 : FVec F S8x16x32 .f32) (main_cst_32 : FVec F S_ .f32) : IVec S_ 1 :=
  let main_v85 : FVec F S8x16x32 .f32 := broadcastInDim S8x16x32 ![] bcast_S_S8x16x32 main_cst_32
  let main_v86 : IVec S8x16x32 1 := cmpf .olt main_v84 main_v85
  let main_c_33 : IVec S_ 1 := constantI S_ 1 1#1
  let main_v87 : IVec S_ 1 := (fun x v => Host.reduce IntOp.andi x v reducesTo_S8x16x32_S_d0_1_2 h_S_) main_v86 main_c_33
  let main_v88 : IVec S_ 1 := andi main_v83 main_v87
  let main_v89 : FVec F S8x32x16 .f32 := Host.absf main_arg18
  let main_cst_34 : FVec F S_ .f32 := constant S_ .f32 0x7F800000#32
  let main_v90 : FVec F S8x32x16 .f32 := broadcastInDim S8x32x16 ![] bcast_S_S8x32x16 main_cst_34
  let main_v91 : IVec S8x32x16 1 := cmpf .olt main_v89 main_v90
  let main_c_35 : IVec S_ 1 := constantI S_ 1 1#1
  let main_v92 : IVec S_ 1 := (fun x v => Host.reduce IntOp.andi x v reducesTo_S8x32x16_S_d0_1_2 h_S_) main_v91 main_c_35
  let main_v93 : IVec S_ 1 := andi main_v88 main_v92
  let main_v94 : FVec F S8x32x32 .f32 := Host.absf main_arg19
  let main_cst_36 : FVec F S_ .f32 := constant S_ .f32 0x7F800000#32
  let main_v95 : FVec F S8x32x32 .f32 := broadcastInDim S8x32x32 ![] bcast_S_S8x32x32 main_cst_36
  let main_v96 : IVec S8x32x32 1 := cmpf .olt main_v94 main_v95
  let main_c_37 : IVec S_ 1 := constantI S_ 1 1#1
  let main_v97 : IVec S_ 1 := (fun x v => Host.reduce IntOp.andi x v reducesTo_S8x32x32_S_d0_1_2 h_S_) main_v96 main_c_37
  let main_v98 : IVec S_ 1 := andi main_v93 main_v97
  let main_v99 : FVec F S1x16x9 .f32 := Host.absf main_arg20
  let main_cst_38 : FVec F S_ .f32 := constant S_ .f32 0x7F800000#32
  let main_v100 : FVec F S1x16x9 .f32 := broadcastInDim S1x16x9 ![] bcast_S_S1x16x9 main_cst_38
  let main_v101 : IVec S1x16x9 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S8x64x16 .f32) (main_arg15 : FVec F S8x64x32 .f32) (main_arg16 : FVec F S8x16x16x9 .f32) (main_arg17 : FVec F S8x16x32 .f32) (main_arg18 : FVec F S8x32x16 .f32) (main_arg19 : FVec F S8x32x32 .f32) (main_arg20 : FVec F S1x16x9 .f32) (main_arg21 : FVec F S1x32 .f32) (main_v63 : IVec S_ 1) (main_v67 : IVec S_ 1) : IVec S_ 1 :=
  let main_v68 : IVec S_ 1 := andi main_v63 main_v67
  let main_v69 : FVec F S8x64x16 .f32 := Host.absf main_arg14
  let main_cst_26 : FVec F S_ .f32 := constant S_ .f32 0x7F800000#32
  let main_v70 : FVec F S8x64x16 .f32 := broadcastInDim S8x64x16 ![] bcast_S_S8x64x16 main_cst_26
  let main_v71 : IVec S8x64x16 1 := cmpf .olt main_v69 main_v70
  let main_c_27 : IVec S_ 1 := constantI S_ 1 1#1
  let main_v72 : IVec S_ 1 := (fun x v => Host.reduce IntOp.andi x v reducesTo_S8x64x16_S_d0_1_2 h_S_) main_v71 main_c_27
  let main_v73 : IVec S_ 1 := andi main_v68 main_v72
  let main_v74 : FVec F S8x64x32 .f32 := Host.absf main_arg15
  let main_cst_28 : FVec F S_ .f32 := constant S_ .f32 0x7F800000#32
  let main_v75 : FVec F S8x64x32 .f32 := broadcastInDim S8x64x32 ![] bcast_S_S8x64x32 main_cst_28
  let main_v76 : IVec S8x64x32 1 := cmpf .olt main_v74 main_v75
  let main_c_29 : IVec S_ 1 := constantI S_ 1 1#1
  let main_v77 : IVec S_ 1 := (fun x v => Host.reduce IntOp.andi x v reducesTo_S8x64x32_S_d0_1_2 h_S_) main_v76 main_c_29
  let main_v78 : IVec S_ 1 := andi main_v73 main_v77
  let main_v79 : FVec F S8x16x16x9 .f32 := Host.absf main_arg16
  let main_cst_30 : FVec F S_ .f32 := constant S_ .f32 0x7F800000#32
  let main_v80 : FVec F S8x16x16x9 .f32 := broadcastInDim S8x16x16x9 ![] bcast_S_S8x16x16x9 main_cst_30
  let main_v81 : IVec S8x16x16x9 1 := cmpf .olt main_v79 main_v80
  let main_c_31 : IVec S_ 1 := constantI S_ 1 1#1
  let main_v82 : IVec S_ 1 := (fun x v => Host.reduce IntOp.andi x v reducesTo_S8x16x16x9_S_d0_1_2_3 h_S_) main_v81 main_c_31
  let main_v83 : IVec S_ 1 := andi main_v78 main_v82
  let main_v84 : FVec F S8x16x32 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S8x32x32 .f32) (main_arg12 : FVec F S8x32x16x9 .f32) (main_arg13 : FVec F S8x32x32 .f32) (main_arg14 : FVec F S8x64x16 .f32) (main_arg15 : FVec F S8x64x32 .f32) (main_arg16 : FVec F S8x16x16x9 .f32) (main_arg17 : FVec F S8x16x32 .f32) (main_arg18 : FVec F S8x32x16 .f32) (main_arg19 : FVec F S8x32x32 .f32) (main_arg20 : FVec F S1x16x9 .f32) (main_arg21 : FVec F S1x32 .f32) (main_v48 : IVec S_ 1) (main_v49 : FVec F S8x32x16 .f32) (main_v50 : FVec F S8x32x16 .f32) : IVec S_ 1 :=
  let main_v51 : IVec S8x32x16 1 := cmpf .olt main_v49 main_v50
  let main_c_19 : IVec S_ 1 := constantI S_ 1 1#1
  let main_v52 : IVec S_ 1 := (fun x v => Host.reduce IntOp.andi x v reducesTo_S8x32x16_S_d0_1_2 h_S_) main_v51 main_c_19
  let main_v53 : IVec S_ 1 := andi main_v48 main_v52
  let main_v54 : FVec F S8x32x32 .f32 := Host.absf main_arg11
  let main_cst_20 : FVec F S_ .f32 := constant S_ .f32 0x7F800000#32
  let main_v55 : FVec F S8x32x32 .f32 := broadcastInDim S8x32x32 ![] bcast_S_S8x32x32 main_cst_20
  let main_v56 : IVec S8x32x32 1 := cmpf .olt main_v54 main_v55
  let main_c_21 : IVec S_ 1 := constantI S_ 1 1#1
  let main_v57 : IVec S_ 1 := (fun x v => Host.reduce IntOp.andi x v reducesTo_S8x32x32_S_d0_1_2 h_S_) main_v56 main_c_21
  let main_v58 : IVec S_ 1 := andi main_v53 main_v57
  let main_v59 : FVec F S8x32x16x9 .f32 := Host.absf main_arg12
  let main_cst_22 : FVec F S_ .f32 := constant S_ .f32 0x7F800000#32
  let main_v60 : FVec F S8x32x16x9 .f32 := broadcastInDim S8x32x16x9 ![] bcast_S_S8x32x16x9 main_cst_22
  let main_v61 : IVec S8x32x16x9 1 := cmpf .olt main_v59 main_v60
  let main_c_23 : IVec S_ 1 := constantI S_ 1 1#1
  let main_v62 : IVec S_ 1 := (fun x v => Host.reduce IntOp.andi x v reducesTo_S8x32x16x9_S_d0_1_2_3 h_S_) main_v61 main_c_23
  let main_v63 : IVec S_ 1 := andi main_v58 main_v62
  let main_v64 : FVec F S8x32x32 .f32 := Host.absf main_arg13
  let main_cst_24 : FVec F S_ .f32 := constant S_ .f32 0x7F800000#32
  let main_v65 : FVec F S8x32x32 .f32 := broadcastInDim S8x32x32 ![] bcast_S_S8x32x32 main_cst_24
  let main_v66 : IVec S8x32x32 1 := cmpf .olt main_v64 main_v65
  let main_c_25 : IVec S_ 1 := constantI S_ 1 1#1
  let main_v67 : IVec S_ 1 := (fun x v => Host.reduce IntOp.andi x v reducesTo_S8x32x32_S_d0_1_2 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S8x96x32 .f32) (main_arg8 : FVec F S8x16x16x9 .f32) (main_arg9 : FVec F S8x16x32 .f32) (main_arg10 : FVec F S8x32x16 .f32) (main_arg11 : FVec F S8x32x32 .f32) (main_arg12 : FVec F S8x32x16x9 .f32) (main_arg13 : FVec F S8x32x32 .f32) (main_arg14 : FVec F S8x64x16 .f32) (main_arg15 : FVec F S8x64x32 .f32) (main_arg16 : FVec F S8x16x16x9 .f32) (main_arg17 : FVec F S8x16x32 .f32) (main_arg18 : FVec F S8x32x16 .f32) (main_arg19 : FVec F S8x32x32 .f32) (main_arg20 : FVec F S1x16x9 .f32) (main_arg21 : FVec F S1x32 .f32) (main_v33 : IVec S_ 1) : IVec S_ 1 :=
  let main_v34 : FVec F S8x96x32 .f32 := Host.absf main_arg7
  let main_cst_12 : FVec F S_ .f32 := constant S_ .f32 0x7F800000#32
  let main_v35 : FVec F S8x96x32 .f32 := broadcastInDim S8x96x32 ![] bcast_S_S8x96x32 main_cst_12
  let main_v36 : IVec S8x96x32 1 := cmpf .olt main_v34 main_v35
  let main_c_13 : IVec S_ 1 := constantI S_ 1 1#1
  let main_v37 : IVec S_ 1 := (fun x v => Host.reduce IntOp.andi x v reducesTo_S8x96x32_S_d0_1_2 h_S_) main_v36 main_c_13
  let main_v38 : IVec S_ 1 := andi main_v33 main_v37
  let main_v39 : FVec F S8x16x16x9 .f32 := Host.absf main_arg8
  let main_cst_14 : FVec F S_ .f32 := constant S_ .f32 0x7F800000#32
  let main_v40 : FVec F S8x16x16x9 .f32 := broadcastInDim S8x16x16x9 ![] bcast_S_S8x16x16x9 main_cst_14
  let main_v41 : IVec S8x16x16x9 1 := cmpf .olt main_v39 main_v40
  let main_c_15 : IVec S_ 1 := constantI S_ 1 1#1
  let main_v42 : IVec S_ 1 := (fun x v => Host.reduce IntOp.andi x v reducesTo_S8x16x16x9_S_d0_1_2_3 h_S_) main_v41 main_c_15
  let main_v43 : IVec S_ 1 := andi main_v38 main_v42
  let main_v44 : FVec F S8x16x32 .f32 := Host.absf main_arg9
  let main_cst_16 : FVec F S_ .f32 := constant S_ .f32 0x7F800000#32
  let main_v45 : FVec F S8x16x32 .f32 := broadcastInDim S8x16x32 ![] bcast_S_S8x16x32 main_cst_16
  let main_v46 : IVec S8x16x32 1 := cmpf .olt main_v44 main_v45
  let main_c_17 : IVec S_ 1 := constantI S_ 1 1#1
  let main_v47 : IVec S_ 1 := (fun x v => Host.reduce IntOp.andi x v reducesTo_S8x16x32_S_d0_1_2 h_S_) main_v46 main_c_17
  let main_v48 : IVec S_ 1 := andi main_v43 main_v47
  let main_v49 : FVec F S8x32x16 .f32 := Host.absf main_arg10
  let main_cst_18 : FVec F S_ .f32 := constant S_ .f32 0x7F800000#32
  let main_v50 : FVec F S8x32x16 .f32 := broadcastInDim S8x32x16 ![] bcast_S_S8x32x16 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S8x48x16x9 .f32) (main_arg5 : FVec F S8x48x32 .f32) (main_arg6 : FVec F S8x96x16 .f32) (main_arg7 : FVec F S8x96x32 .f32) (main_arg8 : FVec F S8x16x16x9 .f32) (main_arg9 : FVec F S8x16x32 .f32) (main_arg10 : FVec F S8x32x16 .f32) (main_arg11 : FVec F S8x32x32 .f32) (main_arg12 : FVec F S8x32x16x9 .f32) (main_arg13 : FVec F S8x32x32 .f32) (main_arg14 : FVec F S8x64x16 .f32) (main_arg15 : FVec F S8x64x32 .f32) (main_arg16 : FVec F S8x16x16x9 .f32) (main_arg17 : FVec F S8x16x32 .f32) (main_arg18 : FVec F S8x32x16 .f32) (main_arg19 : FVec F S8x32x32 .f32) (main_arg20 : FVec F S1x16x9 .f32) (main_arg21 : FVec F S1x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x48x16x9 .f32 := Host.absf main_arg4
  let main_cst_6 : FVec F S_ .f32 := constant S_ .f32 0x7F800000#32
  let main_v20 : FVec F S8x48x16x9 .f32 := broadcastInDim S8x48x16x9 ![] bcast_S_S8x48x16x9 main_cst_6
  let main_v21 : IVec S8x48x16x9 1 := cmpf .olt main_v19 main_v20
  let main_c_7 : IVec S_ 1 := constantI S_ 1 1#1
  let main_v22 : IVec S_ 1 := (fun x v => Host.reduce IntOp.andi x v reducesTo_S8x48x16x9_S_d0_1_2_3 h_S_) main_v21 main_c_7
  let main_v23 : IVec S_ 1 := andi main_v18 main_v22
  let main_v24 : FVec F S8x48x32 .f32 := Host.absf main_arg5
  let main_cst_8 : FVec F S_ .f32 := constant S_ .f32 0x7F800000#32
  let main_v25 : FVec F S8x48x32 .f32 := broadcastInDim S8x48x32 ![] bcast_S_S8x48x32 main_cst_8
  let main_v26 : IVec S8x48x32 1 := cmpf .olt main_v24 main_v25
  let main_c_9 : IVec S_ 1 := constantI S_ 1 1#1
  let main_v27 : IVec S_ 1 := (fun x v => Host.reduce IntOp.andi x v reducesTo_S8x48x32_S_d0_1_2 h_S_) main_v26 main_c_9
  let main_v28 : IVec S_ 1 := andi main_v23 main_v27
  let main_v29 : FVec F S8x96x16 .f32 := Host.absf main_arg6
  let main_cst_10 : FVec F S_ .f32 := constant S_ .f32 0x7F800000#32
  let main_v30 : FVec F S8x96x16 .f32 := broadcastInDim S8x96x16 ![] bcast_S_S8x96x16 main_cst_10
  let main_v31 : IVec S8x96x16 1 := cmpf .olt main_v29 main_v30
  let main_c_11 : IVec S_ 1 := constantI S_ 1 1#1
  let main_v32 : IVec S_ 1 := (fun x v => Host.reduce IntOp.andi x v reducesTo_S8x96x16_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8x1024x3 .f32) (main_arg1 : FVec F S16x1x9 .f32) (main_arg2 : FVec F S32x1 .f32) (main_arg3 : FVec F S32 .f32) (main_arg4 : FVec F S8x48x16x9 .f32) (main_arg5 : FVec F S8x48x32 .f32) (main_arg6 : FVec F S8x96x16 .f32) (main_arg7 : FVec F S8x96x32 .f32) (main_arg8 : FVec F S8x16x16x9 .f32) (main_arg9 : FVec F S8x16x32 .f32) (main_arg10 : FVec F S8x32x16 .f32) (main_arg11 : FVec F S8x32x32 .f32) (main_arg12 : FVec F S8x32x16x9 .f32) (main_arg13 : FVec F S8x32x32 .f32) (main_arg14 : FVec F S8x64x16 .f32) (main_arg15 : FVec F S8x64x32 .f32) (main_arg16 : FVec F S8x16x16x9 .f32) (main_arg17 : FVec F S8x16x32 .f32) (main_arg18 : FVec F S8x32x16 .f32) (main_arg19 : FVec F S8x32x32 .f32) (main_arg20 : FVec F S1x16x9 .f32) (main_arg21 : FVec F S1x32 .f32) : IVec S_ 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_v4 : FVec F S16x1x9 .f32 := Host.absf main_arg1
  let main_cst_0 : FVec F S_ .f32 := constant S_ .f32 0x7F800000#32
  let main_v5 : FVec F S16x1x9 .f32 := broadcastInDim S16x1x9 ![] bcast_S_S16x1x9 main_cst_0
  let main_v6 : IVec S16x1x9 1 := cmpf .olt main_v4 main_v5
  let main_c_1 : IVec S_ 1 := constantI S_ 1 1#1
  let main_v7 : IVec S_ 1 := (fun x v => Host.reduce IntOp.andi x v reducesTo_S16x1x9_S_d0_1_2 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8x1024x3 : Shape := ⟨3, ![8, 1024, 3]⟩
abbrev S16x1x9 : Shape := ⟨3, ![16, 1, 9]⟩
abbrev S32x1 : Shape := ⟨2, ![32, 1]⟩
abbrev S32 : Shape := ⟨1, ![32]⟩
abbrev S8x48x16x9 : Shape := ⟨4, ![8, 48, 16, 9]⟩
abbrev S8x48x32 : Shape := ⟨3, ![8, 48, 32]⟩
abbrev S8x96x16 : Shape := ⟨3, ![8, 96, 16]⟩
abbrev S8x96x32 : Shape := ⟨3, ![8, 96, 32]⟩
abbrev S8x16x16x9 : Shape := ⟨4, ![8, 16, 16, 9]⟩
abbrev S8x16x32 : Shape := ⟨3, ![8, 16, 32]⟩
abbrev S8x32x16 : Shape := ⟨3, ![8, 32, 16]⟩
abbrev S8x32x32 : Shape := ⟨3, ![8, 32, 32]⟩
abbrev S8x32x16x9 : Shape := ⟨4, ![8, 32, 16, 9]⟩
abbrev S8x64x16 : Shape := ⟨3, ![8, 64, 16]⟩
abbrev S8x64x32 : Shape := ⟨3, ![8, 64, 32]⟩
abbrev S1x16x9 : Shape := ⟨3, ![1, 16, 9]⟩
abbrev S1x32 : Shape := ⟨2, ![1, 32]⟩
abbrev S9x16x16 : Shape := ⟨3, ![9, 16, 16]⟩
abbrev S704 : Shape := ⟨1, ![704]⟩
abbrev S1x704x1 : Shape := ⟨3, ![1, 704, 1]⟩
abbrev S288 : Shape := ⟨1, ![288]⟩
abbrev S576 : Shape := ⟨1, ![576]⟩
abbrev S256x128 : Shape := ⟨2, ![256, 128]⟩
abbrev S16x16x8x48x16 : Shape := ⟨5, ![16, 16, 8, 48, 16]⟩
abbrev S8x48x16x16x16 : Shape := ⟨5, ![8, 48, 16, 16, 16]⟩
abbrev S8x768x256 : Shape := ⟨3, ![8, 768, 256]⟩
abbrev S_ : Shape := ⟨0, ![]⟩
abbrev S8x96x16x16 : Shape := ⟨4, ![8, 96, 16, 16]⟩
abbrev S1 : Shape := ⟨1, ![1]⟩
abbrev S8x96x256 : Shape := ⟨3, ![8, 96, 256]⟩
abbrev S8x864x256 : Shape := ⟨3, ![8, 864, 256]⟩
abbrev S8x48x16x32 : Shape := ⟨4, ![8, 48, 16, 32]⟩
abbrev S8x768x32 : Shape := ⟨3, ![8, 768, 32]⟩
abbrev S8x864x32 : Shape := ⟨3, ![8, 864, 32]⟩
abbrev S8x1x256 : Shape := ⟨3, ![8, 1, 256]⟩
abbrev S8x865x256 : Shape := ⟨3, ![8, 865, 256]⟩
abbrev S704x1 : Shape := ⟨2, ![704, 1]⟩
abbrev S1x1 : Shape := ⟨2, ![1, 1]⟩
abbrev S8x704x256 : Shape := ⟨3, ![8, 704, 256]⟩
abbrev S8x1x32 : Shape := ⟨3, ![8, 1, 32]⟩
abbrev S8x865x32 : Shape := ⟨3, ![8, 865, 32]⟩
abbrev S8x704x32 : Shape := ⟨3, ![8, 704, 32]⟩
abbrev S16x16x8x16x16 : Shape := ⟨5, ![16, 16, 8, 16, 16]⟩
abbrev S8x16x16x16x16 : Shape := ⟨5, ![8, 16, 16, 16, 16]⟩
abbrev S8x256x256 : Shape := ⟨3, ![8, 256, 256]⟩
abbrev S8x32x16x16 : Shape := ⟨4, ![8, 32, 16, 16]⟩
abbrev S8x32x256 : Shape := ⟨3, ![8, 32, 256]⟩
abbrev S8x288x256 : Shape := ⟨3, ![8, 288, 256]⟩
abbrev S8x16x16x32 : Shape := ⟨4, ![8, 16, 16, 32]⟩
abbrev S8x256x32 : Shape := ⟨3, ![8, 256, 32]⟩
abbrev S8x288x32 : Shape := ⟨3, ![8, 288, 32]⟩
abbrev S8x288x288 : Shape := ⟨3, ![8, 288, 288]⟩
abbrev S8x1x288 : Shape := ⟨3, ![8, 1, 288]⟩
abbrev S8x289x288 : Shape := ⟨3, ![8, 289, 288]⟩
abbrev S288x1 : Shape := ⟨2, ![288, 1]⟩
abbrev S8x288x1 : Shape := ⟨3, ![8, 288, 1]⟩
abbrev S8x288x289 : Shape := ⟨3, ![8, 288, 289]⟩
abbrev S16x16x8x32x16 : Shape := ⟨5, ![16, 16, 8, 32, 16]⟩
abbrev S8x32x16x16x16 : Shape := ⟨5, ![8, 32, 16, 16, 16]⟩
abbrev S8x512x256 : Shape := ⟨3, ![8, 512, 256]⟩
abbrev S8x64x16x16 : Shape := ⟨4, ![8, 64, 16, 16]⟩
abbrev S8x64x256 : Shape := ⟨3, ![8, 64, 256]⟩
abbrev S8x576x256 : Shape := ⟨3, ![8, 576, 256]⟩
abbrev S8x32x16x32 : Shape := ⟨4, ![8, 32, 16, 32]⟩
abbrev S8x512x32 : Shape := ⟨3, ![8, 512, 32]⟩
abbrev S8x576x32 : Shape := ⟨3, ![8, 576, 32]⟩
abbrev S8x577x256 : Shape := ⟨3, ![8, 577, 256]⟩
abbrev S576x1 : Shape := ⟨2, ![576, 1]⟩
abbrev S8x577x32 : Shape := ⟨3, ![8, 577, 32]⟩
abbrev S8x289x256 : Shape := ⟨3, ![8, 289, 256]⟩
abbrev S8x289x32 : Shape := ⟨3, ![8, 289, 32]⟩
abbrev S16x9 : Shape := ⟨2, ![16, 9]⟩
abbrev S16x16x16 : Shape := ⟨3, ![16, 16, 16]⟩
abbrev S256x16 : Shape := ⟨2, ![256, 16]⟩
abbrev S256x1 : Shape := ⟨2, ![256, 1]⟩
abbrev S256 : Shape := ⟨1, ![256]⟩
abbrev S256x8 : Shape := ⟨2, ![256, 8]⟩
abbrev S8x3x1024 : Shape := ⟨3, ![8, 3, 1024]⟩
abbrev S8x1x1024 : Shape := ⟨3, ![8, 1, 1024]⟩
abbrev S8x4x1024 : Shape := ⟨3, ![8, 4, 1024]⟩
abbrev S8x8x1024 : Shape := ⟨3, ![8, 8, 1024]⟩
abbrev S32x1024 : Shape := ⟨2, ![32, 1024]⟩
abbrev S16x16x1x16 : Shape := ⟨4, ![16, 16, 1, 16]⟩
abbrev S1x16x16x16 : Shape := ⟨4, ![1, 16, 16, 16]⟩
abbrev S1x1x16x16 : Shape := ⟨4, ![1, 1, 16, 16]⟩
abbrev S16x16 : Shape := ⟨2, ![16, 16]⟩
abbrev S8x256 : Shape := ⟨2, ![8, 256]⟩
abbrev S8x32 : Shape := ⟨2, ![8, 32]⟩
abbrev S8x1x128 : Shape := ⟨3, ![8, 1, 128]⟩
abbrev S1x8x1024 : Shape := ⟨3, ![1, 8, 1024]⟩
abbrev S1x1x128 : Shape := ⟨3, ![1, 1, 128]⟩
abbrev S8x1024 : Shape := ⟨2, ![8, 1024]⟩
abbrev S256x1024 : Shape := ⟨2, ![256, 1024]⟩
abbrev S1024 : Shape := ⟨1, ![1024]⟩
abbrev S1x1024 : Shape := ⟨2, ![1, 1024]⟩
abbrev S1x704x256 : Shape := ⟨3, ![1, 704, 256]⟩
abbrev S704x256 : Shape := ⟨2, ![704, 256]⟩
abbrev S704x1024 : Shape := ⟨2, ![704, 1024]⟩
abbrev S1x704x32 : Shape := ⟨3, ![1, 704, 32]⟩
abbrev S704x32 : Shape := ⟨2, ![704, 32]⟩
abbrev S24x1024 : Shape := ⟨2, ![24, 1024]⟩
abbrev S36x1024 : Shape := ⟨2, ![36, 1024]⟩
abbrev S1x1x1024 : Shape := ⟨3, ![1, 1, 1024]⟩
abbrev S1x1x1 : Shape := ⟨3, ![1, 1, 1]⟩
abbrev S72x1024 : Shape := ⟨2, ![72, 1024]⟩
abbrev S1024x1024 : Shape := ⟨2, ![1024, 1024]⟩
abbrev S37x1024 : Shape := ⟨2, ![37, 1024]⟩
abbrev S288x1024 : Shape := ⟨2, ![288, 1024]⟩
abbrev S1x288x288 : Shape := ⟨3, ![1, 288, 288]⟩
abbrev S288x288 : Shape := ⟨2, ![288, 288]⟩
abbrev S1x576x256 : Shape := ⟨3, ![1, 576, 256]⟩
abbrev S576x256 : Shape := ⟨2, ![576, 256]⟩
abbrev S576x1024 : Shape := ⟨2, ![576, 1024]⟩
abbrev S1x576x32 : Shape := ⟨3, ![1, 576, 32]⟩
abbrev S576x32 : Shape := ⟨2, ![576, 32]⟩
abbrev S16x1024 : Shape := ⟨2, ![16, 1024]⟩
abbrev S1x288x256 : Shape := ⟨3, ![1, 288, 256]⟩
abbrev S288x256 : Shape := ⟨2, ![288, 256]⟩
abbrev S1x288x32 : Shape := ⟨3, ![1, 288, 32]⟩
abbrev S288x32 : Shape := ⟨2, ![288, 32]⟩
abbrev S1x128 : Shape := ⟨2, ![1, 128]⟩
abbrev S8x1x1 : Shape := ⟨3, ![8, 1, 1]⟩
abbrev S8x1 : Shape := ⟨2, ![8, 1]⟩

abbrev nBuf : Space → Nat
  | .hbm => 386
  | .vmem => 20
  | .smem => 0
  | _ => 0

abbrev hbmTy0_0 (i : Nat) : BufTy := match i % 128 with
  | 0 => ⟨S8x1024x3, .f32⟩
  | 1 => ⟨S16x1x9, .f32⟩
  | 2 => ⟨S32x1, .f32⟩
  | 3 => ⟨S32, .f32⟩
  | 4 => ⟨S8x48x16x9, .f32⟩
  | 5 => ⟨S8x48x32, .f32⟩
  | 6 => ⟨S8x96x16, .f32⟩
  | 7 => ⟨S8x96x32, .f32⟩
  | 8 => ⟨S8x16x16x9, .f32⟩
  | 9 => ⟨S8x16x32, .f32⟩
  | 10 => ⟨S8x32x16, .f32⟩
  | 11 => ⟨S8x32x32, .f32⟩
  | 12 => ⟨S8x32x16x9, .f32⟩
  | 13 => ⟨S8x32x32, .f32⟩
  | 14 => ⟨S8x64x16, .f32⟩
  | 15 => ⟨S8x64x32, .f32⟩
  | 16 => ⟨S8x16x16x9, .f32⟩
  | 17 => ⟨S8x16x32, .f32⟩
  | 18 => ⟨S8x32x16, .f32⟩
  | 19 => ⟨S8x32x32, .f32⟩
  | 20 => ⟨S1x16x9, .f32⟩
  | 21 => ⟨S1x32, .f32⟩
  | 22 => ⟨S9x16x16, .f32⟩
  | 23 => ⟨S704, .i32⟩
  | 24 => ⟨S1x704x1, .f32⟩
  | 25 => ⟨S288, .i32⟩
  | 26 => ⟨S288, .i32⟩
  | 27 => ⟨S576, .i32⟩
  | 28 => ⟨S256x128, .f32⟩
  | 29 => ⟨S16x16x8x48x16, .f32⟩
  | 30 => ⟨S8x48x16x16x16, .f32⟩
  | 31 => ⟨S8x768x256, .f32⟩
  | 32 => ⟨S_, .f32⟩
  | 33 => ⟨S8x96x16x16, .f32⟩
  | 34 => ⟨S_, .i32⟩
  | 35 => ⟨S1, .i32⟩
  | 36 => ⟨S8x96x16x16, .f32⟩
  | 37 => ⟨S8x96x256, .f32⟩
  | 38 => ⟨S8x864x256, .f32⟩
  | 39 => ⟨S_, .f32⟩
  | 40 => ⟨S8x48x16x32, .f32⟩
  | 41 => ⟨S_, .i32⟩
  | 42 => ⟨S1, .i32⟩
  | 43 => ⟨S8x48x16x32, .f32⟩
  | 44 => ⟨S8x768x32, .f32⟩
  | 45 => ⟨S8x864x32, .f32⟩
  | 46 => ⟨S8x1x256, .f32⟩
  | 47 => ⟨S_, .f32⟩
  | 48 => ⟨S8x1x256, .f32⟩
  | 49 => ⟨S8x865x256, .f32⟩
  | 50 => ⟨S_, .i32⟩
  | 51 => ⟨S704, .i32⟩
  | 52 => ⟨S704, .i1⟩
  | 53 => ⟨S_, .i32⟩
  | 54 => ⟨S704, .i32⟩
  | 55 => ⟨S704, .i32⟩
  | 56 => ⟨S704, .i32⟩
  | 57 => ⟨S704x1, .i32⟩
  | 58 => ⟨S1, .i32⟩
  | 59 => ⟨S_, .i32⟩
  | 60 => ⟨S704x1, .i32⟩
  | 61 => ⟨S704x1, .i1⟩
  | 62 => ⟨S1x1, .i32⟩
  | 63 => ⟨S704x1, .i32⟩
  | 64 => ⟨S704x1, .i1⟩
  | 65 => ⟨S704x1, .i1⟩
  | 66 => ⟨S_, .i1⟩
  | 67 => ⟨S704, .i1⟩
  | 68 => ⟨S8x704x256, .f32⟩
  | 69 => ⟨S8x704x256, .i1⟩
  | 70 => ⟨S_, .f32⟩
  | 71 => ⟨S8x704x256, .f32⟩
  | 72 => ⟨S8x704x256, .f32⟩
  | 73 => ⟨S8x704x256, .f32⟩
  | 74 => ⟨S8x704x256, .f32⟩
  | 75 => ⟨S8x704x256, .bf16⟩
  | 76 => ⟨S8x704x256, .f32⟩
  | 77 => ⟨S8x704x256, .f32⟩
  | 78 => ⟨S8x704x256, .bf16⟩
  | 79 => ⟨S8x1x32, .f32⟩
  | 80 => ⟨S_, .f32⟩
  | 81 => ⟨S8x1x32, .f32⟩
  | 82 => ⟨S8x865x32, .f32⟩
  | 83 => ⟨S_, .i32⟩
  | 84 => ⟨S704, .i32⟩
  | 85 => ⟨S704, .i1⟩
  | 86 => ⟨S_, .i32⟩
  | 87 => ⟨S704, .i32⟩
  | 88 => ⟨S704, .i32⟩
  | 89 => ⟨S704, .i32⟩
  | 90 => ⟨S704x1, .i32⟩
  | 91 => ⟨S1, .i32⟩
  | 92 => ⟨S_, .i32⟩
  | 93 => ⟨S704x1, .i32⟩
  | 94 => ⟨S704x1, .i1⟩
  | 95 => ⟨S1x1, .i32⟩
  | 96 => ⟨S704x1, .i32⟩
  | 97 => ⟨S704x1, .i1⟩
  | 98 => ⟨S704x1, .i1⟩
  | 99 => ⟨S_, .i1⟩
  | 100 => ⟨S704, .i1⟩
  | 101 => ⟨S8x704x32, .f32⟩
  | 102 => ⟨S8x704x32, .i1⟩
  | 103 => ⟨S_, .f32⟩
  | 104 => ⟨S8x704x32, .f32⟩
  | 105 => ⟨S8x704x32, .f32⟩
  | 106 => ⟨S8x704x32, .f32⟩
  | 107 => ⟨S8x704x32, .f32⟩
  | 108 => ⟨S16x16x8x16x16, .f32⟩
  | 109 => ⟨S8x16x16x16x16, .f32⟩
  | 110 => ⟨S8x256x256, .f32⟩
  | 111 => ⟨S_, .f32⟩
  | 112 => ⟨S8x32x16x16, .f32⟩
  | 113 => ⟨S_, .i32⟩
  | 114 => ⟨S1, .i32⟩
  | 115 => ⟨S8x32x16x16, .f32⟩
  | 116 => ⟨S8x32x256, .f32⟩
  | 117 => ⟨S8x288x256, .f32⟩
  | 118 => ⟨S_, .f32⟩
  | 119 => ⟨S8x16x16x32, .f32⟩
  | 120 => ⟨S_, .i32⟩
  | 121 => ⟨S1, .i32⟩
  | 122 => ⟨S8x16x16x32, .f32⟩
  | 123 => ⟨S8x256x32, .f32⟩
  | 124 => ⟨S8x288x32, .f32⟩
  | 125 => ⟨S8x288x288, .f32⟩
  | 126 => ⟨S8x1x288, .f32⟩
  | 127 => ⟨S_, .f32⟩
  | _ => ⟨S8x1024x3, .f32⟩

abbrev hbmTy0_1 (i : Nat) : BufTy := match i % 128 with
  | 0 => ⟨S8x1x288, .f32⟩
  | 1 => ⟨S8x289x288, .f32⟩
  | 2 => ⟨S_, .i32⟩
  | 3 => ⟨S288, .i32⟩
  | 4 => ⟨S288, .i1⟩
  | 5 => ⟨S_, .i32⟩
  | 6 => ⟨S288, .i32⟩
  | 7 => ⟨S288, .i32⟩
  | 8 => ⟨S288, .i32⟩
  | 9 => ⟨S288x1, .i32⟩
  | 10 => ⟨S1, .i32⟩
  | 11 => ⟨S_, .i32⟩
  | 12 => ⟨S288x1, .i32⟩
  | 13 => ⟨S288x1, .i1⟩
  | 14 => ⟨S1x1, .i32⟩
  | 15 => ⟨S288x1, .i32⟩
  | 16 => ⟨S288x1, .i1⟩
  | 17 => ⟨S288x1, .i1⟩
  | 18 => ⟨S_, .i1⟩
  | 19 => ⟨S288, .i1⟩
  | 20 => ⟨S8x288x288, .f32⟩
  | 21 => ⟨S8x288x288, .i1⟩
  | 22 => ⟨S_, .f32⟩
  | 23 => ⟨S8x288x288, .f32⟩
  | 24 => ⟨S8x288x288, .f32⟩
  | 25 => ⟨S8x288x1, .f32⟩
  | 26 => ⟨S_, .f32⟩
  | 27 => ⟨S8x288x1, .f32⟩
  | 28 => ⟨S8x288x289, .f32⟩
  | 29 => ⟨S_, .i32⟩
  | 30 => ⟨S288, .i32⟩
  | 31 => ⟨S288, .i1⟩
  | 32 => ⟨S_, .i32⟩
  | 33 => ⟨S288, .i32⟩
  | 34 => ⟨S288, .i32⟩
  | 35 => ⟨S288, .i32⟩
  | 36 => ⟨S288x1, .i32⟩
  | 37 => ⟨S1, .i32⟩
  | 38 => ⟨S_, .i32⟩
  | 39 => ⟨S288x1, .i32⟩
  | 40 => ⟨S288x1, .i1⟩
  | 41 => ⟨S1x1, .i32⟩
  | 42 => ⟨S288x1, .i32⟩
  | 43 => ⟨S288x1, .i1⟩
  | 44 => ⟨S288x1, .i1⟩
  | 45 => ⟨S_, .i1⟩
  | 46 => ⟨S288, .i1⟩
  | 47 => ⟨S8x288x288, .f32⟩
  | 48 => ⟨S8x288x288, .i1⟩
  | 49 => ⟨S_, .f32⟩
  | 50 => ⟨S8x288x288, .f32⟩
  | 51 => ⟨S8x288x288, .f32⟩
  | 52 => ⟨S8x288x288, .bf16⟩
  | 53 => ⟨S8x288x288, .f32⟩
  | 54 => ⟨S8x288x288, .f32⟩
  | 55 => ⟨S8x288x288, .bf16⟩
  | 56 => ⟨S16x16x8x32x16, .f32⟩
  | 57 => ⟨S8x32x16x16x16, .f32⟩
  | 58 => ⟨S8x512x256, .f32⟩
  | 59 => ⟨S_, .f32⟩
  | 60 => ⟨S8x64x16x16, .f32⟩
  | 61 => ⟨S_, .i32⟩
  | 62 => ⟨S1, .i32⟩
  | 63 => ⟨S8x64x16x16, .f32⟩
  | 64 => ⟨S8x64x256, .f32⟩
  | 65 => ⟨S8x576x256, .f32⟩
  | 66 => ⟨S_, .f32⟩
  | 67 => ⟨S8x32x16x32, .f32⟩
  | 68 => ⟨S_, .i32⟩
  | 69 => ⟨S1, .i32⟩
  | 70 => ⟨S8x32x16x32, .f32⟩
  | 71 => ⟨S8x512x32, .f32⟩
  | 72 => ⟨S8x576x32, .f32⟩
  | 73 => ⟨S8x1x256, .f32⟩
  | 74 => ⟨S_, .f32⟩
  | 75 => ⟨S8x1x256, .f32⟩
  | 76 => ⟨S8x577x256, .f32⟩
  | 77 => ⟨S_, .i32⟩
  | 78 => ⟨S576, .i32⟩
  | 79 => ⟨S576, .i1⟩
  | 80 => ⟨S_, .i32⟩
  | 81 => ⟨S576, .i32⟩
  | 82 => ⟨S576, .i32⟩
  | 83 => ⟨S576, .i32⟩
  | 84 => ⟨S576x1, .i32⟩
  | 85 => ⟨S1, .i32⟩
  | 86 => ⟨S_, .i32⟩
  | 87 => ⟨S576x1, .i32⟩
  | 88 => ⟨S576x1, .i1⟩
  | 89 => ⟨S1x1, .i32⟩
  | 90 => ⟨S576x1, .i32⟩
  | 91 => ⟨S576x1, .i1⟩
  | 92 => ⟨S576x1, .i1⟩
  | 93 => ⟨S_, .i1⟩
  | 94 => ⟨S576, .i1⟩
  | 95 => ⟨S8x576x256, .f32⟩
  | 96 => ⟨S8x576x256, .i1⟩
  | 97 => ⟨S_, .f32⟩
  | 98 => ⟨S8x576x256, .f32⟩
  | 99 => ⟨S8x576x256, .f32⟩
  | 100 => ⟨S8x576x256, .bf16⟩
  | 101 => ⟨S8x576x256, .f32⟩
  | 102 => ⟨S8x576x256, .f32⟩
  | 103 => ⟨S8x576x256, .bf16⟩
  | 104 => ⟨S8x1x32, .f32⟩
  | 105 => ⟨S_, .f32⟩
  | 106 => ⟨S8x1x32, .f32⟩
  | 107 => ⟨S8x577x32, .f32⟩
  | 108 => ⟨S_, .i32⟩
  | 109 => ⟨S576, .i32⟩
  | 110 => ⟨S576, .i1⟩
  | 111 => ⟨S_, .i32⟩
  | 112 => ⟨S576, .i32⟩
  | 113 => ⟨S576, .i32⟩
  | 114 => ⟨S576, .i32⟩
  | 115 => ⟨S576x1, .i32⟩
  | 116 => ⟨S1, .i32⟩
  | 117 => ⟨S_, .i32⟩
  | 118 => ⟨S576x1, .i32⟩
  | 119 => ⟨S576x1, .i1⟩
  | 120 => ⟨S1x1, .i32⟩
  | 121 => ⟨S576x1, .i32⟩
  | 122 => ⟨S576x1, .i1⟩
  | 123 => ⟨S576x1, .i1⟩
  | 124 => ⟨S_, .i1⟩
  | 125 => ⟨S576, .i1⟩
  | 126 => ⟨S8x576x32, .f32⟩
  | 127 => ⟨S8x576x32, .i1⟩
  | _ => ⟨S8x1024x3, .f32⟩

abbrev hbmTy0_2 (i : Nat) : BufTy := match i % 128 with
  | 0 => ⟨S_, .f32⟩
  | 1 => ⟨S8x576x32, .f32⟩
  | 2 => ⟨S8x576x32, .f32⟩
  | 3 => ⟨S16x16x8x16x16, .f32⟩
  | 4 => ⟨S8x16x16x16x16, .f32⟩
  | 5 => ⟨S8x256x256, .f32⟩
  | 6 => ⟨S_, .f32⟩
  | 7 => ⟨S8x32x16x16, .f32⟩
  | 8 => ⟨S_, .i32⟩
  | 9 => ⟨S1, .i32⟩
  | 10 => ⟨S8x32x16x16, .f32⟩
  | 11 => ⟨S8x32x256, .f32⟩
  | 12 => ⟨S8x288x256, .f32⟩
  | 13 => ⟨S_, .f32⟩
  | 14 => ⟨S8x16x16x32, .f32⟩
  | 15 => ⟨S_, .i32⟩
  | 16 => ⟨S1, .i32⟩
  | 17 => ⟨S8x16x16x32, .f32⟩
  | 18 => ⟨S8x256x32, .f32⟩
  | 19 => ⟨S8x288x32, .f32⟩
  | 20 => ⟨S8x1x256, .f32⟩
  | 21 => ⟨S_, .f32⟩
  | 22 => ⟨S8x1x256, .f32⟩
  | 23 => ⟨S8x289x256, .f32⟩
  | 24 => ⟨S_, .i32⟩
  | 25 => ⟨S288, .i32⟩
  | 26 => ⟨S288, .i1⟩
  | 27 => ⟨S_, .i32⟩
  | 28 => ⟨S288, .i32⟩
  | 29 => ⟨S288, .i32⟩
  | 30 => ⟨S288, .i32⟩
  | 31 => ⟨S288x1, .i32⟩
  | 32 => ⟨S1, .i32⟩
  | 33 => ⟨S_, .i32⟩
  | 34 => ⟨S288x1, .i32⟩
  | 35 => ⟨S288x1, .i1⟩
  | 36 => ⟨S1x1, .i32⟩
  | 37 => ⟨S288x1, .i32⟩
  | 38 => ⟨S288x1, .i1⟩
  | 39 => ⟨S288x1, .i1⟩
  | 40 => ⟨S_, .i1⟩
  | 41 => ⟨S288, .i1⟩
  | 42 => ⟨S8x288x256, .f32⟩
  | 43 => ⟨S8x288x256, .i1⟩
  | 44 => ⟨S_, .f32⟩
  | 45 => ⟨S8x288x256, .f32⟩
  | 46 => ⟨S8x288x256, .f32⟩
  | 47 => ⟨S8x288x256, .bf16⟩
  | 48 => ⟨S8x288x256, .f32⟩
  | 49 => ⟨S8x288x256, .f32⟩
  | 50 => ⟨S8x288x256, .bf16⟩
  | 51 => ⟨S8x1x32, .f32⟩
  | 52 => ⟨S_, .f32⟩
  | 53 => ⟨S8x1x32, .f32⟩
  | 54 => ⟨S8x289x32, .f32⟩
  | 55 => ⟨S_, .i32⟩
  | 56 => ⟨S288, .i32⟩
  | 57 => ⟨S288, .i1⟩
  | 58 => ⟨S_, .i32⟩
  | 59 => ⟨S288, .i32⟩
  | 60 => ⟨S288, .i32⟩
  | 61 => ⟨S288, .i32⟩
  | 62 => ⟨S288x1, .i32⟩
  | 63 => ⟨S1, .i32⟩
  | 64 => ⟨S_, .i32⟩
  | 65 => ⟨S288x1, .i32⟩
  | 66 => ⟨S288x1, .i1⟩
  | 67 => ⟨S1x1, .i32⟩
  | 68 => ⟨S288x1, .i32⟩
  | 69 => ⟨S288x1, .i1⟩
  | 70 => ⟨S288x1, .i1⟩
  | 71 => ⟨S_, .i1⟩
  | 72 => ⟨S288, .i1⟩
  | 73 => ⟨S8x288x32, .f32⟩
  | 74 => ⟨S8x288x32, .i1⟩
  | 75 => ⟨S_, .f32⟩
  | 76 => ⟨S8x288x32, .f32⟩
  | 77 => ⟨S8x288x32, .f32⟩
  | 78 => ⟨S16x9, .f32⟩
  | 79 => ⟨S16x16x16, .f32⟩
  | 80 => ⟨S16x16x16, .f32⟩
  | 81 => ⟨S256x16, .f32⟩
  | 82 => ⟨S256x1, .f32⟩
  | 83 => ⟨S256, .f32⟩
  | 84 => ⟨S256, .f32⟩
  | 85 => ⟨S256x1, .f32⟩
  | 86 => ⟨S256, .f32⟩
  | 87 => ⟨S256x1, .f32⟩
  | 88 => ⟨S256, .f32⟩
  | 89 => ⟨S256, .f32⟩
  | 90 => ⟨S256x1, .f32⟩
  | 91 => ⟨S256, .f32⟩
  | 92 => ⟨S_, .f32⟩
  | 93 => ⟨S256, .f32⟩
  | 94 => ⟨S256x1, .f32⟩
  | 95 => ⟨S256x1, .f32⟩
  | 96 => ⟨S256x1, .f32⟩
  | 97 => ⟨S256x1, .f32⟩
  | 98 => ⟨S256x1, .f32⟩
  | 99 => ⟨S256x1, .f32⟩
  | 100 => ⟨S256x1, .f32⟩
  | 101 => ⟨S256x1, .f32⟩
  | 102 => ⟨S256x8, .f32⟩
  | 103 => ⟨S8x3x1024, .f32⟩
  | 104 => ⟨S_, .f32⟩
  | 105 => ⟨S8x1x1024, .f32⟩
  | 106 => ⟨S_, .f32⟩
  | 107 => ⟨S8x4x1024, .f32⟩
  | 108 => ⟨S8x8x1024, .f32⟩
  | 109 => ⟨S32x1, .f32⟩
  | 110 => ⟨S32x1024, .f32⟩
  | 111 => ⟨S16x16x1x16, .f32⟩
  | 112 => ⟨S1x16x16x16, .f32⟩
  | 113 => ⟨S1x1x16x16, .f32⟩
  | 114 => ⟨S16x16, .f32⟩
  | 115 => ⟨S_, .f32⟩
  | 116 => ⟨S8x256, .f32⟩
  | 117 => ⟨S256, .f32⟩
  | 118 => ⟨S_, .i32⟩
  | 119 => ⟨S1, .i32⟩
  | 120 => ⟨S8x256, .f32⟩
  | 121 => ⟨S_, .f32⟩
  | 122 => ⟨S8x32, .f32⟩
  | 123 => ⟨S32, .f32⟩
  | 124 => ⟨S_, .i32⟩
  | 125 => ⟨S1, .i32⟩
  | 126 => ⟨S8x32, .f32⟩
  | 127 => ⟨S8x1x128, .f32⟩
  | _ => ⟨S8x1024x3, .f32⟩

abbrev hbmTy0_3 (i : Nat) : BufTy := match i % 128 with
  | 0 => ⟨S8x1x1, .f32⟩
  | 1 => ⟨S8x1, .f32⟩
  | _ => ⟨S8x1024x3, .f32⟩

abbrev hbmTy (i : Nat) : BufTy := match i / 128 with
  | 0 => hbmTy0_0 i
  | 1 => hbmTy0_1 i
  | 2 => hbmTy0_2 i
  | 3 => hbmTy0_3 i
  | _ => ⟨S8x1024x3, .f32⟩

abbrev bufTy : (tb : Table) → Fin (tcTables nBuf tb) → BufTy
  | .hbm, ⟨i, _⟩ => hbmTy i
  | .local _ .vmem, ⟨0, _⟩ => ⟨S1x8x1024, .f32⟩
  | .local _ .vmem, ⟨1, _⟩ => ⟨S1x8x1024, .f32⟩
  | .local _ .vmem, ⟨2, _⟩ => ⟨S32x1024, .f32⟩
  | .local _ .vmem, ⟨3, _⟩ => ⟨S256x8, .f32⟩
  | .local _ .vmem, ⟨4, _⟩ => ⟨S256x128, .f32⟩
  | .local _ .vmem, ⟨5, _⟩ => ⟨S8x704x256, .bf16⟩
  | .local _ .vmem, ⟨6, _⟩ => ⟨S8x704x256, .bf16⟩
  | .local _ .vmem, ⟨7, _⟩ => ⟨S8x704x32, .f32⟩
  | .local _ .vmem, ⟨8, _⟩ => ⟨S8x288x288, .bf16⟩
  | .local _ .vmem, ⟨9, _⟩ => ⟨S8x288x288, .bf16⟩
  | .local _ .vmem, ⟨10, _⟩ => ⟨S8x576x256, .bf16⟩
  | .local _ .vmem, ⟨11, _⟩ => ⟨S8x576x256, .bf16⟩
  | .local _ .vmem, ⟨12, _⟩ => ⟨S8x576x32, .f32⟩
  | .local _ .vmem, ⟨13, _⟩ => ⟨S8x288x256, .bf16⟩
  | .local _ .vmem, ⟨14, _⟩ => ⟨S8x288x256, .bf16⟩
  | .local _ .vmem, ⟨15, _⟩ => ⟨S8x288x32, .f32⟩
  | .local _ .vmem, ⟨16, _⟩ => ⟨S8x256, .f32⟩
  | .local _ .vmem, ⟨17, _⟩ => ⟨S8x32, .f32⟩
  | .local _ .vmem, ⟨18, _⟩ => ⟨S1x1x128, .f32⟩
  | .local _ .vmem, ⟨19, _⟩ => ⟨S1x1x128, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_c : Ref sig .tc := ⟨.hbm, 23, rfl⟩
abbrev main_cst_0 : Ref sig .tc := ⟨.hbm, 24, rfl⟩
abbrev main_c_1 : Ref sig .tc := ⟨.hbm, 25, rfl⟩
abbrev main_c_2 : Ref sig .tc := ⟨.hbm, 26, rfl⟩
abbrev main_c_3 : Ref sig .tc := ⟨.hbm, 27, rfl⟩
abbrev main_cst_4 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_cst_5 : Ref sig .tc := ⟨.hbm, 32, rfl⟩
abbrev main_v3 : Ref sig .tc := ⟨.hbm, 33, rfl⟩
abbrev main_c_6 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_7 : Ref sig .tc := ⟨.hbm, 39, rfl⟩
abbrev main_v8 : Ref sig .tc := ⟨.hbm, 40, rfl⟩
abbrev main_c_8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_9 : Ref sig .tc := ⟨.hbm, 47, rfl⟩
abbrev main_v14 : Ref sig .tc := ⟨.hbm, 48, rfl⟩
abbrev main_v15 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_10 : Ref sig .tc := ⟨.hbm, 80, rfl⟩
abbrev main_v24 : Ref sig .tc := ⟨.hbm, 81, rfl⟩
abbrev main_v25 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_c_1 : Ref sig .tc := ⟨.hbm, 91, rfl⟩
abbrev main_call1_c_2 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_c_3 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_call1_cst : Ref sig .tc := ⟨.hbm, 103, rfl⟩
abbrev main_call1_v15 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_cst_11 : Ref sig .tc := ⟨.hbm, 111, rfl⟩
abbrev main_v32 : Ref sig .tc := ⟨.hbm, 112, rfl⟩
abbrev main_c_12 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_cst_13 : Ref sig .tc := ⟨.hbm, 118, rfl⟩
abbrev main_v37 : Ref sig .tc := ⟨.hbm, 119, rfl⟩
abbrev main_c_14 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_cst_15 : Ref sig .tc := ⟨.hbm, 127, rfl⟩
abbrev main_v44 : Ref sig .tc := ⟨.hbm, 128, rfl⟩
abbrev main_v45 : Ref sig .tc := ⟨.hbm, 129, rfl⟩
abbrev main_call2_c : Ref sig .tc := ⟨.hbm, 130, rfl⟩
abbrev main_call2_v0 : Ref sig .tc := ⟨.hbm, 131, rfl⟩
abbrev main_call2_v1 : Ref sig .tc := ⟨.hbm, 132, rfl⟩
abbrev main_call2_c_0 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_c_1 : Ref sig .tc := ⟨.hbm, 138, rfl⟩
abbrev main_call2_c_2 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_c_3 : Ref sig .tc := ⟨.hbm, 146, rfl⟩
abbrev main_call2_v12 : Ref sig .tc := ⟨.hbm, 147, rfl⟩
abbrev main_call2_v13 : Ref sig .tc := ⟨.hbm, 148, rfl⟩
abbrev main_call2_v14 : Ref sig .tc := ⟨.hbm, 149, rfl⟩
abbrev main_call2_cst : Ref sig .tc := ⟨.hbm, 150, rfl⟩
abbrev main_call2_v15 : Ref sig .tc := ⟨.hbm, 151, rfl⟩
abbrev main_v46 : Ref sig .tc := ⟨.hbm, 152, rfl⟩
abbrev main_v47 : Ref sig .tc := ⟨.hbm, 153, rfl⟩
abbrev main_cst_16 : Ref sig .tc := ⟨.hbm, 154, rfl⟩
abbrev main_v48 : Ref sig .tc := ⟨.hbm, 155, rfl⟩
abbrev main_v49 : Ref sig .tc := ⟨.hbm, 156, rfl⟩
abbrev main_call3_c : Ref sig .tc := ⟨.hbm, 157, rfl⟩
abbrev main_call3_v0 : Ref sig .tc := ⟨.hbm, 158, rfl⟩
abbrev main_call3_v1 : Ref sig .tc := ⟨.hbm, 159, rfl⟩
abbrev main_call3_c_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_c_1 : Ref sig .tc := ⟨.hbm, 165, rfl⟩
abbrev main_call3_c_2 : Ref sig .tc := ⟨.hbm, 166, rfl⟩
abbrev main_call3_v6 : Ref sig .tc := ⟨.hbm, 167, rfl⟩
abbrev main_call3_v7 : Ref sig .tc := ⟨.hbm, 168, rfl⟩
abbrev main_call3_v8 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_c_3 : Ref sig .tc := ⟨.hbm, 173, rfl⟩
abbrev main_call3_v12 : Ref sig .tc := ⟨.hbm, 174, rfl⟩
abbrev main_call3_v13 : Ref sig .tc := ⟨.hbm, 175, rfl⟩
abbrev main_call3_v14 : Ref sig .tc := ⟨.hbm, 176, rfl⟩
abbrev main_call3_cst : Ref sig .tc := ⟨.hbm, 177, rfl⟩
abbrev main_call3_v15 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩
abbrev main_cst_17 : Ref sig .tc := ⟨.hbm, 187, rfl⟩
abbrev main_v58 : Ref sig .tc := ⟨.hbm, 188, rfl⟩
abbrev main_c_18 : Ref sig .tc := ⟨.hbm, 189, rfl⟩
abbrev main_v59 : Ref sig .tc := ⟨.hbm, 190, rfl⟩
abbrev main_v60 : Ref sig .tc := ⟨.hbm, 191, rfl⟩
abbrev main_v61 : Ref sig .tc := ⟨.hbm, 192, rfl⟩
abbrev main_v62 : Ref sig .tc := ⟨.hbm, 193, rfl⟩
abbrev main_cst_19 : Ref sig .tc := ⟨.hbm, 194, rfl⟩
abbrev main_v63 : Ref sig .tc := ⟨.hbm, 195, rfl⟩
abbrev main_c_20 : Ref sig .tc := ⟨.hbm, 196, rfl⟩
abbrev main_v64 : Ref sig .tc := ⟨.hbm, 197, rfl⟩
abbrev main_v65 : Ref sig .tc := ⟨.hbm, 198, rfl⟩
abbrev main_v66 : Ref sig .tc := ⟨.hbm, 199, rfl⟩
abbrev main_v67 : Ref sig .tc := ⟨.hbm, 200, rfl⟩
abbrev main_v68 : Ref sig .tc := ⟨.hbm, 201, rfl⟩
abbrev main_cst_21 : Ref sig .tc := ⟨.hbm, 202, rfl⟩
abbrev main_v69 : Ref sig .tc := ⟨.hbm, 203, rfl⟩
abbrev main_v70 : Ref sig .tc := ⟨.hbm, 204, rfl⟩
abbrev main_call4_c : Ref sig .tc := ⟨.hbm, 205, rfl⟩
abbrev main_call4_v0 : Ref sig .tc := ⟨.hbm, 206, rfl⟩
abbrev main_call4_v1 : Ref sig .tc := ⟨.hbm, 207, rfl⟩
abbrev main_call4_c_0 : Ref sig .tc := ⟨.hbm, 208, rfl⟩
abbrev main_call4_v2 : Ref sig .tc := ⟨.hbm, 209, rfl⟩
abbrev main_call4_v3 : Ref sig .tc := ⟨.hbm, 210, rfl⟩
abbrev main_call4_v4 : Ref sig .tc := ⟨.hbm, 211, rfl⟩
abbrev main_call4_v5 : Ref sig .tc := ⟨.hbm, 212, rfl⟩
abbrev main_call4_c_1 : Ref sig .tc := ⟨.hbm, 213, rfl⟩
abbrev main_call4_c_2 : Ref sig .tc := ⟨.hbm, 214, rfl⟩
abbrev main_call4_v6 : Ref sig .tc := ⟨.hbm, 215, rfl⟩
abbrev main_call4_v7 : Ref sig .tc := ⟨.hbm, 216, rfl⟩
abbrev main_call4_v8 : Ref sig .tc := ⟨.hbm, 217, rfl⟩
abbrev main_call4_v9 : Ref sig .tc := ⟨.hbm, 218, rfl⟩
abbrev main_call4_v10 : Ref sig .tc := ⟨.hbm, 219, rfl⟩
abbrev main_call4_v11 : Ref sig .tc := ⟨.hbm, 220, rfl⟩
abbrev main_call4_c_3 : Ref sig .tc := ⟨.hbm, 221, rfl⟩
abbrev main_call4_v12 : Ref sig .tc := ⟨.hbm, 222, rfl⟩
abbrev main_call4_v13 : Ref sig .tc := ⟨.hbm, 223, rfl⟩
abbrev main_call4_v14 : Ref sig .tc := ⟨.hbm, 224, rfl⟩
abbrev main_call4_cst : Ref sig .tc := ⟨.hbm, 225, rfl⟩
abbrev main_call4_v15 : Ref sig .tc := ⟨.hbm, 226, rfl⟩
abbrev main_v71 : Ref sig .tc := ⟨.hbm, 227, rfl⟩
abbrev main_v72 : Ref sig .tc := ⟨.hbm, 228, rfl⟩
abbrev main_v73 : Ref sig .tc := ⟨.hbm, 229, rfl⟩
abbrev main_v74 : Ref sig .tc := ⟨.hbm, 230, rfl⟩
abbrev main_v75 : Ref sig .tc := ⟨.hbm, 231, rfl⟩
abbrev main_v76 : Ref sig .tc := ⟨.hbm, 232, rfl⟩
abbrev main_cst_22 : Ref sig .tc := ⟨.hbm, 233, rfl⟩
abbrev main_v77 : Ref sig .tc := ⟨.hbm, 234, rfl⟩
abbrev main_v78 : Ref sig .tc := ⟨.hbm, 235, rfl⟩
abbrev main_call5_c : Ref sig .tc := ⟨.hbm, 236, rfl⟩
abbrev main_call5_v0 : Ref sig .tc := ⟨.hbm, 237, rfl⟩
abbrev main_call5_v1 : Ref sig .tc := ⟨.hbm, 238, rfl⟩
abbrev main_call5_c_0 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_call5_v5 : Ref sig .tc := ⟨.hbm, 243, rfl⟩
abbrev main_call5_c_1 : Ref sig .tc := ⟨.hbm, 244, rfl⟩
abbrev main_call5_c_2 : Ref sig .tc := ⟨.hbm, 245, rfl⟩
abbrev main_call5_v6 : Ref sig .tc := ⟨.hbm, 246, rfl⟩
abbrev main_call5_v7 : Ref sig .tc := ⟨.hbm, 247, rfl⟩
abbrev main_call5_v8 : Ref sig .tc := ⟨.hbm, 248, rfl⟩
abbrev main_call5_v9 : Ref sig .tc := ⟨.hbm, 249, rfl⟩
abbrev main_call5_v10 : Ref sig .tc := ⟨.hbm, 250, rfl⟩
abbrev main_call5_v11 : Ref sig .tc := ⟨.hbm, 251, rfl⟩
abbrev main_call5_c_3 : Ref sig .tc := ⟨.hbm, 252, rfl⟩
abbrev main_call5_v12 : Ref sig .tc := ⟨.hbm, 253, rfl⟩
abbrev main_call5_v13 : Ref sig .tc := ⟨.hbm, 254, rfl⟩
abbrev main_call5_v14 : Ref sig .tc := ⟨.hbm, 255, rfl⟩
abbrev main_call5_cst : Ref sig .tc := ⟨.hbm, 256, rfl⟩
abbrev main_call5_v15 : Ref sig .tc := ⟨.hbm, 257, rfl⟩
abbrev main_v79 : Ref sig .tc := ⟨.hbm, 258, rfl⟩
abbrev main_v80 : Ref sig .tc := ⟨.hbm, 259, rfl⟩
abbrev main_v81 : Ref sig .tc := ⟨.hbm, 260, rfl⟩
abbrev main_v82 : Ref sig .tc := ⟨.hbm, 261, rfl⟩
abbrev main_cst_23 : Ref sig .tc := ⟨.hbm, 262, rfl⟩
abbrev main_v83 : Ref sig .tc := ⟨.hbm, 263, rfl⟩
abbrev main_c_24 : Ref sig .tc := ⟨.hbm, 264, rfl⟩
abbrev main_v84 : Ref sig .tc := ⟨.hbm, 265, rfl⟩
abbrev main_v85 : Ref sig .tc := ⟨.hbm, 266, rfl⟩
abbrev main_v86 : Ref sig .tc := ⟨.hbm, 267, rfl⟩
abbrev main_v87 : Ref sig .tc := ⟨.hbm, 268, rfl⟩
abbrev main_cst_25 : Ref sig .tc := ⟨.hbm, 269, rfl⟩
abbrev main_v88 : Ref sig .tc := ⟨.hbm, 270, rfl⟩
abbrev main_c_26 : Ref sig .tc := ⟨.hbm, 271, rfl⟩
abbrev main_v89 : Ref sig .tc := ⟨.hbm, 272, rfl⟩
abbrev main_v90 : Ref sig .tc := ⟨.hbm, 273, rfl⟩
abbrev main_v91 : Ref sig .tc := ⟨.hbm, 274, rfl⟩
abbrev main_v92 : Ref sig .tc := ⟨.hbm, 275, rfl⟩
abbrev main_v93 : Ref sig .tc := ⟨.hbm, 276, rfl⟩
abbrev main_cst_27 : Ref sig .tc := ⟨.hbm, 277, rfl⟩
abbrev main_v94 : Ref sig .tc := ⟨.hbm, 278, rfl⟩
abbrev main_v95 : Ref sig .tc := ⟨.hbm, 279, rfl⟩
abbrev main_call6_c : Ref sig .tc := ⟨.hbm, 280, rfl⟩
abbrev main_call6_v0 : Ref sig .tc := ⟨.hbm, 281, rfl⟩
abbrev main_call6_v1 : Ref sig .tc := ⟨.hbm, 282, rfl⟩
abbrev main_call6_c_0 : Ref sig .tc := ⟨.hbm, 283, rfl⟩
abbrev main_call6_v2 : Ref sig .tc := ⟨.hbm, 284, rfl⟩
abbrev main_call6_v3 : Ref sig .tc := ⟨.hbm, 285, rfl⟩
abbrev main_call6_v4 : Ref sig .tc := ⟨.hbm, 286, rfl⟩
abbrev main_call6_v5 : Ref sig .tc := ⟨.hbm, 287, rfl⟩
abbrev main_call6_c_1 : Ref sig .tc := ⟨.hbm, 288, rfl⟩
abbrev main_call6_c_2 : Ref sig .tc := ⟨.hbm, 289, rfl⟩
abbrev main_call6_v6 : Ref sig .tc := ⟨.hbm, 290, rfl⟩
abbrev main_call6_v7 : Ref sig .tc := ⟨.hbm, 291, rfl⟩
abbrev main_call6_v8 : Ref sig .tc := ⟨.hbm, 292, rfl⟩
abbrev main_call6_v9 : Ref sig .tc := ⟨.hbm, 293, rfl⟩
abbrev main_call6_v10 : Ref sig .tc := ⟨.hbm, 294, rfl⟩
abbrev main_call6_v11 : Ref sig .tc := ⟨.hbm, 295, rfl⟩
abbrev main_call6_c_3 : Ref sig .tc := ⟨.hbm, 296, rfl⟩
abbrev main_call6_v12 : Ref sig .tc := ⟨.hbm, 297, rfl⟩
abbrev main_call6_v13 : Ref sig .tc := ⟨.hbm, 298, rfl⟩
abbrev main_call6_v14 : Ref sig .tc := ⟨.hbm, 299, rfl⟩
abbrev main_call6_cst : Ref sig .tc := ⟨.hbm, 300, rfl⟩
abbrev main_call6_v15 : Ref sig .tc := ⟨.hbm, 301, rfl⟩
abbrev main_v96 : Ref sig .tc := ⟨.hbm, 302, rfl⟩
abbrev main_v97 : Ref sig .tc := ⟨.hbm, 303, rfl⟩
abbrev main_v98 : Ref sig .tc := ⟨.hbm, 304, rfl⟩
abbrev main_v99 : Ref sig .tc := ⟨.hbm, 305, rfl⟩
abbrev main_v100 : Ref sig .tc := ⟨.hbm, 306, rfl⟩
abbrev main_v101 : Ref sig .tc := ⟨.hbm, 307, rfl⟩
abbrev main_cst_28 : Ref sig .tc := ⟨.hbm, 308, rfl⟩
abbrev main_v102 : Ref sig .tc := ⟨.hbm, 309, rfl⟩
abbrev main_v103 : Ref sig .tc := ⟨.hbm, 310, rfl⟩
abbrev main_call7_c : Ref sig .tc := ⟨.hbm, 311, rfl⟩
abbrev main_call7_v0 : Ref sig .tc := ⟨.hbm, 312, rfl⟩
abbrev main_call7_v1 : Ref sig .tc := ⟨.hbm, 313, rfl⟩
abbrev main_call7_c_0 : Ref sig .tc := ⟨.hbm, 314, rfl⟩
abbrev main_call7_v2 : Ref sig .tc := ⟨.hbm, 315, rfl⟩
abbrev main_call7_v3 : Ref sig .tc := ⟨.hbm, 316, rfl⟩
abbrev main_call7_v4 : Ref sig .tc := ⟨.hbm, 317, rfl⟩
abbrev main_call7_v5 : Ref sig .tc := ⟨.hbm, 318, rfl⟩
abbrev main_call7_c_1 : Ref sig .tc := ⟨.hbm, 319, rfl⟩
abbrev main_call7_c_2 : Ref sig .tc := ⟨.hbm, 320, rfl⟩
abbrev main_call7_v6 : Ref sig .tc := ⟨.hbm, 321, rfl⟩
abbrev main_call7_v7 : Ref sig .tc := ⟨.hbm, 322, rfl⟩
abbrev main_call7_v8 : Ref sig .tc := ⟨.hbm, 323, rfl⟩
abbrev main_call7_v9 : Ref sig .tc := ⟨.hbm, 324, rfl⟩
abbrev main_call7_v10 : Ref sig .tc := ⟨.hbm, 325, rfl⟩
abbrev main_call7_v11 : Ref sig .tc := ⟨.hbm, 326, rfl⟩
abbrev main_call7_c_3 : Ref sig .tc := ⟨.hbm, 327, rfl⟩
abbrev main_call7_v12 : Ref sig .tc := ⟨.hbm, 328, rfl⟩
abbrev main_call7_v13 : Ref sig .tc := ⟨.hbm, 329, rfl⟩
abbrev main_call7_v14 : Ref sig .tc := ⟨.hbm, 330, rfl⟩
abbrev main_call7_cst : Ref sig .tc := ⟨.hbm, 331, rfl⟩
abbrev main_call7_v15 : Ref sig .tc := ⟨.hbm, 332, rfl⟩
abbrev main_v104 : Ref sig .tc := ⟨.hbm, 333, rfl⟩
abbrev main_v105 : Ref sig .tc := ⟨.hbm, 334, rfl⟩
abbrev main_v106 : Ref sig .tc := ⟨.hbm, 335, rfl⟩
abbrev main_v107 : Ref sig .tc := ⟨.hbm, 336, rfl⟩
abbrev main_v108 : Ref sig .tc := ⟨.hbm, 337, rfl⟩
abbrev main_v109 : Ref sig .tc := ⟨.hbm, 338, rfl⟩
abbrev main_v110 : Ref sig .tc := ⟨.hbm, 339, rfl⟩
abbrev main_v111 : Ref sig .tc := ⟨.hbm, 340, rfl⟩
abbrev main_v112 : Ref sig .tc := ⟨.hbm, 341, rfl⟩
abbrev main_v113 : Ref sig .tc := ⟨.hbm, 342, rfl⟩
abbrev main_v114 : Ref sig .tc := ⟨.hbm, 343, rfl⟩
abbrev main_v115 : Ref sig .tc := ⟨.hbm, 344, rfl⟩
abbrev main_v116 : Ref sig .tc := ⟨.hbm, 345, rfl⟩
abbrev main_v117 : Ref sig .tc := ⟨.hbm, 346, rfl⟩
abbrev main_v118 : Ref sig .tc := ⟨.hbm, 347, rfl⟩
abbrev main_cst_29 : Ref sig .tc := ⟨.hbm, 348, rfl⟩
abbrev main_v119 : Ref sig .tc := ⟨.hbm, 349, rfl⟩
abbrev main_v120 : Ref sig .tc := ⟨.hbm, 350, rfl⟩
abbrev main_v121 : Ref sig .tc := ⟨.hbm, 351, rfl⟩
abbrev main_v122 : Ref sig .tc := ⟨.hbm, 352, rfl⟩
abbrev main_v123 : Ref sig .tc := ⟨.hbm, 353, rfl⟩
abbrev main_v124 : Ref sig .tc := ⟨.hbm, 354, rfl⟩
abbrev main_v125 : Ref sig .tc := ⟨.hbm, 355, rfl⟩
abbrev main_v126 : Ref sig .tc := ⟨.hbm, 356, rfl⟩
abbrev main_v127 : Ref sig .tc := ⟨.hbm, 357, rfl⟩
abbrev main_v128 : Ref sig .tc := ⟨.hbm, 358, rfl⟩
abbrev main_v129 : Ref sig .tc := ⟨.hbm, 359, rfl⟩
abbrev main_cst_30 : Ref sig .tc := ⟨.hbm, 360, rfl⟩
abbrev main_v130 : Ref sig .tc := ⟨.hbm, 361, rfl⟩
abbrev main_cst_31 : Ref sig .tc := ⟨.hbm, 362, rfl⟩
abbrev main_v131 : Ref sig .tc := ⟨.hbm, 363, rfl⟩
abbrev main_v132 : Ref sig .tc := ⟨.hbm, 364, rfl⟩
abbrev main_v133 : Ref sig .tc := ⟨.hbm, 365, rfl⟩
abbrev main_v134 : Ref sig .tc := ⟨.hbm, 366, rfl⟩
abbrev main_v135 : Ref sig .tc := ⟨.hbm, 367, rfl⟩
abbrev main_v136 : Ref sig .tc := ⟨.hbm, 368, rfl⟩
abbrev main_v137 : Ref sig .tc := ⟨.hbm, 369, rfl⟩
abbrev main_v138 : Ref sig .tc := ⟨.hbm, 370, rfl⟩
abbrev main_cst_32 : Ref sig .tc := ⟨.hbm, 371, rfl⟩
abbrev main_v139 : Ref sig .tc := ⟨.hbm, 372, rfl⟩
abbrev main_v140 : Ref sig .tc := ⟨.hbm, 373, rfl⟩
abbrev main_c_33 : Ref sig .tc := ⟨.hbm, 374, rfl⟩
abbrev main_v141 : Ref sig .tc := ⟨.hbm, 375, rfl⟩
abbrev main_v142 : Ref sig .tc := ⟨.hbm, 376, rfl⟩
abbrev main_cst_34 : Ref sig .tc := ⟨.hbm, 377, rfl⟩
abbrev main_v143 : Ref sig .tc := ⟨.hbm, 378, rfl⟩
abbrev main_v144 : Ref sig .tc := ⟨.hbm, 379, rfl⟩
abbrev main_c_35 : Ref sig .tc := ⟨.hbm, 380, rfl⟩
abbrev main_v145 : Ref sig .tc := ⟨.hbm, 381, rfl⟩
abbrev main_v146 : Ref sig .tc := ⟨.hbm, 382, rfl⟩
abbrev main_v147 : Ref sig .tc := ⟨.hbm, 383, rfl⟩
abbrev main_v148 : Ref sig .tc := ⟨.hbm, 384, rfl⟩
abbrev main_v149 : Ref sig .tc := ⟨.hbm, 385, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg19 : BitVec 32 := Scf.iv c0_i32 c1_i32 k0_t1
  let v49 : Index := Scalar.indexCast arg19
  let c0_26 : Index := 0#32
  let c0_27 : Index := 0#32
  ![v49.toNat, 0, 0]
def k0_off2 (k0_t1 : Fin k0_t1_loop.trips) : Fin 3 → Nat :=
  let c0_i32 : BitVec 32 := 0#32
  let c1_i32 : BitVec 32 := 1#32
  let arg19 : BitVec 32 := Scf.iv c0_i32 c1_i32 k0_t1
  let v64 : Index := Scalar.indexCast arg19
  let c0_33 : Index := 0#32
  let c0_34 : Index := 0#32
  ![v64.toNat, 0, 0]
def k0_off3 (k0_t1 : Fin k0_t1_loop.trips) : Fin 3 → Nat :=
  let c0_i32 : BitVec 32 := 0#32
  let c1_i32 : BitVec 32 := 1#32
  let arg19 : BitVec 32 := Scf.iv c0_i32 c1_i32 k0_t1
  let v428 : Index := Scalar.indexCast arg19
  let c0_102 : Index := 0#32
  let c0_103 : Index := 0#32
  ![v428.toNat, 0, 0]
def k0_off4 (k0_t1 : Fin k0_t1_loop.trips) : Fin 3 → Nat :=
  let c0_i32 : BitVec 32 := 0#32
  let c1_i32 : BitVec 32 := 1#32
  let arg19 : BitVec 32 := Scf.iv c0_i32 c1_i32 k0_t1
  let v469 : Index := Scalar.indexCast arg19
  let c0_115 : Index := 0#32
  let c0_116 : Index := 0#32
  ![v469.toNat, 0, 0]
def k0_off5 (k0_t1 : Fin k0_t1_loop.trips) : Fin 3 → Nat :=
  let c0_i32 : BitVec 32 := 0#32
  let c1_i32 : BitVec 32 := 1#32
  let arg19 : BitVec 32 := Scf.iv c0_i32 c1_i32 k0_t1
  let v484 : Index := Scalar.indexCast arg19
  let c0_122 : Index := 0#32
  let c0_123 : Index := 0#32
  ![v484.toNat, 0, 0]
def k0_off6 (k0_t1 : Fin k0_t1_loop.trips) : Fin 3 → Nat :=
  let c0_i32 : BitVec 32 := 0#32
  let c1_i32 : BitVec 32 := 1#32
  let arg19 : BitVec 32 := Scf.iv c0_i32 c1_i32 k0_t1
  let v1447 : Index := Scalar.indexCast arg19
  let c0_213 : Index := 0#32
  let c0_214 : Index := 0#32
  ![v1447.toNat, 0, 0]
def k0_off7 (k0_t1 : Fin k0_t1_loop.trips) : Fin 3 → Nat :=
  let c0_i32 : BitVec 32 := 0#32
  let c1_i32 : BitVec 32 := 1#32
  let arg19 : BitVec 32 := Scf.iv c0_i32 c1_i32 k0_t1
  let v1462 : Index := Scalar.indexCast arg19
  let c0_220 : Index := 0#32
  let c0_221 : Index := 0#32
  ![v1462.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x704x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x704x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x288x288 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x288x288 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x576x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x576x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x576x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x288x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x288x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x288x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S8x1024x3 : Shape := ⟨3, ![8, 1024, 3]⟩
abbrev S16x1x9 : Shape := ⟨3, ![16, 1, 9]⟩
abbrev S32x1 : Shape := ⟨2, ![32, 1]⟩
abbrev S32 : Shape := ⟨1, ![32]⟩
abbrev S8x48x16x9 : Shape := ⟨4, ![8, 48, 16, 9]⟩
abbrev S8x48x32 : Shape := ⟨3, ![8, 48, 32]⟩
abbrev S8x96x16 : Shape := ⟨3, ![8, 96, 16]⟩
abbrev S8x96x32 : Shape := ⟨3, ![8, 96, 32]⟩
abbrev S8x16x16x9 : Shape := ⟨4, ![8, 16, 16, 9]⟩
abbrev S8x16x32 : Shape := ⟨3, ![8, 16, 32]⟩
abbrev S8x32x16 : Shape := ⟨3, ![8, 32, 16]⟩
abbrev S8x32x32 : Shape := ⟨3, ![8, 32, 32]⟩
abbrev S8x32x16x9 : Shape := ⟨4, ![8, 32, 16, 9]⟩
abbrev S8x64x16 : Shape := ⟨3, ![8, 64, 16]⟩
abbrev S8x64x32 : Shape := ⟨3, ![8, 64, 32]⟩
abbrev S1x16x9 : Shape := ⟨3, ![1, 16, 9]⟩
abbrev S1x32 : Shape := ⟨2, ![1, 32]⟩
abbrev S9x16x16 : Shape := ⟨3, ![9, 16, 16]⟩
abbrev S16 : Shape := ⟨1, ![16]⟩
abbrev S16x16x16 : Shape := ⟨3, ![16, 16, 16]⟩
abbrev S_ : Shape := ⟨0, ![]⟩
abbrev S8x1024x1 : Shape := ⟨3, ![8, 1024, 1]⟩
abbrev S8x1024x16 : Shape := ⟨3, ![8, 1024, 16]⟩
abbrev S8x1024x1x16 : Shape := ⟨4, ![8, 1024, 1, 16]⟩
abbrev S16x16x16x1 : Shape := ⟨4, ![16, 16, 16, 1]⟩
abbrev S16x16x8x1024 : Shape := ⟨4, ![16, 16, 8, 1024]⟩
abbrev S8x1024x16x16 : Shape := ⟨4, ![8, 1024, 16, 16]⟩
abbrev S8x1024x1x1 : Shape := ⟨4, ![8, 1024, 1, 1]⟩
abbrev S8x1024x32 : Shape := ⟨3, ![8, 1024, 32]⟩
abbrev S1x1x32 : Shape := ⟨3, ![1, 1, 32]⟩
abbrev S1x1x1x16 : Shape := ⟨4, ![1, 1, 1, 16]⟩
abbrev S8x1024 : Shape := ⟨2, ![8, 1024]⟩
abbrev S1x48x16x9 : Shape := ⟨4, ![1, 48, 16, 9]⟩
abbrev S48x16x9 : Shape := ⟨3, ![48, 16, 9]⟩
abbrev S1x48x32 : Shape := ⟨3, ![1, 48, 32]⟩
abbrev S48x32 : Shape := ⟨2, ![48, 32]⟩
abbrev S1x96x16 : Shape := ⟨3, ![1, 96, 16]⟩
abbrev S96x16 : Shape := ⟨2, ![96, 16]⟩
abbrev S1x96x32 : Shape := ⟨3, ![1, 96, 32]⟩
abbrev S96x32 : Shape := ⟨2, ![96, 32]⟩
abbrev S1x16x16x9 : Shape := ⟨4, ![1, 16, 16, 9]⟩
abbrev S16x16x9 : Shape := ⟨3, ![16, 16, 9]⟩
abbrev S1x16x32 : Shape := ⟨3, ![1, 16, 32]⟩
abbrev S16x32 : Shape := ⟨2, ![16, 32]⟩
abbrev S1x32x16 : Shape := ⟨3, ![1, 32, 16]⟩
abbrev S32x16 : Shape := ⟨2, ![32, 16]⟩
abbrev S1x32x32 : Shape := ⟨3, ![1, 32, 32]⟩
abbrev S32x32 : Shape := ⟨2, ![32, 32]⟩
abbrev S8x1024x16x9x16 : Shape := ⟨5, ![8, 1024, 16, 9, 16]⟩
abbrev S8x1024x16x48 : Shape := ⟨4, ![8, 1024, 16, 48]⟩
abbrev S8x1024x48x16 : Shape := ⟨4, ![8, 1024, 48, 16]⟩
abbrev S8x1024x48 : Shape := ⟨3, ![8, 1024, 48]⟩
abbrev S8x1024x48x1 : Shape := ⟨4, ![8, 1024, 48, 1]⟩
abbrev S8x1024x48x15 : Shape := ⟨4, ![8, 1024, 48, 15]⟩
abbrev S8x1024x96 : Shape := ⟨3, ![8, 1024, 96]⟩
abbrev S8x1024x16x1 : Shape := ⟨4, ![8, 1024, 16, 1]⟩
abbrev S8x1024x8x2x16 : Shape := ⟨5, ![8, 1024, 8, 2, 16]⟩
abbrev S8x1024x8x4 : Shape := ⟨4, ![8, 1024, 8, 4]⟩
abbrev S1x1x1x1x16 : Shape := ⟨5, ![1, 1, 1, 1, 16]⟩
abbrev S8x8x1024x1024 : Shape := ⟨4, ![8, 8, 1024, 1024]⟩
abbrev S8x8x1024 : Shape := ⟨3, ![8, 8, 1024]⟩
abbrev S8x8x1024x1 : Shape := ⟨4, ![8, 8, 1024, 1]⟩
abbrev S8x8x2x16x1024 : Shape := ⟨5, ![8, 8, 2, 16, 1024]⟩
abbrev S8x8x4x1024 : Shape := ⟨4, ![8, 8, 4, 1024]⟩
abbrev S16x16x16x16 : Shape := ⟨4, ![16, 16, 16, 16]⟩
abbrev S8x1024x16x15 : Shape := ⟨4, ![8, 1024, 16, 15]⟩
abbrev S1x32x16x9 : Shape := ⟨4, ![1, 32, 16, 9]⟩
abbrev S32x16x9 : Shape := ⟨3, ![32, 16, 9]⟩
abbrev S1x64x16 : Shape := ⟨3, ![1, 64, 16]⟩
abbrev S64x16 : Shape := ⟨2, ![64, 16]⟩
abbrev S1x64x32 : Shape := ⟨3, ![1, 64, 32]⟩
abbrev S64x32 : Shape := ⟨2, ![64, 32]⟩
abbrev S8x1024x16x32 : Shape := ⟨4, ![8, 1024, 16, 32]⟩
abbrev S8x1024x32x16 : Shape := ⟨4, ![8, 1024, 32, 16]⟩
abbrev S8x1024x32x1 : Shape := ⟨4, ![8, 1024, 32, 1]⟩
abbrev S8x1024x32x15 : Shape := ⟨4, ![8, 1024, 32, 15]⟩
abbrev S8x1024x64 : Shape := ⟨3, ![8, 1024, 64]⟩
abbrev S8x1024x16x16x16 : Shape := ⟨5, ![8, 1024, 16, 16, 16]⟩
abbrev S16x16x1x16 : Shape := ⟨4, ![16, 16, 1, 16]⟩
abbrev S16x1x8x1024 : Shape := ⟨4, ![16, 1, 8, 1024]⟩
abbrev S8x1024x1x15 : Shape := ⟨4, ![8, 1024, 1, 15]⟩
abbrev S8x1 : Shape := ⟨2, ![8, 1]⟩

abbrev nBuf : Space → Nat
  | .hbm => 717
  | .vmem => 0
  | .smem => 0
  | _ => 0

abbrev hbmTy0_0 (i : Nat) : BufTy := match i % 128 with
  | 0 => ⟨S8x1024x3, .f32⟩
  | 1 => ⟨S16x1x9, .f32⟩
  | 2 => ⟨S32x1, .f32⟩
  | 3 => ⟨S32, .f32⟩
  | 4 => ⟨S8x48x16x9, .f32⟩
  | 5 => ⟨S8x48x32, .f32⟩
  | 6 => ⟨S8x96x16, .f32⟩
  | 7 => ⟨S8x96x32, .f32⟩
  | 8 => ⟨S8x16x16x9, .f32⟩
  | 9 => ⟨S8x16x32, .f32⟩
  | 10 => ⟨S8x32x16, .f32⟩
  | 11 => ⟨S8x32x32, .f32⟩
  | 12 => ⟨S8x32x16x9, .f32⟩
  | 13 => ⟨S8x32x32, .f32⟩
  | 14 => ⟨S8x64x16, .f32⟩
  | 15 => ⟨S8x64x32, .f32⟩
  | 16 => ⟨S8x16x16x9, .f32⟩
  | 17 => ⟨S8x16x32, .f32⟩
  | 18 => ⟨S8x32x16, .f32⟩
  | 19 => ⟨S8x32x32, .f32⟩
  | 20 => ⟨S1x16x9, .f32⟩
  | 21 => ⟨S1x32, .f32⟩
  | 22 => ⟨S9x16x16, .f32⟩
  | 23 => ⟨S16, .f32⟩
  | 24 => ⟨S16x16x16, .f32⟩
  | 25 => ⟨S_, .f32⟩
  | 26 => ⟨S8x1024x1, .f32⟩
  | 27 => ⟨S8x1024x1, .f32⟩
  | 28 => ⟨S8x1024x1, .f32⟩
  | 29 => ⟨S8x1024x1, .f32⟩
  | 30 => ⟨S8x1024x1, .f32⟩
  | 31 => ⟨S8x1024x1, .f32⟩
  | 32 => ⟨S_, .f32⟩
  | 33 => ⟨S8x1024x1, .f32⟩
  | 34 => ⟨S8x1024x1, .f32⟩
  | 35 => ⟨S8x1024x16, .f32⟩
  | 36 => ⟨S8x1024x1x16, .f32⟩
  | 37 => ⟨S16x16x16x1, .f32⟩
  | 38 => ⟨S16x16x8x1024, .f32⟩
  | 39 => ⟨S8x1024x16x16, .f32⟩
  | 40 => ⟨S8x1024x1x1, .f32⟩
  | 41 => ⟨S8x1024x1, .f32⟩
  | 42 => ⟨S8x1024x32, .f32⟩
  | 43 => ⟨S1x1x32, .f32⟩
  | 44 => ⟨S8x1024x32, .f32⟩
  | 45 => ⟨S8x1024x32, .f32⟩
  | 46 => ⟨S_, .i32⟩
  | 47 => ⟨S_, .i32⟩
  | 48 => ⟨S16, .f32⟩
  | 49 => ⟨S8x48x16x9, .f32⟩
  | 50 => ⟨S8x48x32, .f32⟩
  | 51 => ⟨S8x96x16, .f32⟩
  | 52 => ⟨S8x96x32, .f32⟩
  | 53 => ⟨S8x16x16x9, .f32⟩
  | 54 => ⟨S8x16x32, .f32⟩
  | 55 => ⟨S8x32x16, .f32⟩
  | 56 => ⟨S8x32x32, .f32⟩
  | 57 => ⟨S9x16x16, .f32⟩
  | 58 => ⟨S8x32x16x9, .f32⟩
  | 59 => ⟨S8x32x32, .f32⟩
  | 60 => ⟨S8x64x16, .f32⟩
  | 61 => ⟨S8x64x32, .f32⟩
  | 62 => ⟨S8x16x16x9, .f32⟩
  | 63 => ⟨S8x16x32, .f32⟩
  | 64 => ⟨S8x32x16, .f32⟩
  | 65 => ⟨S8x32x32, .f32⟩
  | 66 => ⟨S16x16x16, .f32⟩
  | 67 => ⟨S_, .i32⟩
  | 68 => ⟨S_, .i32⟩
  | 69 => ⟨S8x1024x16x16, .f32⟩
  | 70 => ⟨S8x1024x32, .f32⟩
  | 71 => ⟨S_, .i32⟩
  | 72 => ⟨S_, .i1⟩
  | 73 => ⟨S_, .i32⟩
  | 74 => ⟨S_, .i32⟩
  | 75 => ⟨S8x1024x16x16, .f32⟩
  | 76 => ⟨S1x1x1x16, .f32⟩
  | 77 => ⟨S8x1024x16x16, .f32⟩
  | 78 => ⟨S8x1024x16x16, .f32⟩
  | 79 => ⟨S_, .f32⟩
  | 80 => ⟨S8x1024x16, .f32⟩
  | 81 => ⟨S_, .f32⟩
  | 82 => ⟨S8x1024, .f32⟩
  | 83 => ⟨S8x1024x1, .f32⟩
  | 84 => ⟨S_, .f32⟩
  | 85 => ⟨S8x1024x1, .f32⟩
  | 86 => ⟨S8x1024x1, .f32⟩
  | 87 => ⟨S_, .f32⟩
  | 88 => ⟨S8x1024x1, .f32⟩
  | 89 => ⟨S8x1024x1, .f32⟩
  | 90 => ⟨S8x1024x1, .f32⟩
  | 91 => ⟨S8x1024x1x1, .f32⟩
  | 92 => ⟨S8x1024x16x16, .f32⟩
  | 93 => ⟨S8x1024x16x16, .f32⟩
  | 94 => ⟨S8x1024x32, .f32⟩
  | 95 => ⟨S_, .f32⟩
  | 96 => ⟨S8x1024, .f32⟩
  | 97 => ⟨S8x1024x1, .f32⟩
  | 98 => ⟨S_, .f32⟩
  | 99 => ⟨S8x1024x1, .f32⟩
  | 100 => ⟨S8x1024x1, .f32⟩
  | 101 => ⟨S_, .f32⟩
  | 102 => ⟨S8x1024x1, .f32⟩
  | 103 => ⟨S8x1024x1, .f32⟩
  | 104 => ⟨S8x1024x1, .f32⟩
  | 105 => ⟨S8x1024x32, .f32⟩
  | 106 => ⟨S8x1024x32, .f32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S8x1024x3, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S1x48x16x9, .f32⟩
  | 10 => ⟨S48x16x9, .f32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S1x48x32, .f32⟩
  | 34 => ⟨S48x32, .f32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S1x96x16, .f32⟩
  | 58 => ⟨S96x16, .f32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S1x96x32, .f32⟩
  | 82 => ⟨S96x32, .f32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S1x16x16x9, .f32⟩
  | 114 => ⟨S16x16x9, .f32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S8x1024x3, .f32⟩

abbrev hbmTy0_2 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S1x16x32, .f32⟩
  | 10 => ⟨S16x32, .f32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S1x32x16, .f32⟩
  | 34 => ⟨S32x16, .f32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S1x32x32, .f32⟩
  | 58 => ⟨S32x32, .f32⟩
  | 59 => ⟨S8x1024x16x9x16, .f32⟩
  | 60 => ⟨S8x1024x16x48, .f32⟩
  | 61 => ⟨S8x1024x48x16, .f32⟩
  | 62 => ⟨S8x1024x48, .f32⟩
  | 63 => ⟨S8x1024x48x1, .f32⟩
  | 64 => ⟨S8x1024x48x1, .f32⟩
  | 65 => ⟨S8x1024x48x1, .f32⟩
  | 66 => ⟨S8x1024x48x15, .f32⟩
  | 67 => ⟨S8x1024x48x16, .f32⟩
  | 68 => ⟨S8x1024x96, .f32⟩
  | 69 => ⟨S8x1024x16x1, .f32⟩
  | 70 => ⟨S8x1024x16, .f32⟩
  | 71 => ⟨S8x1024x96, .f32⟩
  | 72 => ⟨S8x1024x96, .f32⟩
  | 73 => ⟨S8x1024x16x16, .f32⟩
  | 74 => ⟨S8x1024x16x16, .f32⟩
  | 75 => ⟨S8x1024x16x16, .f32⟩
  | 76 => ⟨S8x1024x8x2x16, .f32⟩
  | 77 => ⟨S8x1024x8x2x16, .f32⟩
  | 78 => ⟨S8x1024x8x2x16, .f32⟩
  | 79 => ⟨S8x1024x32, .f32⟩
  | 80 => ⟨S8x1024x32, .f32⟩
  | 81 => ⟨S8x1024x32, .f32⟩
  | 82 => ⟨S8x1024x8x4, .f32⟩
  | 83 => ⟨S8x1024x8x4, .f32⟩
  | 84 => ⟨S8x1024x8x4, .f32⟩
  | 85 => ⟨S1x1x1x1x16, .f32⟩
  | 86 => ⟨S8x1024x8x2x16, .f32⟩
  | 87 => ⟨S8x1024x8x2x16, .f32⟩
  | 88 => ⟨S8x8x1024x1024, .f32⟩
  | 89 => ⟨S8x8x1024x1024, .f32⟩
  | 90 => ⟨S8x8x1024x1024, .f32⟩
  | 91 => ⟨S_, .f32⟩
  | 92 => ⟨S8x8x1024x1024, .f32⟩
  | 93 => ⟨S8x8x1024x1024, .f32⟩
  | 94 => ⟨S_, .f32⟩
  | 95 => ⟨S8x8x1024, .f32⟩
  | 96 => ⟨S_, .f32⟩
  | 97 => ⟨S8x8x1024, .f32⟩
  | 98 => ⟨S8x8x1024, .f32⟩
  | 99 => ⟨S8x8x1024x1, .f32⟩
  | 100 => ⟨S8x8x1024x1024, .f32⟩
  | 101 => ⟨S8x8x1024x1024, .f32⟩
  | 102 => ⟨S8x8x1024x1024, .f32⟩
  | 103 => ⟨S_, .f32⟩
  | 104 => ⟨S8x8x1024, .f32⟩
  | 105 => ⟨S8x8x1024x1, .f32⟩
  | 106 => ⟨S8x8x1024x1024, .f32⟩
  | 107 => ⟨S8x8x1024x1024, .f32⟩
  | 108 => ⟨S8x8x2x16x1024, .f32⟩
  | 109 => ⟨S8x1024x8x2x16, .f32⟩
  | 110 => ⟨S8x1024x16x16, .f32⟩
  | 111 => ⟨S8x8x4x1024, .f32⟩
  | 112 => ⟨S8x1024x8x4, .f32⟩
  | 113 => ⟨S8x1024x32, .f32⟩
  | 114 => ⟨S16x16x16x16, .f32⟩
  | 115 => ⟨S16x16x8x1024, .f32⟩
  | 116 => ⟨S8x1024x16x16, .f32⟩
  | 117 => ⟨S8x1024x16, .f32⟩
  | 118 => ⟨S8x1024x16x1, .f32⟩
  | 119 => ⟨S8x1024x16x1, .f32⟩
  | 120 => ⟨S8x1024x16x1, .f32⟩
  | 121 => ⟨S8x1024x16x15, .f32⟩
  | 122 => ⟨S8x1024x16x16, .f32⟩
  | 123 => ⟨S8x1024x32, .f32⟩
  | 124 => ⟨S8x1024x16x1, .f32⟩
  | 125 => ⟨S8x1024x16, .f32⟩
  | 126 => ⟨S8x1024x32, .f32⟩
  | 127 => ⟨S8x1024x32, .f32⟩
  | _ => ⟨S8x1024x3, .f32⟩

abbrev hbmTy0_3 (i : Nat) : BufTy := match i % 128 with
  | 0 => ⟨S8x1024x16x16, .f32⟩
  | 1 => ⟨S8x1024x32, .f32⟩
  | 2 => ⟨S8x1024x16x16, .f32⟩
  | 3 => ⟨S1x1x1x16, .f32⟩
  | 4 => ⟨S8x1024x16x16, .f32⟩
  | 5 => ⟨S8x1024x16x16, .f32⟩
  | 6 => ⟨S_, .f32⟩
  | 7 => ⟨S8x1024x16, .f32⟩
  | 8 => ⟨S_, .f32⟩
  | 9 => ⟨S8x1024, .f32⟩
  | 10 => ⟨S8x1024x1, .f32⟩
  | 11 => ⟨S_, .f32⟩
  | 12 => ⟨S8x1024x1, .f32⟩
  | 13 => ⟨S8x1024x1, .f32⟩
  | 14 => ⟨S_, .f32⟩
  | 15 => ⟨S8x1024x1, .f32⟩
  | 16 => ⟨S8x1024x1, .f32⟩
  | 17 => ⟨S8x1024x1, .f32⟩
  | 18 => ⟨S8x1024x1x1, .f32⟩
  | 19 => ⟨S8x1024x16x16, .f32⟩
  | 20 => ⟨S8x1024x16x16, .f32⟩
  | 21 => ⟨S8x1024x32, .f32⟩
  | 22 => ⟨S_, .f32⟩
  | 23 => ⟨S8x1024, .f32⟩
  | 24 => ⟨S8x1024x1, .f32⟩
  | 25 => ⟨S_, .f32⟩
  | 26 => ⟨S8x1024x1, .f32⟩
  | 27 => ⟨S8x1024x1, .f32⟩
  | 28 => ⟨S_, .f32⟩
  | 29 => ⟨S8x1024x1, .f32⟩
  | 30 => ⟨S8x1024x1, .f32⟩
  | 31 => ⟨S8x1024x1, .f32⟩
  | 32 => ⟨S8x1024x32, .f32⟩
  | 33 => ⟨S8x1024x32, .f32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x32x16x9, .f32⟩
  | 65 => ⟨S32x16x9, .f32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S1x32x32, .f32⟩
  | 89 => ⟨S32x32, .f32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x64x16, .f32⟩
  | 113 => ⟨S64x16, .f32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S8x1024x3, .f32⟩

abbrev hbmTy0_4 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S1x64x32, .f32⟩
  | 9 => ⟨S64x32, .f32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S1x16x16x9, .f32⟩
  | 41 => ⟨S16x16x9, .f32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x16x32, .f32⟩
  | 65 => ⟨S16x32, .f32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S1x32x16, .f32⟩
  | 89 => ⟨S32x16, .f32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x32x32, .f32⟩
  | 113 => ⟨S32x32, .f32⟩
  | 114 => ⟨S8x1024x16x9x16, .f32⟩
  | 115 => ⟨S8x1024x16x32, .f32⟩
  | 116 => ⟨S8x1024x32x16, .f32⟩
  | 117 => ⟨S8x1024x32, .f32⟩
  | 118 => ⟨S8x1024x32x1, .f32⟩
  | 119 => ⟨S8x1024x32x1, .f32⟩
  | 120 => ⟨S8x1024x32x1, .f32⟩
  | 121 => ⟨S8x1024x32x15, .f32⟩
  | 122 => ⟨S8x1024x32x16, .f32⟩
  | 123 => ⟨S8x1024x64, .f32⟩
  | 124 => ⟨S8x1024x16x1, .f32⟩
  | 125 => ⟨S8x1024x16, .f32⟩
  | 126 => ⟨S8x1024x64, .f32⟩
  | 127 => ⟨S8x1024x64, .f32⟩
  | _ => ⟨S8x1024x3, .f32⟩

abbrev hbmTy0_5 (i : Nat) : BufTy := match i % 128 with
  | 0 => ⟨S8x1024x16x16, .f32⟩
  | 1 => ⟨S8x1024x16x16x16, .f32⟩
  | 2 => ⟨S8x1024x16x16, .f32⟩
  | 3 => ⟨S8x1024x16x16, .f32⟩
  | 4 => ⟨S8x1024x16x1, .f32⟩
  | 5 => ⟨S8x1024x16x1, .f32⟩
  | 6 => ⟨S8x1024x16x1, .f32⟩
  | 7 => ⟨S_, .f32⟩
  | 8 => ⟨S8x1024x16x1, .f32⟩
  | 9 => ⟨S8x1024x16x1, .f32⟩
  | 10 => ⟨S8x1024x16x1, .f32⟩
  | 11 => ⟨S_, .f32⟩
  | 12 => ⟨S8x1024x16x1, .f32⟩
  | 13 => ⟨S8x1024x16x1, .f32⟩
  | 14 => ⟨S8x1024x16x1, .f32⟩
  | 15 => ⟨S_, .f32⟩
  | 16 => ⟨S8x1024x16x1, .f32⟩
  | 17 => ⟨S8x1024x16x1, .f32⟩
  | 18 => ⟨S_, .f32⟩
  | 19 => ⟨S8x1024x16x1, .f32⟩
  | 20 => ⟨S8x1024x16x1, .f32⟩
  | 21 => ⟨S8x1024x16x1, .f32⟩
  | 22 => ⟨S8x1024x16x16, .f32⟩
  | 23 => ⟨S8x1024x16x16, .f32⟩
  | 24 => ⟨S8x1024x32, .f32⟩
  | 25 => ⟨S8x1024x32, .f32⟩
  | 26 => ⟨S8x1024x32, .f32⟩
  | 27 => ⟨S8x1024x32, .f32⟩
  | 28 => ⟨S_, .f32⟩
  | 29 => ⟨S8x1024x32, .f32⟩
  | 30 => ⟨S8x1024x32, .f32⟩
  | 31 => ⟨S8x1024x32, .f32⟩
  | 32 => ⟨S_, .f32⟩
  | 33 => ⟨S8x1024x32, .f32⟩
  | 34 => ⟨S8x1024x32, .f32⟩
  | 35 => ⟨S8x1024x32, .f32⟩
  | 36 => ⟨S_, .f32⟩
  | 37 => ⟨S8x1024x32, .f32⟩
  | 38 => ⟨S8x1024x32, .f32⟩
  | 39 => ⟨S_, .f32⟩
  | 40 => ⟨S8x1024x32, .f32⟩
  | 41 => ⟨S8x1024x32, .f32⟩
  | 42 => ⟨S8x1024x32, .f32⟩
  | 43 => ⟨S8x1024x32, .f32⟩
  | 44 => ⟨S16x16x16x16, .f32⟩
  | 45 => ⟨S16x16x8x1024, .f32⟩
  | 46 => ⟨S8x1024x16x16, .f32⟩
  | 47 => ⟨S8x1024x16, .f32⟩
  | 48 => ⟨S8x1024x16x1, .f32⟩
  | 49 => ⟨S8x1024x16x1, .f32⟩
  | 50 => ⟨S8x1024x16x1, .f32⟩
  | 51 => ⟨S8x1024x16x15, .f32⟩
  | 52 => ⟨S8x1024x16x16, .f32⟩
  | 53 => ⟨S8x1024x32, .f32⟩
  | 54 => ⟨S8x1024x16x1, .f32⟩
  | 55 => ⟨S8x1024x16, .f32⟩
  | 56 => ⟨S8x1024x32, .f32⟩
  | 57 => ⟨S8x1024x32, .f32⟩
  | 58 => ⟨S8x1024x16x16, .f32⟩
  | 59 => ⟨S8x1024x32, .f32⟩
  | 60 => ⟨S_, .i32⟩
  | 61 => ⟨S_, .i32⟩
  | 62 => ⟨S16x16x1x16, .f32⟩
  | 63 => ⟨S16x1x8x1024, .f32⟩
  | 64 => ⟨S8x1024x1x16, .f32⟩
  | 65 => ⟨S8x1024x1, .f32⟩
  | 66 => ⟨S8x1024x1x1, .f32⟩
  | 67 => ⟨S8x1024x1x1, .f32⟩
  | 68 => ⟨S8x1024x1x1, .f32⟩
  | 69 => ⟨S8x1024x1x15, .f32⟩
  | 70 => ⟨S8x1024x1x16, .f32⟩
  | 71 => ⟨S8x1024x1x1, .f32⟩
  | 72 => ⟨S_, .f32⟩
  | 73 => ⟨S8x1, .f32⟩
  | 74 => ⟨S_, .f32⟩
  | 75 => ⟨S8x1, .f32⟩
  | 76 => ⟨S8x1, .f32⟩
  | _ => ⟨S8x1024x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_cst_0 : Ref sig .tc := ⟨.hbm, 23, rfl⟩
abbrev main_cst_1 : Ref sig .tc := ⟨.hbm, 24, rfl⟩
abbrev main_cst_2 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_3 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c : Ref sig .tc := ⟨.hbm, 46, rfl⟩
abbrev main_c_4 : Ref sig .tc := ⟨.hbm, 47, rfl⟩
abbrev main_v19_0 : Ref sig .tc := ⟨.hbm, 48, rfl⟩
abbrev main_v19_1 : Ref sig .tc := ⟨.hbm, 49, rfl⟩
abbrev main_v19_2 : Ref sig .tc := ⟨.hbm, 50, rfl⟩
abbrev main_v19_3 : Ref sig .tc := ⟨.hbm, 51, rfl⟩
abbrev main_v19_4 : Ref sig .tc := ⟨.hbm, 52, rfl⟩
abbrev main_v19_5 : Ref sig .tc := ⟨.hbm, 53, rfl⟩
abbrev main_v19_6 : Ref sig .tc := ⟨.hbm, 54, rfl⟩
abbrev main_v19_7 : Ref sig .tc := ⟨.hbm, 55, rfl⟩
abbrev main_v19_8 : Ref sig .tc := ⟨.hbm, 56, rfl⟩
abbrev main_v19_9 : Ref sig .tc := ⟨.hbm, 57, rfl⟩
abbrev main_v19_10 : Ref sig .tc := ⟨.hbm, 58, rfl⟩
abbrev main_v19_11 : Ref sig .tc := ⟨.hbm, 59, rfl⟩
abbrev main_v19_12 : Ref sig .tc := ⟨.hbm, 60, rfl⟩
abbrev main_v19_13 : Ref sig .tc := ⟨.hbm, 61, rfl⟩
abbrev main_v19_14 : Ref sig .tc := ⟨.hbm, 62, rfl⟩
abbrev main_v19_15 : Ref sig .tc := ⟨.hbm, 63, rfl⟩
abbrev main_v19_16 : Ref sig .tc := ⟨.hbm, 64, rfl⟩
abbrev main_v19_17 : Ref sig .tc := ⟨.hbm, 65, rfl⟩
abbrev main_v19_18 : Ref sig .tc := ⟨.hbm, 66, rfl⟩
abbrev main_v19_19 : Ref sig .tc := ⟨.hbm, 67, rfl⟩
abbrev main_v19_20 : Ref sig .tc := ⟨.hbm, 68, rfl⟩
abbrev main_v19_21 : Ref sig .tc := ⟨.hbm, 69, rfl⟩
abbrev main_v19_22 : Ref sig .tc := ⟨.hbm, 70, rfl⟩
abbrev main_while0c_c_29 : Ref sig .tc := ⟨.hbm, 71, rfl⟩
abbrev main_while0c_v33 : Ref sig .tc := ⟨.hbm, 72, rfl⟩
abbrev main_while0b_c_29 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_cst_30 : Ref sig .tc := ⟨.hbm, 79, rfl⟩
abbrev main_while0b_v38 : Ref sig .tc := ⟨.hbm, 80, rfl⟩
abbrev main_while0b_cst_31 : Ref sig .tc := ⟨.hbm, 81, rfl⟩
abbrev main_while0b_v39 : Ref sig .tc := ⟨.hbm, 82, rfl⟩
abbrev main_while0b_v40 : Ref sig .tc := ⟨.hbm, 83, rfl⟩
abbrev main_while0b_cst_32 : Ref sig .tc := ⟨.hbm, 84, rfl⟩
abbrev main_while0b_v41 : Ref sig .tc := ⟨.hbm, 85, rfl⟩
abbrev main_while0b_v42 : Ref sig .tc := ⟨.hbm, 86, rfl⟩
abbrev main_while0b_cst_33 : Ref sig .tc := ⟨.hbm, 87, rfl⟩
abbrev main_while0b_v43 : Ref sig .tc := ⟨.hbm, 88, rfl⟩
abbrev main_while0b_v44 : Ref sig .tc := ⟨.hbm, 89, rfl⟩
abbrev main_while0b_v45 : Ref sig .tc := ⟨.hbm, 90, rfl⟩
abbrev main_while0b_v46 : Ref sig .tc := ⟨.hbm, 91, rfl⟩
abbrev main_while0b_v47 : Ref sig .tc := ⟨.hbm, 92, rfl⟩
abbrev main_while0b_v48 : Ref sig .tc := ⟨.hbm, 93, rfl⟩
abbrev main_while0b_v49 : Ref sig .tc := ⟨.hbm, 94, rfl⟩
abbrev main_while0b_cst_34 : Ref sig .tc := ⟨.hbm, 95, rfl⟩
abbrev main_while0b_v50 : Ref sig .tc := ⟨.hbm, 96, rfl⟩
abbrev main_while0b_v51 : Ref sig .tc := ⟨.hbm, 97, rfl⟩
abbrev main_while0b_cst_35 : Ref sig .tc := ⟨.hbm, 98, rfl⟩
abbrev main_while0b_v52 : Ref sig .tc := ⟨.hbm, 99, rfl⟩
abbrev main_while0b_v53 : Ref sig .tc := ⟨.hbm, 100, rfl⟩
abbrev main_while0b_cst_36 : Ref sig .tc := ⟨.hbm, 101, rfl⟩
abbrev main_while0b_v54 : Ref sig .tc := ⟨.hbm, 102, rfl⟩
abbrev main_while0b_v55 : Ref sig .tc := ⟨.hbm, 103, rfl⟩
abbrev main_while0b_v56 : Ref sig .tc := ⟨.hbm, 104, rfl⟩
abbrev main_while0b_v57 : Ref sig .tc := ⟨.hbm, 105, rfl⟩
abbrev main_while0b_v58 : Ref sig .tc := ⟨.hbm, 106, rfl⟩
abbrev main_while0b_v59 : Ref sig .tc := ⟨.hbm, 107, rfl⟩
abbrev main_while0b_c_37 : Ref sig .tc := ⟨.hbm, 108, rfl⟩
abbrev main_while0b_v60 : Ref sig .tc := ⟨.hbm, 109, rfl⟩
abbrev main_while0b_c_38 : Ref sig .tc := ⟨.hbm, 110, rfl⟩
abbrev main_while0b_v61 : Ref sig .tc := ⟨.hbm, 111, rfl⟩
abbrev main_while0b_v62 : Ref sig .tc := ⟨.hbm, 112, rfl⟩
abbrev main_while0b_c_39 : Ref sig .tc := ⟨.hbm, 113, rfl⟩
abbrev main_while0b_c_40 : Ref sig .tc := ⟨.hbm, 114, rfl⟩
abbrev main_while0b_v63 : Ref sig .tc := ⟨.hbm, 115, rfl⟩
abbrev main_while0b_c_41 : Ref sig .tc := ⟨.hbm, 116, rfl⟩
abbrev main_while0b_c_42 : Ref sig .tc := ⟨.hbm, 117, rfl⟩
abbrev main_while0b_v64 : Ref sig .tc := ⟨.hbm, 118, rfl⟩
abbrev main_while0b_c_43 : Ref sig .tc := ⟨.hbm, 119, rfl⟩
abbrev main_while0b_v65 : Ref sig .tc := ⟨.hbm, 120, rfl⟩
abbrev main_while0b_c_44 : Ref sig .tc := ⟨.hbm, 121, rfl⟩
abbrev main_while0b_c_45 : Ref sig .tc := ⟨.hbm, 122, rfl⟩
abbrev main_while0b_v66 : Ref sig .tc := ⟨.hbm, 123, rfl⟩
abbrev main_while0b_c_46 : Ref sig .tc := ⟨.hbm, 124, rfl⟩
abbrev main_while0b_c_47 : Ref sig .tc := ⟨.hbm, 125, rfl⟩
abbrev main_while0b_v67 : Ref sig .tc := ⟨.hbm, 126, rfl⟩
abbrev main_while0b_c_48 : Ref sig .tc := ⟨.hbm, 127, rfl⟩
abbrev main_while0b_v68 : Ref sig .tc := ⟨.hbm, 128, rfl⟩
abbrev main_while0b_c_49 : Ref sig .tc := ⟨.hbm, 129, rfl⟩
abbrev main_while0b_c_50 : Ref sig .tc := ⟨.hbm, 130, rfl⟩
abbrev main_while0b_v69 : Ref sig .tc := ⟨.hbm, 131, rfl⟩
abbrev main_while0b_c_51 : Ref sig .tc := ⟨.hbm, 132, rfl⟩
abbrev main_while0b_c_52 : Ref sig .tc := ⟨.hbm, 133, rfl⟩
abbrev main_while0b_v70 : Ref sig .tc := ⟨.hbm, 134, rfl⟩
abbrev main_while0b_c_53 : Ref sig .tc := ⟨.hbm, 135, rfl⟩
abbrev main_while0b_v71 : Ref sig .tc := ⟨.hbm, 136, rfl⟩
abbrev main_while0b_v72 : Ref sig .tc := ⟨.hbm, 137, rfl⟩
abbrev main_while0b_v73 : Ref sig .tc := ⟨.hbm, 138, rfl⟩
abbrev main_while0b_v74 : Ref sig .tc := ⟨.hbm, 139, rfl⟩
abbrev main_while0b_c_54 : Ref sig .tc := ⟨.hbm, 140, rfl⟩
abbrev main_while0b_v75 : Ref sig .tc := ⟨.hbm, 141, rfl⟩
abbrev main_while0b_c_55 : Ref sig .tc := ⟨.hbm, 142, rfl⟩
abbrev main_while0b_v76 : Ref sig .tc := ⟨.hbm, 143, rfl⟩
abbrev main_while0b_v77 : Ref sig .tc := ⟨.hbm, 144, rfl⟩
abbrev main_while0b_c_56 : Ref sig .tc := ⟨.hbm, 145, rfl⟩
abbrev main_while0b_c_57 : Ref sig .tc := ⟨.hbm, 146, rfl⟩
abbrev main_while0b_v78 : Ref sig .tc := ⟨.hbm, 147, rfl⟩
abbrev main_while0b_c_58 : Ref sig .tc := ⟨.hbm, 148, rfl⟩
abbrev main_while0b_c_59 : Ref sig .tc := ⟨.hbm, 149, rfl⟩
abbrev main_while0b_v79 : Ref sig .tc := ⟨.hbm, 150, rfl⟩
abbrev main_while0b_c_60 : Ref sig .tc := ⟨.hbm, 151, rfl⟩
abbrev main_while0b_v80 : Ref sig .tc := ⟨.hbm, 152, rfl⟩
abbrev main_while0b_c_61 : Ref sig .tc := ⟨.hbm, 153, rfl⟩
abbrev main_while0b_c_62 : Ref sig .tc := ⟨.hbm, 154, rfl⟩
abbrev main_while0b_v81 : Ref sig .tc := ⟨.hbm, 155, rfl⟩
abbrev main_while0b_c_63 : Ref sig .tc := ⟨.hbm, 156, rfl⟩
abbrev main_while0b_c_64 : Ref sig .tc := ⟨.hbm, 157, rfl⟩
abbrev main_while0b_v82 : Ref sig .tc := ⟨.hbm, 158, rfl⟩
abbrev main_while0b_c_65 : Ref sig .tc := ⟨.hbm, 159, rfl⟩
abbrev main_while0b_v83 : Ref sig .tc := ⟨.hbm, 160, rfl⟩
abbrev main_while0b_v84 : Ref sig .tc := ⟨.hbm, 161, rfl⟩
abbrev main_while0b_v85 : Ref sig .tc := ⟨.hbm, 162, rfl⟩
abbrev main_while0b_v86 : Ref sig .tc := ⟨.hbm, 163, rfl⟩
abbrev main_while0b_c_66 : Ref sig .tc := ⟨.hbm, 164, rfl⟩
abbrev main_while0b_v87 : Ref sig .tc := ⟨.hbm, 165, rfl⟩
abbrev main_while0b_c_67 : Ref sig .tc := ⟨.hbm, 166, rfl⟩
abbrev main_while0b_v88 : Ref sig .tc := ⟨.hbm, 167, rfl⟩
abbrev main_while0b_v89 : Ref sig .tc := ⟨.hbm, 168, rfl⟩
abbrev main_while0b_c_68 : Ref sig .tc := ⟨.hbm, 169, rfl⟩
abbrev main_while0b_c_69 : Ref sig .tc := ⟨.hbm, 170, rfl⟩
abbrev main_while0b_v90 : Ref sig .tc := ⟨.hbm, 171, rfl⟩
abbrev main_while0b_c_70 : Ref sig .tc := ⟨.hbm, 172, rfl⟩
abbrev main_while0b_c_71 : Ref sig .tc := ⟨.hbm, 173, rfl⟩
abbrev main_while0b_v91 : Ref sig .tc := ⟨.hbm, 174, rfl⟩
abbrev main_while0b_c_72 : Ref sig .tc := ⟨.hbm, 175, rfl⟩
abbrev main_while0b_v92 : Ref sig .tc := ⟨.hbm, 176, rfl⟩
abbrev main_while0b_c_73 : Ref sig .tc := ⟨.hbm, 177, rfl⟩
abbrev main_while0b_c_74 : Ref sig .tc := ⟨.hbm, 178, rfl⟩
abbrev main_while0b_v93 : Ref sig .tc := ⟨.hbm, 179, rfl⟩
abbrev main_while0b_c_75 : Ref sig .tc := ⟨.hbm, 180, rfl⟩
abbrev main_while0b_c_76 : Ref sig .tc := ⟨.hbm, 181, rfl⟩
abbrev main_while0b_v94 : Ref sig .tc := ⟨.hbm, 182, rfl⟩
abbrev main_while0b_c_77 : Ref sig .tc := ⟨.hbm, 183, rfl⟩
abbrev main_while0b_v95 : Ref sig .tc := ⟨.hbm, 184, rfl⟩
abbrev main_while0b_v96 : Ref sig .tc := ⟨.hbm, 185, rfl⟩
abbrev main_while0b_v97 : Ref sig .tc := ⟨.hbm, 186, rfl⟩
abbrev main_while0b_v98 : Ref sig .tc := ⟨.hbm, 187, rfl⟩
abbrev main_while0b_c_78 : Ref sig .tc := ⟨.hbm, 188, rfl⟩
abbrev main_while0b_v99 : Ref sig .tc := ⟨.hbm, 189, rfl⟩
abbrev main_while0b_c_79 : Ref sig .tc := ⟨.hbm, 190, rfl⟩
abbrev main_while0b_v100 : Ref sig .tc := ⟨.hbm, 191, rfl⟩
abbrev main_while0b_v101 : Ref sig .tc := ⟨.hbm, 192, rfl⟩
abbrev main_while0b_c_80 : Ref sig .tc := ⟨.hbm, 193, rfl⟩
abbrev main_while0b_c_81 : Ref sig .tc := ⟨.hbm, 194, rfl⟩
abbrev main_while0b_v102 : Ref sig .tc := ⟨.hbm, 195, rfl⟩
abbrev main_while0b_c_82 : Ref sig .tc := ⟨.hbm, 196, rfl⟩
abbrev main_while0b_c_83 : Ref sig .tc := ⟨.hbm, 197, rfl⟩
abbrev main_while0b_v103 : Ref sig .tc := ⟨.hbm, 198, rfl⟩
abbrev main_while0b_c_84 : Ref sig .tc := ⟨.hbm, 199, rfl⟩
abbrev main_while0b_v104 : Ref sig .tc := ⟨.hbm, 200, rfl⟩
abbrev main_while0b_c_85 : Ref sig .tc := ⟨.hbm, 201, rfl⟩
abbrev main_while0b_c_86 : Ref sig .tc := ⟨.hbm, 202, rfl⟩
abbrev main_while0b_v105 : Ref sig .tc := ⟨.hbm, 203, rfl⟩
abbrev main_while0b_c_87 : Ref sig .tc := ⟨.hbm, 204, rfl⟩
abbrev main_while0b_c_88 : Ref sig .tc := ⟨.hbm, 205, rfl⟩
abbrev main_while0b_v106 : Ref sig .tc := ⟨.hbm, 206, rfl⟩
abbrev main_while0b_c_89 : Ref sig .tc := ⟨.hbm, 207, rfl⟩
abbrev main_while0b_v107 : Ref sig .tc := ⟨.hbm, 208, rfl⟩
abbrev main_while0b_v108 : Ref sig .tc := ⟨.hbm, 209, rfl⟩
abbrev main_while0b_v109 : Ref sig .tc := ⟨.hbm, 210, rfl⟩
abbrev main_while0b_v110 : Ref sig .tc := ⟨.hbm, 211, rfl⟩
abbrev main_while0b_c_90 : Ref sig .tc := ⟨.hbm, 212, rfl⟩
abbrev main_while0b_v111 : Ref sig .tc := ⟨.hbm, 213, rfl⟩
abbrev main_while0b_c_91 : Ref sig .tc := ⟨.hbm, 214, rfl⟩
abbrev main_while0b_v112 : Ref sig .tc := ⟨.hbm, 215, rfl⟩
abbrev main_while0b_v113 : Ref sig .tc := ⟨.hbm, 216, rfl⟩
abbrev main_while0b_c_92 : Ref sig .tc := ⟨.hbm, 217, rfl⟩
abbrev main_while0b_c_93 : Ref sig .tc := ⟨.hbm, 218, rfl⟩
abbrev main_while0b_v114 : Ref sig .tc := ⟨.hbm, 219, rfl⟩
abbrev main_while0b_c_94 : Ref sig .tc := ⟨.hbm, 220, rfl⟩
abbrev main_while0b_c_95 : Ref sig .tc := ⟨.hbm, 221, rfl⟩
abbrev main_while0b_v115 : Ref sig .tc := ⟨.hbm, 222, rfl⟩
abbrev main_while0b_c_96 : Ref sig .tc := ⟨.hbm, 223, rfl⟩
abbrev main_while0b_v116 : Ref sig .tc := ⟨.hbm, 224, rfl⟩
abbrev main_while0b_c_97 : Ref sig .tc := ⟨.hbm, 225, rfl⟩
abbrev main_while0b_c_98 : Ref sig .tc := ⟨.hbm, 226, rfl⟩
abbrev main_while0b_v117 : Ref sig .tc := ⟨.hbm, 227, rfl⟩
abbrev main_while0b_c_99 : Ref sig .tc := ⟨.hbm, 228, rfl⟩
abbrev main_while0b_c_100 : Ref sig .tc := ⟨.hbm, 229, rfl⟩
abbrev main_while0b_v118 : Ref sig .tc := ⟨.hbm, 230, rfl⟩
abbrev main_while0b_c_101 : Ref sig .tc := ⟨.hbm, 231, rfl⟩
abbrev main_while0b_v119 : Ref sig .tc := ⟨.hbm, 232, rfl⟩
abbrev main_while0b_c_102 : Ref sig .tc := ⟨.hbm, 233, rfl⟩
abbrev main_while0b_c_103 : Ref sig .tc := ⟨.hbm, 234, rfl⟩
abbrev main_while0b_v120 : Ref sig .tc := ⟨.hbm, 235, rfl⟩
abbrev main_while0b_c_104 : Ref sig .tc := ⟨.hbm, 236, rfl⟩
abbrev main_while0b_c_105 : Ref sig .tc := ⟨.hbm, 237, rfl⟩
abbrev main_while0b_v121 : Ref sig .tc := ⟨.hbm, 238, rfl⟩
abbrev main_while0b_c_106 : Ref sig .tc := ⟨.hbm, 239, rfl⟩
abbrev main_while0b_v122 : Ref sig .tc := ⟨.hbm, 240, rfl⟩
abbrev main_while0b_v123 : Ref sig .tc := ⟨.hbm, 241, rfl⟩
abbrev main_while0b_v124 : Ref sig .tc := ⟨.hbm, 242, rfl⟩
abbrev main_while0b_v125 : Ref sig .tc := ⟨.hbm, 243, rfl⟩
abbrev main_while0b_c_107 : Ref sig .tc := ⟨.hbm, 244, rfl⟩
abbrev main_while0b_v126 : Ref sig .tc := ⟨.hbm, 245, rfl⟩
abbrev main_while0b_c_108 : Ref sig .tc := ⟨.hbm, 246, rfl⟩
abbrev main_while0b_v127 : Ref sig .tc := ⟨.hbm, 247, rfl⟩
abbrev main_while0b_v128 : Ref sig .tc := ⟨.hbm, 248, rfl⟩
abbrev main_while0b_c_109 : Ref sig .tc := ⟨.hbm, 249, rfl⟩
abbrev main_while0b_c_110 : Ref sig .tc := ⟨.hbm, 250, rfl⟩
abbrev main_while0b_v129 : Ref sig .tc := ⟨.hbm, 251, rfl⟩
abbrev main_while0b_c_111 : Ref sig .tc := ⟨.hbm, 252, rfl⟩
abbrev main_while0b_c_112 : Ref sig .tc := ⟨.hbm, 253, rfl⟩
abbrev main_while0b_v130 : Ref sig .tc := ⟨.hbm, 254, rfl⟩
abbrev main_while0b_c_113 : Ref sig .tc := ⟨.hbm, 255, rfl⟩
abbrev main_while0b_v131 : Ref sig .tc := ⟨.hbm, 256, rfl⟩
abbrev main_while0b_c_114 : Ref sig .tc := ⟨.hbm, 257, rfl⟩
abbrev main_while0b_c_115 : Ref sig .tc := ⟨.hbm, 258, rfl⟩
abbrev main_while0b_v132 : Ref sig .tc := ⟨.hbm, 259, rfl⟩
abbrev main_while0b_c_116 : Ref sig .tc := ⟨.hbm, 260, rfl⟩
abbrev main_while0b_c_117 : Ref sig .tc := ⟨.hbm, 261, rfl⟩
abbrev main_while0b_v133 : Ref sig .tc := ⟨.hbm, 262, rfl⟩
abbrev main_while0b_c_118 : Ref sig .tc := ⟨.hbm, 263, rfl⟩
abbrev main_while0b_v134 : Ref sig .tc := ⟨.hbm, 264, rfl⟩
abbrev main_while0b_v135 : Ref sig .tc := ⟨.hbm, 265, rfl⟩
abbrev main_while0b_v136 : Ref sig .tc := ⟨.hbm, 266, rfl⟩
abbrev main_while0b_v137 : Ref sig .tc := ⟨.hbm, 267, rfl⟩
abbrev main_while0b_c_119 : Ref sig .tc := ⟨.hbm, 268, rfl⟩
abbrev main_while0b_v138 : Ref sig .tc := ⟨.hbm, 269, rfl⟩
abbrev main_while0b_c_120 : Ref sig .tc := ⟨.hbm, 270, rfl⟩
abbrev main_while0b_v139 : Ref sig .tc := ⟨.hbm, 271, rfl⟩
abbrev main_while0b_v140 : Ref sig .tc := ⟨.hbm, 272, rfl⟩
abbrev main_while0b_c_121 : Ref sig .tc := ⟨.hbm, 273, rfl⟩
abbrev main_while0b_c_122 : Ref sig .tc := ⟨.hbm, 274, rfl⟩
abbrev main_while0b_v141 : Ref sig .tc := ⟨.hbm, 275, rfl⟩
abbrev main_while0b_c_123 : Ref sig .tc := ⟨.hbm, 276, rfl⟩
abbrev main_while0b_c_124 : Ref sig .tc := ⟨.hbm, 277, rfl⟩
abbrev main_while0b_v142 : Ref sig .tc := ⟨.hbm, 278, rfl⟩
abbrev main_while0b_c_125 : Ref sig .tc := ⟨.hbm, 279, rfl⟩
abbrev main_while0b_v143 : Ref sig .tc := ⟨.hbm, 280, rfl⟩
abbrev main_while0b_c_126 : Ref sig .tc := ⟨.hbm, 281, rfl⟩
abbrev main_while0b_c_127 : Ref sig .tc := ⟨.hbm, 282, rfl⟩
abbrev main_while0b_v144 : Ref sig .tc := ⟨.hbm, 283, rfl⟩
abbrev main_while0b_c_128 : Ref sig .tc := ⟨.hbm, 284, rfl⟩
abbrev main_while0b_c_129 : Ref sig .tc := ⟨.hbm, 285, rfl⟩
abbrev main_while0b_v145 : Ref sig .tc := ⟨.hbm, 286, rfl⟩
abbrev main_while0b_c_130 : Ref sig .tc := ⟨.hbm, 287, rfl⟩
abbrev main_while0b_v146 : Ref sig .tc := ⟨.hbm, 288, rfl⟩
abbrev main_while0b_v147 : Ref sig .tc := ⟨.hbm, 289, rfl⟩
abbrev main_while0b_v148 : Ref sig .tc := ⟨.hbm, 290, rfl⟩
abbrev main_while0b_v149 : Ref sig .tc := ⟨.hbm, 291, rfl⟩
abbrev main_while0b_c_131 : Ref sig .tc := ⟨.hbm, 292, rfl⟩
abbrev main_while0b_v150 : Ref sig .tc := ⟨.hbm, 293, rfl⟩
abbrev main_while0b_c_132 : Ref sig .tc := ⟨.hbm, 294, rfl⟩
abbrev main_while0b_v151 : Ref sig .tc := ⟨.hbm, 295, rfl⟩
abbrev main_while0b_v152 : Ref sig .tc := ⟨.hbm, 296, rfl⟩
abbrev main_while0b_c_133 : Ref sig .tc := ⟨.hbm, 297, rfl⟩
abbrev main_while0b_c_134 : Ref sig .tc := ⟨.hbm, 298, rfl⟩
abbrev main_while0b_v153 : Ref sig .tc := ⟨.hbm, 299, rfl⟩
abbrev main_while0b_c_135 : Ref sig .tc := ⟨.hbm, 300, rfl⟩
abbrev main_while0b_c_136 : Ref sig .tc := ⟨.hbm, 301, rfl⟩
abbrev main_while0b_v154 : Ref sig .tc := ⟨.hbm, 302, rfl⟩
abbrev main_while0b_c_137 : Ref sig .tc := ⟨.hbm, 303, rfl⟩
abbrev main_while0b_v155 : Ref sig .tc := ⟨.hbm, 304, rfl⟩
abbrev main_while0b_c_138 : Ref sig .tc := ⟨.hbm, 305, rfl⟩
abbrev main_while0b_c_139 : Ref sig .tc := ⟨.hbm, 306, rfl⟩
abbrev main_while0b_v156 : Ref sig .tc := ⟨.hbm, 307, rfl⟩
abbrev main_while0b_c_140 : Ref sig .tc := ⟨.hbm, 308, rfl⟩
abbrev main_while0b_c_141 : Ref sig .tc := ⟨.hbm, 309, rfl⟩
abbrev main_while0b_v157 : Ref sig .tc := ⟨.hbm, 310, rfl⟩
abbrev main_while0b_c_142 : Ref sig .tc := ⟨.hbm, 311, rfl⟩
abbrev main_while0b_v158 : Ref sig .tc := ⟨.hbm, 312, rfl⟩
abbrev main_while0b_v159 : Ref sig .tc := ⟨.hbm, 313, rfl⟩
abbrev main_while0b_v160 : Ref sig .tc := ⟨.hbm, 314, rfl⟩
abbrev main_while0b_v161 : Ref sig .tc := ⟨.hbm, 315, rfl⟩
abbrev main_while0b_v162 : Ref sig .tc := ⟨.hbm, 316, rfl⟩
abbrev main_while0b_v163 : Ref sig .tc := ⟨.hbm, 317, rfl⟩
abbrev main_while0b_v164 : Ref sig .tc := ⟨.hbm, 318, rfl⟩
abbrev main_while0b_v165 : Ref sig .tc := ⟨.hbm, 319, rfl⟩
abbrev main_while0b_v166 : Ref sig .tc := ⟨.hbm, 320, rfl⟩
abbrev main_while0b_v167 : Ref sig .tc := ⟨.hbm, 321, rfl⟩
abbrev main_while0b_v168 : Ref sig .tc := ⟨.hbm, 322, rfl⟩
abbrev main_while0b_v169 : Ref sig .tc := ⟨.hbm, 323, rfl⟩
abbrev main_while0b_v170 : Ref sig .tc := ⟨.hbm, 324, rfl⟩
abbrev main_while0b_v171 : Ref sig .tc := ⟨.hbm, 325, rfl⟩
abbrev main_while0b_v172 : Ref sig .tc := ⟨.hbm, 326, rfl⟩
abbrev main_while0b_v173 : Ref sig .tc := ⟨.hbm, 327, rfl⟩
abbrev main_while0b_v174 : Ref sig .tc := ⟨.hbm, 328, rfl⟩
abbrev main_while0b_v175 : Ref sig .tc := ⟨.hbm, 329, rfl⟩
abbrev main_while0b_v176 : Ref sig .tc := ⟨.hbm, 330, rfl⟩
abbrev main_while0b_v177 : Ref sig .tc := ⟨.hbm, 331, rfl⟩
abbrev main_while0b_v178 : Ref sig .tc := ⟨.hbm, 332, rfl⟩
abbrev main_while0b_v179 : Ref sig .tc := ⟨.hbm, 333, rfl⟩
abbrev main_while0b_v180 : Ref sig .tc := ⟨.hbm, 334, rfl⟩
abbrev main_while0b_v181 : Ref sig .tc := ⟨.hbm, 335, rfl⟩
abbrev main_while0b_v182 : Ref sig .tc := ⟨.hbm, 336, rfl⟩
abbrev main_while0b_v183 : Ref sig .tc := ⟨.hbm, 337, rfl⟩
abbrev main_while0b_v184 : Ref sig .tc := ⟨.hbm, 338, rfl⟩
abbrev main_while0b_v185 : Ref sig .tc := ⟨.hbm, 339, rfl⟩
abbrev main_while0b_v186 : Ref sig .tc := ⟨.hbm, 340, rfl⟩
abbrev main_while0b_v187 : Ref sig .tc := ⟨.hbm, 341, rfl⟩
abbrev main_while0b_v188 : Ref sig .tc := ⟨.hbm, 342, rfl⟩
abbrev main_while0b_v189 : Ref sig .tc := ⟨.hbm, 343, rfl⟩
abbrev main_while0b_v190 : Ref sig .tc := ⟨.hbm, 344, rfl⟩
abbrev main_while0b_v191 : Ref sig .tc := ⟨.hbm, 345, rfl⟩
abbrev main_while0b_v192 : Ref sig .tc := ⟨.hbm, 346, rfl⟩
abbrev main_while0b_cst_143 : Ref sig .tc := ⟨.hbm, 347, rfl⟩
abbrev main_while0b_v193 : Ref sig .tc := ⟨.hbm, 348, rfl⟩
abbrev main_while0b_v194 : Ref sig .tc := ⟨.hbm, 349, rfl⟩
abbrev main_while0b_cst_144 : Ref sig .tc := ⟨.hbm, 350, rfl⟩
abbrev main_while0b_v195 : Ref sig .tc := ⟨.hbm, 351, rfl⟩
abbrev main_while0b_cst_145 : Ref sig .tc := ⟨.hbm, 352, rfl⟩
abbrev main_while0b_v196 : Ref sig .tc := ⟨.hbm, 353, rfl⟩
abbrev main_while0b_v197 : Ref sig .tc := ⟨.hbm, 354, rfl⟩
abbrev main_while0b_v198 : Ref sig .tc := ⟨.hbm, 355, rfl⟩
abbrev main_while0b_v199 : Ref sig .tc := ⟨.hbm, 356, rfl⟩
abbrev main_while0b_v200 : Ref sig .tc := ⟨.hbm, 357, rfl⟩
abbrev main_while0b_v201 : Ref sig .tc := ⟨.hbm, 358, rfl⟩
abbrev main_while0b_cst_146 : Ref sig .tc := ⟨.hbm, 359, rfl⟩
abbrev main_while0b_v202 : Ref sig .tc := ⟨.hbm, 360, rfl⟩
abbrev main_while0b_v203 : Ref sig .tc := ⟨.hbm, 361, rfl⟩
abbrev main_while0b_v204 : Ref sig .tc := ⟨.hbm, 362, rfl⟩
abbrev main_while0b_v205 : Ref sig .tc := ⟨.hbm, 363, rfl⟩
abbrev main_while0b_v206 : Ref sig .tc := ⟨.hbm, 364, rfl⟩
abbrev main_while0b_v207 : Ref sig .tc := ⟨.hbm, 365, rfl⟩
abbrev main_while0b_v208 : Ref sig .tc := ⟨.hbm, 366, rfl⟩
abbrev main_while0b_v209 : Ref sig .tc := ⟨.hbm, 367, rfl⟩
abbrev main_while0b_v210 : Ref sig .tc := ⟨.hbm, 368, rfl⟩
abbrev main_while0b_v211 : Ref sig .tc := ⟨.hbm, 369, rfl⟩
abbrev main_while0b_v212 : Ref sig .tc := ⟨.hbm, 370, rfl⟩
abbrev main_while0b_v213 : Ref sig .tc := ⟨.hbm, 371, rfl⟩
abbrev main_while0b_v214 : Ref sig .tc := ⟨.hbm, 372, rfl⟩
abbrev main_while0b_v215 : Ref sig .tc := ⟨.hbm, 373, rfl⟩
abbrev main_while0b_v216 : Ref sig .tc := ⟨.hbm, 374, rfl⟩
abbrev main_while0b_v217 : Ref sig .tc := ⟨.hbm, 375, rfl⟩
abbrev main_while0b_v218 : Ref sig .tc := ⟨.hbm, 376, rfl⟩
abbrev main_while0b_v219 : Ref sig .tc := ⟨.hbm, 377, rfl⟩
abbrev main_while0b_v220 : Ref sig .tc := ⟨.hbm, 378, rfl⟩
abbrev main_while0b_v221 : Ref sig .tc := ⟨.hbm, 379, rfl⟩
abbrev main_while0b_v222 : Ref sig .tc := ⟨.hbm, 380, rfl⟩
abbrev main_while0b_v223 : Ref sig .tc := ⟨.hbm, 381, rfl⟩
abbrev main_while0b_v224 : Ref sig .tc := ⟨.hbm, 382, rfl⟩
abbrev main_while0b_v225 : Ref sig .tc := ⟨.hbm, 383, rfl⟩
abbrev main_while0b_v226 : Ref sig .tc := ⟨.hbm, 384, rfl⟩
abbrev main_while0b_v227 : Ref sig .tc := ⟨.hbm, 385, rfl⟩
abbrev main_while0b_v228 : Ref sig .tc := ⟨.hbm, 386, rfl⟩
abbrev main_while0b_v229 : Ref sig .tc := ⟨.hbm, 387, rfl⟩
abbrev main_while0b_v230 : Ref sig .tc := ⟨.hbm, 388, rfl⟩
abbrev main_while0b_v231 : Ref sig .tc := ⟨.hbm, 389, rfl⟩
abbrev main_while0b_cst_147 : Ref sig .tc := ⟨.hbm, 390, rfl⟩
abbrev main_while0b_v232 : Ref sig .tc := ⟨.hbm, 391, rfl⟩
abbrev main_while0b_cst_148 : Ref sig .tc := ⟨.hbm, 392, rfl⟩
abbrev main_while0b_v233 : Ref sig .tc := ⟨.hbm, 393, rfl⟩
abbrev main_while0b_v234 : Ref sig .tc := ⟨.hbm, 394, rfl⟩
abbrev main_while0b_cst_149 : Ref sig .tc := ⟨.hbm, 395, rfl⟩
abbrev main_while0b_v235 : Ref sig .tc := ⟨.hbm, 396, rfl⟩
abbrev main_while0b_v236 : Ref sig .tc := ⟨.hbm, 397, rfl⟩
abbrev main_while0b_cst_150 : Ref sig .tc := ⟨.hbm, 398, rfl⟩
abbrev main_while0b_v237 : Ref sig .tc := ⟨.hbm, 399, rfl⟩
abbrev main_while0b_v238 : Ref sig .tc := ⟨.hbm, 400, rfl⟩
abbrev main_while0b_v239 : Ref sig .tc := ⟨.hbm, 401, rfl⟩
abbrev main_while0b_v240 : Ref sig .tc := ⟨.hbm, 402, rfl⟩
abbrev main_while0b_v241 : Ref sig .tc := ⟨.hbm, 403, rfl⟩
abbrev main_while0b_v242 : Ref sig .tc := ⟨.hbm, 404, rfl⟩
abbrev main_while0b_v243 : Ref sig .tc := ⟨.hbm, 405, rfl⟩
abbrev main_while0b_cst_151 : Ref sig .tc := ⟨.hbm, 406, rfl⟩
abbrev main_while0b_v244 : Ref sig .tc := ⟨.hbm, 407, rfl⟩
abbrev main_while0b_v245 : Ref sig .tc := ⟨.hbm, 408, rfl⟩
abbrev main_while0b_cst_152 : Ref sig .tc := ⟨.hbm, 409, rfl⟩
abbrev main_while0b_v246 : Ref sig .tc := ⟨.hbm, 410, rfl⟩
abbrev main_while0b_v247 : Ref sig .tc := ⟨.hbm, 411, rfl⟩
abbrev main_while0b_cst_153 : Ref sig .tc := ⟨.hbm, 412, rfl⟩
abbrev main_while0b_v248 : Ref sig .tc := ⟨.hbm, 413, rfl⟩
abbrev main_while0b_v249 : Ref sig .tc := ⟨.hbm, 414, rfl⟩
abbrev main_while0b_v250 : Ref sig .tc := ⟨.hbm, 415, rfl⟩
abbrev main_while0b_v251 : Ref sig .tc := ⟨.hbm, 416, rfl⟩
abbrev main_while0b_v252 : Ref sig .tc := ⟨.hbm, 417, rfl⟩
abbrev main_while0b_v253 : Ref sig .tc := ⟨.hbm, 418, rfl⟩
abbrev main_while0b_c_154 : Ref sig .tc := ⟨.hbm, 419, rfl⟩
abbrev main_while0b_v254 : Ref sig .tc := ⟨.hbm, 420, rfl⟩
abbrev main_while0b_c_155 : Ref sig .tc := ⟨.hbm, 421, rfl⟩
abbrev main_while0b_v255 : Ref sig .tc := ⟨.hbm, 422, rfl⟩
abbrev main_while0b_v256 : Ref sig .tc := ⟨.hbm, 423, rfl⟩
abbrev main_while0b_c_156 : Ref sig .tc := ⟨.hbm, 424, rfl⟩
abbrev main_while0b_c_157 : Ref sig .tc := ⟨.hbm, 425, rfl⟩
abbrev main_while0b_v257 : Ref sig .tc := ⟨.hbm, 426, rfl⟩
abbrev main_while0b_c_158 : Ref sig .tc := ⟨.hbm, 427, rfl⟩
abbrev main_while0b_c_159 : Ref sig .tc := ⟨.hbm, 428, rfl⟩
abbrev main_while0b_v258 : Ref sig .tc := ⟨.hbm, 429, rfl⟩
abbrev main_while0b_c_160 : Ref sig .tc := ⟨.hbm, 430, rfl⟩
abbrev main_while0b_v259 : Ref sig .tc := ⟨.hbm, 431, rfl⟩
abbrev main_while0b_c_161 : Ref sig .tc := ⟨.hbm, 432, rfl⟩
abbrev main_while0b_c_162 : Ref sig .tc := ⟨.hbm, 433, rfl⟩
abbrev main_while0b_v260 : Ref sig .tc := ⟨.hbm, 434, rfl⟩
abbrev main_while0b_c_163 : Ref sig .tc := ⟨.hbm, 435, rfl⟩
abbrev main_while0b_c_164 : Ref sig .tc := ⟨.hbm, 436, rfl⟩
abbrev main_while0b_v261 : Ref sig .tc := ⟨.hbm, 437, rfl⟩
abbrev main_while0b_c_165 : Ref sig .tc := ⟨.hbm, 438, rfl⟩
abbrev main_while0b_v262 : Ref sig .tc := ⟨.hbm, 439, rfl⟩
abbrev main_while0b_c_166 : Ref sig .tc := ⟨.hbm, 440, rfl⟩
abbrev main_while0b_c_167 : Ref sig .tc := ⟨.hbm, 441, rfl⟩
abbrev main_while0b_v263 : Ref sig .tc := ⟨.hbm, 442, rfl⟩
abbrev main_while0b_c_168 : Ref sig .tc := ⟨.hbm, 443, rfl⟩
abbrev main_while0b_c_169 : Ref sig .tc := ⟨.hbm, 444, rfl⟩
abbrev main_while0b_v264 : Ref sig .tc := ⟨.hbm, 445, rfl⟩
abbrev main_while0b_c_170 : Ref sig .tc := ⟨.hbm, 446, rfl⟩
abbrev main_while0b_v265 : Ref sig .tc := ⟨.hbm, 447, rfl⟩
abbrev main_while0b_v266 : Ref sig .tc := ⟨.hbm, 448, rfl⟩
abbrev main_while0b_v267 : Ref sig .tc := ⟨.hbm, 449, rfl⟩
abbrev main_while0b_v268 : Ref sig .tc := ⟨.hbm, 450, rfl⟩
abbrev main_while0b_c_171 : Ref sig .tc := ⟨.hbm, 451, rfl⟩
abbrev main_while0b_v269 : Ref sig .tc := ⟨.hbm, 452, rfl⟩
abbrev main_while0b_c_172 : Ref sig .tc := ⟨.hbm, 453, rfl⟩
abbrev main_while0b_v270 : Ref sig .tc := ⟨.hbm, 454, rfl⟩
abbrev main_while0b_v271 : Ref sig .tc := ⟨.hbm, 455, rfl⟩
abbrev main_while0b_c_173 : Ref sig .tc := ⟨.hbm, 456, rfl⟩
abbrev main_while0b_c_174 : Ref sig .tc := ⟨.hbm, 457, rfl⟩
abbrev main_while0b_v272 : Ref sig .tc := ⟨.hbm, 458, rfl⟩
abbrev main_while0b_c_175 : Ref sig .tc := ⟨.hbm, 459, rfl⟩
abbrev main_while0b_c_176 : Ref sig .tc := ⟨.hbm, 460, rfl⟩
abbrev main_while0b_v273 : Ref sig .tc := ⟨.hbm, 461, rfl⟩
abbrev main_while0b_c_177 : Ref sig .tc := ⟨.hbm, 462, rfl⟩
abbrev main_while0b_v274 : Ref sig .tc := ⟨.hbm, 463, rfl⟩
abbrev main_while0b_c_178 : Ref sig .tc := ⟨.hbm, 464, rfl⟩
abbrev main_while0b_c_179 : Ref sig .tc := ⟨.hbm, 465, rfl⟩
abbrev main_while0b_v275 : Ref sig .tc := ⟨.hbm, 466, rfl⟩
abbrev main_while0b_c_180 : Ref sig .tc := ⟨.hbm, 467, rfl⟩
abbrev main_while0b_c_181 : Ref sig .tc := ⟨.hbm, 468, rfl⟩
abbrev main_while0b_v276 : Ref sig .tc := ⟨.hbm, 469, rfl⟩
abbrev main_while0b_c_182 : Ref sig .tc := ⟨.hbm, 470, rfl⟩
abbrev main_while0b_v277 : Ref sig .tc := ⟨.hbm, 471, rfl⟩
abbrev main_while0b_v278 : Ref sig .tc := ⟨.hbm, 472, rfl⟩
abbrev main_while0b_v279 : Ref sig .tc := ⟨.hbm, 473, rfl⟩
abbrev main_while0b_v280 : Ref sig .tc := ⟨.hbm, 474, rfl⟩
abbrev main_while0b_c_183 : Ref sig .tc := ⟨.hbm, 475, rfl⟩
abbrev main_while0b_v281 : Ref sig .tc := ⟨.hbm, 476, rfl⟩
abbrev main_while0b_c_184 : Ref sig .tc := ⟨.hbm, 477, rfl⟩
abbrev main_while0b_v282 : Ref sig .tc := ⟨.hbm, 478, rfl⟩
abbrev main_while0b_v283 : Ref sig .tc := ⟨.hbm, 479, rfl⟩
abbrev main_while0b_c_185 : Ref sig .tc := ⟨.hbm, 480, rfl⟩
abbrev main_while0b_c_186 : Ref sig .tc := ⟨.hbm, 481, rfl⟩
abbrev main_while0b_v284 : Ref sig .tc := ⟨.hbm, 482, rfl⟩
abbrev main_while0b_c_187 : Ref sig .tc := ⟨.hbm, 483, rfl⟩
abbrev main_while0b_c_188 : Ref sig .tc := ⟨.hbm, 484, rfl⟩
abbrev main_while0b_v285 : Ref sig .tc := ⟨.hbm, 485, rfl⟩
abbrev main_while0b_c_189 : Ref sig .tc := ⟨.hbm, 486, rfl⟩
abbrev main_while0b_v286 : Ref sig .tc := ⟨.hbm, 487, rfl⟩
abbrev main_while0b_c_190 : Ref sig .tc := ⟨.hbm, 488, rfl⟩
abbrev main_while0b_c_191 : Ref sig .tc := ⟨.hbm, 489, rfl⟩
abbrev main_while0b_v287 : Ref sig .tc := ⟨.hbm, 490, rfl⟩
abbrev main_while0b_c_192 : Ref sig .tc := ⟨.hbm, 491, rfl⟩
abbrev main_while0b_c_193 : Ref sig .tc := ⟨.hbm, 492, rfl⟩
abbrev main_while0b_v288 : Ref sig .tc := ⟨.hbm, 493, rfl⟩
abbrev main_while0b_c_194 : Ref sig .tc := ⟨.hbm, 494, rfl⟩
abbrev main_while0b_v289 : Ref sig .tc := ⟨.hbm, 495, rfl⟩
abbrev main_while0b_v290 : Ref sig .tc := ⟨.hbm, 496, rfl⟩
abbrev main_while0b_v291 : Ref sig .tc := ⟨.hbm, 497, rfl⟩
abbrev main_while0b_v292 : Ref sig .tc := ⟨.hbm, 498, rfl⟩
abbrev main_while0b_c_195 : Ref sig .tc := ⟨.hbm, 499, rfl⟩
abbrev main_while0b_v293 : Ref sig .tc := ⟨.hbm, 500, rfl⟩
abbrev main_while0b_c_196 : Ref sig .tc := ⟨.hbm, 501, rfl⟩
abbrev main_while0b_v294 : Ref sig .tc := ⟨.hbm, 502, rfl⟩
abbrev main_while0b_v295 : Ref sig .tc := ⟨.hbm, 503, rfl⟩
abbrev main_while0b_c_197 : Ref sig .tc := ⟨.hbm, 504, rfl⟩
abbrev main_while0b_c_198 : Ref sig .tc := ⟨.hbm, 505, rfl⟩
abbrev main_while0b_v296 : Ref sig .tc := ⟨.hbm, 506, rfl⟩
abbrev main_while0b_c_199 : Ref sig .tc := ⟨.hbm, 507, rfl⟩
abbrev main_while0b_c_200 : Ref sig .tc := ⟨.hbm, 508, rfl⟩
abbrev main_while0b_v297 : Ref sig .tc := ⟨.hbm, 509, rfl⟩
abbrev main_while0b_c_201 : Ref sig .tc := ⟨.hbm, 510, rfl⟩
abbrev main_while0b_v298 : Ref sig .tc := ⟨.hbm, 511, rfl⟩
abbrev main_while0b_c_202 : Ref sig .tc := ⟨.hbm, 512, rfl⟩
abbrev main_while0b_c_203 : Ref sig .tc := ⟨.hbm, 513, rfl⟩
abbrev main_while0b_v299 : Ref sig .tc := ⟨.hbm, 514, rfl⟩
abbrev main_while0b_c_204 : Ref sig .tc := ⟨.hbm, 515, rfl⟩
abbrev main_while0b_c_205 : Ref sig .tc := ⟨.hbm, 516, rfl⟩
abbrev main_while0b_v300 : Ref sig .tc := ⟨.hbm, 517, rfl⟩
abbrev main_while0b_c_206 : Ref sig .tc := ⟨.hbm, 518, rfl⟩
abbrev main_while0b_v301 : Ref sig .tc := ⟨.hbm, 519, rfl⟩
abbrev main_while0b_v302 : Ref sig .tc := ⟨.hbm, 520, rfl⟩
abbrev main_while0b_v303 : Ref sig .tc := ⟨.hbm, 521, rfl⟩
abbrev main_while0b_v304 : Ref sig .tc := ⟨.hbm, 522, rfl⟩
abbrev main_while0b_c_207 : Ref sig .tc := ⟨.hbm, 523, rfl⟩
abbrev main_while0b_v305 : Ref sig .tc := ⟨.hbm, 524, rfl⟩
abbrev main_while0b_c_208 : Ref sig .tc := ⟨.hbm, 525, rfl⟩
abbrev main_while0b_v306 : Ref sig .tc := ⟨.hbm, 526, rfl⟩
abbrev main_while0b_v307 : Ref sig .tc := ⟨.hbm, 527, rfl⟩
abbrev main_while0b_c_209 : Ref sig .tc := ⟨.hbm, 528, rfl⟩
abbrev main_while0b_c_210 : Ref sig .tc := ⟨.hbm, 529, rfl⟩
abbrev main_while0b_v308 : Ref sig .tc := ⟨.hbm, 530, rfl⟩
abbrev main_while0b_c_211 : Ref sig .tc := ⟨.hbm, 531, rfl⟩
abbrev main_while0b_c_212 : Ref sig .tc := ⟨.hbm, 532, rfl⟩
abbrev main_while0b_v309 : Ref sig .tc := ⟨.hbm, 533, rfl⟩
abbrev main_while0b_c_213 : Ref sig .tc := ⟨.hbm, 534, rfl⟩
abbrev main_while0b_v310 : Ref sig .tc := ⟨.hbm, 535, rfl⟩
abbrev main_while0b_c_214 : Ref sig .tc := ⟨.hbm, 536, rfl⟩
abbrev main_while0b_c_215 : Ref sig .tc := ⟨.hbm, 537, rfl⟩
abbrev main_while0b_v311 : Ref sig .tc := ⟨.hbm, 538, rfl⟩
abbrev main_while0b_c_216 : Ref sig .tc := ⟨.hbm, 539, rfl⟩
abbrev main_while0b_c_217 : Ref sig .tc := ⟨.hbm, 540, rfl⟩
abbrev main_while0b_v312 : Ref sig .tc := ⟨.hbm, 541, rfl⟩
abbrev main_while0b_c_218 : Ref sig .tc := ⟨.hbm, 542, rfl⟩
abbrev main_while0b_v313 : Ref sig .tc := ⟨.hbm, 543, rfl⟩
abbrev main_while0b_c_219 : Ref sig .tc := ⟨.hbm, 544, rfl⟩
abbrev main_while0b_c_220 : Ref sig .tc := ⟨.hbm, 545, rfl⟩
abbrev main_while0b_v314 : Ref sig .tc := ⟨.hbm, 546, rfl⟩
abbrev main_while0b_c_221 : Ref sig .tc := ⟨.hbm, 547, rfl⟩
abbrev main_while0b_c_222 : Ref sig .tc := ⟨.hbm, 548, rfl⟩
abbrev main_while0b_v315 : Ref sig .tc := ⟨.hbm, 549, rfl⟩
abbrev main_while0b_c_223 : Ref sig .tc := ⟨.hbm, 550, rfl⟩
abbrev main_while0b_v316 : Ref sig .tc := ⟨.hbm, 551, rfl⟩
abbrev main_while0b_v317 : Ref sig .tc := ⟨.hbm, 552, rfl⟩
abbrev main_while0b_v318 : Ref sig .tc := ⟨.hbm, 553, rfl⟩
abbrev main_while0b_v319 : Ref sig .tc := ⟨.hbm, 554, rfl⟩
abbrev main_while0b_c_224 : Ref sig .tc := ⟨.hbm, 555, rfl⟩
abbrev main_while0b_v320 : Ref sig .tc := ⟨.hbm, 556, rfl⟩
abbrev main_while0b_c_225 : Ref sig .tc := ⟨.hbm, 557, rfl⟩
abbrev main_while0b_v321 : Ref sig .tc := ⟨.hbm, 558, rfl⟩
abbrev main_while0b_v322 : Ref sig .tc := ⟨.hbm, 559, rfl⟩
abbrev main_while0b_c_226 : Ref sig .tc := ⟨.hbm, 560, rfl⟩
abbrev main_while0b_c_227 : Ref sig .tc := ⟨.hbm, 561, rfl⟩
abbrev main_while0b_v323 : Ref sig .tc := ⟨.hbm, 562, rfl⟩
abbrev main_while0b_c_228 : Ref sig .tc := ⟨.hbm, 563, rfl⟩
abbrev main_while0b_c_229 : Ref sig .tc := ⟨.hbm, 564, rfl⟩
abbrev main_while0b_v324 : Ref sig .tc := ⟨.hbm, 565, rfl⟩
abbrev main_while0b_c_230 : Ref sig .tc := ⟨.hbm, 566, rfl⟩
abbrev main_while0b_v325 : Ref sig .tc := ⟨.hbm, 567, rfl⟩
abbrev main_while0b_c_231 : Ref sig .tc := ⟨.hbm, 568, rfl⟩
abbrev main_while0b_c_232 : Ref sig .tc := ⟨.hbm, 569, rfl⟩
abbrev main_while0b_v326 : Ref sig .tc := ⟨.hbm, 570, rfl⟩
abbrev main_while0b_c_233 : Ref sig .tc := ⟨.hbm, 571, rfl⟩
abbrev main_while0b_c_234 : Ref sig .tc := ⟨.hbm, 572, rfl⟩
abbrev main_while0b_v327 : Ref sig .tc := ⟨.hbm, 573, rfl⟩
abbrev main_while0b_c_235 : Ref sig .tc := ⟨.hbm, 574, rfl⟩
abbrev main_while0b_v328 : Ref sig .tc := ⟨.hbm, 575, rfl⟩
abbrev main_while0b_v329 : Ref sig .tc := ⟨.hbm, 576, rfl⟩
abbrev main_while0b_v330 : Ref sig .tc := ⟨.hbm, 577, rfl⟩
abbrev main_while0b_v331 : Ref sig .tc := ⟨.hbm, 578, rfl⟩
abbrev main_while0b_c_236 : Ref sig .tc := ⟨.hbm, 579, rfl⟩
abbrev main_while0b_v332 : Ref sig .tc := ⟨.hbm, 580, rfl⟩
abbrev main_while0b_c_237 : Ref sig .tc := ⟨.hbm, 581, rfl⟩
abbrev main_while0b_v333 : Ref sig .tc := ⟨.hbm, 582, rfl⟩
abbrev main_while0b_v334 : Ref sig .tc := ⟨.hbm, 583, rfl⟩
abbrev main_while0b_c_238 : Ref sig .tc := ⟨.hbm, 584, rfl⟩
abbrev main_while0b_c_239 : Ref sig .tc := ⟨.hbm, 585, rfl⟩
abbrev main_while0b_v335 : Ref sig .tc := ⟨.hbm, 586, rfl⟩
abbrev main_while0b_c_240 : Ref sig .tc := ⟨.hbm, 587, rfl⟩
abbrev main_while0b_c_241 : Ref sig .tc := ⟨.hbm, 588, rfl⟩
abbrev main_while0b_v336 : Ref sig .tc := ⟨.hbm, 589, rfl⟩
abbrev main_while0b_c_242 : Ref sig .tc := ⟨.hbm, 590, rfl⟩
abbrev main_while0b_v337 : Ref sig .tc := ⟨.hbm, 591, rfl⟩
abbrev main_while0b_c_243 : Ref sig .tc := ⟨.hbm, 592, rfl⟩
abbrev main_while0b_c_244 : Ref sig .tc := ⟨.hbm, 593, rfl⟩
abbrev main_while0b_v338 : Ref sig .tc := ⟨.hbm, 594, rfl⟩
abbrev main_while0b_c_245 : Ref sig .tc := ⟨.hbm, 595, rfl⟩
abbrev main_while0b_c_246 : Ref sig .tc := ⟨.hbm, 596, rfl⟩
abbrev main_while0b_v339 : Ref sig .tc := ⟨.hbm, 597, rfl⟩
abbrev main_while0b_c_247 : Ref sig .tc := ⟨.hbm, 598, rfl⟩
abbrev main_while0b_v340 : Ref sig .tc := ⟨.hbm, 599, rfl⟩
abbrev main_while0b_v341 : Ref sig .tc := ⟨.hbm, 600, rfl⟩
abbrev main_while0b_v342 : Ref sig .tc := ⟨.hbm, 601, rfl⟩
abbrev main_while0b_v343 : Ref sig .tc := ⟨.hbm, 602, rfl⟩
abbrev main_while0b_c_248 : Ref sig .tc := ⟨.hbm, 603, rfl⟩
abbrev main_while0b_v344 : Ref sig .tc := ⟨.hbm, 604, rfl⟩
abbrev main_while0b_c_249 : Ref sig .tc := ⟨.hbm, 605, rfl⟩
abbrev main_while0b_v345 : Ref sig .tc := ⟨.hbm, 606, rfl⟩
abbrev main_while0b_v346 : Ref sig .tc := ⟨.hbm, 607, rfl⟩
abbrev main_while0b_c_250 : Ref sig .tc := ⟨.hbm, 608, rfl⟩
abbrev main_while0b_c_251 : Ref sig .tc := ⟨.hbm, 609, rfl⟩
abbrev main_while0b_v347 : Ref sig .tc := ⟨.hbm, 610, rfl⟩
abbrev main_while0b_c_252 : Ref sig .tc := ⟨.hbm, 611, rfl⟩
abbrev main_while0b_c_253 : Ref sig .tc := ⟨.hbm, 612, rfl⟩
abbrev main_while0b_v348 : Ref sig .tc := ⟨.hbm, 613, rfl⟩
abbrev main_while0b_c_254 : Ref sig .tc := ⟨.hbm, 614, rfl⟩
abbrev main_while0b_v349 : Ref sig .tc := ⟨.hbm, 615, rfl⟩
abbrev main_while0b_c_255 : Ref sig .tc := ⟨.hbm, 616, rfl⟩
abbrev main_while0b_c_256 : Ref sig .tc := ⟨.hbm, 617, rfl⟩
abbrev main_while0b_v350 : Ref sig .tc := ⟨.hbm, 618, rfl⟩
abbrev main_while0b_c_257 : Ref sig .tc := ⟨.hbm, 619, rfl⟩
abbrev main_while0b_c_258 : Ref sig .tc := ⟨.hbm, 620, rfl⟩
abbrev main_while0b_v351 : Ref sig .tc := ⟨.hbm, 621, rfl⟩
abbrev main_while0b_c_259 : Ref sig .tc := ⟨.hbm, 622, rfl⟩
abbrev main_while0b_v352 : Ref sig .tc := ⟨.hbm, 623, rfl⟩
abbrev main_while0b_v353 : Ref sig .tc := ⟨.hbm, 624, rfl⟩
abbrev main_while0b_v354 : Ref sig .tc := ⟨.hbm, 625, rfl⟩
abbrev main_while0b_v355 : Ref sig .tc := ⟨.hbm, 626, rfl⟩
abbrev main_while0b_v356 : Ref sig .tc := ⟨.hbm, 627, rfl⟩
abbrev main_while0b_v357 : Ref sig .tc := ⟨.hbm, 628, rfl⟩
abbrev main_while0b_v358 : Ref sig .tc := ⟨.hbm, 629, rfl⟩
abbrev main_while0b_v359 : Ref sig .tc := ⟨.hbm, 630, rfl⟩
abbrev main_while0b_v360 : Ref sig .tc := ⟨.hbm, 631, rfl⟩
abbrev main_while0b_v361 : Ref sig .tc := ⟨.hbm, 632, rfl⟩
abbrev main_while0b_v362 : Ref sig .tc := ⟨.hbm, 633, rfl⟩
abbrev main_while0b_v363 : Ref sig .tc := ⟨.hbm, 634, rfl⟩
abbrev main_while0b_v364 : Ref sig .tc := ⟨.hbm, 635, rfl⟩
abbrev main_while0b_v365 : Ref sig .tc := ⟨.hbm, 636, rfl⟩
abbrev main_while0b_v366 : Ref sig .tc := ⟨.hbm, 637, rfl⟩
abbrev main_while0b_v367 : Ref sig .tc := ⟨.hbm, 638, rfl⟩
abbrev main_while0b_v368 : Ref sig .tc := ⟨.hbm, 639, rfl⟩
abbrev main_while0b_v369 : Ref sig .tc := ⟨.hbm, 640, rfl⟩
abbrev main_while0b_v370 : Ref sig .tc := ⟨.hbm, 641, rfl⟩
abbrev main_while0b_v371 : Ref sig .tc := ⟨.hbm, 642, rfl⟩
abbrev main_while0b_v372 : Ref sig .tc := ⟨.hbm, 643, rfl⟩
abbrev main_while0b_v373 : Ref sig .tc := ⟨.hbm, 644, rfl⟩
abbrev main_while0b_v374 : Ref sig .tc := ⟨.hbm, 645, rfl⟩
abbrev main_while0b_v375 : Ref sig .tc := ⟨.hbm, 646, rfl⟩
abbrev main_while0b_cst_260 : Ref sig .tc := ⟨.hbm, 647, rfl⟩
abbrev main_while0b_v376 : Ref sig .tc := ⟨.hbm, 648, rfl⟩
abbrev main_while0b_v377 : Ref sig .tc := ⟨.hbm, 649, rfl⟩
abbrev main_while0b_v378 : Ref sig .tc := ⟨.hbm, 650, rfl⟩
abbrev main_while0b_cst_261 : Ref sig .tc := ⟨.hbm, 651, rfl⟩
abbrev main_while0b_v379 : Ref sig .tc := ⟨.hbm, 652, rfl⟩
abbrev main_while0b_v380 : Ref sig .tc := ⟨.hbm, 653, rfl⟩
abbrev main_while0b_v381 : Ref sig .tc := ⟨.hbm, 654, rfl⟩
abbrev main_while0b_cst_262 : Ref sig .tc := ⟨.hbm, 655, rfl⟩
abbrev main_while0b_v382 : Ref sig .tc := ⟨.hbm, 656, rfl⟩
abbrev main_while0b_v383 : Ref sig .tc := ⟨.hbm, 657, rfl⟩
abbrev main_while0b_cst_263 : Ref sig .tc := ⟨.hbm, 658, rfl⟩
abbrev main_while0b_v384 : Ref sig .tc := ⟨.hbm, 659, rfl⟩
abbrev main_while0b_v385 : Ref sig .tc := ⟨.hbm, 660, rfl⟩
abbrev main_while0b_v386 : Ref sig .tc := ⟨.hbm, 661, rfl⟩
abbrev main_while0b_v387 : Ref sig .tc := ⟨.hbm, 662, rfl⟩
abbrev main_while0b_v388 : Ref sig .tc := ⟨.hbm, 663, rfl⟩
abbrev main_while0b_v389 : Ref sig .tc := ⟨.hbm, 664, rfl⟩
abbrev main_while0b_v390 : Ref sig .tc := ⟨.hbm, 665, rfl⟩
abbrev main_while0b_v391 : Ref sig .tc := ⟨.hbm, 666, rfl⟩
abbrev main_while0b_v392 : Ref sig .tc := ⟨.hbm, 667, rfl⟩
abbrev main_while0b_cst_264 : Ref sig .tc := ⟨.hbm, 668, rfl⟩
abbrev main_while0b_v393 : Ref sig .tc := ⟨.hbm, 669, rfl⟩
abbrev main_while0b_v394 : Ref sig .tc := ⟨.hbm, 670, rfl⟩
abbrev main_while0b_v395 : Ref sig .tc := ⟨.hbm, 671, rfl⟩
abbrev main_while0b_cst_265 : Ref sig .tc := ⟨.hbm, 672, rfl⟩
abbrev main_while0b_v396 : Ref sig .tc := ⟨.hbm, 673, rfl⟩
abbrev main_while0b_v397 : Ref sig .tc := ⟨.hbm, 674, rfl⟩
abbrev main_while0b_v398 : Ref sig .tc := ⟨.hbm, 675, rfl⟩
abbrev main_while0b_cst_266 : Ref sig .tc := ⟨.hbm, 676, rfl⟩
abbrev main_while0b_v399 : Ref sig .tc := ⟨.hbm, 677, rfl⟩
abbrev main_while0b_v400 : Ref sig .tc := ⟨.hbm, 678, rfl⟩
abbrev main_while0b_cst_267 : Ref sig .tc := ⟨.hbm, 679, rfl⟩
abbrev main_while0b_v401 : Ref sig .tc := ⟨.hbm, 680, rfl⟩
abbrev main_while0b_v402 : Ref sig .tc := ⟨.hbm, 681, rfl⟩
abbrev main_while0b_v403 : Ref sig .tc := ⟨.hbm, 682, rfl⟩
abbrev main_while0b_v404 : Ref sig .tc := ⟨.hbm, 683, rfl⟩
abbrev main_while0b_v405 : Ref sig .tc := ⟨.hbm, 684, rfl⟩
abbrev main_while0b_v406 : Ref sig .tc := ⟨.hbm, 685, rfl⟩
abbrev main_while0b_v407 : Ref sig .tc := ⟨.hbm, 686, rfl⟩
abbrev main_while0b_v408 : Ref sig .tc := ⟨.hbm, 687, rfl⟩
abbrev main_while0b_v409 : Ref sig .tc := ⟨.hbm, 688, rfl⟩
abbrev main_while0b_v410 : Ref sig .tc := ⟨.hbm, 689, rfl⟩
abbrev main_while0b_v411 : Ref sig .tc := ⟨.hbm, 690, rfl⟩
abbrev main_while0b_v412 : Ref sig .tc := ⟨.hbm, 691, rfl⟩
abbrev main_while0b_v413 : Ref sig .tc := ⟨.hbm, 692, rfl⟩
abbrev main_while0b_v414 : Ref sig .tc := ⟨.hbm, 693, rfl⟩
abbrev main_while0b_v415 : Ref sig .tc := ⟨.hbm, 694, rfl⟩
abbrev main_while0b_v416 : Ref sig .tc := ⟨.hbm, 695, rfl⟩
abbrev main_while0b_v417 : Ref sig .tc := ⟨.hbm, 696, rfl⟩
abbrev main_while0b_v418 : Ref sig .tc := ⟨.hbm, 697, rfl⟩
abbrev main_while0b_v419 : Ref sig .tc := ⟨.hbm, 698, rfl⟩
abbrev main_while0b_v420 : Ref sig .tc := ⟨.hbm, 699, rfl⟩
abbrev main_while0b_c_268 : Ref sig .tc := ⟨.hbm, 700, rfl⟩
abbrev main_while0b_v421 : Ref sig .tc := ⟨.hbm, 701, rfl⟩
abbrev main_v20 : Ref sig .tc := ⟨.hbm, 702, rfl⟩
abbrev main_v21 : Ref sig .tc := ⟨.hbm, 703, rfl⟩
abbrev main_v22 : Ref sig .tc := ⟨.hbm, 704, rfl⟩
abbrev main_v23 : Ref sig .tc := ⟨.hbm, 705, rfl⟩
abbrev main_v24 : Ref sig .tc := ⟨.hbm, 706, rfl⟩
abbrev main_v25 : Ref sig .tc := ⟨.hbm, 707, rfl⟩
abbrev main_v26 : Ref sig .tc := ⟨.hbm, 708, rfl⟩
abbrev main_v27 : Ref sig .tc := ⟨.hbm, 709, rfl⟩
abbrev main_v28 : Ref sig .tc := ⟨.hbm, 710, rfl⟩
abbrev main_v29 : Ref sig .tc := ⟨.hbm, 711, rfl⟩
abbrev main_cst_5 : Ref sig .tc := ⟨.hbm, 712, rfl⟩
abbrev main_v30 : Ref sig .tc := ⟨.hbm, 713, rfl⟩
abbrev main_cst_6 : Ref sig .tc := ⟨.hbm, 714, rfl⟩
abbrev main_v31 : Ref sig .tc := ⟨.hbm, 715, rfl⟩
abbrev main_v32 : Ref sig .tc := ⟨.hbm, 716, rfl⟩

abbrev nD : Nat := 1
abbrev τ : Topo := Topo.v7x

variable {F : FTy → Type} [FloatOps F]

abbrev main_while0_count : Scf.Loop 32 := ⟨0#32, 8#32, 1#32⟩
-- ==== Proof.RefRun.lean ====
module

public import proofs.«01_k».proof.Proof.Gen.ReferenceIdeal.Run

@[expose] public section

set_option maxRecDepth 16384

noncomputable section

namespace Cert.ReferenceIdeal.Value

open Idealize.ShloMosaic Idealize.ShloMosaic.TcCoe Cert.ReferenceIdeal.Gen
open Idealize.SL Idealize.SL.Sem Idealize.ShloMosaic.StableHlo

variable {F : FTy → Type} [FloatOps F]
variable (m : (ℓ : Loc nD τ sig) → Buf (Elt F) ℓ) (ρ : Dev nD → PrngReg)

/-- A buffer that neither the loop's condition nor its body writes is, before every trip, what it was on entry. -/
theorem atK_unwritten {b : Ref sig .tc} (hc : b ∉ condOps_W) (hb : b ∉ while0Ops0_W) (c : Dev nD) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0 _ while0Ops0_writes hb, after_of_writes_sub condOps _ condOps_writes hc,
      atK_unwritten hc hb c k]
    rfl

/-- The references the operations after the loop write. -/
abbrev tailRefs : List (Ref sig .tc) :=
  [main_v20, main_v21, main_v22, main_v23, main_v24, main_v25, main_v26, main_v27, main_v28, main_v29, main_cst_5,
    main_v30, main_cst_6, main_v31, main_v32]

theorem tail_writes : (hostOps0_1 : List (HloOp τ sig (Elt F))).Forall fun op => op.writes ⊆ (tailRefs.map (Proc.devRef (τ := τ) .tc)).toFinset :=
  StableHlo.forall_writes_sub_of_map rfl

/-- A buffer no operation of the program writes ends as it began. -/
theorem fin_unwritten {b : Ref sig .tc} (hp : b ∉ hostOps0_W) (hc : b ∉ condOps_W) (hb : b ∉ while0Ops0_W) (ht : b ∉ tailRefs) (c : Dev nD) :
    finalContents condOps preI bodyI postI 8 m c (Proc.devRef .tc b) = m ((c.tc : Thread nD τ).loc b) := by
  have h1 : finalContents condOps preI bodyI postI 8 m c = after hostOps0_1 (after condOps (atK m 8 c)) := rfl
  rw [h1, after_of_writes_sub hostOps0_1 _ tail_writes ht, after_of_writes_sub condOps _ condOps_writes hc, atK_unwritten m hc hb c 8]
  simp only [entryContents, afterL_cons, afterL_nil]
  rw [after_of_writes_sub hostOps0 _ hostOps0_writes hp]

/-- The result as the operations after the loop compute it from the blade basis table, the readout weights, and the
    loop's last multivectors and scalars. -/
def tailTerm (B : FVec F S9x16x16 .f32) (wmv : FVec F S1x16x9 .f32) (wsm : FVec F S1x32 .f32)
    (mv : FVec F S8x1024x16x16 .f32) (s : FVec F S8x1024x32 .f32) : FVec F S8x1 .f32 :=
  let out := transpose S8x1024x1x16 [2, 3, 1, 0]
    (Host.dotGeneral dot_S16x16x1x16_S8x1024x16x16_S16x1x8x1024_13_32_02_01_n_n none
      (Host.dotGeneral dot_S9x16x16_S1x16x9_S16x16x1x16_0_2_12_01_n_n none B wmv) mv) transposes_S16x1x8x1024_S8x1024x1x16_2_3_1_0
  let y := Host.dotGeneral dot_S8x1024x32_S1x32_S8x1024x1_2_1_01_0_n_n none s wsm
  let a := addf (extractStridedSlice S8x1024x1x1 ![0, 0, 0, 0] out slices_S8x1024x1x16_S8x1024x1x1_0_0_0_0)
    (broadcastInDim S8x1024x1x1 ![0, 1, 2] bcast_S8x1024x1_S8x1024x1x1_0_1_2 y)
  let b := extractStridedSlice S8x1024x1x15 ![0, 0, 0, 1] out slices_S8x1024x1x16_S8x1024x1x15_0_0_0_1
  let r := concatenate S8x1024x1x16 3 [⟨S8x1024x1x1, a⟩, ⟨S8x1024x1x15, b⟩] concatenates_S8x1024x1x1_S8x1024x1x15_S8x1024x1x16_d3
  Host.divf (Host.reduceAdd (extractStridedSlice S8x1024x1x1 ![0, 0, 0, 0] r slices_S8x1024x1x16_S8x1024x1x1_0_0_0_0)
      (constant S_ .f32 0x00000000#32) reducesTo_S8x1024x1x1_S8x1_d1_2 h_S_)
    (broadcastInDim S8x1 ![] bcast_S_S8x1 (constant S_ .f32 0x44800000#32))

theorem tail_result (V : Valuation τ sig (Elt F)) :
    after hostOps0_1 V (Proc.devRef .tc main_v32) =
      tailTerm (V (Proc.devRef .tc main_cst)) (V (Proc.devRef .tc main_arg20)) (V (Proc.devRef .tc main_arg21))
        (V (Proc.devRef .tc main_v19_21)) (V (Proc.devRef .tc main_v19_22)) := by
  after_reads_simp
  rfl

/-- What the carried contents are after `k` trips. -/
abbrev carry (c : Dev nD) (k : ℕ) : Valuation τ sig (Elt F) := STEP^[k] (entryContents preI m c)

/-- The result after the whole program, of the carried contents after the eighth trip. -/
theorem fin_result (c : Dev nD) :
    finalContents condOps preI bodyI postI 8 m c (Proc.devRef .tc main_v32) =
      tailTerm (entryContents preI m c (Proc.devRef .tc main_cst)) (m ((c.tc : Thread nD τ).loc main_arg20)) (m ((c.tc : Thread nD τ).loc main_arg21))
        (carry m c 8 (Proc.devRef .tc main_v19_21)) (carry m c 8 (Proc.devRef .tc main_v19_22)) := by
  have h1 : finalContents condOps preI bodyI postI 8 m c = after hostOps0_1 (after condOps (atK m 8 c)) := rfl
  have e {b : Ref sig .tc} (hc : b ∉ condOps_W) : after condOps (atK m 8 c) (Proc.devRef .tc b) = atK m 8 c (Proc.devRef .tc b) :=
    after_of_writes_sub condOps _ condOps_writes hc
  have h20 : entryContents preI m c (Proc.devRef .tc main_arg20) = m ((c.tc : Thread nD τ).loc main_arg20) := by
    simp only [entryContents, afterL_cons, afterL_nil]
    rw [after_of_writes_sub hostOps0 _ hostOps0_writes (by decide +kernel)]
  have h21 : entryContents preI m c (Proc.devRef .tc main_arg21) = m ((c.tc : Thread nD τ).loc main_arg21) := by
    simp only [entryContents, afterL_cons, afterL_nil]
    rw [after_of_writes_sub hostOps0 _ hostOps0_writes (by decide +kernel)]
  rw [h1, tail_result, e (by decide +kernel), e (by decide +kernel), e (by decide +kernel), e (by decide +kernel), e (by decide +kernel),
    atK_unwritten m (b := main_cst) (by decide +kernel) (by decide +kernel) c 8,
    atK_unwritten m (b := main_arg20) (by decide +kernel) (by decide +kernel) c 8,
    atK_unwritten m (b := main_arg21) (by decide +kernel) (by decide +kernel) c 8, h20, h21,
    atK_agree m c 8 main_v19_21 (by decide +kernel), atK_agree m c 8 main_v19_22 (by decide +kernel)]

/-- On every device, from any memory with zero counters: the program ends with its result at the closed term above and
    its arguments as they were. -/
theorem run_closed :
    θ_run (defs (F := F)) (onTc (τ := τ) (main (F := F))) ⟨m, fun _ => 0, ρ⟩ fun r => ∀ c : Dev nD,
      r.2.mem ((c.tc : Thread nD τ).loc main_v32) =
          tailTerm (entryContents preI m c (Proc.devRef .tc main_cst)) (m ((c.tc : Thread nD τ).loc main_arg20)) (m ((c.tc : Thread nD τ).loc main_arg21))
            (carry m c 8 (Proc.devRef .tc main_v19_21)) (carry m c 8 (Proc.devRef .tc main_v19_22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run _ _ _).mono (fun r h c => ⟨(h c main_v32 rfl).trans (fin_result m c),
      (h c main_arg0 rfl).trans (fin_unwritten m (by decide +kernel) (by decide +kernel) (by decide +kernel) (by decide +kernel) c),
      (h c main_arg1 rfl).trans (fin_unwritten m (by decide +kernel) (by decide +kernel) (by decide +kernel) (by decide +kernel) c),
      (h c main_arg2 rfl).trans (fin_unwritten m (by decide +kernel) (by decide +kernel) (by decide +kernel) (by decide +kernel) c),
      (h c main_arg3 rfl).trans (fin_unwritten m (by decide +kernel) (by decide +kernel) (by decide +kernel) (by decide +kernel) c),
      (h c main_arg4 rfl).trans (fin_unwritten m (by decide +kernel) (by decide +kernel) (by decide +kernel) (by decide +kernel) c),
      (h c main_arg5 rfl).trans (fin_unwritten m (by decide +kernel) (by decide +kernel) (by decide +kernel) (by decide +kernel) c),
      (h c main_arg6 rfl).trans (fin_unwritten m (by decide +kernel) (by decide +kernel) (by decide +kernel) (by decide +kernel) c),
      (h c main_arg7 rfl).trans (fin_unwritten m (by decide +kernel) (by decide +kernel) (by decide +kernel) (by decide +kernel) c),
      (h c main_arg8 rfl).trans (fin_unwritten m (by decide +kernel) (by decide +kernel) (by decide +kernel) (by decide +kernel) c),
      (h c main_arg9 rfl).trans (fin_unwritten m (by decide +kernel) (by decide +kernel) (by decide +kernel) (by decide +kernel) c),
      (h c main_arg10 rfl).trans (fin_unwritten m (by decide +kernel) (by decide +kernel) (by decide +kernel) (by decide +kernel) c),
      (h c main_arg11 rfl).trans (fin_unwritten m (by decide +kernel) (by decide +kernel) (by decide +kernel) (by decide +kernel) c),
      (h c main_arg12 rfl).trans (fin_unwritten m (by decide +kernel) (by decide +kernel) (by decide +kernel) (by decide +kernel) c),
      (h c main_arg13 rfl).trans (fin_unwritten m (by decide +kernel) (by decide +kernel) (by decide +kernel) (by decide +kernel) c),
      (h c main_arg14 rfl).trans (fin_unwritten m (by decide +kernel) (by decide +kernel) (by decide +kernel) (by decide +kernel) c),
      (h c main_arg15 rfl).trans (fin_unwritten m (by decide +kernel) (by decide +kernel) (by decide +kernel) (by decide +kernel) c),
      (h c main_arg16 rfl).trans (fin_unwritten m (by decide +kernel) (by decide +kernel) (by decide +kernel) (by decide +kernel) c),
      (h c main_arg17 rfl).trans (fin_unwritten m (by decide +kernel) (by decide +kernel) (by decide +kernel) (by decide +kernel) c),
      (h c main_arg18 rfl).trans (fin_unwritten m (by decide +kernel) (by decide +kernel) (by decide +kernel) (by decide +kernel) c),
      (h c main_arg19 rfl).trans (fin_unwritten m (by decide +kernel) (by decide +kernel) (by decide +kernel) (by decide +kernel) c),
      (h c main_arg20 rfl).trans (fin_unwritten m (by decide +kernel) (by decide +kernel) (by decide +kernel) (by decide +kernel) c),
      (h c main_arg21 rfl).trans (fin_unwritten m (by decide +kernel) (by decide +kernel) (by decide +kernel) (by decide +kernel) c)⟩) (run_fold m ρ)

end Cert.ReferenceIdeal.Value

end
-- ==== Proof.Model.lean ====
module

public import Idealize.ShloMosaic.Init
public import Idealize.ShloMosaic.Lib.Pointwise

@[expose] public section

noncomputable section

/-! The network over the real numbers, for one batch element: 1024 points, each with 16 channels of 16-component
    multivectors and 32 scalars. Both programs are proved equal to this. -/

namespace Cert.Model

/-- The three tables: the equivariant linear basis, the blades of the invariant inner product, and the structure
    constants of the geometric product. -/
structure Tables where
  B : Fin 9 → Fin 16 → Fin 16 → ℝ
  N : Fin 16 → ℝ
  G : Fin 16 → Fin 16 → Fin 16 → ℝ

/-- The small constant under the square roots of the normalisations. -/
def eps : ℝ := 8796093 / 8796093022208
/-- The scale of the attention scores. -/
def qscale : ℝ := 15005998 / 67108864
/-- The two constants of the tanh form of the gelu. -/
def gc1 : ℝ := 13386282 / 16777216
def gc2 : ℝ := 12003091 / 268435456

/-- The linear layer's effective matrix between blades `b` and `a` of channels `i` and `o`. -/
def eff (B : Fin 9 → Fin 16 → Fin 16 → ℝ) {O I : ℕ} (w : Fin O → Fin I → Fin 9 → ℝ) (o : Fin O) (i : Fin I) (a b : Fin 16) : ℝ :=
  ∑ k, w o i k * B k a b

/-- The equivariant linear layer's multivectors; the scalars feed the scalar blade. -/
def lin (B : Fin 9 → Fin 16 → Fin 16 → ℝ) {O I S : ℕ} (w : Fin O → Fin I → Fin 9 → ℝ) (wsm : Fin O → Fin S → ℝ)
    (x : Fin I → Fin 16 → ℝ) (s : Fin S → ℝ) (o : Fin O) (a : Fin 16) : ℝ :=
  (∑ i, ∑ b, eff B w o i a b * x i b) + (if a = 0 then ∑ d, wsm o d * s d else 0)

/-- The equivariant linear layer's scalars. -/
def linS {O I S : ℕ} (wms : Fin O → Fin I → ℝ) (wss : Fin O → Fin S → ℝ) (x : Fin I → Fin 16 → ℝ) (s : Fin S → ℝ) (o : Fin O) : ℝ :=
  (∑ d, wss o d * s d) + ∑ i, wms o i * x i 0

/-- The multivectors divided by the root of their mean inner norm. -/
def normMv (N : Fin 16 → ℝ) (x : Fin 16 → Fin 16 → ℝ) (i : Fin 16) (a : Fin 16) : ℝ :=
  x i a / Real.sqrt ((∑ j, ∑ b, x j b * x j b * N b) / 16 + eps)

/-- The scalars divided by the root of their mean square. -/
def normS (s : Fin 32 → ℝ) (d : Fin 32) : ℝ := s d / Real.sqrt ((∑ e, s e * s e) / 32 + eps)

def gelu (z : ℝ) : ℝ := z * (1 / 2 * (1 + Real.tanh (gc1 * (z + gc2 * (z * z * z)))))

/-- One layer's weights. -/
structure Weights where
  qw : Fin 48 → Fin 16 → Fin 9 → ℝ
  qsm : Fin 48 → Fin 32 → ℝ
  qms : Fin 96 → Fin 16 → ℝ
  qss : Fin 96 → Fin 32 → ℝ
  ow : Fin 16 → Fin 16 → Fin 9 → ℝ
  osm : Fin 16 → Fin 32 → ℝ
  oms : Fin 32 → Fin 16 → ℝ
  oss : Fin 32 → Fin 32 → ℝ
  m1w : Fin 32 → Fin 16 → Fin 9 → ℝ
  m1sm : Fin 32 → Fin 32 → ℝ
  m1ms : Fin 64 → Fin 16 → ℝ
  m1ss : Fin 64 → Fin 32 → ℝ
  m2w : Fin 16 → Fin 16 → Fin 9 → ℝ
  m2sm : Fin 16 → Fin 32 → ℝ
  m2ms : Fin 32 → Fin 16 → ℝ
  m2ss : Fin 32 → Fin 32 → ℝ

/-- The multivectors and the scalars of all points. -/
abbrev Mv := Fin 1024 → Fin 16 → Fin 16 → ℝ
abbrev Sc := Fin 1024 → Fin 32 → ℝ

variable (T : Tables) (w : Weights)

def qkvMv (x : Mv) (s : Sc) (n : Fin 1024) : Fin 48 → Fin 16 → ℝ := lin T.B w.qw w.qsm (normMv T.N (x n)) (normS (s n))
def qkvS (x : Mv) (s : Sc) (n : Fin 1024) : Fin 96 → ℝ := linS w.qms w.qss (normMv T.N (x n)) (normS (s n))

/-- The score of query point `n` against key point `m` in head `h`. -/
def score (N : Fin 16 → ℝ) (qm : Fin 1024 → Fin 48 → Fin 16 → ℝ) (qs : Fin 1024 → Fin 96 → ℝ) (h : Fin 8) (n m : Fin 1024) : ℝ :=
  ((∑ c : Fin 2, ∑ a, qm n ⟨2 * h + c, by omega⟩ a * N a * qm m ⟨16 + (2 * h + c), by omega⟩ a)
    + ∑ d : Fin 4, qs n ⟨4 * h + d, by omega⟩ * qs m ⟨32 + (4 * h + d), by omega⟩) * qscale

/-- The softmax-weighted mean of values `v` under scores `z`. -/
def soft (z v : Fin 1024 → ℝ) : ℝ := (∑ m, v m * Real.exp (z m)) / ∑ m, Real.exp (z m)

def attMv (x : Mv) (s : Sc) (n : Fin 1024) (c a : Fin 16) : ℝ :=
  soft (score T.N (qkvMv T w x s) (qkvS T w x s) ⟨c / 2, by omega⟩ n) fun m => qkvMv T w x s m ⟨32 + c, by omega⟩ a
def attS (x : Mv) (s : Sc) (n : Fin 1024) (d : Fin 32) : ℝ :=
  soft (score T.N (qkvMv T w x s) (qkvS T w x s) ⟨d / 4, by omega⟩ n) fun m => qkvS T w x s m ⟨64 + d, by omega⟩

/-- The state after the attention. -/
def midMv (x : Mv) (s : Sc) : Mv := fun n c a => x n c a + lin T.B w.ow w.osm (attMv T w x s n) (attS T w x s n) c a
def midS (x : Mv) (s : Sc) : Sc := fun n d => s n d + linS w.oms w.oss (attMv T w x s n) (attS T w x s n) d

/-- The geometric product of channel `c`'s two halves. -/
def gprod (G : Fin 16 → Fin 16 → Fin 16 → ℝ) (h : Fin 32 → Fin 16 → ℝ) (c k : Fin 16) : ℝ :=
  ∑ j, (∑ i, G i j k * h ⟨c, by omega⟩ i) * h ⟨16 + c, by omega⟩ j

def gateMv (G : Fin 16 → Fin 16 → Fin 16 → ℝ) (h : Fin 32 → Fin 16 → ℝ) (c k : Fin 16) : ℝ := gprod G h c k * gelu (gprod G h c 0)
def gateS (h : Fin 64 → ℝ) (d : Fin 32) : ℝ := h ⟨d, by omega⟩ * gelu (h ⟨32 + d, by omega⟩)

/-- The multilayer perceptron of one point. -/
def mlpMv (x : Fin 16 → Fin 16 → ℝ) (s : Fin 32 → ℝ) : Fin 16 → Fin 16 → ℝ :=
  lin T.B w.m2w w.m2sm (gateMv T.G (lin T.B w.m1w w.m1sm x s)) (gateS (linS w.m1ms w.m1ss x s))
def mlpS (x : Fin 16 → Fin 16 → ℝ) (s : Fin 32 → ℝ) : Fin 32 → ℝ :=
  linS w.m2ms w.m2ss (gateMv T.G (lin T.B w.m1w w.m1sm x s)) (gateS (linS w.m1ms w.m1ss x s))

/-- One layer. -/
def stepMv (x : Mv) (s : Sc) : Mv := fun n c a =>
  midMv T w x s n c a + mlpMv T w (normMv T.N (midMv T w x s n)) (normS (midS T w x s n)) c a
def stepS (x : Mv) (s : Sc) : Sc := fun n d =>
  midS T w x s n d + mlpS T w (normMv T.N (midMv T w x s n)) (normS (midS T w x s n)) d

/-- The state before layer `l`. -/
def state (W : ℕ → Weights) (x : Mv) (s : Sc) : ℕ → Mv × Sc
  | 0 => (x, s)
  | l + 1 => (stepMv T (W l) (state W x s l).1 (state W x s l).2, stepS T (W l) (state W x s l).1 (state W x s l).2)

/-- The state the layers start from: the points embedded as trivectors `p`, one channel, through the input layer. -/
def initMv (B : Fin 9 → Fin 16 → Fin 16 → ℝ) (w : Fin 16 → Fin 1 → Fin 9 → ℝ) (p : Fin 1024 → Fin 16 → ℝ) : Mv :=
  fun n o a => ∑ b, eff B w o 0 a b * p n b
def initS (b : Fin 32 → ℝ) : Sc := fun _ d => b d

/-- The point's embedding: its coordinates as trivector components, and the homogeneous one. -/
def embed (q : Fin 3 → ℝ) (b : Fin 16) : ℝ :=
  if b = 11 then -q 2 else if b = 12 then q 1 else if b = 13 then -q 0 else if b = 14 then 1 else 0

/-- The result: the mean over the points of the readout's scalar blade. -/
def readout (B : Fin 9 → Fin 16 → Fin 16 → ℝ) (w : Fin 1 → Fin 16 → Fin 9 → ℝ) (wsm : Fin 1 → Fin 32 → ℝ) (x : Mv) (s : Sc) : ℝ :=
  (∑ n, lin B w wsm (x n) (s n) 0 0) / 1024

end Cert.Model

end
-- ==== Proof.Tables.lean ====
module

public import proofs.«01_k».proof.Proof.Model

@[expose] public section

noncomputable section

/-! The algebra's tables as integers. Of the geometric product, blade `k` gets blade `j` of the right factor times at most one
    blade of the left factor: `gIdx k j`, with the sign `gSgn k j`. Of the linear basis, map `k` sends at most one blade, `bIdx k a`,
    to blade `a`, with the sign `bSgn k a`. -/

namespace Cert.Model

def gSgn : Fin 16 → Fin 16 → ℤ := ![![1, 0, 1, 1, 1, 0, 0, 0, -1, -1, -1, 0, 0, 0, -1, 0],
  ![1, 1, 1, 1, 1, -1, -1, -1, -1, -1, -1, -1, -1, -1, -1, 1],
  ![1, 0, 1, 1, 1, 0, 0, 0, -1, -1, -1, 0, 0, 0, -1, 0],
  ![1, 0, -1, 1, 1, 0, 0, 0, 1, 1, -1, 0, 0, 0, 1, 0],
  ![1, 0, -1, -1, 1, 0, 0, 0, -1, 1, 1, 0, 0, 0, -1, 0],
  ![1, -1, 1, 1, 1, 1, 1, 1, -1, -1, -1, 1, 1, 1, -1, -1],
  ![1, -1, -1, 1, 1, -1, 1, 1, 1, 1, -1, -1, -1, 1, 1, 1],
  ![1, -1, -1, -1, 1, -1, -1, 1, -1, 1, 1, 1, -1, -1, -1, -1],
  ![1, 0, -1, 1, 1, 0, 0, 0, 1, 1, -1, 0, 0, 0, 1, 0],
  ![1, 0, -1, -1, 1, 0, 0, 0, -1, 1, 1, 0, 0, 0, -1, 0],
  ![1, 0, 1, -1, 1, 0, 0, 0, 1, -1, 1, 0, 0, 0, 1, 0],
  ![1, 1, -1, 1, 1, 1, -1, -1, 1, 1, -1, 1, 1, -1, 1, -1],
  ![1, 1, -1, -1, 1, 1, 1, -1, -1, 1, 1, -1, 1, 1, -1, 1],
  ![1, 1, 1, -1, 1, -1, 1, -1, 1, -1, 1, 1, -1, 1, 1, -1],
  ![1, 0, 1, -1, 1, 0, 0, 0, 1, -1, 1, 0, 0, 0, 1, 0],
  ![1, -1, 1, -1, 1, 1, -1, 1, 1, -1, 1, -1, 1, -1, 1, 1]]

def gIdx : Fin 16 → Fin 16 → Fin 16 := ![![0, 0, 2, 3, 4, 0, 0, 0, 8, 9, 10, 0, 0, 0, 14, 0],
  ![1, 0, 5, 6, 7, 2, 3, 4, 11, 12, 13, 8, 9, 10, 15, 14],
  ![2, 0, 0, 8, 9, 0, 0, 0, 3, 4, 14, 0, 0, 0, 10, 0],
  ![3, 0, 8, 0, 10, 0, 0, 0, 2, 14, 4, 0, 0, 0, 9, 0],
  ![4, 0, 9, 10, 0, 0, 0, 0, 14, 2, 3, 0, 0, 0, 8, 0],
  ![5, 2, 1, 11, 12, 0, 8, 9, 6, 7, 15, 3, 4, 14, 13, 10],
  ![6, 3, 11, 1, 13, 8, 0, 10, 5, 15, 7, 2, 14, 4, 12, 9],
  ![7, 4, 12, 13, 1, 9, 10, 0, 15, 5, 6, 14, 2, 3, 11, 8],
  ![8, 0, 3, 2, 14, 0, 0, 0, 0, 10, 9, 0, 0, 0, 4, 0],
  ![9, 0, 4, 14, 2, 0, 0, 0, 10, 0, 8, 0, 0, 0, 3, 0],
  ![10, 0, 14, 4, 3, 0, 0, 0, 9, 8, 0, 0, 0, 0, 2, 0],
  ![11, 8, 6, 5, 15, 3, 2, 14, 1, 13, 12, 0, 10, 9, 7, 4],
  ![12, 9, 7, 15, 5, 4, 14, 2, 13, 1, 11, 10, 0, 8, 6, 3],
  ![13, 10, 15, 7, 6, 14, 4, 3, 12, 11, 1, 9, 8, 0, 5, 2],
  ![14, 0, 10, 9, 8, 0, 0, 0, 4, 3, 2, 0, 0, 0, 0, 0],
  ![15, 14, 13, 12, 11, 10, 9, 8, 7, 6, 5, 4, 3, 2, 1, 0]]

def bSgn : Fin 9 → Fin 16 → ℤ := ![![1, 0, 0, 0, 0, 0, 0, 0, 0, 0, 0, 0, 0, 0, 0, 0],
  ![0, 1, 1, 1, 1, 0, 0, 0, 0, 0, 0, 0, 0, 0, 0, 0],
  ![0, 0, 0, 0, 0, 1, 1, 1, 1, 1, 1, 0, 0, 0, 0, 0],
  ![0, 0, 0, 0, 0, 0, 0, 0, 0, 0, 0, 1, 1, 1, 1, 0],
  ![0, 0, 0, 0, 0, 0, 0, 0, 0, 0, 0, 0, 0, 0, 0, 1],
  ![0, 1, 0, 0, 0, 0, 0, 0, 0, 0, 0, 0, 0, 0, 0, 0],
  ![0, 0, 0, 0, 0, 1, 1, 1, 0, 0, 0, 0, 0, 0, 0, 0],
  ![0, 0, 0, 0, 0, 0, 0, 0, 0, 0, 0, 1, 1, 1, 0, 0],
  ![0, 0, 0, 0, 0, 0, 0, 0, 0, 0, 0, 0, 0, 0, 0, 1]]

def bIdx : Fin 9 → Fin 16 → Fin 16 := ![![0, 0, 0, 0, 0, 0, 0, 0, 0, 0, 0, 0, 0, 0, 0, 0],
  ![0, 1, 2, 3, 4, 0, 0, 0, 0, 0, 0, 0, 0, 0, 0, 0],
  ![0, 0, 0, 0, 0, 5, 6, 7, 8, 9, 10, 0, 0, 0, 0, 0],
  ![0, 0, 0, 0, 0, 0, 0, 0, 0, 0, 0, 11, 12, 13, 14, 0],
  ![0, 0, 0, 0, 0, 0, 0, 0, 0, 0, 0, 0, 0, 0, 0, 15],
  ![0, 0, 0, 0, 0, 0, 0, 0, 0, 0, 0, 0, 0, 0, 0, 0],
  ![0, 0, 0, 0, 0, 2, 3, 4, 0, 0, 0, 0, 0, 0, 0, 0],
  ![0, 0, 0, 0, 0, 0, 0, 0, 0, 0, 0, 8, 9, 10, 0, 0],
  ![0, 0, 0, 0, 0, 0, 0, 0, 0, 0, 0, 0, 0, 0, 0, 14]]

/-- The blades of the invariant inner product: those without `e0`. -/
def nSgn : Fin 16 → ℤ := ![1, 0, 1, 1, 1, 0, 0, 0, 1, 1, 1, 0, 0, 0, 1, 0]

/-- The entries of the three tables, as integers. -/
def gInt (i j k : Fin 16) : ℤ := if i = gIdx k j then gSgn k j else 0
def bInt (k : Fin 9) (a b : Fin 16) : ℤ := if b = bIdx k a then bSgn k a else 0

/-- The algebra's tables. -/
def tables : Tables where
  B k a b := bInt k a b
  N a := nSgn a
  G i j k := gInt i j k

theorem tables_N_nonneg (a : Fin 16) : 0 ≤ tables.N a := by
  show (0 : ℝ) ≤ (nSgn a : ℤ)
  have : ∀ a, 0 ≤ nSgn a := by decide
  exact_mod_cast this a

/-- The geometric product, one term for each blade of the right factor. -/
theorem gprod_tables (h : Fin 32 → Fin 16 → ℝ) (c k : Fin 16) :
    gprod tables.G h c k = ∑ j, (gSgn k j : ℝ) * h ⟨c, by omega⟩ (gIdx k j) * h ⟨16 + c, by omega⟩ j := by
  refine Finset.sum_congr rfl fun j _ => ?_
  congr 1
  rw [Finset.sum_eq_single (gIdx k j)]
  · simp [tables, gInt]
  · intro i _ hi
    simp [tables, gInt, hi]
  · simp

end Cert.Model

end
-- ==== Proof.Canon.lean ====
module

public import proofs.«01_k».proof.Proof.Tables
public import Idealize.ShloMosaic.Init
public import Idealize.ShloMosaic.Lib.Pointwise

@[expose] public section

noncomputable section

/-! The kernel's row layout over the real numbers: an equivariant linear layer as one matrix over the 256 rows of multivector
    components (row `16 b + i` is blade `b` of channel `i`) and the 32 scalars, and the orders in which the kernel takes its rows. -/

namespace Cert.Model

open Idealize.ShloMosaic

/-- The row of blade `R / 16` of channel `R % 16`. -/
abbrev rowOf (x : Fin 16 → Fin 16 → ℝ) (R : Fin 256) : ℝ := x ⟨R % 16, Nat.mod_lt _ (by norm_num)⟩ ⟨R / 16, by omega⟩

/-- A sum over the 256 rows is the sum over channels and blades. -/
theorem sum256 (f : Fin 16 → Fin 16 → ℝ) :
    ∑ R : Fin 256, f ⟨R % 16, Nat.mod_lt _ (by norm_num)⟩ ⟨R / 16, by omega⟩ = ∑ i, ∑ b, f i b := by
  rw [Fin.sum_univ_tiles 16 16 rfl, Finset.sum_comm]
  refine Finset.sum_congr rfl fun i _ => Finset.sum_congr rfl fun b _ => ?_
  congr 1 <;> ext <;> simp <;> omega

section
variable (B : Fin 9 → Fin 16 → Fin 16 → ℝ) {O P : ℕ} (w : Fin O → Fin 16 → Fin 9 → ℝ) (wsm : Fin O → Fin 32 → ℝ)
  (wms : Fin P → Fin 16 → ℝ) (wss : Fin P → Fin 32 → ℝ)

/-- The layer's matrix over the multivector rows: row `16 o + a` is blade `a` of output channel `o`, row `16 O + p` output scalar
    `p`, and the rows after these are zero. -/
def canX (r : ℕ) (c : Fin 256) : ℝ :=
  if h : r < 16 * O then eff B w ⟨r / 16, by omega⟩ ⟨c % 16, Nat.mod_lt _ (by norm_num)⟩ ⟨r % 16, Nat.mod_lt _ (by norm_num)⟩ ⟨c / 16, by omega⟩
  else if h : r - 16 * O < P then (if (c : ℕ) / 16 = 0 then wms ⟨r - 16 * O, h⟩ ⟨c % 16, Nat.mod_lt _ (by norm_num)⟩ else 0) else 0

/-- The layer's matrix over the scalars. -/
def canS (r : ℕ) (d : Fin 32) : ℝ :=
  if h : r < 16 * O then (if r % 16 = 0 then wsm ⟨r / 16, by omega⟩ d else 0)
  else if h : r - 16 * O < P then wss ⟨r - 16 * O, h⟩ d else 0

/-- The layer's output rows. -/
def outRow (x : Fin 16 → Fin 16 → ℝ) (s : Fin 32 → ℝ) (r : ℕ) : ℝ :=
  if h : r < 16 * O then lin B w wsm x s ⟨r / 16, by omega⟩ ⟨r % 16, Nat.mod_lt _ (by norm_num)⟩
  else if h : r - 16 * O < P then linS wms wss x s ⟨r - 16 * O, h⟩ else 0

theorem can_sum (x : Fin 16 → Fin 16 → ℝ) (s : Fin 32 → ℝ) (r : ℕ) :
    (∑ c, canX B w wms r c * rowOf x c) + ∑ d, canS wsm wss r d * s d = outRow B w wsm wms wss x s r := by
  unfold outRow
  by_cases h : r < 16 * O
  · simp only [canX, canS, dif_pos h]
    rw [sum256 (fun i b => eff B w ⟨r / 16, by omega⟩ i ⟨r % 16, Nat.mod_lt _ (by norm_num)⟩ b * x i b), lin]
    by_cases h0 : r % 16 = 0
    · simp [h0]
    · simp [h0]
  · by_cases h' : r - 16 * O < P
    · simp only [canX, canS, dif_neg h, dif_pos h']
      have := sum256 (fun i b => (if (b : ℕ) = 0 then wms ⟨r - 16 * O, h'⟩ i else 0) * x i b)
      simp only at this
      rw [this, linS, add_comm]
      congr 1
      refine Finset.sum_congr rfl fun i _ => ?_
      rw [Finset.sum_eq_single 0] <;> simp
      intro b hb hb'
      exact absurd hb' hb
    · simp [canX, canS, h, h']

end

/-- The blades without `e0`. -/
def inv8 : Fin 8 → Fin 16 := ![0, 2, 3, 4, 8, 9, 10, 14]

theorem sum_inv (g : Fin 16 → ℝ) : ∑ a, g a * tables.N a = ∑ t, g (inv8 t) := by
  simp [Fin.sum_univ_succ, tables, nSgn, inv8]

/-- The rows in the kernel's order: a head's 24 query or key rows are the invariant blades of its two channels, its four scalars and
    four zero rows. -/
def krow (o p h t : ℕ) : ℕ :=
  if t < 16 then (o + 2 * h + t / 8) * 16 + inv8 ⟨t % 8, Nat.mod_lt _ (by norm_num)⟩ else if t < 20 then 768 + p + 4 * h + (t - 16) else 864
/-- A head's 40 value rows: its two channels, its four scalars and four zero rows. -/
def vrow (h t : ℕ) : ℕ := if t < 32 then (32 + 2 * h + t / 16) * 16 + t % 16 else if t < 36 then 768 + 64 + 4 * h + (t - 32) else 864
def qrow (r : ℕ) : ℕ :=
  if r < 192 then krow 0 0 (r / 24) (r % 24) else if r < 384 then krow 16 32 ((r - 192) / 24) ((r - 192) % 24) else vrow ((r - 384) / 40) ((r - 384) % 40)
def qscl (r : ℕ) : ℝ := if r < 192 then qscale else 1
/-- The output rows, blade by blade, and the columns in the order of the heads' rows. -/
def orow (r : ℕ) : ℕ := if r < 256 then r % 16 * 16 + r / 16 else r
def ocol (j : ℕ) : ℕ := if j % 36 < 32 then j % 36 % 16 * 16 + (2 * (j / 36) + j % 36 / 16) else 256 + (4 * (j / 36) + (j % 36 - 32))
def mrow (r : ℕ) : ℕ := if r < 512 then r % 32 * 16 + r / 32 else r

/-- The rows of the first product, at all points. -/
def qkvRow (w : Weights) (x : Mv) (s : Sc) (r : ℕ) (n : Fin 1024) : ℝ :=
  qscl r * outRow tables.B w.qw w.qsm w.qms w.qss (normMv tables.N (x n)) (normS (s n)) (qrow r)

variable (w : Weights) (x : Mv) (s : Sc)

theorem qkvRow_sum (r : ℕ) (n : Fin 1024) :
    (∑ c, (qscl r * canX tables.B w.qw w.qms (qrow r) c) * rowOf (normMv tables.N (x n)) c) +
      ∑ d, (qscl r * canS w.qsm w.qss (qrow r) d) * normS (s n) d = qkvRow w x s r n := by
  rw [qkvRow, ← can_sum, mul_add, Finset.mul_sum, Finset.mul_sum]
  simp only [mul_assoc]

theorem sum24 (F : ℕ → ℝ) : ∑ d : Fin 24, F d = ((∑ c : Fin 2, ∑ t : Fin 8, F (8 * c + t)) + ∑ d : Fin 4, F (16 + d)) + ∑ d : Fin 4, F (20 + d) := by
  simp [Fin.sum_univ_succ]
  ring
theorem sum36 (F : ℕ → ℝ) : ∑ j : Fin 36, F j = (∑ c : Fin 2, ∑ b : Fin 16, F (16 * c + b)) + ∑ d : Fin 4, F (32 + d) := by
  simp [Fin.sum_univ_succ]
  ring

section
variable {O P : ℕ} (B : Fin 9 → Fin 16 → Fin 16 → ℝ) (v : Fin O → Fin 16 → Fin 9 → ℝ) (vsm : Fin O → Fin 32 → ℝ)
  (vms : Fin P → Fin 16 → ℝ) (vss : Fin P → Fin 32 → ℝ) (y : Fin 16 → Fin 16 → ℝ) (z : Fin 32 → ℝ)

theorem outRow_mv (r : ℕ) (o : Fin O) (a : Fin 16) (h : r = o * 16 + a) : outRow B v vsm vms vss y z r = lin B v vsm y z o a := by
  have h1 : r < 16 * O := by omega
  have h2 : (⟨r / 16, by omega⟩ : Fin O) = o := Fin.ext (show r / 16 = o by omega)
  have h3 : (⟨r % 16, Nat.mod_lt _ (by norm_num)⟩ : Fin 16) = a := Fin.ext (show r % 16 = a by omega)
  rw [outRow, dif_pos h1, h2, h3]
theorem outRow_s (r : ℕ) (p : Fin P) (h : r = 16 * O + p) : outRow B v vsm vms vss y z r = linS vms vss y z p := by
  have h1 : ¬ r < 16 * O := by omega
  have h2 : r - 16 * O < P := by omega
  have h3 : (⟨r - 16 * O, h2⟩ : Fin P) = p := Fin.ext (show r - 16 * O = p by omega)
  rw [outRow, dif_neg h1, dif_pos h2, h3]
theorem outRow_pad (r : ℕ) (h : r = 16 * O + P) : outRow B v vsm vms vss y z r = 0 := by
  rw [outRow, dif_neg (by omega), dif_neg (by omega)]
end

section
variable (h : Fin 8) (n : Fin 1024)

theorem q_mv (c : Fin 2) (t : Fin 8) : qkvRow w x s (24 * h + (8 * c + t)) n = qscale * qkvMv tables w x s n ⟨2 * h + c, by omega⟩ (inv8 t) := by
  have e1 : (24 * (h : ℕ) + (8 * c + t)) / 24 = h := by omega
  have e2 : (24 * (h : ℕ) + (8 * c + t)) % 24 = 8 * c + t := by omega
  have e3 : (⟨(8 * (c : ℕ) + t) % 8, Nat.mod_lt _ (by norm_num)⟩ : Fin 8) = t := Fin.ext (show (8 * (c : ℕ) + t) % 8 = t by omega)
  rw [qkvRow, qscl, if_pos (by omega), outRow_mv (o := ⟨2 * h + c, by omega⟩) (a := inv8 t)]
  · rfl
  · rw [qrow, if_pos (by omega), e1, e2, krow, if_pos (by omega), e3]
    show _ = (2 * (h : ℕ) + c) * 16 + _
    omega
theorem q_s (d : Fin 4) : qkvRow w x s (24 * h + (16 + d)) n = qscale * qkvS tables w x s n ⟨4 * h + d, by omega⟩ := by
  rw [qkvRow, qscl, if_pos (by omega), outRow_s (p := ⟨4 * h + d, by omega⟩)]
  · rfl
  · rw [qrow, if_pos (by omega), krow, if_neg (by omega), if_pos (by omega)]
    show _ = 16 * 48 + (4 * (h : ℕ) + d)
    omega
theorem q_pad (d : Fin 4) : qkvRow w x s (24 * h + (20 + d)) n = 0 := by
  rw [qkvRow, outRow_pad, mul_zero]
  rw [qrow, if_pos (by omega), krow, if_neg (by omega), if_neg (by omega)]

theorem k_mv (c : Fin 2) (t : Fin 8) : qkvRow w x s (192 + 24 * h + (8 * c + t)) n = qkvMv tables w x s n ⟨16 + (2 * h + c), by omega⟩ (inv8 t) := by
  have e1 : (192 + 24 * (h : ℕ) + (8 * c + t) - 192) / 24 = h := by omega
  have e2 : (192 + 24 * (h : ℕ) + (8 * c + t) - 192) % 24 = 8 * c + t := by omega
  have e3 : (⟨(8 * (c : ℕ) + t) % 8, Nat.mod_lt _ (by norm_num)⟩ : Fin 8) = t := Fin.ext (show (8 * (c : ℕ) + t) % 8 = t by omega)
  rw [qkvRow, qscl, if_neg (by omega), one_mul, outRow_mv (o := ⟨16 + (2 * h + c), by omega⟩) (a := inv8 t)]
  · rfl
  · rw [qrow, if_neg (by omega), if_pos (by omega), e1, e2, krow, if_pos (by omega), e3]
    show _ = (16 + (2 * (h : ℕ) + c)) * 16 + _
    omega
theorem k_s (d : Fin 4) : qkvRow w x s (192 + 24 * h + (16 + d)) n = qkvS tables w x s n ⟨32 + (4 * h + d), by omega⟩ := by
  rw [qkvRow, qscl, if_neg (by omega), one_mul, outRow_s (p := ⟨32 + (4 * h + d), by omega⟩)]
  · rfl
  · rw [qrow, if_neg (by omega), if_pos (by omega), krow, if_neg (by omega), if_pos (by omega)]
    show _ = 16 * 48 + (32 + (4 * (h : ℕ) + d))
    omega
theorem v_mv (c : Fin 2) (b : Fin 16) : qkvRow w x s (384 + 40 * h + (16 * c + b)) n = qkvMv tables w x s n ⟨32 + (2 * h + c), by omega⟩ b := by
  have e1 : (384 + 40 * (h : ℕ) + (16 * c + b) - 384) / 40 = h := by omega
  have e2 : (384 + 40 * (h : ℕ) + (16 * c + b) - 384) % 40 = 16 * c + b := by omega
  rw [qkvRow, qscl, if_neg (by omega), one_mul, outRow_mv (o := ⟨32 + (2 * h + c), by omega⟩) (a := b)]
  · rfl
  · rw [qrow, if_neg (by omega), if_neg (by omega), e1, e2, vrow, if_pos (by omega)]
    show _ = (32 + (2 * (h : ℕ) + c)) * 16 + (b : ℕ)
    omega
theorem v_s (d : Fin 4) : qkvRow w x s (384 + 40 * h + (32 + d)) n = qkvS tables w x s n ⟨64 + (4 * h + d), by omega⟩ := by
  rw [qkvRow, qscl, if_neg (by omega), one_mul, outRow_s (p := ⟨64 + (4 * h + d), by omega⟩)]
  · rfl
  · rw [qrow, if_neg (by omega), if_neg (by omega), vrow, if_neg (by omega), if_pos (by omega)]
    show _ = 16 * 48 + (64 + (4 * (h : ℕ) + d))
    omega

/-- The 24-row product of keys and queries is the head's score. -/
theorem score_rows (m : Fin 1024) : ∑ d : Fin 24, qkvRow w x s (192 + 24 * h + d) m * qkvRow w x s (24 * h + d) n =
    score tables.N (qkvMv tables w x s) (qkvS tables w x s) h n m := by
  rw [sum24 (fun d => qkvRow w x s (192 + 24 * h + d) m * qkvRow w x s (24 * h + d) n)]
  simp only [q_mv, q_s, q_pad, k_mv, k_s, mul_zero, Finset.sum_const_zero, add_zero]
  rw [score, add_mul, Finset.sum_mul, Finset.sum_mul]
  congr 1
  · refine Finset.sum_congr rfl fun c _ => ?_
    rw [← sum_inv (fun a => qkvMv tables w x s m ⟨16 + (2 * h + c), by omega⟩ a * (qscale * qkvMv tables w x s n ⟨2 * h + c, by omega⟩ a)),
      Finset.sum_mul]
    exact Finset.sum_congr rfl fun a _ => by ring
  · exact Finset.sum_congr rfl fun d _ => by ring

/-- Head `h`'s rows are its two channels of the attention's multivectors and its four scalars. -/
def attRow (j : ℕ) : ℝ :=
  soft (fun m => ∑ d : Fin 24, qkvRow w x s (192 + 24 * (j / 36) + d) m * qkvRow w x s (24 * (j / 36) + d) n)
    fun m => qkvRow w x s (384 + 40 * (j / 36) + j % 36) m

theorem attRow_mv (c : Fin 2) (b : Fin 16) : attRow w x s n (36 * h + (16 * c + b)) = attMv tables w x s n ⟨2 * h + c, by omega⟩ b := by
  have e1 : (36 * (h : ℕ) + (16 * c + b)) / 36 = h := by omega
  have e2 : (36 * (h : ℕ) + (16 * c + b)) % 36 = 16 * c + b := by omega
  have e3 : (⟨(2 * (h : ℕ) + c) / 2, by omega⟩ : Fin 8) = h := Fin.ext (show (2 * (h : ℕ) + c) / 2 = h by omega)
  rw [attRow, e1, e2, attMv]
  simp only [score_rows, v_mv, e3]
theorem attRow_s (d : Fin 4) : attRow w x s n (36 * h + (32 + d)) = attS tables w x s n ⟨4 * h + d, by omega⟩ := by
  have e1 : (36 * (h : ℕ) + (32 + d)) / 36 = h := by omega
  have e2 : (36 * (h : ℕ) + (32 + d)) % 36 = 32 + d := by omega
  have e3 : (⟨(4 * (h : ℕ) + d) / 4, by omega⟩ : Fin 8) = h := Fin.ext (show (4 * (h : ℕ) + d) / 4 = h by omega)
  rw [attRow, e1, e2, attS]
  simp only [score_rows, v_s, e3]
end

/-- The output matrix over multivector and scalar columns, one after the other. -/
def canXS {O P : ℕ} (B : Fin 9 → Fin 16 → Fin 16 → ℝ) (v : Fin O → Fin 16 → Fin 9 → ℝ) (vsm : Fin O → Fin 32 → ℝ)
    (vms : Fin P → Fin 16 → ℝ) (vss : Fin P → Fin 32 → ℝ) (r j : ℕ) : ℝ :=
  if h : j < 256 then canX B v vms r ⟨j, h⟩ else if h : j - 256 < 32 then canS vsm vss r ⟨j - 256, h⟩ else 0

/-- The output product over the heads' rows, its columns in their order, is the output layer of the attention. -/
theorem out_sum (n : Fin 1024) (r : ℕ) :
    ∑ j : Fin 288, canXS tables.B w.ow w.osm w.oms w.oss r (ocol j) * attRow w x s n j =
      outRow tables.B w.ow w.osm w.oms w.oss (attMv tables w x s n) (attS tables w x s n) r := by
  rw [← can_sum, Fin.sum_univ_tiles 8 36 rfl]
  have e : ∀ h : Fin 8, ∑ t : Fin 36, canXS tables.B w.ow w.osm w.oms w.oss r (ocol (36 * h + t)) * attRow w x s n (36 * h + t) =
      (∑ c : Fin 2, ∑ b : Fin 16, canX tables.B w.ow w.oms r ⟨16 * b + (2 * h + c), by omega⟩ * attMv tables w x s n ⟨2 * h + c, by omega⟩ b) +
        ∑ d : Fin 4, canS w.osm w.oss r ⟨4 * h + d, by omega⟩ * attS tables w x s n ⟨4 * h + d, by omega⟩ := by
    intro h
    rw [sum36 (fun t => canXS tables.B w.ow w.osm w.oms w.oss r (ocol (36 * h + t)) * attRow w x s n (36 * h + t))]
    congr 1
    · refine Finset.sum_congr rfl fun c _ => Finset.sum_congr rfl fun b _ => ?_
      have : ocol (36 * h + (16 * c + b)) = 16 * b + (2 * h + c) := by
        have e1 : (36 * (h : ℕ) + (16 * c + b)) / 36 = h := by omega
        have e2 : (36 * (h : ℕ) + (16 * c + b)) % 36 = 16 * c + b := by omega
        rw [ocol, e1, e2, if_pos (by omega)]; omega
      rw [attRow_mv, this, canXS, dif_pos (by omega)]
    · refine Finset.sum_congr rfl fun d _ => ?_
      have : ocol (36 * h + (32 + d)) = 256 + (4 * h + d) := by
        rw [ocol, if_neg (by omega)]; omega
      rw [attRow_s, this, canXS, dif_neg (by omega), dif_pos (by omega)]
      congr 2
      exact Fin.ext (by simp)
  have e' : ∀ h : Fin 8, ∀ t : Fin 36, (h : ℕ) * 36 + t = 36 * h + t := fun h t => by omega
  simp only [e', e, Finset.sum_add_distrib]
  congr 1
  · have hs := sum256 (fun i b => canX tables.B w.ow w.oms r ⟨16 * b + i, by omega⟩ * attMv tables w x s n i b)
    have hc : ∀ c : Fin 256, (⟨16 * ((c : ℕ) / 16) + c % 16, by omega⟩ : Fin 256) = c := fun c => Fin.ext (Nat.div_add_mod _ _)
    simp only [hc] at hs
    rw [hs, Fin.sum_univ_tiles 8 2 rfl]
    refine Finset.sum_congr rfl fun h _ => Finset.sum_congr rfl fun c _ => ?_
    have : (⟨(h : ℕ) * 2 + c, by omega⟩ : Fin 16) = ⟨2 * h + c, by omega⟩ := Fin.ext (show (h : ℕ) * 2 + c = 2 * h + c by omega)
    rw [this]
  · rw [Fin.sum_univ_tiles 8 4 rfl]
    refine Finset.sum_congr rfl fun h _ => Finset.sum_congr rfl fun d _ => ?_
    have : (⟨(h : ℕ) * 4 + d, by omega⟩ : Fin 32) = ⟨4 * h + d, by omega⟩ := Fin.ext (show (h : ℕ) * 4 + d = 4 * h + d by omega)
    rw [this]

/-- The first rows of an output product are blades, the others scalars. -/
theorem outRow_orow_mv {P : ℕ} (B : Fin 9 → Fin 16 → Fin 16 → ℝ) (v : Fin 16 → Fin 16 → Fin 9 → ℝ) (vsm : Fin 16 → Fin 32 → ℝ)
    (vms : Fin P → Fin 16 → ℝ) (vss : Fin P → Fin 32 → ℝ) (y : Fin 16 → Fin 16 → ℝ) (z : Fin 32 → ℝ) (R : Fin 256) :
    outRow B v vsm vms vss y z (orow R) = rowOf (lin B v vsm y z) R :=
  outRow_mv _ _ _ _ _ _ _ _ _ _ (by rw [orow, if_pos R.isLt])
theorem outRow_orow_s (B : Fin 9 → Fin 16 → Fin 16 → ℝ) (v : Fin 16 → Fin 16 → Fin 9 → ℝ) (vsm : Fin 16 → Fin 32 → ℝ)
    (vms : Fin 32 → Fin 16 → ℝ) (vss : Fin 32 → Fin 32 → ℝ) (y : Fin 16 → Fin 16 → ℝ) (z : Fin 32 → ℝ) (d : Fin 32) :
    outRow B v vsm vms vss y z (orow (256 + d)) = linS vms vss y z d :=
  outRow_s _ _ _ _ _ _ _ _ _ (by rw [orow, if_neg (by omega)])

end Cert.Model

end
-- ==== Proof.Args.lean ====
module

public import proofs.«01_k».proof.Proof.Canon

@[expose] public section

noncomputable section

/-! The model's result as a function of real arguments. -/

namespace Cert.Model

/-- The arguments: the points, the input layer, the eight layers' weights and the readout. -/
structure Args where
  pts : Fin 8 → Fin 1024 → Fin 3 → ℝ
  win : Fin 16 → Fin 1 → Fin 9 → ℝ
  bs : Fin 32 → ℝ
  W : Fin 8 → Weights
  wo : Fin 1 → Fin 16 → Fin 9 → ℝ
  wos : Fin 1 → Fin 32 → ℝ

/-- The weights of layer `l`, the last layer's beyond the eighth. -/
def Args.layer (a : Args) (l : ℕ) : Weights := a.W ⟨min l 7, by omega⟩

theorem Args.layer_val (a : Args) (l : Fin 8) : a.layer l = a.W l := by
  unfold Args.layer; congr 1; ext; simp; omega

/-- The state of example `b` before layer `l`. -/
def Args.st (a : Args) (b : Fin 8) (l : ℕ) : Mv × Sc :=
  state tables a.layer (initMv tables.B a.win fun n => embed (a.pts b n)) (initS a.bs) l

/-- The result of example `b`. -/
def Args.out (a : Args) (b : Fin 8) : ℝ := readout tables.B a.wo a.wos (a.st b 8).1 (a.st b 8).2

end Cert.Model

end
-- ==== Proof.Ins.lean ====
module

public import proofs.«01_k».proof.Proof.Args
public import Idealize.ShloMosaic.PureOps.Ideal

@[expose] public section

noncomputable section

/-! The arguments as arrays, and the real numbers they hold. -/

namespace Cert.Model
open Idealize.ShloMosaic

/-- Every entry of the array is a real number. -/
def IsReal {s : Shape} (x : FVec Ideal s .f32) : Prop := ∀ i, ∃ r : ℝ, x i = ((r : ℝ) : EReal)

theorem IsReal.val {s : Shape} {x : FVec Ideal s .f32} (h : IsReal x) (i : s.Idx) : x i = (((x i : EReal).toReal : ℝ) : EReal) := by
  obtain ⟨r, e⟩ := h i
  rw [e]
  rfl

/-- The 22 argument arrays. -/
structure Ins where
  x0 : FVec Ideal ⟨3, ![8,1024,3]⟩ .f32
  x1 : FVec Ideal ⟨3, ![16,1,9]⟩ .f32
  x2 : FVec Ideal ⟨2, ![32,1]⟩ .f32
  x3 : FVec Ideal ⟨1, ![32]⟩ .f32
  x4 : FVec Ideal ⟨4, ![8,48,16,9]⟩ .f32
  x5 : FVec Ideal ⟨3, ![8,48,32]⟩ .f32
  x6 : FVec Ideal ⟨3, ![8,96,16]⟩ .f32
  x7 : FVec Ideal ⟨3, ![8,96,32]⟩ .f32
  x8 : FVec Ideal ⟨4, ![8,16,16,9]⟩ .f32
  x9 : FVec Ideal ⟨3, ![8,16,32]⟩ .f32
  x10 : FVec Ideal ⟨3, ![8,32,16]⟩ .f32
  x11 : FVec Ideal ⟨3, ![8,32,32]⟩ .f32
  x12 : FVec Ideal ⟨4, ![8,32,16,9]⟩ .f32
  x13 : FVec Ideal ⟨3, ![8,32,32]⟩ .f32
  x14 : FVec Ideal ⟨3, ![8,64,16]⟩ .f32
  x15 : FVec Ideal ⟨3, ![8,64,32]⟩ .f32
  x16 : FVec Ideal ⟨4, ![8,16,16,9]⟩ .f32
  x17 : FVec Ideal ⟨3, ![8,16,32]⟩ .f32
  x18 : FVec Ideal ⟨3, ![8,32,16]⟩ .f32
  x19 : FVec Ideal ⟨3, ![8,32,32]⟩ .f32
  x20 : FVec Ideal ⟨3, ![1,16,9]⟩ .f32
  x21 : FVec Ideal ⟨2, ![1,32]⟩ .f32

/-- Every entry of every argument is a real number. -/
structure Ins.Finite (X : Ins) : Prop where
  x0 : IsReal X.x0
  x1 : IsReal X.x1
  x2 : IsReal X.x2
  x3 : IsReal X.x3
  x4 : IsReal X.x4
  x5 : IsReal X.x5
  x6 : IsReal X.x6
  x7 : IsReal X.x7
  x8 : IsReal X.x8
  x9 : IsReal X.x9
  x10 : IsReal X.x10
  x11 : IsReal X.x11
  x12 : IsReal X.x12
  x13 : IsReal X.x13
  x14 : IsReal X.x14
  x15 : IsReal X.x15
  x16 : IsReal X.x16
  x17 : IsReal X.x17
  x18 : IsReal X.x18
  x19 : IsReal X.x19
  x20 : IsReal X.x20
  x21 : IsReal X.x21

/-- The real numbers the arguments hold. -/
def Ins.args (X : Ins) : Args where
  pts b n j := (X.x0 (ix3 b n j) : EReal).toReal
  win o i k := (X.x1 (ix3 o i k) : EReal).toReal
  bs d := (X.x3 (ix1 d) : EReal).toReal
  W l :=
    { qw o i k := (X.x4 (ix4 l o i k) : EReal).toReal
      qsm o i := (X.x5 (ix3 l o i) : EReal).toReal
      qms o i := (X.x6 (ix3 l o i) : EReal).toReal
      qss o i := (X.x7 (ix3 l o i) : EReal).toReal
      ow o i k := (X.x8 (ix4 l o i k) : EReal).toReal
      osm o i := (X.x9 (ix3 l o i) : EReal).toReal
      oms o i := (X.x10 (ix3 l o i) : EReal).toReal
      oss o i := (X.x11 (ix3 l o i) : EReal).toReal
      m1w o i k := (X.x12 (ix4 l o i k) : EReal).toReal
      m1sm o i := (X.x13 (ix3 l o i) : EReal).toReal
      m1ms o i := (X.x14 (ix3 l o i) : EReal).toReal
      m1ss o i := (X.x15 (ix3 l o i) : EReal).toReal
      m2w o i k := (X.x16 (ix4 l o i k) : EReal).toReal
      m2sm o i := (X.x17 (ix3 l o i) : EReal).toReal
      m2ms o i := (X.x18 (ix3 l o i) : EReal).toReal
      m2ss o i := (X.x19 (ix3 l o i) : EReal).toReal }
  wo o i k := (X.x20 (ix3 o i k) : EReal).toReal
  wos o d := (X.x21 (ix2 o d) : EReal).toReal

end Cert.Model

end
-- ==== Proof.Lift.lean ====
module

public import proofs.«01_k».proof.Proof.Model

@[expose] public section

noncomputable section

/-! Extended-real expressions of real operands, as reals. -/

namespace Cert.Lift

open Idealize.ShloMosaic

/-- A finite sum of reals, as extended reals, is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem add_coe (a b : ℝ) : (a : EReal) + (b : EReal) = ((a + b : ℝ) : EReal) := (EReal.coe_add a b).symm
theorem mul_coe (a b : ℝ) : (a : EReal) * (b : EReal) = ((a * b : ℝ) : EReal) := (EReal.coe_mul a b).symm
theorem sub_coe (a b : ℝ) : (a : EReal) - (b : EReal) = ((a - b : ℝ) : EReal) := (EReal.coe_sub a b).symm
theorem neg_coe (a : ℝ) : -(a : EReal) = ((-a : ℝ) : EReal) := (EReal.coe_neg a).symm
theorem sub_self_coe (a : ℝ) : (a : EReal) - (a : EReal) = ((0 : ℝ) : EReal) := by rw [sub_coe, sub_self]
theorem zero_coe : (0 : EReal) = ((0 : ℝ) : EReal) := rfl
theorem one_coe : (1 : EReal) = ((1 : ℝ) : EReal) := rfl
theorem exp_coe (a : ℝ) : Ideal.exp (a : EReal) = ((Real.exp a : ℝ) : EReal) := rfl
theorem tanh_coe (a : ℝ) : Ideal.tanh (a : EReal) = ((Real.tanh a : ℝ) : EReal) := rfl
theorem dite_coe {p : Prop} [Decidable p] (f : p → ℝ) (g : ¬p → ℝ) :
    (if h : p then ((f h : ℝ) : EReal) else ((g h : ℝ) : EReal)) = (((if h : p then f h else g h) : ℝ) : EReal) := by
  by_cases h : p <;> simp [h]
theorem ite_coe {p : Prop} [Decidable p] (a b : ℝ) :
    (if p then (a : EReal) else (b : EReal)) = (((if p then a else b) : ℝ) : EReal) := by
  by_cases h : p <;> simp [h]

theorem sqrt_coe {a : ℝ} (h : 0 ≤ a) : Ideal.sqrt (a : EReal) = ((Real.sqrt a : ℝ) : EReal) := by
  rw [Ideal.sqrt_coe, if_neg (not_lt.mpr h)]
theorem rsqrt_coe {a : ℝ} (h : 0 < a) : Ideal.rsqrt (a : EReal) = (((Real.sqrt a)⁻¹ : ℝ) : EReal) := by
  rw [Ideal.rsqrt_coe, if_neg (not_lt.mpr h.le), if_neg h.ne']
theorem div_coe (a : ℝ) {b : ℝ} (h : b ≠ 0) : Ideal.div (a : EReal) (b : EReal) = ((a / b : ℝ) : EReal) := by
  rw [Ideal.div_coe h, mul_coe, mul_one_div]

/-- The largest of finitely many reals is a real, and at least each of them. -/
theorem fold_max {ι : Type*} [DecidableEq ι] (s : Finset ι) (hs : s.Nonempty) (f : ι → ℝ) :
    ∃ M : ℝ, Finset.fold max (⊥ : EReal) (fun i => ((f i : ℝ) : EReal)) s = (M : EReal) ∧ ∀ i ∈ s, f i ≤ M := by
  induction hs using Finset.Nonempty.cons_induction with
  | singleton a => exact ⟨f a, by simp, by simp⟩
  | cons a s ha hs ih =>
    obtain ⟨M, hM, hle⟩ := ih
    refine ⟨max (f a) M, ?_, ?_⟩
    · rw [Finset.fold_cons, hM, EReal.coe_strictMono.monotone.map_max]
    · intro i hi
      rcases Finset.mem_cons.mp hi with rfl | hi
      · exact le_max_left _ _
      · exact (hle i hi).trans (le_max_right _ _)

theorem w_bot : Ideal.ofBits .f32 0xFF800000#32 = ⊥ := by simp [Ideal.ofBits, Ideal.ieee]
theorem w_one : Ideal.ofBits .f32 0x3F800000#32 = ((1 : ℝ) : EReal) := by
  simp [Ideal.ofBits, Ideal.ieee, -EReal.coe_mul]; norm_num
theorem w_neg_one : Ideal.ofBits .f32 0xBF800000#32 = ((-1 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_16 : Ideal.ofBits .f32 0x41800000#32 = ((16 : ℝ) : EReal) := by
  simp [Ideal.ofBits, Ideal.ieee, -EReal.coe_mul]; norm_num
theorem w_32 : Ideal.ofBits .f32 0x42000000#32 = ((32 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_16th : Ideal.ofBits .f32 0x3D800000#32 = ((1 / 16 : ℝ) : EReal) := by
  simp [Ideal.ofBits, Ideal.ieee, -EReal.coe_mul]; norm_num
theorem w_32nd : Ideal.ofBits .f32 0x3D000000#32 = ((1 / 32 : ℝ) : EReal) := by
  simp [Ideal.ofBits, Ideal.ieee, -EReal.coe_mul]; norm_num
theorem w_1024th : Ideal.ofBits .f32 0x3A800000#32 = ((1 / 1024 : ℝ) : EReal) := by
  simp [Ideal.ofBits, Ideal.ieee, -EReal.coe_mul]; norm_num
theorem w_eps : Ideal.ofBits .f32 0x358637BD#32 = ((Model.eps : ℝ) : EReal) := by
  simp [Ideal.ofBits, Ideal.ieee, -EReal.coe_mul, Model.eps]; norm_num
theorem w_qscale : Ideal.ofBits .f32 0x3E64F92E#32 = ((Model.qscale : ℝ) : EReal) := by
  simp [Ideal.ofBits, Ideal.ieee, -EReal.coe_mul, Model.qscale]; norm_num
theorem w_gc1 : Ideal.ofBits .f32 0x3F4C422A#32 = ((Model.gc1 : ℝ) : EReal) := by
  simp [Ideal.ofBits, Ideal.ieee, -EReal.coe_mul, Model.gc1]; norm_num
theorem w_gc2 : Ideal.ofBits .f32 0x3D372713#32 = ((Model.gc2 : ℝ) : EReal) := by
  simp [Ideal.ofBits, Ideal.ieee, -EReal.coe_mul, Model.gc2]; norm_num

theorem eps_pos : 0 < Model.eps := by norm_num [Model.eps]

end Cert.Lift

end
-- ==== Proof.KTake.lean ====
module

public import Idealize.ShloMosaic.Lib.Routing.OpsSet
public import Idealize.ShloMosaic.Lib.Pipeline.ValueKit
public import proofs.«01_k».proof.Proof.Lift

@[expose] public section

set_option maxRecDepth 16384

noncomputable section

/-! Reading the layout steps: rows or columns picked by a table, and a slice written at index zero. -/

namespace Cert.Layout
open Idealize.ShloMosaic

variable {α : Type}

/-- A conjunction over bits that are all set is set. -/
theorem reduce_and_one {s t u : Shape} {axes : List (Fin s.rank)} (x : IVec s 1) (v : IVec u 1) (h : s.ReducesTo axes t) (hu : 0 < u.numel)
    (hx : ∀ i, x i = 1#1) (hv : ∀ i, v i = 1#1) (j : t.Idx) : Host.reduce IntOp.andi x v h hu j = 1#1 := by
  unfold Host.reduce
  rw [hv]
  generalize ((List.finRange s.numel).filter fun n => h.drop (s.rowMajor.symm n) = j) = l
  induction l with
  | nil => rfl
  | cons a l ih => rw [List.foldl_cons, hx]; exact ih

theorem slt_zero (b : BitVec 32) (h : 0 ≤ b.toInt) : IntOp.cmpi .slt b 0#32 = 0#1 := by
  have : b.slt 0#32 = false := by
    rw [BitVec.slt_eq_decide, decide_eq_false_iff_not]
    simpa using h
  simp [IntOp.cmpi, this]
theorem sge_zero (b : BitVec 32) (h : 0 ≤ b.toInt) : IntOp.cmpi .sge b 0#32 = 1#1 := by
  have : (0#32).sle b = true := by
    rw [BitVec.sle_eq_decide, decide_eq_true_iff]
    simpa using h
  simp [IntOp.cmpi, this]
theorem sle_top (b M : BitVec 32) (h : b.toInt ≤ M.toInt) : IntOp.cmpi .sle b M = 1#1 := by
  have : b.sle M = true := by
    rw [BitVec.sle_eq_decide, decide_eq_true_iff]
    exact h
  simp [IntOp.cmpi, this]

section
variable {R : ℕ} (b0 : (⟨0, ![]⟩ : Shape).BroadcastsInDim ⟨1, ![R]⟩ ![]) (b1 : (⟨1, ![R]⟩ : Shape).BroadcastsInDim ⟨2, ![R, 1]⟩ ![0])
  (b2 : (⟨0, ![]⟩ : Shape).BroadcastsInDim ⟨2, ![R, 1]⟩ ![]) (b3 : (⟨1, ![1]⟩ : Shape).BroadcastsInDim ⟨2, ![1, 1]⟩ ![1])
  (b4 : (⟨2, ![1, 1]⟩ : Shape).BroadcastsInDim ⟨2, ![R, 1]⟩ ![0, 1]) (rd : (⟨2, ![R, 1]⟩ : Shape).ReducesTo [1] ⟨1, ![R]⟩)
  (h0 : 0 < (⟨0, ![]⟩ : Shape).numel) (n M : BitVec 32) (I : IVec ⟨1, ![R]⟩ 32)

/-- The table with its negative entries moved up by `n`. -/
def wrapIdx : IVec ⟨2, ![R, 1]⟩ 32 :=
  broadcastInDim ⟨2, ![R, 1]⟩ ![0] b1 (select (cmpi .slt I (broadcastInDim ⟨1, ![R]⟩ ![] b0 (constantI ⟨0, ![]⟩ 32 0#32)))
    (addi I (broadcastInDim ⟨1, ![R]⟩ ![] b0 (constantI ⟨0, ![]⟩ 32 n))) I)

/-- Which entries of the table lie between zero and `M`. -/
def inRange (J : IVec ⟨2, ![R, 1]⟩ 32) : IVec ⟨1, ![R]⟩ 1 :=
  Host.reduce IntOp.andi (andi (cmpi .sge J (broadcastInDim ⟨2, ![R, 1]⟩ ![] b2 (constantI ⟨0, ![]⟩ 32 0#32)))
    (cmpi .sle J (broadcastInDim ⟨2, ![R, 1]⟩ ![0, 1] b4 (broadcastInDim ⟨2, ![1, 1]⟩ ![1] b3 (constantI ⟨1, ![1]⟩ 32 M)))))
    (constantI ⟨0, ![]⟩ 1 1#1) rd h0

variable (hI : ∀ r, 0 ≤ (I r).toInt ∧ (I r).toInt ≤ M.toInt)
include hI

theorem wrapIdx_apply (r : Fin R) (k : Fin 1) : wrapIdx b0 b1 n I (ix2 r k) = I (ix1 r) := by
  refine (broadcastInDim_apply ![0] b1 _ (ix2 r k) (ix1 r) (fun a => by
    obtain rfl : a = 0 := Subsingleton.elim _ _
    show (r : ℕ) = if R = 1 then 0 else (r : ℕ)
    split
    · have := r.isLt; omega
    · rfl)).trans ?_
  show Scalar.select (IntOp.cmpi .slt (I (ix1 r)) 0#32) _ _ = _
  rw [slt_zero _ (hI _).1]
  rfl

theorem inRange_apply (r : (⟨1, ![R]⟩ : Shape).Idx) : inRange b2 b3 b4 rd h0 M (wrapIdx b0 b1 n I) r = 1#1 := by
  refine reduce_and_one _ _ _ _ (fun i => ?_) (fun i => rfl) r
  obtain ⟨i1, i2, rfl⟩ : ∃ (i1 : Fin R) (i2 : Fin 1), i = ix2 i1 i2 := ⟨i 0, i 1, by funext a; match a with | 0 => rfl | 1 => rfl⟩
  show IntOp.andi (IntOp.cmpi .sge (wrapIdx b0 b1 n I _) 0#32) (IntOp.cmpi .sle (wrapIdx b0 b1 n I _) M) = 1#1
  rw [wrapIdx_apply b0 b1 n M I hI, sge_zero _ (hI _).1, sle_top _ _ (hI _).2]
  rfl

end

section
variable {A N R C : ℕ}

/-- Rows picked along the middle axis: the dimension numbers. -/
abbrev rowDims (wf : GatherDims.WF ⟨3, ![A, N, C]⟩ ⟨2, ![R, 1]⟩ ⟨3, ![A, R, C]⟩ [0, 2] [1] [] [1] [] 1 ![A, 1, C]) :
    GatherDims ⟨3, ![A, N, C]⟩ ⟨2, ![R, 1]⟩ ⟨3, ![A, R, C]⟩ where
  offsetDims := [0, 2]
  collapsedSliceDims := [1]
  operandBatchingDims := []
  startIndicesBatchingDims := []
  startIndexMap := [1]
  indexVectorDim := 1
  sliceSizes := ![A, 1, C]
  wf := wf

theorem gather_rows (wf : GatherDims.WF ⟨3, ![A, N, C]⟩ ⟨2, ![R, 1]⟩ ⟨3, ![A, R, C]⟩ [0, 2] [1] [] [1] [] 1 ![A, 1, C])
    (x : (⟨3, ![A, N, C]⟩ : Shape).Idx → α) (J : IVec ⟨2, ![R, 1]⟩ 32) (l : Fin A) (r : Fin R) (c : Fin C) (q : Fin N)
    (hq : (J (ix2 r 0)).toInt = (q : ℕ)) : Host.gather (rowDims wf) x J (ix3 l r c) = x (ix3 l q c) := by
  unfold Host.gather
  refine congrArg x (funext fun a => Fin.ext ?_)
  show (rowDims wf).start (ix3 l r c) J a + (rowDims wf).batchCoord (ix3 l r c) a + (rowDims wf).offCoord (ix3 l r c) a = _
  rw [GatherDims.batchCoord_eq_zero _ _ _ List.not_mem_nil]
  match a with
  | 0 =>
    have h : (rowDims wf).start (ix3 l r c) J 0 = 0 := by
      unfold GatherDims.start
      exact dif_neg (fun h => absurd (List.mem_singleton.1 h) (by decide : ¬ (0 : Fin 3) = 1))
    rw [h]
    show 0 + 0 + (l : ℕ) = l
    omega
  | 1 =>
    have hsi : (rowDims wf).siIdx (ix3 l r c) ⟨List.idxOf (1 : Fin 3) (rowDims wf).startIndexMap,
        List.idxOf_lt_length_iff.2 (List.mem_singleton.mpr rfl)⟩ = ix2 r 0 := by
      funext b; refine Fin.ext ?_
      match b with
      | ⟨0, _⟩ => rfl
      | ⟨1, _⟩ => rfl
    have h : (rowDims wf).start (ix3 l r c) J 1 = min (q : ℕ) (N - 1) := by
      unfold GatherDims.start
      rw [dif_pos (show (1 : Fin 3) ∈ (rowDims wf).startIndexMap from List.mem_singleton.mpr rfl), hsi, hq]
      rfl
    rw [h]
    show min (q : ℕ) (N - 1) + 0 + 0 = q
    have := q.isLt
    omega
  | 2 =>
    have h : (rowDims wf).start (ix3 l r c) J 2 = 0 := by
      unfold GatherDims.start
      exact dif_neg (fun h => absurd (List.mem_singleton.1 h) (by decide : ¬ (2 : Fin 3) = 1))
    rw [h]
    show 0 + 0 + (c : ℕ) = c
    omega

/-- Columns picked along the last axis: the dimension numbers. -/
abbrev colDims (wf : GatherDims.WF ⟨3, ![A, C, N]⟩ ⟨2, ![R, 1]⟩ ⟨3, ![A, C, R]⟩ [0, 1] [2] [] [2] [] 1 ![A, C, 1]) :
    GatherDims ⟨3, ![A, C, N]⟩ ⟨2, ![R, 1]⟩ ⟨3, ![A, C, R]⟩ where
  offsetDims := [0, 1]
  collapsedSliceDims := [2]
  operandBatchingDims := []
  startIndicesBatchingDims := []
  startIndexMap := [2]
  indexVectorDim := 1
  sliceSizes := ![A, C, 1]
  wf := wf

theorem gather_cols (wf : GatherDims.WF ⟨3, ![A, C, N]⟩ ⟨2, ![R, 1]⟩ ⟨3, ![A, C, R]⟩ [0, 1] [2] [] [2] [] 1 ![A, C, 1])
    (x : (⟨3, ![A, C, N]⟩ : Shape).Idx → α) (J : IVec ⟨2, ![R, 1]⟩ 32) (l : Fin A) (r : Fin R) (c : Fin C) (q : Fin N)
    (hq : (J (ix2 r 0)).toInt = (q : ℕ)) : Host.gather (colDims wf) x J (ix3 l c r) = x (ix3 l c q) := by
  unfold Host.gather
  refine congrArg x (funext fun a => Fin.ext ?_)
  show (colDims wf).start (ix3 l c r) J a + (colDims wf).batchCoord (ix3 l c r) a + (colDims wf).offCoord (ix3 l c r) a = _
  rw [GatherDims.batchCoord_eq_zero _ _ _ List.not_mem_nil]
  match a with
  | 0 =>
    have h : (colDims wf).start (ix3 l c r) J 0 = 0 := by
      unfold GatherDims.start
      exact dif_neg (fun h => absurd (List.mem_singleton.1 h) (by decide : ¬ (0 : Fin 3) = 2))
    rw [h]
    show 0 + 0 + (l : ℕ) = l
    omega
  | 1 =>
    have h : (colDims wf).start (ix3 l c r) J 1 = 0 := by
      unfold GatherDims.start
      exact dif_neg (fun h => absurd (List.mem_singleton.1 h) (by decide : ¬ (1 : Fin 3) = 2))
    rw [h]
    show 0 + 0 + (c : ℕ) = c
    omega
  | 2 =>
    have hsi : (colDims wf).siIdx (ix3 l c r) ⟨List.idxOf (2 : Fin 3) (colDims wf).startIndexMap,
        List.idxOf_lt_length_iff.2 (List.mem_singleton.mpr rfl)⟩ = ix2 r 0 := by
      funext b; refine Fin.ext ?_
      match b with
      | ⟨0, _⟩ => rfl
      | ⟨1, _⟩ => rfl
    have h : (colDims wf).start (ix3 l c r) J 2 = min (q : ℕ) (N - 1) := by
      unfold GatherDims.start
      rw [dif_pos (show (2 : Fin 3) ∈ (colDims wf).startIndexMap from List.mem_singleton.mpr rfl), hsi, hq]
      rfl
    rw [h]
    show min (q : ℕ) (N - 1) + 0 + 0 = q
    have := q.isLt
    omega

end

section
variable {A P B C : ℕ}

/-- A slice written at one position of the third axis: the dimension numbers. -/
abbrev setDims (wf : ScatterDims.WF ⟨4, ![A, P, B, C]⟩ ⟨1, ![1]⟩ ⟨3, ![A, P, C]⟩ [0, 1, 2] [2] [2] 0) :
    ScatterDims ⟨4, ![A, P, B, C]⟩ ⟨1, ![1]⟩ ⟨3, ![A, P, C]⟩ where
  updateWindowDims := [0, 1, 2]
  insertedWindowDims := [2]
  scatterDimsToOperandDims := [2]
  indexVectorDim := 0
  wf := wf

theorem setDims_lands (wf : ScatterDims.WF ⟨4, ![A, P, B, C]⟩ ⟨1, ![1]⟩ ⟨3, ![A, P, C]⟩ [0, 1, 2] [2] [2] 0) (hB : 0 < B)
    (J : IVec ⟨1, ![1]⟩ 32) (hJ : ∀ i, J i = 0#32) (l : Fin A) (p : Fin P) (c : Fin C) :
    (setDims wf).resultIdx? (ix3 l p c) J = some (ix4 l p ⟨0, hB⟩ c) := by
  have hs : ∀ a, (setDims wf).start (ix3 l p c) J a = 0 := fun a => by
    unfold ScatterDims.start
    split
    · rw [hJ]; rfl
    · rfl
  have h : ∀ a, ((setDims wf).window (ix3 l p c) a : ℕ) = (ix4 l p ⟨0, hB⟩ c : (⟨4, ![A, P, B, C]⟩ : Shape).Idx) a := fun a => by
    match a with
    | 0 => rfl
    | 1 => rfl
    | 2 => rfl
    | 3 => rfl
  unfold ScatterDims.resultIdx?
  rw [dif_pos (fun a => by rw [hs, h]; have := ((ix4 l p ⟨0, hB⟩ c : (⟨4, ![A, P, B, C]⟩ : Shape).Idx) a).isLt; omega)]
  refine congrArg some (funext fun a => Fin.ext ?_)
  show ((setDims wf).start (ix3 l p c) J a + (setDims wf).window (ix3 l p c) a).toNat = _
  rw [hs, h]
  simp

/-- The slice at position zero is the written one, the others are the operand's. -/
theorem set_zero (wf : ScatterDims.WF ⟨4, ![A, P, B, C]⟩ ⟨1, ![1]⟩ ⟨3, ![A, P, C]⟩ [0, 1, 2] [2] [2] 0)
    (x : (⟨4, ![A, P, B, C]⟩ : Shape).Idx → α) (J : IVec ⟨1, ![1]⟩ 32) (hJ : ∀ i, J i = 0#32) (u : (⟨3, ![A, P, C]⟩ : Shape).Idx → α)
    (l : Fin A) (p : Fin P) (b : Fin B) (c : Fin C) :
    Host.scatter (setDims wf) (fun _ b => b) x J u (ix4 l p b c) = if (b : ℕ) = 0 then u (ix3 l p c) else x (ix4 l p b c) := by
  have hB : 0 < B := lt_of_le_of_lt (Nat.zero_le _) b.isLt
  have key : ∀ k : (⟨3, ![A, P, C]⟩ : Shape).Idx, (setDims wf).resultIdx? k J = some (ix4 l p b c) → k = ix3 l p c ∧ (b : ℕ) = 0 := fun k hk => by
    obtain ⟨k1, k2, k3, rfl⟩ : ∃ (k1 : Fin A) (k2 : Fin P) (k3 : Fin C), k = ix3 k1 k2 k3 :=
      ⟨k 0, k 1, k 2, by funext a; match a with | 0 => rfl | 1 => rfl | 2 => rfl⟩
    rw [setDims_lands wf hB J hJ] at hk
    have e := Option.some.inj hk
    have e0 : k1 = l := congrFun e 0
    have e1 : k2 = p := congrFun e 1
    have e2 : (⟨0, hB⟩ : Fin B) = b := congrFun e 2
    have e3 : k3 = c := congrFun e 3
    subst e0 e1 e3
    exact ⟨rfl, (congrArg Fin.val e2).symm⟩
  split
  · rename_i h
    refine Routing.scatter_set_hit _ x J u _ _ (fun k hk => congrArg u (key k hk).1) (ix3 l p c) ?_
    rw [setDims_lands wf hB J hJ]
    refine congrArg some ?_
    have : (⟨0, hB⟩ : Fin B) = b := Fin.ext h.symm
    rw [this]
  · rename_i h
    exact Routing.scatter_set_miss _ x J u _ (fun k hk => h (key k hk).2)

end

section
variable {B C : ℕ}

/-- A row written at one position of the first axis: the dimension numbers. -/
abbrev setRowDims (wf : ScatterDims.WF ⟨2, ![B, C]⟩ ⟨1, ![1]⟩ ⟨1, ![C]⟩ [0] [0] [0] 0) : ScatterDims ⟨2, ![B, C]⟩ ⟨1, ![1]⟩ ⟨1, ![C]⟩ where
  updateWindowDims := [0]
  insertedWindowDims := [0]
  scatterDimsToOperandDims := [0]
  indexVectorDim := 0
  wf := wf

theorem setRowDims_lands (wf : ScatterDims.WF ⟨2, ![B, C]⟩ ⟨1, ![1]⟩ ⟨1, ![C]⟩ [0] [0] [0] 0) (hB : 0 < B)
    (J : IVec ⟨1, ![1]⟩ 32) (hJ : ∀ i, J i = 0#32) (c : Fin C) :
    (setRowDims wf).resultIdx? (ix1 c) J = some (ix2 ⟨0, hB⟩ c) := by
  have hs : ∀ a, (setRowDims wf).start (ix1 c) J a = 0 := fun a => by
    unfold ScatterDims.start
    split
    · rw [hJ]; rfl
    · rfl
  have h : ∀ a, ((setRowDims wf).window (ix1 c) a : ℕ) = (ix2 ⟨0, hB⟩ c : (⟨2, ![B, C]⟩ : Shape).Idx) a := fun a => by
    match a with
    | 0 => rfl
    | 1 => rfl
  unfold ScatterDims.resultIdx?
  rw [dif_pos (fun a => by rw [hs, h]; have := ((ix2 ⟨0, hB⟩ c : (⟨2, ![B, C]⟩ : Shape).Idx) a).isLt; omega)]
  refine congrArg some (funext fun a => Fin.ext ?_)
  show ((setRowDims wf).start (ix1 c) J a + (setRowDims wf).window (ix1 c) a).toNat = _
  rw [hs, h]
  simp

/-- Row zero is the written one. -/
theorem set_row (wf : ScatterDims.WF ⟨2, ![B, C]⟩ ⟨1, ![1]⟩ ⟨1, ![C]⟩ [0] [0] [0] 0) (hB : 0 < B)
    (x : (⟨2, ![B, C]⟩ : Shape).Idx → α) (J : IVec ⟨1, ![1]⟩ 32) (hJ : ∀ i, J i = 0#32) (u : (⟨1, ![C]⟩ : Shape).Idx → α) (c : Fin C) :
    Host.scatter (setRowDims wf) (fun _ b => b) x J u (ix2 ⟨0, hB⟩ c) = u (ix1 c) := by
  refine Routing.scatter_set_hit _ x J u _ _ (fun k hk => ?_) (ix1 c) (setRowDims_lands wf hB J hJ c)
  obtain ⟨k1, rfl⟩ : ∃ k1 : Fin C, k = ix1 k1 := ⟨k 0, by funext a; match a with | 0 => rfl⟩
  rw [setRowDims_lands wf hB J hJ] at hk
  have e1 : k1 = c := congrFun (Option.some.inj hk) 1
  rw [e1]

end

end Cert.Layout

end
-- ==== Proof.KCanon.lean ====
module

public import proofs.«01_k».proof.Proof.KTake
public import proofs.«01_k».proof.Proof.Canon

@[expose] public section

set_option maxRecDepth 16384

noncomputable section

/-! A linear layer's two matrices as the kernel assembles them: concatenated, padded with a zero row and picked apart. -/

namespace Cert.Layout
open Idealize.ShloMosaic
open Cert.Model (eff canX canS)

section
variable {α : Type} {A T T1 T2 C : ℕ}

theorem concat_mid (x : (⟨3, ![A, T1, C]⟩ : Shape).Idx → α) (y : (⟨3, ![A, T2, C]⟩ : Shape).Idx → α)
    (h : Shape.Concatenates [⟨3, ![A, T1, C]⟩, ⟨3, ![A, T2, C]⟩] ⟨3, ![A, T, C]⟩ 1) (hT : T = T1 + T2) (l : Fin A) (r : Fin T) (c : Fin C) :
    concatenate ⟨3, ![A, T, C]⟩ 1 [⟨⟨3, ![A, T1, C]⟩, x⟩, ⟨⟨3, ![A, T2, C]⟩, y⟩] h (ix3 l r c) =
      if hr : (r : ℕ) < T1 then x (ix3 l ⟨r, hr⟩ c) else y (ix3 l ⟨r - T1, by omega⟩ c) := by
  split
  · rename_i hr
    refine concatenate_pair_apply_left 1 x y h _ rfl _ fun b => ?_
    match b with
    | 0 => rfl
    | 1 => rfl
    | 2 => rfl
  · rename_i hr
    refine concatenate_pair_apply_right 1 x y h _ rfl rfl _ (fun b hb => ?_) ?_
    · match b with
      | 0 => rfl
      | 1 => exact absurd rfl hb
      | 2 => rfl
    · show (r : ℕ) - T1 + T1 = r
      omega

theorem concat_last (x : (⟨3, ![A, C, T1]⟩ : Shape).Idx → α) (y : (⟨3, ![A, C, T2]⟩ : Shape).Idx → α)
    (h : Shape.Concatenates [⟨3, ![A, C, T1]⟩, ⟨3, ![A, C, T2]⟩] ⟨3, ![A, C, T]⟩ 2) (hT : T = T1 + T2) (l : Fin A) (r : Fin T) (c : Fin C) :
    concatenate ⟨3, ![A, C, T]⟩ 2 [⟨⟨3, ![A, C, T1]⟩, x⟩, ⟨⟨3, ![A, C, T2]⟩, y⟩] h (ix3 l c r) =
      if hr : (r : ℕ) < T1 then x (ix3 l c ⟨r, hr⟩) else y (ix3 l c ⟨r - T1, by omega⟩) := by
  split
  · rename_i hr
    refine concatenate_pair_apply_left 2 x y h _ rfl _ fun b => ?_
    match b with
    | 0 => rfl
    | 1 => rfl
    | 2 => rfl
  · rename_i hr
    refine concatenate_pair_apply_right 2 x y h _ rfl rfl _ (fun b hb => ?_) ?_
    · match b with
      | 0 => rfl
      | 1 => rfl
      | 2 => exact absurd rfl hb
    · show (r : ℕ) - T1 + T1 = r
      omega

end

/-- An array of zeros. -/
def zeros (t : Shape) (h : (⟨0, ![]⟩ : Shape).BroadcastsInDim t ![]) : FVec Ideal t .f32 :=
  broadcastInDim t ![] h (constant ⟨0, ![]⟩ .f32 0x00000000#32)

theorem zeros_apply (t : Shape) (h : (⟨0, ![]⟩ : Shape).BroadcastsInDim t ![]) (i : t.Idx) : zeros t h i = ((0 : ℝ) : EReal) := by
  unfold zeros
  pointwise
  rfl

section
variable {A T T' C R : ℕ}

/-- A matrix stack with a zero row added. -/
def padRow (bz : (⟨0, ![]⟩ : Shape).BroadcastsInDim ⟨3, ![A, 1, C]⟩ ![])
    (h : Shape.Concatenates [⟨3, ![A, T, C]⟩, ⟨3, ![A, 1, C]⟩] ⟨3, ![A, T', C]⟩ 1) (x : FVec Ideal ⟨3, ![A, T, C]⟩ .f32) : FVec Ideal ⟨3, ![A, T', C]⟩ .f32 :=
  concatenate ⟨3, ![A, T', C]⟩ 1 [⟨⟨3, ![A, T, C]⟩, x⟩, ⟨⟨3, ![A, 1, C]⟩, zeros ⟨3, ![A, 1, C]⟩ bz⟩] h

theorem padRow_real (bz) (h) (x : FVec Ideal ⟨3, ![A, T, C]⟩ .f32) (hT : T' = T + 1) (f : Fin A → ℕ → Fin C → ℝ)
    (hx : ∀ (l : Fin A) (r : Fin T) (c : Fin C), x (ix3 l r c) = ((f l r c : ℝ) : EReal)) (h0 : ∀ l c, f l T c = 0)
    (l : Fin A) (r : Fin T') (c : Fin C) : padRow bz h x (ix3 l r c) = ((f l r c : ℝ) : EReal) := by
  unfold padRow
  rw [concat_mid _ _ h hT]
  split
  · exact hx _ _ _
  · rename_i hr
    have : (r : ℕ) = T := by omega
    rw [zeros_apply, this, h0]

/-- A matrix stack with a zero column added. -/
def padCol (bz : (⟨0, ![]⟩ : Shape).BroadcastsInDim ⟨3, ![A, C, 1]⟩ ![])
    (h : Shape.Concatenates [⟨3, ![A, C, T]⟩, ⟨3, ![A, C, 1]⟩] ⟨3, ![A, C, T']⟩ 2) (x : FVec Ideal ⟨3, ![A, C, T]⟩ .f32) : FVec Ideal ⟨3, ![A, C, T']⟩ .f32 :=
  concatenate ⟨3, ![A, C, T']⟩ 2 [⟨⟨3, ![A, C, T]⟩, x⟩, ⟨⟨3, ![A, C, 1]⟩, zeros ⟨3, ![A, C, 1]⟩ bz⟩] h

theorem padCol_real (bz) (h) (x : FVec Ideal ⟨3, ![A, C, T]⟩ .f32) (hT : T' = T + 1) (f : Fin A → Fin C → ℕ → ℝ)
    (hx : ∀ (l : Fin A) (c : Fin C) (r : Fin T), x (ix3 l c r) = ((f l c r : ℝ) : EReal)) (h0 : ∀ l c, f l c T = 0)
    (l : Fin A) (c : Fin C) (r : Fin T') : padCol bz h x (ix3 l c r) = ((f l c r : ℝ) : EReal) := by
  unfold padCol
  rw [concat_last _ _ h hT]
  split
  · exact hx _ _ _
  · rename_i hr
    have : (r : ℕ) = T := by omega
    rw [zeros_apply, this, h0]

section
variable (b0 : (⟨0, ![]⟩ : Shape).BroadcastsInDim ⟨1, ![R]⟩ ![]) (b1 : (⟨1, ![R]⟩ : Shape).BroadcastsInDim ⟨2, ![R, 1]⟩ ![0])
  (b2 : (⟨0, ![]⟩ : Shape).BroadcastsInDim ⟨2, ![R, 1]⟩ ![]) (b3 : (⟨1, ![1]⟩ : Shape).BroadcastsInDim ⟨2, ![1, 1]⟩ ![1])
  (b4 : (⟨2, ![1, 1]⟩ : Shape).BroadcastsInDim ⟨2, ![R, 1]⟩ ![0, 1]) (rd : (⟨2, ![R, 1]⟩ : Shape).ReducesTo [1] ⟨1, ![R]⟩)
  (h0 : 0 < (⟨0, ![]⟩ : Shape).numel) (n M : BitVec 32) (I : IVec ⟨1, ![R]⟩ 32)

/-- Rows picked by the table. -/
def takeRows (b5 : (⟨1, ![R]⟩ : Shape).BroadcastsInDim ⟨3, ![A, R, C]⟩ ![1]) (b6 : (⟨0, ![]⟩ : Shape).BroadcastsInDim ⟨3, ![A, R, C]⟩ ![])
    (wf : GatherDims.WF ⟨3, ![A, T, C]⟩ ⟨2, ![R, 1]⟩ ⟨3, ![A, R, C]⟩ [0, 2] [1] [] [1] [] 1 ![A, 1, C])
    (x : FVec Ideal ⟨3, ![A, T, C]⟩ .f32) : FVec Ideal ⟨3, ![A, R, C]⟩ .f32 :=
  select (broadcastInDim ⟨3, ![A, R, C]⟩ ![1] b5 (inRange b2 b3 b4 rd h0 M (wrapIdx b0 b1 n I)))
    (Host.gather (rowDims wf) x (wrapIdx b0 b1 n I)) (broadcastInDim ⟨3, ![A, R, C]⟩ ![] b6 (constant ⟨0, ![]⟩ .f32 0x7FC00000#32))

theorem takeRows_real (b5) (b6) (wf) (x : FVec Ideal ⟨3, ![A, T, C]⟩ .f32) (σ : ℕ → ℕ) (hσ : ∀ r : Fin R, (I (ix1 r)).toInt = σ r)
    (hM : ∀ r : Fin R, (σ r : ℤ) ≤ M.toInt) (hT : M.toInt < T) (f : Fin A → ℕ → Fin C → ℝ)
    (hx : ∀ (l : Fin A) (r : Fin T) (c : Fin C), x (ix3 l r c) = ((f l r c : ℝ) : EReal)) (l : Fin A) (r : Fin R) (c : Fin C) :
    takeRows b0 b1 b2 b3 b4 rd h0 n M I b5 b6 wf x (ix3 l r c) = ((f l (σ r) c : ℝ) : EReal) := by
  have hI : ∀ r, 0 ≤ (I r).toInt ∧ (I r).toInt ≤ M.toInt := fun i => by
    obtain ⟨r, rfl⟩ : ∃ r : Fin R, i = ix1 r := ⟨i 0, by funext a; match a with | 0 => rfl⟩
    rw [hσ]
    exact ⟨by omega, hM r⟩
  show Scalar.select (inRange b2 b3 b4 rd h0 M (wrapIdx b0 b1 n I) _) _ _ = _
  rw [inRange_apply b0 b1 b2 b3 b4 rd h0 n M I hI]
  show Host.gather (rowDims wf) x (wrapIdx b0 b1 n I) (ix3 l r c) = _
  have hr := hM r
  rw [gather_rows wf x _ l r c ⟨σ r, by omega⟩ (by rw [wrapIdx_apply b0 b1 n M I hI]; exact hσ r)]
  exact hx _ _ _

/-- Columns picked by the table. -/
def takeCols (b5 : (⟨1, ![R]⟩ : Shape).BroadcastsInDim ⟨3, ![A, C, R]⟩ ![2]) (b6 : (⟨0, ![]⟩ : Shape).BroadcastsInDim ⟨3, ![A, C, R]⟩ ![])
    (wf : GatherDims.WF ⟨3, ![A, C, T]⟩ ⟨2, ![R, 1]⟩ ⟨3, ![A, C, R]⟩ [0, 1] [2] [] [2] [] 1 ![A, C, 1])
    (x : FVec Ideal ⟨3, ![A, C, T]⟩ .f32) : FVec Ideal ⟨3, ![A, C, R]⟩ .f32 :=
  select (broadcastInDim ⟨3, ![A, C, R]⟩ ![2] b5 (inRange b2 b3 b4 rd h0 M (wrapIdx b0 b1 n I)))
    (Host.gather (colDims wf) x (wrapIdx b0 b1 n I)) (broadcastInDim ⟨3, ![A, C, R]⟩ ![] b6 (constant ⟨0, ![]⟩ .f32 0x7FC00000#32))

theorem takeCols_real (b5) (b6) (wf) (x : FVec Ideal ⟨3, ![A, C, T]⟩ .f32) (σ : ℕ → ℕ) (hσ : ∀ r : Fin R, (I (ix1 r)).toInt = σ r)
    (hM : ∀ r : Fin R, (σ r : ℤ) ≤ M.toInt) (hT : M.toInt < T) (f : Fin A → Fin C → ℕ → ℝ)
    (hx : ∀ (l : Fin A) (c : Fin C) (r : Fin T), x (ix3 l c r) = ((f l c r : ℝ) : EReal)) (l : Fin A) (c : Fin C) (r : Fin R) :
    takeCols b0 b1 b2 b3 b4 rd h0 n M I b5 b6 wf x (ix3 l c r) = ((f l c (σ r) : ℝ) : EReal) := by
  have hI : ∀ r, 0 ≤ (I r).toInt ∧ (I r).toInt ≤ M.toInt := fun i => by
    obtain ⟨r, rfl⟩ : ∃ r : Fin R, i = ix1 r := ⟨i 0, by funext a; match a with | 0 => rfl⟩
    rw [hσ]
    exact ⟨by omega, hM r⟩
  show Scalar.select (inRange b2 b3 b4 rd h0 M (wrapIdx b0 b1 n I) _) _ _ = _
  rw [inRange_apply b0 b1 b2 b3 b4 rd h0 n M I hI]
  show Host.gather (colDims wf) x (wrapIdx b0 b1 n I) (ix3 l c r) = _
  have hr := hM r
  rw [gather_cols wf x _ l r c ⟨σ r, by omega⟩ (by rw [wrapIdx_apply b0 b1 n M I hI]; exact hσ r)]
  exact hx _ _ _

end

end

section
variable {O OA P T : ℕ}

/-- The matrix over the multivector rows: `D` is the layer's blade matrices, `v` its scalar outputs' weights on the scalar blade. -/
def matX (tr : (⟨5, ![16, 16, 8, O, 16]⟩ : Shape).Transposes [2, 3, 0, 1, 4] ⟨5, ![8, O, 16, 16, 16]⟩)
    (sc : (⟨5, ![8, O, 16, 16, 16]⟩ : Shape).ShapeCasts ⟨3, ![8, OA, 256]⟩) (bz : (⟨0, ![]⟩ : Shape).BroadcastsInDim ⟨4, ![8, P, 16, 16]⟩ ![])
    (bi : (⟨0, ![]⟩ : Shape).BroadcastsInDim ⟨1, ![1]⟩ ![])
    (wf : ScatterDims.WF ⟨4, ![8, P, 16, 16]⟩ ⟨1, ![1]⟩ ⟨3, ![8, P, 16]⟩ [0, 1, 2] [2] [2] 0)
    (sc' : (⟨4, ![8, P, 16, 16]⟩ : Shape).ShapeCasts ⟨3, ![8, P, 256]⟩)
    (cc : Shape.Concatenates [⟨3, ![8, OA, 256]⟩, ⟨3, ![8, P, 256]⟩] ⟨3, ![8, T, 256]⟩ 1)
    (D : FVec Ideal ⟨5, ![16, 16, 8, O, 16]⟩ .f32) (v : FVec Ideal ⟨3, ![8, P, 16]⟩ .f32) : FVec Ideal ⟨3, ![8, T, 256]⟩ .f32 :=
  concatenate ⟨3, ![8, T, 256]⟩ 1 [⟨⟨3, ![8, OA, 256]⟩, shapeCast ⟨3, ![8, OA, 256]⟩ (transpose ⟨5, ![8, O, 16, 16, 16]⟩ [2, 3, 0, 1, 4] D tr) sc⟩,
    ⟨⟨3, ![8, P, 256]⟩, shapeCast ⟨3, ![8, P, 256]⟩ (Host.scatter (setDims wf) (fun _ b => b) (zeros ⟨4, ![8, P, 16, 16]⟩ bz)
      (broadcastInDim ⟨1, ![1]⟩ ![] bi (constantI ⟨0, ![]⟩ 32 0#32)) v) sc'⟩] cc

theorem matX_real (tr) (sc : (⟨5, ![8, O, 16, 16, 16]⟩ : Shape).ShapeCasts ⟨3, ![8, OA, 256]⟩) (bz) (bi) (wf) (sc') (cc : Shape.Concatenates [⟨3, ![8, OA, 256]⟩, ⟨3, ![8, P, 256]⟩] ⟨3, ![8, T, 256]⟩ 1) (D : FVec Ideal ⟨5, ![16, 16, 8, O, 16]⟩ .f32) (v : FVec Ideal ⟨3, ![8, P, 16]⟩ .f32)
    (hO : OA = 16 * O) (hT : T = OA + P) (B : Fin 9 → Fin 16 → Fin 16 → ℝ) (w : Fin 8 → Fin O → Fin 16 → Fin 9 → ℝ) (wms : Fin 8 → Fin P → Fin 16 → ℝ)
    (hD : ∀ (a b : Fin 16) (l : Fin 8) (o : Fin O) (i : Fin 16), D (ix5 a b l o i) = ((eff B (w l) o i a b : ℝ) : EReal))
    (hv : ∀ (l : Fin 8) (p : Fin P) (i : Fin 16), v (ix3 l p i) = ((wms l p i : ℝ) : EReal)) (l : Fin 8) (r : Fin T) (c : Fin 256) :
    matX tr sc bz bi wf sc' cc D v (ix3 l r c) = ((canX B (w l) (wms l) r c : ℝ) : EReal) := by
  unfold matX
  rw [concat_mid _ _ cc hT]
  split
  · rename_i hr
    have hr' : (r : ℕ) < 16 * O := by omega
    rw [canX, dif_pos hr', ← hD]
    refine (shapeCast_apply _ sc _ (ix5 l ⟨r / 16, by omega⟩ ⟨r % 16, Nat.mod_lt _ (by norm_num)⟩ ⟨c / 16, by omega⟩ ⟨c % 16, Nat.mod_lt _ (by norm_num)⟩) ?_).trans ?_
    · rw [Shape.rowMajor_val_five, Shape.rowMajor_val_three]
      show (((l.val * O + r.val / 16) * 16 + r.val % 16) * 16 + c.val / 16) * 16 + c.val % 16 = (l.val * OA + r.val) * 256 + c.val
      have e : l.val * OA = l.val * O * 16 := by rw [hO]; ring
      rw [e]
      generalize l.val * O = z
      omega
    · refine transpose_apply _ D tr _ _ fun b => ?_
      match b with
      | 0 => rfl
      | 1 => rfl
      | 2 => rfl
      | 3 => rfl
      | 4 => rfl
  · rename_i hr
    have hr' : ¬ (r : ℕ) < 16 * O := by omega
    have hp : (r : ℕ) - 16 * O < P := by omega
    rw [canX, dif_neg hr', dif_pos hp]
    refine (shapeCast_apply _ sc' _ (ix4 l ⟨r - 16 * O, hp⟩ ⟨c / 16, by omega⟩ ⟨c % 16, Nat.mod_lt _ (by norm_num)⟩) ?_).trans ?_
    · rw [Shape.rowMajor_val_four, Shape.rowMajor_val_three]
      show ((l.val * P + (r.val - 16 * O)) * 16 + c.val / 16) * 16 + c.val % 16 = (l.val * P + (r.val - OA)) * 256 + c.val
      rw [hO]
      omega
    · refine (set_zero wf _ _ (fun i => rfl) v _ _ _ _).trans ?_
      show (if (c : ℕ) / 16 = 0 then _ else _) = _
      split
      · exact hv _ _ _
      · exact zeros_apply _ _ _

/-- The matrix over the scalars. -/
def matS (bz : (⟨0, ![]⟩ : Shape).BroadcastsInDim ⟨4, ![8, O, 16, 32]⟩ ![])
    (bi : (⟨0, ![]⟩ : Shape).BroadcastsInDim ⟨1, ![1]⟩ ![])
    (wf : ScatterDims.WF ⟨4, ![8, O, 16, 32]⟩ ⟨1, ![1]⟩ ⟨3, ![8, O, 32]⟩ [0, 1, 2] [2] [2] 0)
    (sc' : (⟨4, ![8, O, 16, 32]⟩ : Shape).ShapeCasts ⟨3, ![8, OA, 32]⟩)
    (cc : Shape.Concatenates [⟨3, ![8, OA, 32]⟩, ⟨3, ![8, P, 32]⟩] ⟨3, ![8, T, 32]⟩ 1)
    (u : FVec Ideal ⟨3, ![8, O, 32]⟩ .f32) (v : FVec Ideal ⟨3, ![8, P, 32]⟩ .f32) : FVec Ideal ⟨3, ![8, T, 32]⟩ .f32 :=
  concatenate ⟨3, ![8, T, 32]⟩ 1 [⟨⟨3, ![8, OA, 32]⟩, shapeCast ⟨3, ![8, OA, 32]⟩ (Host.scatter (setDims wf) (fun _ b => b) (zeros ⟨4, ![8, O, 16, 32]⟩ bz)
      (broadcastInDim ⟨1, ![1]⟩ ![] bi (constantI ⟨0, ![]⟩ 32 0#32)) u) sc'⟩, ⟨⟨3, ![8, P, 32]⟩, v⟩] cc

theorem matS_real (bz) (bi) (wf) (sc' : (⟨4, ![8, O, 16, 32]⟩ : Shape).ShapeCasts ⟨3, ![8, OA, 32]⟩) (cc : Shape.Concatenates [⟨3, ![8, OA, 32]⟩, ⟨3, ![8, P, 32]⟩] ⟨3, ![8, T, 32]⟩ 1) (u : FVec Ideal ⟨3, ![8, O, 32]⟩ .f32) (v : FVec Ideal ⟨3, ![8, P, 32]⟩ .f32)
    (hO : OA = 16 * O) (hT : T = OA + P) (wsm : Fin 8 → Fin O → Fin 32 → ℝ) (wss : Fin 8 → Fin P → Fin 32 → ℝ)
    (hu : ∀ (l : Fin 8) (o : Fin O) (d : Fin 32), u (ix3 l o d) = ((wsm l o d : ℝ) : EReal))
    (hv : ∀ (l : Fin 8) (p : Fin P) (d : Fin 32), v (ix3 l p d) = ((wss l p d : ℝ) : EReal)) (l : Fin 8) (r : Fin T) (d : Fin 32) :
    matS bz bi wf sc' cc u v (ix3 l r d) = ((canS (wsm l) (wss l) r d : ℝ) : EReal) := by
  unfold matS
  rw [concat_mid _ _ cc hT]
  split
  · rename_i hr
    have hr' : (r : ℕ) < 16 * O := by omega
    rw [canS, dif_pos hr']
    refine (shapeCast_apply _ sc' _ (ix4 l ⟨r / 16, by omega⟩ ⟨r % 16, Nat.mod_lt _ (by norm_num)⟩ d) ?_).trans ?_
    · rw [Shape.rowMajor_val_four, Shape.rowMajor_val_three]
      show ((l.val * O + r.val / 16) * 16 + r.val % 16) * 32 + d.val = (l.val * OA + r.val) * 32 + d.val
      have e : l.val * OA = l.val * O * 16 := by rw [hO]; ring
      rw [e]
      generalize l.val * O = z
      omega
    · refine (set_zero wf _ _ (fun i => rfl) u _ _ _ _).trans ?_
      show (if (r : ℕ) % 16 = 0 then _ else _) = _
      split
      · exact hu _ _ _
      · exact zeros_apply _ _ _
  · rename_i hr
    have hr' : ¬ (r : ℕ) < 16 * O := by omega
    have hp : (r : ℕ) - 16 * O < P := by omega
    rw [canS, dif_neg hr', dif_pos hp, ← hv]
    refine congrArg v (congrArg (ix3 l · d) (Fin.ext ?_))
    show (r : ℕ) - OA = r - 16 * O
    omega

end

end Cert.Layout

end
-- ==== Proof.Words.lean ====
module

public import proofs.«01_k».proof.Proof.Lift
public import proofs.«01_k».proof.Proof.Tables

@[expose] public section

set_option maxRecDepth 16384

noncomputable section

/-! The words of the constants minus one, zero and one. -/

namespace Cert.Model
open Idealize.ShloMosaic

/-- The word of a table entry. -/
def word (z : ℤ) : BitVec 32 := if z = 0 then 0x00000000#32 else if z = 1 then 0x3F800000#32 else 0xBF800000#32

theorem word_val (z : ℤ) (h : z = 0 ∨ z = 1 ∨ z = -1) : Ideal.ofBits .f32 (word z) = ((z : ℝ) : EReal) := by
  rcases h with rfl | rfl | rfl
  · show Ideal.ofBits .f32 0x00000000#32 = _
    simp [Ideal.ofBits, Ideal.ieee]
  · show Ideal.ofBits .f32 0x3F800000#32 = _
    rw [Lift.w_one]; norm_num
  · show Ideal.ofBits .f32 0xBF800000#32 = _
    rw [Lift.w_neg_one]; norm_num

theorem bInt_unit : ∀ k a b, bInt k a b = 0 ∨ bInt k a b = 1 ∨ bInt k a b = -1 := by decide +kernel
theorem gInt_unit : ∀ i j k, gInt i j k = 0 ∨ gInt i j k = 1 ∨ gInt i j k = -1 := by decide +kernel
theorem nSgn_unit : ∀ a, nSgn a = 0 ∨ nSgn a = 1 ∨ nSgn a = -1 := by decide +kernel

end Cert.Model

end
-- ==== Proof.KLits.lean ====
module

public import proofs.«01_k».proof.Proof.Words
public import proofs.«01_k».proof.Proof.Canon
public import proofs.«01_k».proof.KernelIdeal

@[expose] public section

set_option maxRecDepth 16384

noncomputable section

/-! The kernel program's literal tables: the linear basis, the row and column tables, the queries' scale and the mask. -/

namespace Cert.KernelIdeal.Value
open Idealize.ShloMosaic
open Cert.KernelIdeal Cert.Model

theorem lit0_words : ∀ n : Fin 2304, lit0 n = word (bInt ⟨n / 256, by omega⟩ ⟨n / 16 % 16, Nat.mod_lt _ (by decide)⟩ ⟨n % 16, Nat.mod_lt _ (by decide)⟩) := by
  decide +kernel
theorem lit1_rows : ∀ n : Fin 704, (lit1 n).toInt = qrow n := by decide +kernel
theorem lit1_lt : ∀ n : Fin 704, (qrow n : ℤ) ≤ 864 := by decide +kernel
theorem lit2_words : ∀ n : Fin 704, lit2 n = if (n : ℕ) < 192 then 0x3E64F92E#32 else 0x3F800000#32 := by decide +kernel
theorem lit3_rows : ∀ n : Fin 288, (lit3 n).toInt = orow n := by decide +kernel
theorem lit3_lt : ∀ n : Fin 288, (orow n : ℤ) ≤ 288 := by decide +kernel
theorem lit4_cols : ∀ n : Fin 288, (lit4 n).toInt = ocol n := by decide +kernel
theorem lit4_lt : ∀ n : Fin 288, (ocol n : ℤ) ≤ 288 := by decide +kernel
theorem lit5_rows : ∀ n : Fin 576, (lit5 n).toInt = mrow n := by decide +kernel
theorem lit5_lt : ∀ n : Fin 576, (mrow n : ℤ) ≤ 576 := by decide +kernel
theorem lit6_words : ∀ n : Fin 256, lit6 ⟨n * 128, by omega⟩ = word (nSgn ⟨n / 16, by omega⟩) := by decide +kernel

/-- The basis. -/
def basis : FVec Ideal S9x16x16 .f32 := fun i => FloatOps.ofBits .f32 (lit0 (S9x16x16.rowMajor i))

theorem basis_real (k : Fin 9) (a b : Fin 16) : basis (ix3 k a b) = ((tables.B k a b : ℝ) : EReal) := by
  have e : S9x16x16.rowMajor (ix3 k a b) = (⟨k * 256 + a * 16 + b, by omega⟩ : Fin 2304) := by
    refine Fin.ext ?_
    rw [Shape.rowMajor_val_three]
    show (k.val * 16 + a.val) * 16 + b.val = k.val * 256 + a.val * 16 + b.val
    omega
  have e1 : (⟨(k.val * 256 + a.val * 16 + b.val) / 256, by omega⟩ : Fin 9) = k := Fin.ext (show (k.val * 256 + a.val * 16 + b.val) / 256 = k by omega)
  have e2 : (⟨(k.val * 256 + a.val * 16 + b.val) / 16 % 16, Nat.mod_lt _ (by decide)⟩ : Fin 16) = a := Fin.ext (show (k.val * 256 + a.val * 16 + b.val) / 16 % 16 = a by omega)
  have e3 : (⟨(k.val * 256 + a.val * 16 + b.val) % 16, Nat.mod_lt _ (by decide)⟩ : Fin 16) = b := Fin.ext (show (k.val * 256 + a.val * 16 + b.val) % 16 = b by omega)
  show Ideal.ofBits .f32 (lit0 (S9x16x16.rowMajor (ix3 k a b))) = _
  rw [e, lit0_words ⟨k * 256 + a * 16 + b, by omega⟩]
  show Ideal.ofBits .f32 (word (bInt ⟨(k.val * 256 + a.val * 16 + b.val) / 256, _⟩ ⟨(k.val * 256 + a.val * 16 + b.val) / 16 % 16, _⟩ ⟨(k.val * 256 + a.val * 16 + b.val) % 16, _⟩)) = _
  rw [e1, e2, e3, word_val _ (bInt_unit k a b)]
  rfl

/-- The mask's first column. -/
theorem mask_real (R : Fin 256) : (fun i => FloatOps.ofBits .f32 (lit6 (S256x128.rowMajor i)) : FVec Ideal S256x128 .f32) (ix2 R 0) =
    ((tables.N ⟨R / 16, by omega⟩ : ℝ) : EReal) := by
  have e : S256x128.rowMajor (ix2 R 0) = (⟨R * 128, by omega⟩ : Fin 32768) := by
    refine Fin.ext ?_
    rw [Shape.rowMajor_val_two]
    rfl
  show Ideal.ofBits .f32 (lit6 (S256x128.rowMajor (ix2 R 0))) = _
  rw [e, lit6_words, word_val _ (nSgn_unit _)]
  rfl

/-- The scale of a row. -/
theorem scale_real (r : Fin 704) : (fun i => FloatOps.ofBits .f32 (lit2 (S1x704x1.rowMajor i)) : FVec Ideal S1x704x1 .f32) (ix3 0 r 0) = ((qscl r : ℝ) : EReal) := by
  have e : S1x704x1.rowMajor (ix3 0 r 0) = r := by
    refine Fin.ext ?_
    rw [Shape.rowMajor_val_three]
    show (0 * 704 + r.val) * 1 + 0 = r.val
    omega
  show Ideal.ofBits .f32 (lit2 (S1x704x1.rowMajor (ix3 0 r 0))) = _
  rw [e, lit2_words, qscl]
  split
  · exact Lift.w_qscale
  · exact Lift.w_one

/-- The row and column tables read at a position. -/
theorem table1 (r : Fin 704) : ((fun i => lit1 (S704.rowMajor i) : IVec S704 32) (ix1 r)).toInt = qrow r := by
  rw [← lit1_rows]
  exact congrArg (fun n => (lit1 n).toInt) (Fin.ext (Shape.rowMajor_val_one _))
theorem table3 (r : Fin 288) : ((fun i => lit3 (S288.rowMajor i) : IVec S288 32) (ix1 r)).toInt = orow r := by
  rw [← lit3_rows]
  exact congrArg (fun n => (lit3 n).toInt) (Fin.ext (Shape.rowMajor_val_one _))
theorem table4 (r : Fin 288) : ((fun i => lit4 (S288.rowMajor i) : IVec S288 32) (ix1 r)).toInt = ocol r := by
  rw [← lit4_cols]
  exact congrArg (fun n => (lit4 n).toInt) (Fin.ext (Shape.rowMajor_val_one _))
theorem table5 (r : Fin 576) : ((fun i => lit5 (S576.rowMajor i) : IVec S576 32) (ix1 r)).toInt = mrow r := by
  rw [← lit5_rows]
  exact congrArg (fun n => (lit5 n).toInt) (Fin.ext (Shape.rowMajor_val_one _))

end Cert.KernelIdeal.Value

end
-- ==== Proof.KNorm.lean ====
module

public import proofs.«01_k».proof.Proof.Gen.KernelIdeal.Skeleton
public import proofs.«01_k».proof.Proof.Canon
public import proofs.«01_k».proof.Proof.Lift
public import Idealize.ShloMosaic.Init
public import Idealize.ShloMosaic.Lib.Pointwise

@[expose] public section

set_option maxRecDepth 16384

noncomputable section

namespace Cert.KernelIdeal.Gen
open Idealize.ShloMosaic Cert.Lift
open Cert.Model (rowOf sum256)

/-- The reciprocal root of a positive mean inner norm. -/
theorem rsqrt_mv (N : Fin 16 → ℝ) (hN : ∀ a, 0 ≤ N a) (x : Fin 16 → Fin 16 → ℝ) :
    Ideal.rsqrt (((∑ i, ∑ b, x i b * x i b * N b) * (1 / 16) + Model.eps : ℝ) : EReal) =
      (((Real.sqrt ((∑ i, ∑ b, x i b * x i b * N b) / 16 + Model.eps))⁻¹ : ℝ) : EReal) := by
  rw [rsqrt_coe, mul_one_div]
  have : 0 ≤ ∑ i, ∑ b, x i b * x i b * N b :=
    Finset.sum_nonneg fun i _ => Finset.sum_nonneg fun b _ => mul_nonneg (mul_self_nonneg _) (hN b)
  have := eps_pos
  positivity

/-- The reciprocal root of a positive mean square. -/
theorem rsqrt_s (s : Fin 32 → ℝ) :
    Ideal.rsqrt (((∑ d, s d * s d) * (1 / 32) + Model.eps : ℝ) : EReal) =
      (((Real.sqrt ((∑ d, s d * s d) / 32 + Model.eps))⁻¹ : ℝ) : EReal) := by
  rw [rsqrt_coe, mul_one_div]
  have : 0 ≤ ∑ d, s d * s d := Finset.sum_nonneg fun d _ => mul_self_nonneg _
  have := eps_pos
  positivity

/-- The 704 rows of queries, keys and values of a block: the weights' rows against the normalised state. -/
theorem qkv_real (v0 : Vec Ideal S256x1 .f32) (X : FVec Ideal S256x1024 .f32) (S : FVec Ideal S32x1024 .f32)
    (wh wl : Vec Ideal S1x704x256 .bf16) (ws : Vec Ideal S1x704x32 .f32) (N : Fin 16 → ℝ) (hN : ∀ a, 0 ≤ N a)
    (x : Model.Mv) (s : Model.Sc) (w : Fin 704 → Fin 256 → ℝ) (u : Fin 704 → Fin 32 → ℝ)
    (h0 : ∀ R : Fin 256, v0 (ix2 R 0) = ((N ⟨R / 16, by omega⟩ : ℝ) : EReal))
    (hX : ∀ R n, X (ix2 R n) = ((rowOf (x n) R : ℝ) : EReal)) (hS : ∀ d n, S (ix2 d n) = ((s n d : ℝ) : EReal))
    (hwh : ∀ r c, wh (ix3 0 r c) = ((w r c : ℝ) : EReal)) (hwl : ∀ r c, wl (ix3 0 r c) = ((0 : ℝ) : EReal))
    (hws : ∀ r c, ws (ix3 0 r c) = ((u r c : ℝ) : EReal)) (r : Fin 704) (n : Fin 1024) :
    k0_pay7 v0 X S wh wl ws (ix2 r n) =
      (((∑ c, w r c * rowOf (Model.normMv N (x n)) c) + ∑ d, u r d * Model.normS (s n) d : ℝ) : EReal) := by
  have e1 := rsqrt_mv N hN (x n)
  have e2 := rsqrt_s (s n)
  pointwise [k0_pay7]
  simp only [h0, hX, hS, hwh, hwl, hws, mul_coe, sum_coe, sum256 (fun i b => x n i b * x n i b * N b), w_16th, w_32nd, w_eps, add_coe, e1, e2, sub_coe]
  simp only [sub_self, mul_zero, zero_mul, Finset.sum_const_zero, zero_add, Model.normMv, Model.normS, div_eq_mul_inv, one_mul]

/-- The 576 rows of the multilayer perceptron's first product: the weights' rows against the normalised state. -/
theorem m1_real (X : FVec Ideal S256x1024 .f32) (S : FVec Ideal S32x1024 .f32)
    (wh wl : Vec Ideal S1x576x256 .bf16) (ws : Vec Ideal S1x576x32 .f32)
    (x : Fin 256 → Fin 1024 → ℝ) (s : Fin 32 → Fin 1024 → ℝ) (w : Fin 576 → Fin 256 → ℝ) (u : Fin 576 → Fin 32 → ℝ)
    (hX : ∀ R n, X (ix2 R n) = ((x R n : ℝ) : EReal)) (hS : ∀ d n, S (ix2 d n) = ((s d n : ℝ) : EReal))
    (hwh : ∀ r c, wh (ix3 0 r c) = ((w r c : ℝ) : EReal)) (hwl : ∀ r c, wl (ix3 0 r c) = ((0 : ℝ) : EReal))
    (hws : ∀ r c, ws (ix3 0 r c) = ((u r c : ℝ) : EReal)) (r : Fin 576) (n : Fin 1024) :
    k0_pay61 X S wh wl ws (ix2 r n) = (((∑ c, w r c * x c n) + ∑ d, u r d * s d n : ℝ) : EReal) := by
  pointwise [k0_pay61]
  simp only [hX, hS, hwh, hwl, hws, mul_coe, sum_coe, add_coe, sub_coe]
  simp only [sub_self, mul_zero, zero_mul, Finset.sum_const_zero, zero_add]

section
variable (v0 : Vec Ideal S256x1 .f32) (X : FVec Ideal S256x1024 .f32) (S : FVec Ideal S32x1024 .f32)
  (o0 o1 o2 o3 o4 o5 o6 o7' : FVec Ideal S36x1024 .f32) (a b : FVec Ideal S1x1024 .f32) (wh wl : Vec Ideal S1x288x288 .bf16)

/-- The normalised multivectors after the attention. -/
theorem norm2_mv (N : Fin 16 → ℝ) (hN : ∀ a, 0 ≤ N a) (x : Model.Mv)
    (h0 : ∀ R : Fin 256, v0 (ix2 R 0) = ((N ⟨R / 16, by omega⟩ : ℝ) : EReal))
    (hX : ∀ R n, k0_pay57 X o0 o1 o2 o3 o4 o5 o6 a o7' b wh wl (ix2 R n) = ((rowOf (x n) R : ℝ) : EReal)) (R : Fin 256) (n : Fin 1024) :
    k0_pay59 v0 X o0 o1 o2 o3 o4 o5 o6 a o7' b wh wl (ix2 R n) = ((rowOf (Model.normMv N (x n)) R : ℝ) : EReal) := by
  have e1 := rsqrt_mv N hN (x n)
  pointwise [k0_pay59]
  simp only [h0, hX, mul_coe, sum_coe, sum256 (fun i b => x n i b * x n i b * N b), w_16th, w_eps, add_coe, e1]
  simp only [Model.normMv, div_eq_mul_inv]

/-- The normalised scalars after the attention. -/
theorem norm2_s (s : Model.Sc)
    (hS : ∀ d n, k0_pay58 S o0 o1 o2 o3 o4 o5 o6 a o7' b wh wl (ix2 d n) = ((s n d : ℝ) : EReal)) (d : Fin 32) (n : Fin 1024) :
    k0_pay60 S o0 o1 o2 o3 o4 o5 o6 a o7' b wh wl (ix2 d n) = ((Model.normS (s n) d : ℝ) : EReal) := by
  have e2 := rsqrt_s (s n)
  pointwise [k0_pay60]
  simp only [hS, mul_coe, sum_coe, w_32nd, w_eps, add_coe, e2]
  simp only [Model.normS, div_eq_mul_inv]
end

end Cert.KernelIdeal.Gen
-- ==== Proof.KHead.lean ====
module

public import proofs.«01_k».proof.Proof.Gen.KernelIdeal.Loops
public import proofs.«01_k».proof.Proof.Lift

@[expose] public section
set_option maxRecDepth 16384
noncomputable section
namespace Cert.KernelIdeal.Gen
open Idealize.ShloMosaic Cert.Lift

/-- One attention head from its queries, keys and values, each in two halves (a rounded part and what is left). -/
def headK (qf kf : FVec Ideal S24x1024 .f32) (qh ql kh kl : FVec Ideal S24x1024 .bf16) (vh vl : FVec Ideal S36x1024 .bf16)
    (one zero : FVec Ideal S1x1024 .bf16) : FVec Ideal S36x1024 .f32 :=
  let qn := shapeCast S1x1024 (multiReduction .add [0] S1024 (mulf qf qf) 0x00000000#32 reduces_S24x1024_S1024 (.inl rfl) rfl) shapeCasts_S1024_S1x1024
  let kn := shapeCast S1x1024 (multiReduction .add [0] S1024 (mulf kf kf) 0x00000000#32 reduces_S24x1024_S1024 (.inl rfl) rfl) shapeCasts_S1024_S1x1024
  let km := extractAt ![0, 0, 0] (shapeCast S1x1x1 (multiReduction .maximumf [1, 2] S1 (shapeCast S1x1x1024 kn shapeCasts_S1x1024_S1x1x1024) 0xFF800000#32 reduces_S1x1x1024_S1 (.inl rfl) rfl) shapeCasts_S1_S1x1x1) inpos_S1x1x1_p0_0_0
  let bnd := sqrt (mulf qn (broadcast S1x1024 km))
  let sc := matmul dot_S72x1024_S72x1024_S1024x1024_0_0_1_1_n_n none
    (concatenate S72x1024 0 [⟨S24x1024, kh⟩, ⟨S24x1024, kh⟩, ⟨S24x1024, kl⟩] concatenates_S24x1024_S24x1024_S24x1024_S72x1024_d0)
    (concatenate S72x1024 0 [⟨S24x1024, qh⟩, ⟨S24x1024, ql⟩, ⟨S24x1024, qh⟩] concatenates_S24x1024_S24x1024_S24x1024_S72x1024_d0)
    (constant S1024x1024 .f32 0x00000000#32)
  let p := exp (subf sc (broadcastTo S1024x1024 bnd broadcasts_S1x1024_S1024x1024))
  let ph := truncf .bf16 p bitsLt_bf16_f32
  let pl := truncf .bf16 (subf p (extf .f32 ph bitsLt_bf16_f32)) bitsLt_bf16_f32
  let a := concatenate S37x1024 0 [⟨S36x1024, vh⟩, ⟨S1x1024, one⟩] concatenates_S36x1024_S1x1024_S37x1024_d0
  let b := concatenate S37x1024 0 [⟨S36x1024, vl⟩, ⟨S1x1024, zero⟩] concatenates_S36x1024_S1x1024_S37x1024_d0
  let z := constant S37x1024 .f32 0x00000000#32
  let o := addf (addf (matmul dot_S37x1024_S1024x1024_S37x1024_1_0_0_1_n_n none a pl z) (matmul dot_S37x1024_S1024x1024_S37x1024_1_0_0_1_n_n none b ph z))
    (matmul dot_S37x1024_S1024x1024_S37x1024_1_0_0_1_n_n none a ph z)
  mulf (extractStridedSlice S36x1024 ![0, 0] o slices_S37x1024_o0_0_S36x1024)
    (broadcastTo S36x1024 (divf (broadcast S1x1024 (Scalar.ofBits .f32 0x3F800000#32)) (extractStridedSlice S1x1024 ![36, 0] o slices_S37x1024_o36_0_S1x1024)) broadcasts_S1x1024_S36x1024)

/-- The 72-row product of the split keys with the split queries is the 24-row product when the second halves vanish. -/
theorem dot72 (q k : Fin 24 → Fin 1024 → ℝ) (i n : Fin 1024) :
    (∑ x : Fin 72, (if h : (x : ℕ) < 24 then k ⟨x, h⟩ i else if h : (x : ℕ) - 24 < 24 then k ⟨x - 24, h⟩ i else 0) *
      (if h : (x : ℕ) < 24 then q ⟨x, h⟩ n else if h : (x : ℕ) - 24 < 24 then 0 else q ⟨x - 24 - 24, by omega⟩ n)) = ∑ d, k d i * q d n := by
  rw [Fin.sum_univ_add (a := 24) (b := 48), Fin.sum_univ_add (a := 24) (b := 24)]
  simp

/-- One attention head, at real queries, keys and values whose second halves vanish, is the plain softmax average of the values. -/
theorem headK_real (qf kf : FVec Ideal S24x1024 .f32) (qh ql kh kl : FVec Ideal S24x1024 .bf16) (vh vl : FVec Ideal S36x1024 .bf16)
    (one zero : FVec Ideal S1x1024 .bf16) (q k : Fin 24 → Fin 1024 → ℝ) (v : Fin 36 → Fin 1024 → ℝ)
    (hqf : ∀ d n, qf (ix2 d n) = ((q d n : ℝ) : EReal)) (hkf : ∀ d n, kf (ix2 d n) = ((k d n : ℝ) : EReal))
    (hqh : ∀ d n, qh (ix2 d n) = ((q d n : ℝ) : EReal)) (hkh : ∀ d n, kh (ix2 d n) = ((k d n : ℝ) : EReal))
    (hql : ∀ d n, ql (ix2 d n) = ((0 : ℝ) : EReal)) (hkl : ∀ d n, kl (ix2 d n) = ((0 : ℝ) : EReal))
    (hvh : ∀ d n, vh (ix2 d n) = ((v d n : ℝ) : EReal)) (hvl : ∀ d n, vl (ix2 d n) = ((0 : ℝ) : EReal))
    (h1 : ∀ d n, one (ix2 d n) = ((1 : ℝ) : EReal)) (h0 : ∀ d n, zero (ix2 d n) = ((0 : ℝ) : EReal))
    (r : Fin 36) (n : Fin 1024) :
    headK qf kf qh ql kh kl vh vl one zero (ix2 r n) = ((Model.soft (fun m => ∑ d, k d m * q d n) (fun m => v r m) : ℝ) : EReal) := by
  obtain ⟨M, hM, hle⟩ := fold_max (Finset.univ : Finset (Fin 1 × Fin 1024)) Finset.univ_nonempty (fun x => ∑ d, k d x.2 * k d x.2)
  have hM0 : 0 ≤ M := (Finset.sum_nonneg fun d _ => mul_self_nonneg (k d 0)).trans (hle (0, 0) (Finset.mem_univ _))
  have hs : ∀ n, Ideal.sqrt ((((∑ d, q d n * q d n) * M : ℝ)) : EReal) = ((Real.sqrt ((∑ d, q d n * q d n) * M) : ℝ) : EReal) :=
    fun n => sqrt_coe (mul_nonneg (Finset.sum_nonneg fun d _ => mul_self_nonneg (q d n)) hM0)
  pointwise [headK]
  simp only [hqf, hkf, hqh, hkh, hql, hkl, hvh, hvl, h1, h0, w_bot, mul_coe, sum_coe, hM, hs, dite_coe, sub_coe, exp_coe, zero_coe, one_coe, add_coe]
  simp only [dot72, sub_self, mul_zero, zero_mul, Finset.sum_const_zero, zero_add, one_mul]
  generalize Real.sqrt ((∑ d, q d n * q d n) * M) = t
  have hpos : ∑ i, Real.exp ((∑ d, k d i * q d n) - t) ≠ 0 :=
    (Finset.sum_pos (fun i _ => Real.exp_pos _) Finset.univ_nonempty).ne'
  rw [div_coe _ hpos, mul_coe, Model.soft, EReal.coe_eq_coe_iff]
  simp only [Real.exp_sub] at hpos ⊢
  have ht : Real.exp t ≠ 0 := (Real.exp_pos t).ne'
  simp only [← mul_div_assoc, ← Finset.sum_div] at hpos ⊢
  have hp2 : ∑ i, Real.exp (∑ d, k d i * q d n) ≠ 0 :=
    (Finset.sum_pos (fun i _ => Real.exp_pos _) Finset.univ_nonempty).ne'
  field_simp
end Cert.KernelIdeal.Gen
-- ==== Proof.KHeads.lean ====
module

public import proofs.«01_k».proof.Proof.KHead

@[expose] public section

set_option maxRecDepth 16384

noncomputable section

namespace Cert.KernelIdeal.Gen
open Idealize.ShloMosaic Cert.Lift

theorem slice24 {α : Type} (o : ℕ) (V : S704x1024.Idx → α) (h : S704x1024.Slices ![o, 0] S24x1024) (ho : o + 24 ≤ 704)
    (d : Fin 24) (n : Fin 1024) : extractStridedSlice S24x1024 ![o, 0] V h (ix2 d n) = V (ix2 ⟨o + d, by omega⟩ n) :=
  extractStridedSlice_apply ![o, 0] V h _ (ix2 ⟨o + d, by omega⟩ n) fun a => match a with
    | ⟨0, _⟩ => rfl
    | ⟨1, _⟩ => (Nat.zero_add _).symm
theorem slice36 {α : Type} (o : ℕ) (V : S704x1024.Idx → α) (h : S704x1024.Slices ![o, 0] S36x1024) (ho : o + 36 ≤ 704)
    (d : Fin 36) (n : Fin 1024) : extractStridedSlice S36x1024 ![o, 0] V h (ix2 d n) = V (ix2 ⟨o + d, by omega⟩ n) :=
  extractStridedSlice_apply ![o, 0] V h _ (ix2 ⟨o + d, by omega⟩ n) fun a => match a with
    | ⟨0, _⟩ => rfl
    | ⟨1, _⟩ => (Nat.zero_add _).symm

/-- A head's value rows, from the rows `f` of queries, keys and values: the queries start at row `oq`, the keys at `ok`, the values at `ov`. -/
def headOf (f : ℕ → Fin 1024 → ℝ) (oq ok ov : ℕ) (r : Fin 36) (n : Fin 1024) : ℝ :=
  Model.soft (fun m => ∑ d : Fin 24, f (ok + d) m * f (oq + d) n) (fun m => f (ov + r) m)

theorem one_real (d : Fin 1) (n : Fin 1024) : (k0_pay10 (F := Ideal)) (ix2 d n) = ((1 : ℝ) : EReal) := by
  pointwise [k0_pay10]
  rfl
theorem zero_real (d : Fin 1) (n : Fin 1024) : (k0_pay11 (F := Ideal)) (ix2 d n) = ((0 : ℝ) : EReal) := by
  pointwise [k0_pay11]
  rfl

section
variable (V : FVec Ideal S704x1024 .f32) (A B : FVec Ideal S704x1024 .bf16) (f : ℕ → Fin 1024 → ℝ)
  (hV : ∀ (r : Fin 704) n, V (ix2 r n) = ((f r n : ℝ) : EReal)) (hA : ∀ (r : Fin 704) n, A (ix2 r n) = ((f r n : ℝ) : EReal))

include hV hA
/-- The low halves of real rows vanish. -/
theorem lo_zero (r : Fin 704) (n : Fin 1024) : k0_pay9 V A (ix2 r n) = ((0 : ℝ) : EReal) := by
  pointwise [k0_pay9]
  rw [hV, hA, sub_self_coe]

variable (hB : ∀ (r : Fin 704) n, B (ix2 r n) = ((0 : ℝ) : EReal))
include hB
theorem head_slices (oq ok ov : ℕ) (h1 : S704x1024.Slices ![oq, 0] S24x1024) (h2 : S704x1024.Slices ![ok, 0] S24x1024)
    (h3 : S704x1024.Slices ![ov, 0] S36x1024) (hq : oq + 24 ≤ 704) (hk : ok + 24 ≤ 704) (hv : ov + 36 ≤ 704) (r : Fin 36) (n : Fin 1024) :
    headK (extractStridedSlice S24x1024 ![oq, 0] V h1) (extractStridedSlice S24x1024 ![ok, 0] V h2)
      (extractStridedSlice S24x1024 ![oq, 0] A h1) (extractStridedSlice S24x1024 ![oq, 0] B h1)
      (extractStridedSlice S24x1024 ![ok, 0] A h2) (extractStridedSlice S24x1024 ![ok, 0] B h2)
      (extractStridedSlice S36x1024 ![ov, 0] A h3) (extractStridedSlice S36x1024 ![ov, 0] B h3) k0_pay10 k0_pay11 (ix2 r n)
      = ((headOf f oq ok ov r n : ℝ) : EReal) :=
  headK_real _ _ _ _ _ _ _ _ _ _ (fun d n => f (oq + d) n) (fun d n => f (ok + d) n) (fun d n => f (ov + d) n)
    (fun d n => by rw [slice24 _ _ _ hq, hV]) (fun d n => by rw [slice24 _ _ _ hk, hV])
    (fun d n => by rw [slice24 _ _ _ hq, hA]) (fun d n => by rw [slice24 _ _ _ hk, hA])
    (fun d n => by rw [slice24 _ _ _ hq, hB]) (fun d n => by rw [slice24 _ _ _ hk, hB])
    (fun d n => by rw [slice36 _ _ _ hv, hA]) (fun d n => by rw [slice36 _ _ _ hv, hB])
    one_real zero_real r n

omit hB in
/-- The eight heads' rows. -/
theorem head0 (r : Fin 36) (n : Fin 1024) :
    k0_pay12 V A (ix2 r n) = ((headOf f 0 192 384 r n : ℝ) : EReal) :=
  head_slices V A (k0_pay9 V A) f hV hA (lo_zero V A f hV hA) 0 192 384 slices_S704x1024_o0_0_S24x1024 slices_S704x1024_o192_0_S24x1024
    slices_S704x1024_o384_0_S36x1024 (by omega) (by omega) (by omega) r n
theorem head1 (r : Fin 36) (n : Fin 1024) :
    k0_pay14 V A B k0_pay10 k0_pay11 (k0_pay13 V) (ix2 r n) = ((headOf f 24 216 424 r n : ℝ) : EReal) :=
  head_slices V A B f hV hA hB 24 216 424 slices_S704x1024_o24_0_S24x1024 slices_S704x1024_o216_0_S24x1024
    slices_S704x1024_o424_0_S36x1024 (by omega) (by omega) (by omega) r n
theorem head2 (r : Fin 36) (n : Fin 1024) :
    k0_pay23 k0_pay10 k0_pay11 (k0_pay15 V) (k0_pay16 A) (k0_pay17 B) (k0_pay18 A) (k0_pay19 B) (k0_pay20 A) (k0_pay21 B) (k0_pay22 V) (ix2 r n) = ((headOf f 48 240 464 r n : ℝ) : EReal) :=
  head_slices V A B f hV hA hB 48 240 464 slices_S704x1024_o48_0_S24x1024 slices_S704x1024_o240_0_S24x1024
    slices_S704x1024_o464_0_S36x1024 (by omega) (by omega) (by omega) r n
theorem head3 (r : Fin 36) (n : Fin 1024) :
    k0_pay32 k0_pay10 k0_pay11 (k0_pay24 A) (k0_pay25 B) (k0_pay26 A) (k0_pay27 B) (k0_pay28 A) (k0_pay29 B) (k0_pay30 V) (k0_pay31 V) (ix2 r n) = ((headOf f 72 264 504 r n : ℝ) : EReal) :=
  head_slices V A B f hV hA hB 72 264 504 slices_S704x1024_o72_0_S24x1024 slices_S704x1024_o264_0_S24x1024
    slices_S704x1024_o504_0_S36x1024 (by omega) (by omega) (by omega) r n
theorem head4 (r : Fin 36) (n : Fin 1024) :
    k0_pay39 k0_pay10 k0_pay11 (k0_pay33 A) (k0_pay34 B) (k0_pay35 A) (k0_pay36 B) (k0_pay37 V) (k0_pay38 A B) (ix2 r n) = ((headOf f 96 288 544 r n : ℝ) : EReal) :=
  head_slices V A B f hV hA hB 96 288 544 slices_S704x1024_o96_0_S24x1024 slices_S704x1024_o288_0_S24x1024
    slices_S704x1024_o544_0_S36x1024 (by omega) (by omega) (by omega) r n
theorem head5 (r : Fin 36) (n : Fin 1024) :
    k0_pay45 k0_pay10 k0_pay11 (k0_pay40 A) (k0_pay41 B) (k0_pay42 V A B) (k0_pay43 V A B) (k0_pay44 V A B) (ix2 r n) = ((headOf f 120 312 584 r n : ℝ) : EReal) :=
  head_slices V A B f hV hA hB 120 312 584 slices_S704x1024_o120_0_S24x1024 slices_S704x1024_o312_0_S24x1024
    slices_S704x1024_o584_0_S36x1024 (by omega) (by omega) (by omega) r n
theorem head6 (r : Fin 36) (n : Fin 1024) :
    k0_pay51 (k0_pay47 V A B) (k0_pay48 A k0_pay10) (k0_pay49 V A B k0_pay10) (k0_pay50 V A B k0_pay11) (ix2 r n) = ((headOf f 144 336 624 r n : ℝ) : EReal) :=
  head_slices V A B f hV hA hB 144 336 624 slices_S704x1024_o144_0_S24x1024 slices_S704x1024_o336_0_S24x1024
    slices_S704x1024_o624_0_S36x1024 (by omega) (by omega) (by omega) r n
theorem head7 (r : Fin 36) (n : Fin 1024) :
    k0_pay54 V A B k0_pay10 k0_pay11 (ix2 r n) *
      Ideal.div (k0_pay55 (F := Ideal) (ix2 0 n)) (k0_pay53 V A B k0_pay10 k0_pay11 (ix2 0 n)) = ((headOf f 168 360 664 r n : ℝ) : EReal) := by
  have e : mulf (k0_pay54 V A B k0_pay10 k0_pay11)
      (broadcastTo S36x1024 (divf k0_pay55 (k0_pay53 V A B k0_pay10 k0_pay11)) broadcasts_S1x1024_S36x1024) =
    headK (extractStridedSlice S24x1024 ![168, 0] V slices_S704x1024_o168_0_S24x1024)
      (extractStridedSlice S24x1024 ![360, 0] V slices_S704x1024_o360_0_S24x1024)
      (extractStridedSlice S24x1024 ![168, 0] A slices_S704x1024_o168_0_S24x1024)
      (extractStridedSlice S24x1024 ![168, 0] B slices_S704x1024_o168_0_S24x1024)
      (extractStridedSlice S24x1024 ![360, 0] A slices_S704x1024_o360_0_S24x1024)
      (extractStridedSlice S24x1024 ![360, 0] B slices_S704x1024_o360_0_S24x1024)
      (extractStridedSlice S36x1024 ![664, 0] A slices_S704x1024_o664_0_S36x1024)
      (extractStridedSlice S36x1024 ![664, 0] B slices_S704x1024_o664_0_S36x1024) k0_pay10 k0_pay11 := rfl
  rw [← head_slices V A B f hV hA hB 168 360 664 slices_S704x1024_o168_0_S24x1024 slices_S704x1024_o360_0_S24x1024
    slices_S704x1024_o664_0_S36x1024 (by omega) (by omega) (by omega) r n, ← e]
  pointwise
end

/-- Eight blocks of 36 rows, stacked, are the 288 rows. -/
theorem stack8 (O : ℕ → ℝ) (x : ℕ) (hx : x < 288) :
    (if _ : x < 36 then O x else if _ : x - 36 < 36 then O (36 + (x - 36)) else if _ : x - 36 - 36 < 36 then O (72 + (x - 36 - 36))
      else if _ : x - 36 - 36 - 36 < 36 then O (108 + (x - 36 - 36 - 36)) else if _ : x - 36 - 36 - 36 - 36 < 36 then O (144 + (x - 36 - 36 - 36 - 36))
      else if _ : x - 36 - 36 - 36 - 36 - 36 < 36 then O (180 + (x - 36 - 36 - 36 - 36 - 36))
      else if _ : x - 36 - 36 - 36 - 36 - 36 - 36 < 36 then O (216 + (x - 36 - 36 - 36 - 36 - 36 - 36))
      else O (252 + (x - 36 - 36 - 36 - 36 - 36 - 36 - 36))) = O x := by
  split_ifs <;> first | rfl | (congr 1; omega)

section
variable (X : FVec Ideal S256x1024 .f32) (S : FVec Ideal S32x1024 .f32)
  (o0 o1 o2 o3 o4 o5 o6 o7 : FVec Ideal S36x1024 .f32) (a b : FVec Ideal S1x1024 .f32) (wh wl : Vec Ideal S1x288x288 .bf16)
  (x : Fin 256 → Fin 1024 → ℝ) (s : Fin 32 → Fin 1024 → ℝ) (O : ℕ → Fin 1024 → ℝ) (w : Fin 288 → Fin 288 → ℝ)
  (hX : ∀ R n, X (ix2 R n) = ((x R n : ℝ) : EReal)) (hS : ∀ d n, S (ix2 d n) = ((s d n : ℝ) : EReal))
  (h0 : ∀ t n, o0 (ix2 t n) = ((O t n : ℝ) : EReal)) (h1 : ∀ t n, o1 (ix2 t n) = ((O (36 + t) n : ℝ) : EReal))
  (h2 : ∀ t n, o2 (ix2 t n) = ((O (72 + t) n : ℝ) : EReal)) (h3 : ∀ t n, o3 (ix2 t n) = ((O (108 + t) n : ℝ) : EReal))
  (h4 : ∀ t n, o4 (ix2 t n) = ((O (144 + t) n : ℝ) : EReal)) (h5 : ∀ t n, o5 (ix2 t n) = ((O (180 + t) n : ℝ) : EReal))
  (h6 : ∀ t n, o6 (ix2 t n) = ((O (216 + t) n : ℝ) : EReal))
  (h7 : ∀ t n, o7 (ix2 t n) * Ideal.div (b (ix2 0 n)) (a (ix2 0 n)) = ((O (252 + t) n : ℝ) : EReal))
  (hwh : ∀ r c, wh (ix3 0 r c) = ((w r c : ℝ) : EReal)) (hwl : ∀ r c, wl (ix3 0 r c) = ((0 : ℝ) : EReal))

include h0 h1 h2 h3 h4 h5 h6 h7 hwh hwl
/-- The attention's output product: the weights' rows against the heads' rows, stacked. -/
theorem out_real (r : Fin 288) (n : Fin 1024) :
    k0_pay56 o0 o1 o2 o3 o4 o5 o6 a o7 b wh wl (ix2 r n) = ((∑ j : Fin 288, w r j * O j n : ℝ) : EReal) := by
  pointwise [k0_pay56]
  simp only [h0, h1, h2, h3, h4, h5, h6, h7, hwh, hwl, dite_coe, sub_coe, mul_coe, sum_coe, add_coe]
  simp only [sub_self, mul_zero, zero_mul, Finset.sum_const_zero, zero_add]
  rw [EReal.coe_eq_coe_iff]
  exact Finset.sum_congr rfl fun j _ => congrArg (w r j * ·) (stack8 (fun i => O i n) j j.isLt)

include hX in
/-- The multivectors after the attention. -/
theorem mid_mv (R : Fin 256) (n : Fin 1024) : k0_pay57 X o0 o1 o2 o3 o4 o5 o6 a o7 b wh wl (ix2 R n) =
    ((x R n + ∑ j : Fin 288, w ⟨R, by omega⟩ j * O j n : ℝ) : EReal) := by
  have e := out_real o0 o1 o2 o3 o4 o5 o6 o7 a b wh wl O w h0 h1 h2 h3 h4 h5 h6 h7 hwh hwl
  pointwise [k0_pay57]
  simp only [hX, e, add_coe]

include hS in
/-- The scalars after the attention. -/
theorem mid_s (d : Fin 32) (n : Fin 1024) : k0_pay58 S o0 o1 o2 o3 o4 o5 o6 a o7 b wh wl (ix2 d n) =
    ((s d n + ∑ j : Fin 288, w ⟨256 + d, by omega⟩ j * O j n : ℝ) : EReal) := by
  have e := out_real o0 o1 o2 o3 o4 o5 o6 o7 a b wh wl O w h0 h1 h2 h3 h4 h5 h6 h7 hwh hwl
  pointwise [k0_pay58]
  simp only [hS, e, add_coe]
end

end Cert.KernelIdeal.Gen
-- ==== Proof.KProd.lean ====
module

public import proofs.«01_k».proof.Proof.Gen.KernelIdeal.Skeleton
public import proofs.«01_k».proof.Proof.Tables
public import proofs.«01_k».proof.Proof.Lift
public import Idealize.ShloMosaic.Init
public import Idealize.ShloMosaic.Lib.Pointwise

@[expose] public section

set_option maxRecDepth 16384

noncomputable section

namespace Cert.KernelIdeal.Gen
open Idealize.ShloMosaic Cert.Lift

/-- The channels' multivectors that the rows `f` hold: row `32 i + c` is blade `i` of channel `c`. -/
def chan (f : ℕ → ℝ) (c : Fin 32) (i : Fin 16) : ℝ := f (32 * i + c)

section
variable (H : FVec Ideal S576x1024 .f32) (f : ℕ → Fin 1024 → ℝ) (hH : ∀ (r : Fin 576) n, H (ix2 r n) = ((f r n : ℝ) : EReal))
include hH
/-- The blades of the kernel's geometric product, each from its rows of the first product. -/
theorem gp1 (c : Fin 16) (n : Fin 1024) : k0_pay68 H (k0_pay65 H) (k0_pay66 H) (k0_pay67 H) (ix2 c n) =
    ((Model.gprod Model.tables.G (chan (fun r => f r n)) ⟨c, by omega⟩ 1 : ℝ) : EReal) := by
  rw [Model.gprod_tables]
  pointwise [k0_pay68, k0_pay65, k0_pay66, k0_pay67]
  simp only [hH, zero_coe, sub_coe, mul_coe, add_coe]
  rw [EReal.coe_eq_coe_iff]
  simp only [Fin.sum_univ_succ, chan]
  simp [Model.gSgn, Model.gIdx, ← Nat.add_assoc]
  try ring
theorem gp2 (c : Fin 16) (n : Fin 1024) : k0_pay72 H (k0_pay69 H) (k0_pay70 H) (k0_pay71 H) (ix2 c n) =
    ((Model.gprod Model.tables.G (chan (fun r => f r n)) ⟨c, by omega⟩ 2 : ℝ) : EReal) := by
  rw [Model.gprod_tables]
  pointwise [k0_pay72, k0_pay69, k0_pay70, k0_pay71]
  simp only [hH, zero_coe, sub_coe, mul_coe, add_coe]
  rw [EReal.coe_eq_coe_iff]
  simp only [Fin.sum_univ_succ, chan]
  simp [Model.gSgn, Model.gIdx, ← Nat.add_assoc]
  try ring
theorem gp3 (c : Fin 16) (n : Fin 1024) : k0_pay74 H (k0_pay73 H) (ix2 c n) =
    ((Model.gprod Model.tables.G (chan (fun r => f r n)) ⟨c, by omega⟩ 3 : ℝ) : EReal) := by
  rw [Model.gprod_tables]
  pointwise [k0_pay74, k0_pay73]
  simp only [hH, zero_coe, sub_coe, mul_coe, add_coe]
  rw [EReal.coe_eq_coe_iff]
  simp only [Fin.sum_univ_succ, chan]
  simp [Model.gSgn, Model.gIdx, ← Nat.add_assoc]
  try ring
theorem gp4 (c : Fin 16) (n : Fin 1024) : k0_pay75 H (ix2 c n) =
    ((Model.gprod Model.tables.G (chan (fun r => f r n)) ⟨c, by omega⟩ 4 : ℝ) : EReal) := by
  rw [Model.gprod_tables]
  pointwise [k0_pay75]
  simp only [hH, zero_coe, sub_coe, mul_coe, add_coe]
  rw [EReal.coe_eq_coe_iff]
  simp only [Fin.sum_univ_succ, chan]
  simp [Model.gSgn, Model.gIdx, ← Nat.add_assoc]
  try ring
theorem gp5 (c : Fin 16) (n : Fin 1024) : k0_pay80 H (k0_pay78 H (k0_pay76 H) (k0_pay77 H)) (k0_pay79 H) (ix2 c n) =
    ((Model.gprod Model.tables.G (chan (fun r => f r n)) ⟨c, by omega⟩ 5 : ℝ) : EReal) := by
  rw [Model.gprod_tables]
  pointwise [k0_pay80, k0_pay78, k0_pay76, k0_pay77, k0_pay79]
  simp only [hH, zero_coe, sub_coe, mul_coe, add_coe]
  rw [EReal.coe_eq_coe_iff]
  simp only [Fin.sum_univ_succ, chan]
  simp [Model.gSgn, Model.gIdx, ← Nat.add_assoc]
  try ring
theorem gp6 (c : Fin 16) (n : Fin 1024) : k0_pay83 H (k0_pay81 H) (k0_pay82 H) (ix2 c n) =
    ((Model.gprod Model.tables.G (chan (fun r => f r n)) ⟨c, by omega⟩ 6 : ℝ) : EReal) := by
  rw [Model.gprod_tables]
  pointwise [k0_pay83, k0_pay81, k0_pay82]
  simp only [hH, zero_coe, sub_coe, mul_coe, add_coe]
  rw [EReal.coe_eq_coe_iff]
  simp only [Fin.sum_univ_succ, chan]
  simp [Model.gSgn, Model.gIdx, ← Nat.add_assoc]
  try ring
theorem gp7 (c : Fin 16) (n : Fin 1024) : k0_pay89 (k0_pay86 H (k0_pay84 H) (k0_pay85 H)) (k0_pay87 H) k0_pay88 (ix2 c n) =
    ((Model.gprod Model.tables.G (chan (fun r => f r n)) ⟨c, by omega⟩ 7 : ℝ) : EReal) := by
  rw [Model.gprod_tables]
  pointwise [k0_pay89, k0_pay86, k0_pay84, k0_pay85, k0_pay87, k0_pay88]
  simp only [hH, zero_coe, sub_coe, mul_coe, add_coe]
  rw [EReal.coe_eq_coe_iff]
  simp only [Fin.sum_univ_succ, chan]
  simp [Model.gSgn, Model.gIdx, ← Nat.add_assoc]
  try ring
theorem gp8 (c : Fin 16) (n : Fin 1024) : k0_pay90 H (ix2 c n) =
    ((Model.gprod Model.tables.G (chan (fun r => f r n)) ⟨c, by omega⟩ 8 : ℝ) : EReal) := by
  rw [Model.gprod_tables]
  pointwise [k0_pay90]
  simp only [hH, zero_coe, sub_coe, mul_coe, add_coe]
  rw [EReal.coe_eq_coe_iff]
  simp only [Fin.sum_univ_succ, chan]
  simp [Model.gSgn, Model.gIdx, ← Nat.add_assoc]
  try ring
theorem gp9 (c : Fin 16) (n : Fin 1024) : k0_pay92 H (k0_pay91 H) (ix2 c n) =
    ((Model.gprod Model.tables.G (chan (fun r => f r n)) ⟨c, by omega⟩ 9 : ℝ) : EReal) := by
  rw [Model.gprod_tables]
  pointwise [k0_pay92, k0_pay91]
  simp only [hH, zero_coe, sub_coe, mul_coe, add_coe]
  rw [EReal.coe_eq_coe_iff]
  simp only [Fin.sum_univ_succ, chan]
  simp [Model.gSgn, Model.gIdx, ← Nat.add_assoc]
  try ring
theorem gp10 (c : Fin 16) (n : Fin 1024) : k0_pay93 H (ix2 c n) =
    ((Model.gprod Model.tables.G (chan (fun r => f r n)) ⟨c, by omega⟩ 10 : ℝ) : EReal) := by
  rw [Model.gprod_tables]
  pointwise [k0_pay93]
  simp only [hH, zero_coe, sub_coe, mul_coe, add_coe]
  rw [EReal.coe_eq_coe_iff]
  simp only [Fin.sum_univ_succ, chan]
  simp [Model.gSgn, Model.gIdx, ← Nat.add_assoc]
  try ring
theorem gp11 (c : Fin 16) (n : Fin 1024) : k0_pay98 H (k0_pay95 H (k0_pay94 H)) (k0_pay96 H) (k0_pay97 H) (ix2 c n) =
    ((Model.gprod Model.tables.G (chan (fun r => f r n)) ⟨c, by omega⟩ 11 : ℝ) : EReal) := by
  rw [Model.gprod_tables]
  pointwise [k0_pay98, k0_pay95, k0_pay94, k0_pay96, k0_pay97]
  simp only [hH, zero_coe, sub_coe, mul_coe, add_coe]
  rw [EReal.coe_eq_coe_iff]
  simp only [Fin.sum_univ_succ, chan]
  simp [Model.gSgn, Model.gIdx, ← Nat.add_assoc]
  try ring
theorem gp12 (c : Fin 16) (n : Fin 1024) : k0_pay100 H (k0_pay99 H) (ix2 c n) =
    ((Model.gprod Model.tables.G (chan (fun r => f r n)) ⟨c, by omega⟩ 12 : ℝ) : EReal) := by
  rw [Model.gprod_tables]
  pointwise [k0_pay100, k0_pay99]
  simp only [hH, zero_coe, sub_coe, mul_coe, add_coe]
  rw [EReal.coe_eq_coe_iff]
  simp only [Fin.sum_univ_succ, chan]
  simp [Model.gSgn, Model.gIdx, ← Nat.add_assoc]
  try ring
theorem gp13 (c : Fin 16) (n : Fin 1024) : k0_pay107 (k0_pay104 H (k0_pay101 H) (k0_pay102 H) k0_pay103) (k0_pay105 H) (k0_pay106 H) (ix2 c n) =
    ((Model.gprod Model.tables.G (chan (fun r => f r n)) ⟨c, by omega⟩ 13 : ℝ) : EReal) := by
  rw [Model.gprod_tables]
  pointwise [k0_pay107, k0_pay104, k0_pay101, k0_pay102, k0_pay103, k0_pay105, k0_pay106]
  simp only [hH, zero_coe, sub_coe, mul_coe, add_coe]
  rw [EReal.coe_eq_coe_iff]
  simp only [Fin.sum_univ_succ, chan]
  simp [Model.gSgn, Model.gIdx, ← Nat.add_assoc]
  try ring
theorem gp14 (c : Fin 16) (n : Fin 1024) : k0_pay108 H (ix2 c n) =
    ((Model.gprod Model.tables.G (chan (fun r => f r n)) ⟨c, by omega⟩ 14 : ℝ) : EReal) := by
  rw [Model.gprod_tables]
  pointwise [k0_pay108]
  simp only [hH, zero_coe, sub_coe, mul_coe, add_coe]
  rw [EReal.coe_eq_coe_iff]
  simp only [Fin.sum_univ_succ, chan]
  simp [Model.gSgn, Model.gIdx, ← Nat.add_assoc]
  try ring
theorem gp15 (c : Fin 16) (n : Fin 1024) : k0_pay111 H (k0_pay109 H) (k0_pay110 H) (ix2 c n) =
    ((Model.gprod Model.tables.G (chan (fun r => f r n)) ⟨c, by omega⟩ 15 : ℝ) : EReal) := by
  rw [Model.gprod_tables]
  pointwise [k0_pay111, k0_pay109, k0_pay110]
  simp only [hH, zero_coe, sub_coe, mul_coe, add_coe]
  rw [EReal.coe_eq_coe_iff]
  simp only [Fin.sum_univ_succ, chan]
  simp [Model.gSgn, Model.gIdx, ← Nat.add_assoc]
  try ring
end

section
variable (X : FVec Ideal S256x1024 .f32) (S : FVec Ideal S32x1024 .f32) (wh wl : Vec Ideal S1x576x256 .bf16) (ws : Vec Ideal S1x576x32 .f32)
  (f : ℕ → Fin 1024 → ℝ) (hH : ∀ (r : Fin 576) n, k0_pay61 X S wh wl ws (ix2 r n) = ((f r n : ℝ) : EReal))
include hH
theorem gp0 (c : Fin 16) (n : Fin 1024) : k0_pay64 (k0_pay61 X S wh wl ws) (k0_pay62 X S wh wl ws) (k0_pay63 X S wh wl ws) (ix2 c n) =
    ((Model.gprod Model.tables.G (chan (fun r => f r n)) ⟨c, by omega⟩ 0 : ℝ) : EReal) := by
  rw [Model.gprod_tables]
  pointwise [k0_pay64, k0_pay62, k0_pay63]
  simp only [hH, zero_coe, sub_coe, mul_coe, add_coe]
  rw [EReal.coe_eq_coe_iff]
  simp only [Fin.sum_univ_succ, chan]
  simp [Model.gSgn, Model.gIdx, ← Nat.add_assoc]
  try ring
end

/-- The gate of the kernel's scalar blade: its gelu. -/
def gateK (v : FVec Ideal S16x1024 .f32) : FVec Ideal S16x1024 .f32 :=
  mulf v (mulf (broadcast S16x1024 (Scalar.ofBits .f32 0x3F000000#32)) (addf (broadcast S16x1024 (Scalar.ofBits .f32 0x3F800000#32))
    (tanh (mulf (broadcast S16x1024 (Scalar.ofBits .f32 0x3F4C422A#32))
      (addf v (mulf (broadcast S16x1024 (Scalar.ofBits .f32 0x3D372713#32)) (mulf v (mulf v v))))))))

theorem gateK_real (v : FVec Ideal S16x1024 .f32) (p : Fin 16 → Fin 1024 → ℝ) (h : ∀ c n, v (ix2 c n) = ((p c n : ℝ) : EReal))
    (c : Fin 16) (n : Fin 1024) : gateK v (ix2 c n) = ((Model.gelu (p c n) : ℝ) : EReal) := by
  pointwise [gateK]
  simp only [h, w_gc1, w_gc2, w_half, one_coe, mul_coe, add_coe, tanh_coe]
  simp only [Model.gelu, mul_assoc]

/-- Sixteen blocks of 16 rows stacked. -/
def stackK (g : Fin 16 → FVec Ideal S16x1024 .f32) : FVec Ideal S256x1024 .f32 :=
  concatenate S256x1024 0 (List.ofFn fun k : Fin 16 => (⟨S16x1024, g k⟩ : (s : Shape) × (s.Idx → EReal)))
    concatenates_S16x1024_S16x1024_S16x1024_S16x1024_S16x1024_S16x1024_S16x1024_S16x1024_S16x1024_S16x1024_S16x1024_S16x1024_S16x1024_S16x1024_S16x1024_S16x1024_S256x1024_d0

theorem stackK_at (g : Fin 16 → FVec Ideal S16x1024 .f32) (R : Fin 256) (n : Fin 1024) :
    stackK g (ix2 R n) = g ⟨R / 16, by omega⟩ (ix2 ⟨R % 16, Nat.mod_lt _ (by norm_num)⟩ n) :=
  concatenate_ofFn_apply (t := S256x1024) (s₁ := S16x1024) 0 g
    concatenates_S16x1024_S16x1024_S16x1024_S16x1024_S16x1024_S16x1024_S16x1024_S16x1024_S16x1024_S16x1024_S16x1024_S16x1024_S16x1024_S16x1024_S16x1024_S16x1024_S256x1024_d0 rfl 16 rfl (ix2 R n) ⟨R / 16, by omega⟩ rfl (ix2 ⟨R % 16, Nat.mod_lt _ (by norm_num)⟩ n) rfl fun b hb => match b, hb with
    | ⟨0, _⟩, hb => absurd rfl hb
    | ⟨1, _⟩, _ => rfl

/-- The gated product's rows: each blade times the gelu of the scalar blade. -/
theorem gate_mv (g : Fin 16 → FVec Ideal S16x1024 .f32) (P : Fin 16 → Fin 16 → Fin 1024 → ℝ)
    (h : ∀ k c n, g k (ix2 c n) = ((P k c n : ℝ) : EReal)) (R : Fin 256) (n : Fin 1024) :
    k0_pay112 (g 0) (g 1) (g 2) (g 3) (g 4) (g 5) (g 6) (g 7) (g 8) (g 9) (g 10) (g 11) (g 12) (g 13) (g 14) (g 15) (ix2 R n) =
      ((P ⟨R / 16, by omega⟩ ⟨R % 16, Nat.mod_lt _ (by norm_num)⟩ n * Model.gelu (P 0 ⟨R % 16, Nat.mod_lt _ (by norm_num)⟩ n) : ℝ) : EReal) := by
  have e : k0_pay112 (g 0) (g 1) (g 2) (g 3) (g 4) (g 5) (g 6) (g 7) (g 8) (g 9) (g 10) (g 11) (g 12) (g 13) (g 14) (g 15) =
    stackK fun k => mulf (g k) (gateK (g 0)) := rfl
  rw [e, stackK_at]
  pointwise
  rw [h, gateK_real _ _ (h 0), mul_coe]

section
variable (H : FVec Ideal S576x1024 .f32) (f : ℕ → Fin 1024 → ℝ) (hH : ∀ (r : Fin 576) n, H (ix2 r n) = ((f r n : ℝ) : EReal))
include hH
/-- The gated scalars. -/
theorem gate_s (d : Fin 32) (n : Fin 1024) : k0_pay113 H (ix2 d n) = ((f (512 + d) n * Model.gelu (f (544 + d) n) : ℝ) : EReal) := by
  pointwise [k0_pay113]
  simp only [hH, w_gc1, w_gc2, w_half, one_coe, mul_coe, add_coe, tanh_coe]
  simp only [Model.gelu, mul_assoc]
end

section
variable (X G : FVec Ideal S256x1024 .f32) (S s : FVec Ideal S32x1024 .f32) (wh wl : Vec Ideal S1x288x256 .bf16) (ws : Vec Ideal S1x288x32 .f32)
  (x g : Fin 256 → Fin 1024 → ℝ) (y z : Fin 32 → Fin 1024 → ℝ) (w : Fin 288 → Fin 256 → ℝ) (u : Fin 288 → Fin 32 → ℝ)
  (hX : ∀ R n, X (ix2 R n) = ((x R n : ℝ) : EReal)) (hG : ∀ R n, G (ix2 R n) = ((g R n : ℝ) : EReal))
  (hS : ∀ d n, S (ix2 d n) = ((y d n : ℝ) : EReal)) (hs : ∀ d n, s (ix2 d n) = ((z d n : ℝ) : EReal))
  (hwh : ∀ r c, wh (ix3 0 r c) = ((w r c : ℝ) : EReal)) (hwl : ∀ r c, wl (ix3 0 r c) = ((0 : ℝ) : EReal))
  (hws : ∀ r c, ws (ix3 0 r c) = ((u r c : ℝ) : EReal))
include hG hs hwh hwl hws

/-- The multilayer perceptron's second product. -/
theorem m2_real (r : Fin 288) (n : Fin 1024) : k0_pay3 G s (k0_pay114 wh) wl ws (ix2 r n) =
    (((∑ c, w r c * g c n) + ∑ d, u r d * z d n : ℝ) : EReal) := by
  pointwise [k0_pay3, k0_pay114]
  simp only [hG, hs, hwh, hwl, hws, mul_coe, sum_coe, add_coe, sub_coe]
  simp only [sub_self, mul_zero, zero_mul, Finset.sum_const_zero, zero_add]

include hX in
/-- The layer's new multivectors. -/
theorem new_mv (R : Fin 256) (n : Fin 1024) : k0_pay4 X G s (k0_pay114 wh) wl ws (ix2 R n) =
    ((x R n + ((∑ c, w ⟨R, by omega⟩ c * g c n) + ∑ d, u ⟨R, by omega⟩ d * z d n) : ℝ) : EReal) := by
  have e := m2_real G s wh wl ws g z w u hG hs hwh hwl hws
  pointwise [k0_pay4]
  simp only [hX, e, add_coe]

include hS in
/-- The layer's new scalars. -/
theorem new_s (d : Fin 32) (n : Fin 1024) : k0_pay5 S G s (k0_pay114 wh) wl ws (ix2 d n) =
    ((y d n + ((∑ c, w ⟨256 + d, by omega⟩ c * g c n) + ∑ e, u ⟨256 + d, by omega⟩ e * z e n) : ℝ) : EReal) := by
  have e := m2_real G s wh wl ws g z w u hG hs hwh hwl hws
  pointwise [k0_pay5]
  simp only [hS, e, add_coe]
end
end Cert.KernelIdeal.Gen
-- ==== Proof.KLayer.lean ====
module

public import proofs.«01_k».proof.Proof.KNorm
public import proofs.«01_k».proof.Proof.KHeads
public import proofs.«01_k».proof.Proof.KProd

@[expose] public section

set_option maxRecDepth 16384

noncomputable section

/-! One layer of the kernel: the arrays it computes, and that they are the model's layer in the kernel's row order. -/

namespace Cert.KernelIdeal.Gen
open Idealize.ShloMosaic Cert.Lift
open Cert.Model (rowOf sum256)

/-- The arrays a layer reads besides the state: the mask of the inner product, and the layer's weights, each matrix over the
    multivector rows in two halves. -/
structure Ops where
  m : Vec Ideal S256x1 .f32
  qh : Vec Ideal S1x704x256 .bf16
  ql : Vec Ideal S1x704x256 .bf16
  qs : Vec Ideal S1x704x32 .f32
  oh : Vec Ideal S1x288x288 .bf16
  ol : Vec Ideal S1x288x288 .bf16
  h1 : Vec Ideal S1x576x256 .bf16
  l1 : Vec Ideal S1x576x256 .bf16
  s1 : Vec Ideal S1x576x32 .f32
  h2 : Vec Ideal S1x288x256 .bf16
  l2 : Vec Ideal S1x288x256 .bf16
  s2 : Vec Ideal S1x288x32 .f32

/-- The arrays hold the layer's weights in the kernel's order, and the second halves vanish. -/
structure OpsReal (o : Ops) (w : Model.Weights) : Prop where
  m : ∀ R : Fin 256, o.m (ix2 R 0) = ((Model.tables.N ⟨R / 16, by omega⟩ : ℝ) : EReal)
  qh : ∀ r c, o.qh (ix3 0 r c) = ((Model.qscl r * Model.canX Model.tables.B w.qw w.qms (Model.qrow r) c : ℝ) : EReal)
  ql : ∀ r c, o.ql (ix3 0 r c) = ((0 : ℝ) : EReal)
  qs : ∀ r c, o.qs (ix3 0 r c) = ((Model.qscl r * Model.canS w.qsm w.qss (Model.qrow r) c : ℝ) : EReal)
  oh : ∀ (r j : Fin 288), o.oh (ix3 0 r j) = ((Model.canXS Model.tables.B w.ow w.osm w.oms w.oss (Model.orow r) (Model.ocol j) : ℝ) : EReal)
  ol : ∀ r c, o.ol (ix3 0 r c) = ((0 : ℝ) : EReal)
  h1 : ∀ r c, o.h1 (ix3 0 r c) = ((Model.canX Model.tables.B w.m1w w.m1ms (Model.mrow r) c : ℝ) : EReal)
  l1 : ∀ r c, o.l1 (ix3 0 r c) = ((0 : ℝ) : EReal)
  s1 : ∀ r c, o.s1 (ix3 0 r c) = ((Model.canS w.m1sm w.m1ss (Model.mrow r) c : ℝ) : EReal)
  h2 : ∀ r c, o.h2 (ix3 0 r c) = ((Model.canX Model.tables.B w.m2w w.m2ms (Model.orow r) c : ℝ) : EReal)
  l2 : ∀ r c, o.l2 (ix3 0 r c) = ((0 : ℝ) : EReal)
  s2 : ∀ r c, o.s2 (ix3 0 r c) = ((Model.canS w.m2sm w.m2ss (Model.orow r) c : ℝ) : EReal)

section
variable (o : Ops) (X : FVec Ideal S256x1024 .f32) (S : FVec Ideal S32x1024 .f32)

/-- The queries, keys and values, whole and in two halves. -/
abbrev VK : FVec Ideal S704x1024 .f32 := k0_pay7 o.m X S o.qh o.ql o.qs
abbrev AK : FVec Ideal S704x1024 .bf16 := k0_pay8 o.m X S o.qh o.ql o.qs
abbrev BK : FVec Ideal S704x1024 .bf16 := k0_pay9 (VK o X S) (AK o X S)
abbrev o0K : FVec Ideal S36x1024 .f32 := k0_pay12 (VK o X S) (AK o X S)
abbrev o1K : FVec Ideal S36x1024 .f32 := k0_pay14 (VK o X S) (AK o X S) (BK o X S) k0_pay10 k0_pay11 (k0_pay13 (VK o X S))
abbrev o2K : FVec Ideal S36x1024 .f32 := k0_pay23 k0_pay10 k0_pay11 (k0_pay15 (VK o X S)) (k0_pay16 (AK o X S)) (k0_pay17 (BK o X S)) (k0_pay18 (AK o X S)) (k0_pay19 (BK o X S)) (k0_pay20 (AK o X S)) (k0_pay21 (BK o X S)) (k0_pay22 (VK o X S))
abbrev o3K : FVec Ideal S36x1024 .f32 := k0_pay32 k0_pay10 k0_pay11 (k0_pay24 (AK o X S)) (k0_pay25 (BK o X S)) (k0_pay26 (AK o X S)) (k0_pay27 (BK o X S)) (k0_pay28 (AK o X S)) (k0_pay29 (BK o X S)) (k0_pay30 (VK o X S)) (k0_pay31 (VK o X S))
abbrev o4K : FVec Ideal S36x1024 .f32 := k0_pay39 k0_pay10 k0_pay11 (k0_pay33 (AK o X S)) (k0_pay34 (BK o X S)) (k0_pay35 (AK o X S)) (k0_pay36 (BK o X S)) (k0_pay37 (VK o X S)) (k0_pay38 (AK o X S) (BK o X S))
abbrev o5K : FVec Ideal S36x1024 .f32 := k0_pay45 k0_pay10 k0_pay11 (k0_pay40 (AK o X S)) (k0_pay41 (BK o X S)) (k0_pay42 (VK o X S) (AK o X S) (BK o X S)) (k0_pay43 (VK o X S) (AK o X S) (BK o X S)) (k0_pay44 (VK o X S) (AK o X S) (BK o X S))
abbrev o6K : FVec Ideal S36x1024 .f32 := k0_pay51 (k0_pay47 (VK o X S) (AK o X S) (BK o X S)) (k0_pay48 (AK o X S) k0_pay10) (k0_pay49 (VK o X S) (AK o X S) (BK o X S) k0_pay10) (k0_pay50 (VK o X S) (AK o X S) (BK o X S) k0_pay11)

/-- The state after the attention, and normalised. -/
abbrev X1K : FVec Ideal S256x1024 .f32 := k0_pay57 X (o0K o X S) (o1K o X S) (o2K o X S) (o3K o X S) (o4K o X S) (o5K o X S) (o6K o X S) (k0_pay53 (VK o X S) (AK o X S) (BK o X S) k0_pay10 k0_pay11) (k0_pay54 (VK o X S) (AK o X S) (BK o X S) k0_pay10 k0_pay11) k0_pay55 o.oh o.ol
abbrev S1K : FVec Ideal S32x1024 .f32 := k0_pay58 S (o0K o X S) (o1K o X S) (o2K o X S) (o3K o X S) (o4K o X S) (o5K o X S) (o6K o X S) (k0_pay53 (VK o X S) (AK o X S) (BK o X S) k0_pay10 k0_pay11) (k0_pay54 (VK o X S) (AK o X S) (BK o X S) k0_pay10 k0_pay11) k0_pay55 o.oh o.ol
abbrev XnK : FVec Ideal S256x1024 .f32 := k0_pay59 o.m X (o0K o X S) (o1K o X S) (o2K o X S) (o3K o X S) (o4K o X S) (o5K o X S) (o6K o X S) (k0_pay53 (VK o X S) (AK o X S) (BK o X S) k0_pay10 k0_pay11) (k0_pay54 (VK o X S) (AK o X S) (BK o X S) k0_pay10 k0_pay11) k0_pay55 o.oh o.ol
abbrev SnK : FVec Ideal S32x1024 .f32 := k0_pay60 S (o0K o X S) (o1K o X S) (o2K o X S) (o3K o X S) (o4K o X S) (o5K o X S) (o6K o X S) (k0_pay53 (VK o X S) (AK o X S) (BK o X S) k0_pay10 k0_pay11) (k0_pay54 (VK o X S) (AK o X S) (BK o X S) k0_pay10 k0_pay11) k0_pay55 o.oh o.ol

/-- The multilayer perceptron's first product, the blades of its geometric product, and the gated product. -/
abbrev HK (X : FVec Ideal S256x1024 .f32) (S : FVec Ideal S32x1024 .f32) : FVec Ideal S576x1024 .f32 := k0_pay61 X S o.h1 o.l1 o.s1
def gK (X : FVec Ideal S256x1024 .f32) (S : FVec Ideal S32x1024 .f32) (H : FVec Ideal S576x1024 .f32) (k : Fin 16) : FVec Ideal S16x1024 .f32 := match k with
  | ⟨0, _⟩ => k0_pay64 H (k0_pay62 X S o.h1 o.l1 o.s1) (k0_pay63 X S o.h1 o.l1 o.s1)
  | ⟨1, _⟩ => k0_pay68 H (k0_pay65 H) (k0_pay66 H) (k0_pay67 H)
  | ⟨2, _⟩ => k0_pay72 H (k0_pay69 H) (k0_pay70 H) (k0_pay71 H)
  | ⟨3, _⟩ => k0_pay74 H (k0_pay73 H)
  | ⟨4, _⟩ => k0_pay75 H
  | ⟨5, _⟩ => k0_pay80 H (k0_pay78 H (k0_pay76 H) (k0_pay77 H)) (k0_pay79 H)
  | ⟨6, _⟩ => k0_pay83 H (k0_pay81 H) (k0_pay82 H)
  | ⟨7, _⟩ => k0_pay89 (k0_pay86 H (k0_pay84 H) (k0_pay85 H)) (k0_pay87 H) k0_pay88
  | ⟨8, _⟩ => k0_pay90 H
  | ⟨9, _⟩ => k0_pay92 H (k0_pay91 H)
  | ⟨10, _⟩ => k0_pay93 H
  | ⟨11, _⟩ => k0_pay98 H (k0_pay95 H (k0_pay94 H)) (k0_pay96 H) (k0_pay97 H)
  | ⟨12, _⟩ => k0_pay100 H (k0_pay99 H)
  | ⟨13, _⟩ => k0_pay107 (k0_pay104 H (k0_pay101 H) (k0_pay102 H) k0_pay103) (k0_pay105 H) (k0_pay106 H)
  | ⟨14, _⟩ => k0_pay108 H
  | ⟨15, _⟩ => k0_pay111 H (k0_pay109 H) (k0_pay110 H)
  | ⟨_ + 16, h⟩ => absurd h (by omega)
abbrev GK (X : FVec Ideal S256x1024 .f32) (S : FVec Ideal S32x1024 .f32) : FVec Ideal S256x1024 .f32 :=
  k0_pay112 (gK o X S (HK o X S) 0) (gK o X S (HK o X S) 1) (gK o X S (HK o X S) 2) (gK o X S (HK o X S) 3) (gK o X S (HK o X S) 4) (gK o X S (HK o X S) 5) (gK o X S (HK o X S) 6) (gK o X S (HK o X S) 7) (gK o X S (HK o X S) 8) (gK o X S (HK o X S) 9) (gK o X S (HK o X S) 10) (gK o X S (HK o X S) 11) (gK o X S (HK o X S) 12) (gK o X S (HK o X S) 13) (gK o X S (HK o X S) 14) (gK o X S (HK o X S) 15)

/-- The layer's new state. -/
def layerX : FVec Ideal S256x1024 .f32 :=
  k0_pay4 (X1K o X S) (GK o (XnK o X S) (SnK o X S)) (k0_pay113 (HK o (XnK o X S) (SnK o X S))) (k0_pay114 o.h2) o.l2 o.s2
def layerS : FVec Ideal S32x1024 .f32 :=
  k0_pay5 (S1K o X S) (GK o (XnK o X S) (SnK o X S)) (k0_pay113 (HK o (XnK o X S) (SnK o X S))) (k0_pay114 o.h2) o.l2 o.s2

variable (w : Model.Weights) (hw : OpsReal o w) (x : Model.Mv) (s : Model.Sc)
  (hX : ∀ R n, X (ix2 R n) = ((rowOf (x n) R : ℝ) : EReal)) (hS : ∀ d n, S (ix2 d n) = ((s n d : ℝ) : EReal))
include hw hX hS

theorem VK_real (r : Fin 704) (n : Fin 1024) : VK o X S (ix2 r n) = ((Model.qkvRow w x s r n : ℝ) : EReal) := by
  rw [← Model.qkvRow_sum]
  exact qkv_real o.m X S o.qh o.ql o.qs Model.tables.N Model.tables_N_nonneg x s
    (fun r c => Model.qscl r * Model.canX Model.tables.B w.qw w.qms (Model.qrow r) c)
    (fun r c => Model.qscl r * Model.canS w.qsm w.qss (Model.qrow r) c) hw.m hX hS hw.qh hw.ql hw.qs r n

theorem AK_real (r : Fin 704) (n : Fin 1024) : AK o X S (ix2 r n) = ((Model.qkvRow w x s r n : ℝ) : EReal) := by
  rw [← VK_real o X S w hw x s hX hS]
  pointwise [k0_pay8]

theorem BK_real (r : Fin 704) (n : Fin 1024) : BK o X S (ix2 r n) = ((0 : ℝ) : EReal) :=
  lo_zero _ _ (Model.qkvRow w x s) (VK_real o X S w hw x s hX hS) (AK_real o X S w hw x s hX hS) r n

theorem head_att (h t : ℕ) (ht : t < 36) (oq ok ov : ℕ) (hq : oq = 24 * h) (hk : ok = 192 + 24 * h) (hv : ov = 384 + 40 * h) (n : Fin 1024) :
    headOf (Model.qkvRow w x s) oq ok ov ⟨t, ht⟩ n = Model.attRow w x s n (36 * h + t) := by
  have e1 : (36 * h + t) / 36 = h := by omega
  have e2 : (36 * h + t) % 36 = t := by omega
  subst hq hk hv
  rw [Model.attRow, e1, e2, headOf]
theorem o0K_real (t : Fin 36) (n : Fin 1024) : o0K o X S (ix2 t n) = ((Model.attRow w x s n t : ℝ) : EReal) :=
  (head0 (VK o X S) (AK o X S) (Model.qkvRow w x s) (VK_real o X S w hw x s hX hS) (AK_real o X S w hw x s hX hS) t n).trans
    (congrArg Real.toEReal ((head_att o X S w hw x s hX hS 0 t t.isLt _ _ _ rfl rfl rfl n).trans (by rw [Nat.mul_zero, Nat.zero_add])))
theorem o1K_real (t : Fin 36) (n : Fin 1024) : o1K o X S (ix2 t n) = ((Model.attRow w x s n (36 + t) : ℝ) : EReal) :=
  (head1 (VK o X S) (AK o X S) (BK o X S) (Model.qkvRow w x s) (VK_real o X S w hw x s hX hS) (AK_real o X S w hw x s hX hS) (BK_real o X S w hw x s hX hS) t n).trans
    (congrArg Real.toEReal (head_att o X S w hw x s hX hS 1 t t.isLt _ _ _ rfl rfl rfl n))
theorem o2K_real (t : Fin 36) (n : Fin 1024) : o2K o X S (ix2 t n) = ((Model.attRow w x s n (72 + t) : ℝ) : EReal) :=
  (head2 (VK o X S) (AK o X S) (BK o X S) (Model.qkvRow w x s) (VK_real o X S w hw x s hX hS) (AK_real o X S w hw x s hX hS) (BK_real o X S w hw x s hX hS) t n).trans
    (congrArg Real.toEReal (head_att o X S w hw x s hX hS 2 t t.isLt _ _ _ rfl rfl rfl n))
theorem o3K_real (t : Fin 36) (n : Fin 1024) : o3K o X S (ix2 t n) = ((Model.attRow w x s n (108 + t) : ℝ) : EReal) :=
  (head3 (VK o X S) (AK o X S) (BK o X S) (Model.qkvRow w x s) (VK_real o X S w hw x s hX hS) (AK_real o X S w hw x s hX hS) (BK_real o X S w hw x s hX hS) t n).trans
    (congrArg Real.toEReal (head_att o X S w hw x s hX hS 3 t t.isLt _ _ _ rfl rfl rfl n))
theorem o4K_real (t : Fin 36) (n : Fin 1024) : o4K o X S (ix2 t n) = ((Model.attRow w x s n (144 + t) : ℝ) : EReal) :=
  (head4 (VK o X S) (AK o X S) (BK o X S) (Model.qkvRow w x s) (VK_real o X S w hw x s hX hS) (AK_real o X S w hw x s hX hS) (BK_real o X S w hw x s hX hS) t n).trans
    (congrArg Real.toEReal (head_att o X S w hw x s hX hS 4 t t.isLt _ _ _ rfl rfl rfl n))
theorem o5K_real (t : Fin 36) (n : Fin 1024) : o5K o X S (ix2 t n) = ((Model.attRow w x s n (180 + t) : ℝ) : EReal) :=
  (head5 (VK o X S) (AK o X S) (BK o X S) (Model.qkvRow w x s) (VK_real o X S w hw x s hX hS) (AK_real o X S w hw x s hX hS) (BK_real o X S w hw x s hX hS) t n).trans
    (congrArg Real.toEReal (head_att o X S w hw x s hX hS 5 t t.isLt _ _ _ rfl rfl rfl n))
theorem o6K_real (t : Fin 36) (n : Fin 1024) : o6K o X S (ix2 t n) = ((Model.attRow w x s n (216 + t) : ℝ) : EReal) :=
  (head6 (VK o X S) (AK o X S) (BK o X S) (Model.qkvRow w x s) (VK_real o X S w hw x s hX hS) (AK_real o X S w hw x s hX hS) (BK_real o X S w hw x s hX hS) t n).trans
    (congrArg Real.toEReal (head_att o X S w hw x s hX hS 6 t t.isLt _ _ _ rfl rfl rfl n))
theorem o7K_real (t : Fin 36) (n : Fin 1024) : k0_pay54 (VK o X S) (AK o X S) (BK o X S) k0_pay10 k0_pay11 (ix2 t n) *
      Ideal.div (k0_pay55 (F := Ideal) (ix2 0 n)) (k0_pay53 (VK o X S) (AK o X S) (BK o X S) k0_pay10 k0_pay11 (ix2 0 n)) = ((Model.attRow w x s n (252 + t) : ℝ) : EReal) :=
  (head7 (VK o X S) (AK o X S) (BK o X S) (Model.qkvRow w x s) (VK_real o X S w hw x s hX hS) (AK_real o X S w hw x s hX hS) (BK_real o X S w hw x s hX hS) t n).trans
    (congrArg Real.toEReal (head_att o X S w hw x s hX hS 7 t t.isLt _ _ _ rfl rfl rfl n))

theorem X1K_real (R : Fin 256) (n : Fin 1024) : X1K o X S (ix2 R n) = ((rowOf (Model.midMv Model.tables w x s n) R : ℝ) : EReal) := by
  refine (mid_mv X (o0K o X S) (o1K o X S) (o2K o X S) (o3K o X S) (o4K o X S) (o5K o X S) (o6K o X S) (k0_pay54 (VK o X S) (AK o X S) (BK o X S) k0_pay10 k0_pay11) (k0_pay53 (VK o X S) (AK o X S) (BK o X S) k0_pay10 k0_pay11) k0_pay55 o.oh o.ol
    (fun R n => rowOf (x n) R) (fun j n => Model.attRow w x s n j)
    (fun r j => Model.canXS Model.tables.B w.ow w.osm w.oms w.oss (Model.orow r) (Model.ocol j)) hX
    (o0K_real o X S w hw x s hX hS) (o1K_real o X S w hw x s hX hS) (o2K_real o X S w hw x s hX hS) (o3K_real o X S w hw x s hX hS) (o4K_real o X S w hw x s hX hS) (o5K_real o X S w hw x s hX hS) (o6K_real o X S w hw x s hX hS) (o7K_real o X S w hw x s hX hS) hw.oh hw.ol R n).trans ?_
  simp only [Model.out_sum, Model.outRow_orow_mv]
  rfl
theorem S1K_real (d : Fin 32) (n : Fin 1024) : S1K o X S (ix2 d n) = ((Model.midS Model.tables w x s n d : ℝ) : EReal) := by
  refine (mid_s S (o0K o X S) (o1K o X S) (o2K o X S) (o3K o X S) (o4K o X S) (o5K o X S) (o6K o X S) (k0_pay54 (VK o X S) (AK o X S) (BK o X S) k0_pay10 k0_pay11) (k0_pay53 (VK o X S) (AK o X S) (BK o X S) k0_pay10 k0_pay11) k0_pay55 o.oh o.ol
    (fun d n => s n d) (fun j n => Model.attRow w x s n j)
    (fun r j => Model.canXS Model.tables.B w.ow w.osm w.oms w.oss (Model.orow r) (Model.ocol j)) hS
    (o0K_real o X S w hw x s hX hS) (o1K_real o X S w hw x s hX hS) (o2K_real o X S w hw x s hX hS) (o3K_real o X S w hw x s hX hS) (o4K_real o X S w hw x s hX hS) (o5K_real o X S w hw x s hX hS) (o6K_real o X S w hw x s hX hS) (o7K_real o X S w hw x s hX hS) hw.oh hw.ol d n).trans ?_
  simp only [Model.out_sum, Model.outRow_orow_s]
  rfl
theorem XnK_real (R : Fin 256) (n : Fin 1024) :
    XnK o X S (ix2 R n) = ((rowOf (Model.normMv Model.tables.N (Model.midMv Model.tables w x s n)) R : ℝ) : EReal) :=
  norm2_mv o.m X _ _ _ _ _ _ _ _ _ _ _ _ Model.tables.N Model.tables_N_nonneg (Model.midMv Model.tables w x s) hw.m
    (X1K_real o X S w hw x s hX hS) R n
theorem SnK_real (d : Fin 32) (n : Fin 1024) : SnK o X S (ix2 d n) = ((Model.normS (Model.midS Model.tables w x s n) d : ℝ) : EReal) :=
  norm2_s S _ _ _ _ _ _ _ _ _ _ _ _ (Model.midS Model.tables w x s) (S1K_real o X S w hw x s hX hS) d n
end

section
variable (o : Ops) (X : FVec Ideal S256x1024 .f32) (S : FVec Ideal S32x1024 .f32)
  (w : Model.Weights) (hw : OpsReal o w) (x : Model.Mv) (s : Model.Sc)
  (hX : ∀ R n, X (ix2 R n) = ((rowOf (x n) R : ℝ) : EReal)) (hS : ∀ d n, S (ix2 d n) = ((s n d : ℝ) : EReal))
include hw hX hS

/-- The first product's rows. -/
theorem HK_real (r : Fin 576) (n : Fin 1024) : HK o X S (ix2 r n) =
    ((Model.outRow Model.tables.B w.m1w w.m1sm w.m1ms w.m1ss (x n) (s n) (Model.mrow r) : ℝ) : EReal) := by
  rw [← Model.can_sum]
  exact m1_real X S o.h1 o.l1 o.s1 (fun R n => rowOf (x n) R) (fun d n => s n d)
    (fun r c => Model.canX Model.tables.B w.m1w w.m1ms (Model.mrow r) c) (fun r c => Model.canS w.m1sm w.m1ss (Model.mrow r) c)
    hX hS hw.h1 hw.l1 hw.s1 r n

theorem chan_rows (n : Fin 1024) : chan (fun r => Model.outRow Model.tables.B w.m1w w.m1sm w.m1ms w.m1ss (x n) (s n) (Model.mrow r)) =
    Model.lin Model.tables.B w.m1w w.m1sm (x n) (s n) := by
  funext c i
  exact Model.outRow_mv _ _ _ _ _ _ _ _ _ _ (by rw [Model.mrow, if_pos (by omega)]; omega)

/-- The blades of the geometric product. -/
theorem gK_real (k : Fin 16) (c : Fin 16) (n : Fin 1024) : gK o X S (HK o X S) k (ix2 c n) =
    ((Model.gprod Model.tables.G (Model.lin Model.tables.B w.m1w w.m1sm (x n) (s n)) c k : ℝ) : EReal) := by
  have hH := HK_real o X S w hw x s hX hS
  rw [← chan_rows o X S w hw x s hX hS]
  match k with
  | ⟨0, _⟩ => exact gp0 X S o.h1 o.l1 o.s1 (fun r n => Model.outRow Model.tables.B w.m1w w.m1sm w.m1ms w.m1ss (x n) (s n) (Model.mrow r)) hH c n
  | ⟨1, _⟩ => exact gp1 (HK o X S) (fun r n => Model.outRow Model.tables.B w.m1w w.m1sm w.m1ms w.m1ss (x n) (s n) (Model.mrow r)) hH c n
  | ⟨2, _⟩ => exact gp2 (HK o X S) (fun r n => Model.outRow Model.tables.B w.m1w w.m1sm w.m1ms w.m1ss (x n) (s n) (Model.mrow r)) hH c n
  | ⟨3, _⟩ => exact gp3 (HK o X S) (fun r n => Model.outRow Model.tables.B w.m1w w.m1sm w.m1ms w.m1ss (x n) (s n) (Model.mrow r)) hH c n
  | ⟨4, _⟩ => exact gp4 (HK o X S) (fun r n => Model.outRow Model.tables.B w.m1w w.m1sm w.m1ms w.m1ss (x n) (s n) (Model.mrow r)) hH c n
  | ⟨5, _⟩ => exact gp5 (HK o X S) (fun r n => Model.outRow Model.tables.B w.m1w w.m1sm w.m1ms w.m1ss (x n) (s n) (Model.mrow r)) hH c n
  | ⟨6, _⟩ => exact gp6 (HK o X S) (fun r n => Model.outRow Model.tables.B w.m1w w.m1sm w.m1ms w.m1ss (x n) (s n) (Model.mrow r)) hH c n
  | ⟨7, _⟩ => exact gp7 (HK o X S) (fun r n => Model.outRow Model.tables.B w.m1w w.m1sm w.m1ms w.m1ss (x n) (s n) (Model.mrow r)) hH c n
  | ⟨8, _⟩ => exact gp8 (HK o X S) (fun r n => Model.outRow Model.tables.B w.m1w w.m1sm w.m1ms w.m1ss (x n) (s n) (Model.mrow r)) hH c n
  | ⟨9, _⟩ => exact gp9 (HK o X S) (fun r n => Model.outRow Model.tables.B w.m1w w.m1sm w.m1ms w.m1ss (x n) (s n) (Model.mrow r)) hH c n
  | ⟨10, _⟩ => exact gp10 (HK o X S) (fun r n => Model.outRow Model.tables.B w.m1w w.m1sm w.m1ms w.m1ss (x n) (s n) (Model.mrow r)) hH c n
  | ⟨11, _⟩ => exact gp11 (HK o X S) (fun r n => Model.outRow Model.tables.B w.m1w w.m1sm w.m1ms w.m1ss (x n) (s n) (Model.mrow r)) hH c n
  | ⟨12, _⟩ => exact gp12 (HK o X S) (fun r n => Model.outRow Model.tables.B w.m1w w.m1sm w.m1ms w.m1ss (x n) (s n) (Model.mrow r)) hH c n
  | ⟨13, _⟩ => exact gp13 (HK o X S) (fun r n => Model.outRow Model.tables.B w.m1w w.m1sm w.m1ms w.m1ss (x n) (s n) (Model.mrow r)) hH c n
  | ⟨14, _⟩ => exact gp14 (HK o X S) (fun r n => Model.outRow Model.tables.B w.m1w w.m1sm w.m1ms w.m1ss (x n) (s n) (Model.mrow r)) hH c n
  | ⟨15, _⟩ => exact gp15 (HK o X S) (fun r n => Model.outRow Model.tables.B w.m1w w.m1sm w.m1ms w.m1ss (x n) (s n) (Model.mrow r)) hH c n
  | ⟨_ + 16, h⟩ => exact absurd h (by omega)

theorem GK_real (R : Fin 256) (n : Fin 1024) : GK o X S (ix2 R n) =
    ((rowOf (Model.gateMv Model.tables.G (Model.lin Model.tables.B w.m1w w.m1sm (x n) (s n))) R : ℝ) : EReal) :=
  gate_mv (gK o X S (HK o X S)) (fun k c n => Model.gprod Model.tables.G (Model.lin Model.tables.B w.m1w w.m1sm (x n) (s n)) c k)
    (gK_real o X S w hw x s hX hS) R n

theorem gS_real (d : Fin 32) (n : Fin 1024) : k0_pay113 (HK o X S) (ix2 d n) =
    ((Model.gateS (Model.linS w.m1ms w.m1ss (x n) (s n)) d : ℝ) : EReal) := by
  rw [gate_s (HK o X S) (fun r n => Model.outRow Model.tables.B w.m1w w.m1sm w.m1ms w.m1ss (x n) (s n) (Model.mrow r))
    (HK_real o X S w hw x s hX hS),
    Model.outRow_s (p := (⟨d, by omega⟩ : Fin 64)), Model.outRow_s (p := (⟨32 + d, by omega⟩ : Fin 64))]
  · rfl
  · rw [Model.mrow, if_neg (by omega)]; show _ = 16 * 32 + (32 + (d : ℕ)); omega
  · rw [Model.mrow, if_neg (by omega)]
end

section
variable (o : Ops) (X : FVec Ideal S256x1024 .f32) (S : FVec Ideal S32x1024 .f32)
  (w : Model.Weights) (hw : OpsReal o w) (x : Model.Mv) (s : Model.Sc)
  (hX : ∀ R n, X (ix2 R n) = ((rowOf (x n) R : ℝ) : EReal)) (hS : ∀ d n, S (ix2 d n) = ((s n d : ℝ) : EReal))
include hw hX hS

/-- One layer's multivectors are the model's. -/
theorem layerX_real (R : Fin 256) (n : Fin 1024) : layerX o X S (ix2 R n) = ((rowOf (Model.stepMv Model.tables w x s n) R : ℝ) : EReal) := by
  have hXn := XnK_real o X S w hw x s hX hS
  have hSn := SnK_real o X S w hw x s hX hS
  refine (new_mv (X1K o X S) (GK o (XnK o X S) (SnK o X S)) (k0_pay113 (HK o (XnK o X S) (SnK o X S))) o.h2 o.l2 o.s2 _ _ _
    (fun r c => Model.canX Model.tables.B w.m2w w.m2ms (Model.orow r) c) (fun r c => Model.canS w.m2sm w.m2ss (Model.orow r) c)
    (X1K_real o X S w hw x s hX hS) (GK_real o _ _ w hw _ _ hXn hSn) (gS_real o _ _ w hw _ _ hXn hSn) hw.h2 hw.l2 hw.s2 R n).trans ?_
  simp only [Model.can_sum]
  erw [Model.outRow_orow_mv]
  rfl

/-- One layer's scalars are the model's. -/
theorem layerS_real (d : Fin 32) (n : Fin 1024) : layerS o X S (ix2 d n) = ((Model.stepS Model.tables w x s n d : ℝ) : EReal) := by
  have hXn := XnK_real o X S w hw x s hX hS
  have hSn := SnK_real o X S w hw x s hX hS
  refine (new_s (GK o (XnK o X S) (SnK o X S)) (S1K o X S) (k0_pay113 (HK o (XnK o X S) (SnK o X S))) o.h2 o.l2 o.s2 _ _ _
    (fun r c => Model.canX Model.tables.B w.m2w w.m2ms (Model.orow r) c) (fun r c => Model.canS w.m2sm w.m2ss (Model.orow r) c)
    (GK_real o _ _ w hw _ _ hXn hSn) (S1K_real o X S w hw x s hX hS) (gS_real o _ _ w hw _ _ hXn hSn) hw.h2 hw.l2 hw.s2 d n).trans ?_
  simp only [Model.can_sum]
  erw [Model.outRow_orow_s]
  rfl
end

end Cert.KernelIdeal.Gen
-- ==== Proof.KTrip.lean ====
module

public import proofs.«01_k».proof.Proof.KLayer
public import proofs.«01_k».proof.Proof.Args
public import proofs.«01_k».proof.Proof.Gen.KernelIdeal.Frame
public import Idealize.ShloMosaic.Lib.Pipeline.ValueKit

@[expose] public section

set_option maxRecDepth 16384

noncomputable section

/-! The kernel's region: from the arrays it is launched on to its result array. -/

namespace Cert.KernelIdeal.Value
open Idealize.ShloMosaic Idealize.ShloMosaic.TcCoe Idealize.SL.Sem
open Idealize.ShloMosaic.Pipeline (Dat)
open Cert.KernelIdeal Cert.KernelIdeal.Gen Cert.Lift
open Cert.Model (rowOf sum256)

/-- The arrays the region is launched on: the points, the scalars' bias, the input layer's matrix, the mask, the layers' weights,
    each multivector matrix in two halves, and the readout's two rows. -/
structure Arrays where
  inp : FVec Ideal S8x8x1024 .f32
  bs : FVec Ideal S32x1024 .f32
  a8 : FVec Ideal S256x8 .f32
  mask : FVec Ideal S256x128 .f32
  qh : FVec Ideal S8x704x256 .bf16
  ql : FVec Ideal S8x704x256 .bf16
  qs : FVec Ideal S8x704x32 .f32
  oh : FVec Ideal S8x288x288 .bf16
  ol : FVec Ideal S8x288x288 .bf16
  h1 : FVec Ideal S8x576x256 .bf16
  l1 : FVec Ideal S8x576x256 .bf16
  s1 : FVec Ideal S8x576x32 .f32
  h2 : FVec Ideal S8x288x256 .bf16
  l2 : FVec Ideal S8x288x256 .bf16
  s2 : FVec Ideal S8x288x32 .f32
  rx : FVec Ideal S8x256 .f32
  rs : FVec Ideal S8x32 .f32

/-- The region is launched on the arrays `A`. -/
structure Arrays.Reads (m : (ℓ : Loc nD τ sig) → Buf (Elt Ideal) ℓ) (A : Arrays) (c : Dev nD) : Prop where
  inp : V m c main_v132 = A.inp
  bs : V m c main_v134 = A.bs
  a8 : V m c main_v128 = A.a8
  mask : V m c main_cst_4 = A.mask
  qh : V m c main_v19 = A.qh
  ql : V m c main_v22 = A.ql
  qs : V m c main_v28 = A.qs
  oh : V m c main_v51 = A.oh
  ol : V m c main_v54 = A.ol
  h1 : V m c main_v72 = A.h1
  l1 : V m c main_v75 = A.l1
  s1 : V m c main_v79 = A.s1
  h2 : V m c main_v97 = A.h2
  l2 : V m c main_v100 = A.l2
  s2 : V m c main_v104 = A.s2
  rx : V m c main_v142 = A.rx
  rs : V m c main_v146 = A.rs

/-- The arrays the region is launched on hold the arguments in the kernel's layout. -/
structure Arrays.Real (A : Arrays) (a : Model.Args) : Prop where
  inp : ∀ (b : Fin 8) (k : Fin 8) (n : Fin 1024), A.inp (ix3 b k n) =
    ((if h : (k : ℕ) < 3 then a.pts b n ⟨k, h⟩ else if (k : ℕ) = 3 then 1 else 0 : ℝ) : EReal)
  bs : ∀ (d : Fin 32) (n : Fin 1024), A.bs (ix2 d n) = ((a.bs d : ℝ) : EReal)
  a8 : ∀ (R : Fin 256) (k : Fin 8), A.a8 (ix2 R k) =
    ((if k = 0 then -rowOf (fun o s => Model.eff Model.tables.B a.win o 0 s 13) R
      else if k = 1 then rowOf (fun o s => Model.eff Model.tables.B a.win o 0 s 12) R
      else if k = 2 then -rowOf (fun o s => Model.eff Model.tables.B a.win o 0 s 11) R
      else if k = 3 then rowOf (fun o s => Model.eff Model.tables.B a.win o 0 s 14) R else 0 : ℝ) : EReal)
  mask : ∀ (R : Fin 256), A.mask (ix2 R 0) = ((Model.tables.N ⟨R / 16, by omega⟩ : ℝ) : EReal)
  qh : ∀ (l : Fin 8) (r : Fin 704) (c' : Fin 256), A.qh (ix3 l r c') = ((Model.qscl r * Model.canX Model.tables.B (a.W l).qw (a.W l).qms (Model.qrow r) c' : ℝ) : EReal)
  ql : ∀ (l : Fin 8) (r : Fin 704) (c' : Fin 256), A.ql (ix3 l r c') = ((0 : ℝ) : EReal)
  qs : ∀ (l : Fin 8) (r : Fin 704) (c' : Fin 32), A.qs (ix3 l r c') = ((Model.qscl r * Model.canS (a.W l).qsm (a.W l).qss (Model.qrow r) c' : ℝ) : EReal)
  oh : ∀ (l : Fin 8) (r : Fin 288) (c' : Fin 288), A.oh (ix3 l r c') = ((Model.canXS Model.tables.B (a.W l).ow (a.W l).osm (a.W l).oms (a.W l).oss (Model.orow r) (Model.ocol c') : ℝ) : EReal)
  ol : ∀ (l : Fin 8) (r : Fin 288) (c' : Fin 288), A.ol (ix3 l r c') = ((0 : ℝ) : EReal)
  h1 : ∀ (l : Fin 8) (r : Fin 576) (c' : Fin 256), A.h1 (ix3 l r c') = ((Model.canX Model.tables.B (a.W l).m1w (a.W l).m1ms (Model.mrow r) c' : ℝ) : EReal)
  l1 : ∀ (l : Fin 8) (r : Fin 576) (c' : Fin 256), A.l1 (ix3 l r c') = ((0 : ℝ) : EReal)
  s1 : ∀ (l : Fin 8) (r : Fin 576) (c' : Fin 32), A.s1 (ix3 l r c') = ((Model.canS (a.W l).m1sm (a.W l).m1ss (Model.mrow r) c' : ℝ) : EReal)
  h2 : ∀ (l : Fin 8) (r : Fin 288) (c' : Fin 256), A.h2 (ix3 l r c') = ((Model.canX Model.tables.B (a.W l).m2w (a.W l).m2ms (Model.orow r) c' : ℝ) : EReal)
  l2 : ∀ (l : Fin 8) (r : Fin 288) (c' : Fin 256), A.l2 (ix3 l r c') = ((0 : ℝ) : EReal)
  s2 : ∀ (l : Fin 8) (r : Fin 288) (c' : Fin 32), A.s2 (ix3 l r c') = ((Model.canS (a.W l).m2sm (a.W l).m2ss (Model.orow r) c' : ℝ) : EReal)
  rx : ∀ R : Fin 256, A.rx (ix2 0 R) = ((rowOf (fun i s => Model.eff Model.tables.B a.wo 0 i 0 s) R : ℝ) : EReal)
  rs : ∀ d : Fin 32, A.rs (ix2 0 d) = ((a.wos 0 d : ℝ) : EReal)

/-- One trip reads slab `l` of each stacked array. -/
theorem offs : ∀ l : Fin k0_t1_loop.trips, k0_off1 l = ![l.val, 0, (0 : ℕ)] ∧ k0_off2 l = ![l.val, 0, 0] ∧ k0_off3 l = ![l.val, 0, 0] ∧ k0_off4 l = ![l.val, 0, 0]
    ∧ k0_off5 l = ![l.val, 0, (0 : ℕ)] ∧ k0_off6 l = ![l.val, 0, 0] ∧ k0_off7 l = ![l.val, 0, 0] := by decide +kernel

theorem idx : ∀ t : Fin cfg0.N, win0_0.index t = ![t.val, 0, 0] ∧ win0_1.index t = ![0, 0] ∧ win0_2.index t = ![0, 0] ∧ win0_3.index t = ![0, 0] ∧ win0_4.index t = ![0, 0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] ∧ win0_12.index t = ![0, 0, 0] ∧ win0_13.index t = ![0, 0, 0] ∧ win0_14.index t = ![0, 0, 0] ∧ win0_15.index t = ![0, 0] ∧ win0_16.index t = ![0, 0] ∧ win0_17.index t = ![t.val, 0, 0] :=
  (by decide +kernel : ∀ t : Fin grid0.N, _)

/-- Slab `l` of a stack of eight matrices. -/
def slab {a b : ℕ} (φ : EltTy) (x : Vec Ideal (⟨3, ![8, a, b]⟩ : Shape) φ) (l : Fin 8) : Vec Ideal (⟨3, ![1, a, b]⟩ : Shape) φ :=
  fun y => x (ix3 l (y 1) (y 2))

/-- The trip count. -/
theorem trips_eq : k0_t1_loop.trips = 8 := by decide +kernel

/-- The first column of a matrix of 128 columns. -/
def col0 (x : FVec Ideal S256x128 .f32) : FVec Ideal S256x1 .f32 := fun y => x (ix2 (y 0) 0)
theorem ld_col0 (x : FVec Ideal S256x128 .f32) : View.ld (S := S256x128) (Val := Elt Ideal) (e' := .f32) x (Rect.unit ![0, 0] ![256, 1] inb_S256x128_S256x1_0_0) = col0 x := by
  funext y
  refine View.ld_unit_apply_of (Val := Elt Ideal) (e := .f32) x _ _ _ y _ fun i => ?_
  match i with
  | 0 => show (y 0 : ℕ) = 0 + (y 0 : ℕ); omega
  | 1 => show 0 = 0 + (y 1 : ℕ); have := (y 1).isLt; change (y 1 : ℕ) < 1 at this; omega

/-- What trip `l` reads. -/
def Arrays.ops (A : Arrays) (l : Fin 8) : Ops where
  m := col0 A.mask
  qh := slab .bf16 A.qh l
  ql := slab .bf16 A.ql l
  qs := slab .f32 A.qs l
  oh := slab .bf16 A.oh l
  ol := slab .bf16 A.ol l
  h1 := slab .bf16 A.h1 l
  l1 := slab .bf16 A.l1 l
  s1 := slab .f32 A.s1 l
  h2 := slab .bf16 A.h2 l
  l2 := slab .bf16 A.l2 l
  s2 := slab .f32 A.s2 l

theorem Arrays.ops_real (A : Arrays) (a : Model.Args) (H : A.Real a) (l : Fin 8) : OpsReal (A.ops l) (a.W l) where
  m R := H.mask R
  qh r j := H.qh l r j
  ql r j := H.ql l r j
  qs r j := H.qs l r j
  oh r j := H.oh l r j
  ol r j := H.ol l r j
  h1 r j := H.h1 l r j
  l1 r j := H.l1 l r j
  s1 r j := H.s1 l r j
  h2 r j := H.h2 l r j
  l2 r j := H.l2 l r j
  s2 r j := H.s2 l r j

/-- A load of one slab. -/
theorem ld_slab {a b : ℕ} {φ : EltTy} (x : Vec Ideal (⟨3, ![8, a, b]⟩ : Shape) φ) (l : Fin 8) (off : Fin 3 → ℕ) (e : off = ![(l : ℕ), 0, 0])
    (h : ∀ i, off i + (![1, a, b] : Fin 3 → ℕ) i ≤ (⟨3, ![8, a, b]⟩ : Shape).size i) :
    (View.ld (S := ⟨3, ![8, a, b]⟩) (Val := Elt Ideal) (e' := φ) x (Rect.unit off ![1, a, b] h)) = slab φ x l := by
  subst e
  funext y
  refine View.ld_unit_apply_of x _ _ h y _ fun i => ?_
  match i with
  | 0 => show (l : ℕ) = l + (y 0 : ℕ); have := (y 0).isLt; change (y 0 : ℕ) < 1 at this; omega
  | 1 => show (y 1 : ℕ) = 0 + (y 1 : ℕ); omega
  | 2 => show (y 2 : ℕ) = 0 + (y 2 : ℕ); omega

theorem inb_qh : ∀ (l : Fin k0_t1_loop.trips) a, k0_off1 l a + (![1, 704, 256] : Fin 3 → ℕ) a ≤ S8x704x256.size a := by decide +kernel
theorem inb_ql : ∀ (l : Fin k0_t1_loop.trips) a, k0_off1 l a + (![1, 704, 256] : Fin 3 → ℕ) a ≤ S8x704x256.size a := by decide +kernel
theorem inb_qs : ∀ (l : Fin k0_t1_loop.trips) a, k0_off2 l a + (![1, 704, 32] : Fin 3 → ℕ) a ≤ S8x704x32.size a := by decide +kernel
theorem inb_oh : ∀ (l : Fin k0_t1_loop.trips) a, k0_off3 l a + (![1, 288, 288] : Fin 3 → ℕ) a ≤ S8x288x288.size a := by decide +kernel
theorem inb_ol : ∀ (l : Fin k0_t1_loop.trips) a, k0_off3 l a + (![1, 288, 288] : Fin 3 → ℕ) a ≤ S8x288x288.size a := by decide +kernel
theorem inb_h1 : ∀ (l : Fin k0_t1_loop.trips) a, k0_off4 l a + (![1, 576, 256] : Fin 3 → ℕ) a ≤ S8x576x256.size a := by decide +kernel
theorem inb_l1 : ∀ (l : Fin k0_t1_loop.trips) a, k0_off4 l a + (![1, 576, 256] : Fin 3 → ℕ) a ≤ S8x576x256.size a := by decide +kernel
theorem inb_s1 : ∀ (l : Fin k0_t1_loop.trips) a, k0_off5 l a + (![1, 576, 32] : Fin 3 → ℕ) a ≤ S8x576x32.size a := by decide +kernel
theorem inb_h2 : ∀ (l : Fin k0_t1_loop.trips) a, k0_off6 l a + (![1, 288, 256] : Fin 3 → ℕ) a ≤ S8x288x256.size a := by decide +kernel
theorem inb_l2 : ∀ (l : Fin k0_t1_loop.trips) a, k0_off6 l a + (![1, 288, 256] : Fin 3 → ℕ) a ≤ S8x288x256.size a := by decide +kernel
theorem inb_s2 : ∀ (l : Fin k0_t1_loop.trips) a, k0_off7 l a + (![1, 288, 32] : Fin 3 → ℕ) a ≤ S8x288x32.size a := by decide +kernel

/-- One trip over any arrays is one layer over the slabs it reads. -/
theorem st_step (c : Dev nD) (i : grid0.Coords) (a0 : Memref sig .tc .vmem S1x8x1024 .f32) (h0 : a0.IsWhole) (a1 : Memref sig .tc .vmem S32x1024 .f32) (h1 : a1.IsWhole) (a2 : Memref sig .tc .vmem S256x8 .f32) (h2 : a2.IsWhole) (a3 : Memref sig .tc .vmem S256x128 .f32) (h3 : a3.IsWhole) (a4 : Memref sig .tc .vmem S8x704x256 .bf16) (h4 : a4.IsWhole) (a5 : Memref sig .tc .vmem S8x704x256 .bf16) (h5 : a5.IsWhole) (a6 : Memref sig .tc .vmem S8x704x32 .f32) (h6 : a6.IsWhole) (a7 : Memref sig .tc .vmem S8x288x288 .bf16) (h7 : a7.IsWhole) (a8 : Memref sig .tc .vmem S8x288x288 .bf16) (h8 : a8.IsWhole) (a9 : Memref sig .tc .vmem S8x576x256 .bf16) (h9 : a9.IsWhole) (a10 : Memref sig .tc .vmem S8x576x256 .bf16) (h10 : a10.IsWhole) (a11 : Memref sig .tc .vmem S8x576x32 .f32) (h11 : a11.IsWhole) (a12 : Memref sig .tc .vmem S8x288x256 .bf16) (h12 : a12.IsWhole) (a13 : Memref sig .tc .vmem S8x288x256 .bf16) (h13 : a13.IsWhole) (a14 : Memref sig .tc .vmem S8x288x32 .f32) (h14 : a14.IsWhole) (a15 : Memref sig .tc .vmem S8x256 .f32) (h15 : a15.IsWhole) (a16 : Memref sig .tc .vmem S8x32 .f32) (h16 : a16.IsWhole) (a17 : Memref sig .tc .vmem S1x1x128 .f32) (h17 : a17.IsWhole)
    (xm : FVec Ideal S256x128 .f32) (x_qh : FVec Ideal S8x704x256 .bf16) (x_ql : FVec Ideal S8x704x256 .bf16) (x_qs : FVec Ideal S8x704x32 .f32) (x_oh : FVec Ideal S8x288x288 .bf16) (x_ol : FVec Ideal S8x288x288 .bf16) (x_h1 : FVec Ideal S8x576x256 .bf16) (x_l1 : FVec Ideal S8x576x256 .bf16) (x_s1 : FVec Ideal S8x576x32 .f32) (x_h2 : FVec Ideal S8x288x256 .bf16) (x_l2 : FVec Ideal S8x288x256 .bf16) (x_s2 : FVec Ideal S8x288x32 .f32) (init : FVec Ideal S256x1024 .f32 × FVec Ideal S32x1024 .f32) (l : Fin k0_t1_loop.trips) :
    st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) xm (Rect.unit ![0, 0] ![256, 1] inb_S256x128_S256x1_0_0)) (h4.unread x_qh) (h5.unread x_ql) (h6.unread x_qs) (h7.unread x_oh) (h8.unread x_ol) (h9.unread x_h1) (h10.unread x_l1) (h11.unread x_s1) (h12.unread x_h2) (h13.unread x_l2) (h14.unread x_s2) init (l + 1) =
    (layerX ⟨col0 xm, slab .bf16 x_qh (Fin.cast trips_eq l), slab .bf16 x_ql (Fin.cast trips_eq l), slab .f32 x_qs (Fin.cast trips_eq l), slab .bf16 x_oh (Fin.cast trips_eq l), slab .bf16 x_ol (Fin.cast trips_eq l), slab .bf16 x_h1 (Fin.cast trips_eq l), slab .bf16 x_l1 (Fin.cast trips_eq l), slab .f32 x_s1 (Fin.cast trips_eq l), slab .bf16 x_h2 (Fin.cast trips_eq l), slab .bf16 x_l2 (Fin.cast trips_eq l), slab .f32 x_s2 (Fin.cast trips_eq l)⟩
      (st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) xm (Rect.unit ![0, 0] ![256, 1] inb_S256x128_S256x1_0_0)) (h4.unread x_qh) (h5.unread x_ql) (h6.unread x_qs) (h7.unread x_oh) (h8.unread x_ol) (h9.unread x_h1) (h10.unread x_l1) (h11.unread x_s1) (h12.unread x_h2) (h13.unread x_l2) (h14.unread x_s2) init l).1 (st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) xm (Rect.unit ![0, 0] ![256, 1] inb_S256x128_S256x1_0_0)) (h4.unread x_qh) (h5.unread x_ql) (h6.unread x_qs) (h7.unread x_oh) (h8.unread x_ol) (h9.unread x_h1) (h10.unread x_l1) (h11.unread x_s1) (h12.unread x_h2) (h13.unread x_l2) (h14.unread x_s2) init l).2,
     layerS ⟨col0 xm, slab .bf16 x_qh (Fin.cast trips_eq l), slab .bf16 x_ql (Fin.cast trips_eq l), slab .f32 x_qs (Fin.cast trips_eq l), slab .bf16 x_oh (Fin.cast trips_eq l), slab .bf16 x_ol (Fin.cast trips_eq l), slab .bf16 x_h1 (Fin.cast trips_eq l), slab .bf16 x_l1 (Fin.cast trips_eq l), slab .f32 x_s1 (Fin.cast trips_eq l), slab .bf16 x_h2 (Fin.cast trips_eq l), slab .bf16 x_l2 (Fin.cast trips_eq l), slab .f32 x_s2 (Fin.cast trips_eq l)⟩
      (st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) xm (Rect.unit ![0, 0] ![256, 1] inb_S256x128_S256x1_0_0)) (h4.unread x_qh) (h5.unread x_ql) (h6.unread x_qs) (h7.unread x_oh) (h8.unread x_ol) (h9.unread x_h1) (h10.unread x_l1) (h11.unread x_s1) (h12.unread x_h2) (h13.unread x_l2) (h14.unread x_s2) init l).1 (st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) xm (Rect.unit ![0, 0] ![256, 1] inb_S256x128_S256x1_0_0)) (h4.unread x_qh) (h5.unread x_ql) (h6.unread x_qs) (h7.unread x_oh) (h8.unread x_ol) (h9.unread x_h1) (h10.unread x_l1) (h11.unread x_s1) (h12.unread x_h2) (h13.unread x_l2) (h14.unread x_s2) init l).2) := by
  rw [st_k0_t1_succ]
  unfold tripR_k0_t1 trip_k0_t1
  dsimp only
  frame_out
  have e : Ops.mk (View.ld (S := S256x128) (Val := Elt Ideal) (e' := .f32) xm (Rect.unit ![0, 0] ![256, 1] inb_S256x128_S256x1_0_0))
      (View.ld (S := S8x704x256) (Val := Elt Ideal) (e' := .bf16) x_qh (Rect.unit (k0_off1 l) ![1, 704, 256] (inb_qh l)))
      (View.ld (S := S8x704x256) (Val := Elt Ideal) (e' := .bf16) x_ql (Rect.unit (k0_off1 l) ![1, 704, 256] (inb_ql l)))
      (View.ld (S := S8x704x32) (Val := Elt Ideal) (e' := .f32) x_qs (Rect.unit (k0_off2 l) ![1, 704, 32] (inb_qs l)))
      (View.ld (S := S8x288x288) (Val := Elt Ideal) (e' := .bf16) x_oh (Rect.unit (k0_off3 l) ![1, 288, 288] (inb_oh l)))
      (View.ld (S := S8x288x288) (Val := Elt Ideal) (e' := .bf16) x_ol (Rect.unit (k0_off3 l) ![1, 288, 288] (inb_ol l)))
      (View.ld (S := S8x576x256) (Val := Elt Ideal) (e' := .bf16) x_h1 (Rect.unit (k0_off4 l) ![1, 576, 256] (inb_h1 l)))
      (View.ld (S := S8x576x256) (Val := Elt Ideal) (e' := .bf16) x_l1 (Rect.unit (k0_off4 l) ![1, 576, 256] (inb_l1 l)))
      (View.ld (S := S8x576x32) (Val := Elt Ideal) (e' := .f32) x_s1 (Rect.unit (k0_off5 l) ![1, 576, 32] (inb_s1 l)))
      (View.ld (S := S8x288x256) (Val := Elt Ideal) (e' := .bf16) x_h2 (Rect.unit (k0_off6 l) ![1, 288, 256] (inb_h2 l)))
      (View.ld (S := S8x288x256) (Val := Elt Ideal) (e' := .bf16) x_l2 (Rect.unit (k0_off6 l) ![1, 288, 256] (inb_l2 l)))
      (View.ld (S := S8x288x32) (Val := Elt Ideal) (e' := .f32) x_s2 (Rect.unit (k0_off7 l) ![1, 288, 32] (inb_s2 l))) =
    ⟨col0 xm, slab .bf16 x_qh (Fin.cast trips_eq l), slab .bf16 x_ql (Fin.cast trips_eq l), slab .f32 x_qs (Fin.cast trips_eq l), slab .bf16 x_oh (Fin.cast trips_eq l), slab .bf16 x_ol (Fin.cast trips_eq l), slab .bf16 x_h1 (Fin.cast trips_eq l), slab .bf16 x_l1 (Fin.cast trips_eq l), slab .f32 x_s1 (Fin.cast trips_eq l), slab .bf16 x_h2 (Fin.cast trips_eq l), slab .bf16 x_l2 (Fin.cast trips_eq l), slab .f32 x_s2 (Fin.cast trips_eq l)⟩ := by
    rw [Ops.mk.injEq]
    exact ⟨ld_col0 xm, ld_slab (φ := .bf16) x_qh (Fin.cast trips_eq l) _ (offs l).1 _, ld_slab (φ := .bf16) x_ql (Fin.cast trips_eq l) _ (offs l).1 _, ld_slab (φ := .f32) x_qs (Fin.cast trips_eq l) _ (offs l).2.1 _, ld_slab (φ := .bf16) x_oh (Fin.cast trips_eq l) _ (offs l).2.2.1 _, ld_slab (φ := .bf16) x_ol (Fin.cast trips_eq l) _ (offs l).2.2.1 _, ld_slab (φ := .bf16) x_h1 (Fin.cast trips_eq l) _ (offs l).2.2.2.1 _, ld_slab (φ := .bf16) x_l1 (Fin.cast trips_eq l) _ (offs l).2.2.2.1 _, ld_slab (φ := .f32) x_s1 (Fin.cast trips_eq l) _ (offs l).2.2.2.2.1 _, ld_slab (φ := .bf16) x_h2 (Fin.cast trips_eq l) _ (offs l).2.2.2.2.2.1 _, ld_slab (φ := .bf16) x_l2 (Fin.cast trips_eq l) _ (offs l).2.2.2.2.2.1 _, ld_slab (φ := .f32) x_s2 (Fin.cast trips_eq l) _ (offs l).2.2.2.2.2.2 _⟩
  rw [← e]
  rfl

end Cert.KernelIdeal.Value

end
-- ==== Proof.KHost.lean ====
module

public import proofs.«01_k».proof.Proof.KCanon
public import proofs.«01_k».proof.Proof.KLits
public import proofs.«01_k».proof.Proof.KTrip

@[expose] public section

set_option maxRecDepth 16384

noncomputable section

/-! The layers' weights as the kernel's program lays them out. -/

namespace Cert.KernelIdeal.Value
open Idealize.ShloMosaic Idealize.ShloMosaic.TcCoe
open Cert.KernelIdeal Cert.KernelIdeal.Gen Cert.Lift Cert.Layout
open Cert.Model (eff canX canS canXS tables qrow qscl orow ocol mrow)

/-- A matrix in two halves: its rounding, and what the rounding leaves. -/
def hi {s : Shape} (x : FVec Ideal s .f32) : FVec Ideal s .bf16 := truncf .bf16 x bitsLt_bf16_f32
def lo {s : Shape} (x : FVec Ideal s .f32) : FVec Ideal s .bf16 := truncf .bf16 (subf x (extf .f32 (hi x) bitsLt_bf16_f32)) bitsLt_bf16_f32

theorem hi_apply {s : Shape} (x : FVec Ideal s .f32) (i : s.Idx) : hi x i = x i := rfl
theorem lo_real {s : Shape} (x : FVec Ideal s .f32) (i : s.Idx) (a : ℝ) (h : x i = ((a : ℝ) : EReal)) : lo x i = ((0 : ℝ) : EReal) := by
  show (x i - x i : EReal) = _
  rw [h, sub_coe, sub_self]

/-- The blade matrices of a layer. -/
def dotQ (x : FVec Ideal S8x48x16x9 .f32) : FVec Ideal S16x16x8x48x16 .f32 := Host.dotGeneral dot_S9x16x16_S8x48x16x9_S16x16x8x48x16_0_3_12_012_n_n (some .fp32) basis x
def dotO (x : FVec Ideal S8x16x16x9 .f32) : FVec Ideal S16x16x8x16x16 .f32 := Host.dotGeneral dot_S9x16x16_S8x16x16x9_S16x16x8x16x16_0_3_12_012_n_n (some .fp32) basis x
def dotM (x : FVec Ideal S8x32x16x9 .f32) : FVec Ideal S16x16x8x32x16 .f32 := Host.dotGeneral dot_S9x16x16_S8x32x16x9_S16x16x8x32x16_0_3_12_012_n_n (some .fp32) basis x

theorem dot_real {O : ℕ} (w : Fin 8 → Fin O → Fin 16 → Fin 9 → ℝ) (a b : Fin 16) (l : Fin 8) (o : Fin O) (i : Fin 16) :
    (∑ k, ((tables.B k a b : ℝ) : EReal) * ((w l o i k : ℝ) : EReal)) = ((eff tables.B (w l) o i a b : ℝ) : EReal) := by
  simp only [mul_coe, sum_coe]
  rw [EReal.coe_eq_coe_iff, eff]
  exact Finset.sum_congr rfl fun k _ => mul_comm _ _

theorem dotQ_real (x) (w : Fin 8 → Fin 48 → Fin 16 → Fin 9 → ℝ) (h : ∀ l o i k, x (ix4 l o i k) = ((w l o i k : ℝ) : EReal)) (a b : Fin 16) (l : Fin 8)
    (o : Fin 48) (i : Fin 16) : dotQ x (ix5 a b l o i) = ((eff tables.B (w l) o i a b : ℝ) : EReal) := by
  rw [← dot_real]
  unfold dotQ
  pointwise
  simp only [basis_real, h]
theorem dotO_real (x) (w : Fin 8 → Fin 16 → Fin 16 → Fin 9 → ℝ) (h : ∀ l o i k, x (ix4 l o i k) = ((w l o i k : ℝ) : EReal)) (a b : Fin 16) (l : Fin 8)
    (o : Fin 16) (i : Fin 16) : dotO x (ix5 a b l o i) = ((eff tables.B (w l) o i a b : ℝ) : EReal) := by
  rw [← dot_real]
  unfold dotO
  pointwise
  simp only [basis_real, h]
theorem dotM_real (x) (w : Fin 8 → Fin 32 → Fin 16 → Fin 9 → ℝ) (h : ∀ l o i k, x (ix4 l o i k) = ((w l o i k : ℝ) : EReal)) (a b : Fin 16) (l : Fin 8)
    (o : Fin 32) (i : Fin 16) : dotM x (ix5 a b l o i) = ((eff tables.B (w l) o i a b : ℝ) : EReal) := by
  rw [← dot_real]
  unfold dotM
  pointwise
  simp only [basis_real, h]

/-- The query, key and value layer's matrices. -/
def qkvX (w : FVec Ideal S8x48x16x9 .f32) (v : FVec Ideal S8x96x16 .f32) : FVec Ideal S8x704x256 .f32 :=
  mulf (takeRows bcast_S_S704 bcast_S704_S704x1_0 bcast_S_S704x1 bcast_S1_S1x1_1 bcast_S1x1_S704x1_0_1 reducesTo_S704x1_S704_d1 h_S_ 865#32 864#32
      (fun i => lit1 (S704.rowMajor i)) bcast_S704_S8x704x256_1 bcast_S_S8x704x256 gather_S8x865x256_S704x1_S8x704x256_02_1_n_n_1_1_81256_wf
      (padRow bcast_S_S8x1x256 concatenates_S8x864x256_S8x1x256_S8x865x256_d1
        (matX transposes_S16x16x8x48x16_S8x48x16x16x16_2_3_0_1_4 shapeCasts_S8x48x16x16x16_S8x768x256 bcast_S_S8x96x16x16 bcast_S_S1
          scatter_S8x96x16x16_S1_S8x96x16_012_2_2_0_wf shapeCasts_S8x96x16x16_S8x96x256 concatenates_S8x768x256_S8x96x256_S8x864x256_d1 (dotQ w) v)))
    (broadcastInDim S8x704x256 ![0, 1, 2] bcast_S1x704x1_S8x704x256_0_1_2 (fun i => FloatOps.ofBits .f32 (lit2 (S1x704x1.rowMajor i))))
def qkvS (u : FVec Ideal S8x48x32 .f32) (v : FVec Ideal S8x96x32 .f32) : FVec Ideal S8x704x32 .f32 :=
  mulf (takeRows bcast_S_S704 bcast_S704_S704x1_0 bcast_S_S704x1 bcast_S1_S1x1_1 bcast_S1x1_S704x1_0_1 reducesTo_S704x1_S704_d1 h_S_ 865#32 864#32
      (fun i => lit1 (S704.rowMajor i)) bcast_S704_S8x704x32_1 bcast_S_S8x704x32 gather_S8x865x32_S704x1_S8x704x32_02_1_n_n_1_1_8132_wf
      (padRow bcast_S_S8x1x32 concatenates_S8x864x32_S8x1x32_S8x865x32_d1
        (matS bcast_S_S8x48x16x32 bcast_S_S1 scatter_S8x48x16x32_S1_S8x48x32_012_2_2_0_wf shapeCasts_S8x48x16x32_S8x768x32
          concatenates_S8x768x32_S8x96x32_S8x864x32_d1 u v)))
    (broadcastInDim S8x704x32 ![0, 1, 2] bcast_S1x704x1_S8x704x32_0_1_2 (fun i => FloatOps.ofBits .f32 (lit2 (S1x704x1.rowMajor i))))

/-- The output layer's matrix, over the multivector and the scalar columns. -/
def outXS (w : FVec Ideal S8x16x16x9 .f32) (u : FVec Ideal S8x16x32 .f32) (v : FVec Ideal S8x32x16 .f32) (z : FVec Ideal S8x32x32 .f32) : FVec Ideal S8x288x288 .f32 :=
  takeCols bcast_S_S288 bcast_S288_S288x1_0 bcast_S_S288x1 bcast_S1_S1x1_1 bcast_S1x1_S288x1_0_1 reducesTo_S288x1_S288_d1 h_S_ 289#32 288#32
    (fun i => lit4 (S288.rowMajor i)) bcast_S288_S8x288x288_2 bcast_S_S8x288x288 gather_S8x288x289_S288x1_S8x288x288_01_2_n_n_2_1_82881_wf
    (padCol bcast_S_S8x288x1 concatenates_S8x288x288_S8x288x1_S8x288x289_d2
      (takeRows bcast_S_S288 bcast_S288_S288x1_0 bcast_S_S288x1 bcast_S1_S1x1_1 bcast_S1x1_S288x1_0_1 reducesTo_S288x1_S288_d1 h_S_ 289#32 288#32
        (fun i => lit3 (S288.rowMajor i)) bcast_S288_S8x288x288_1 bcast_S_S8x288x288 gather_S8x289x288_S288x1_S8x288x288_02_1_n_n_1_1_81288_wf
        (padRow bcast_S_S8x1x288 concatenates_S8x288x288_S8x1x288_S8x289x288_d1
          (concatenate S8x288x288 2
            [⟨S8x288x256, matX transposes_S16x16x8x16x16_S8x16x16x16x16_2_3_0_1_4 shapeCasts_S8x16x16x16x16_S8x256x256 bcast_S_S8x32x16x16 bcast_S_S1
              scatter_S8x32x16x16_S1_S8x32x16_012_2_2_0_wf shapeCasts_S8x32x16x16_S8x32x256 concatenates_S8x256x256_S8x32x256_S8x288x256_d1 (dotO w) v⟩,
             ⟨S8x288x32, matS bcast_S_S8x16x16x32 bcast_S_S1 scatter_S8x16x16x32_S1_S8x16x32_012_2_2_0_wf shapeCasts_S8x16x16x32_S8x256x32
              concatenates_S8x256x32_S8x32x32_S8x288x32_d1 u z⟩] concatenates_S8x288x256_S8x288x32_S8x288x288_d2))))

/-- The first gated layer's matrices. -/
def m1X (w : FVec Ideal S8x32x16x9 .f32) (v : FVec Ideal S8x64x16 .f32) : FVec Ideal S8x576x256 .f32 :=
  takeRows bcast_S_S576 bcast_S576_S576x1_0 bcast_S_S576x1 bcast_S1_S1x1_1 bcast_S1x1_S576x1_0_1 reducesTo_S576x1_S576_d1 h_S_ 577#32 576#32
      (fun i => lit5 (S576.rowMajor i)) bcast_S576_S8x576x256_1 bcast_S_S8x576x256 gather_S8x577x256_S576x1_S8x576x256_02_1_n_n_1_1_81256_wf
      (padRow bcast_S_S8x1x256 concatenates_S8x576x256_S8x1x256_S8x577x256_d1
        (matX transposes_S16x16x8x32x16_S8x32x16x16x16_2_3_0_1_4 shapeCasts_S8x32x16x16x16_S8x512x256 bcast_S_S8x64x16x16 bcast_S_S1
          scatter_S8x64x16x16_S1_S8x64x16_012_2_2_0_wf shapeCasts_S8x64x16x16_S8x64x256 concatenates_S8x512x256_S8x64x256_S8x576x256_d1 (dotM w) v))
def m1S (u : FVec Ideal S8x32x32 .f32) (v : FVec Ideal S8x64x32 .f32) : FVec Ideal S8x576x32 .f32 :=
  takeRows bcast_S_S576 bcast_S576_S576x1_0 bcast_S_S576x1 bcast_S1_S1x1_1 bcast_S1x1_S576x1_0_1 reducesTo_S576x1_S576_d1 h_S_ 577#32 576#32
      (fun i => lit5 (S576.rowMajor i)) bcast_S576_S8x576x32_1 bcast_S_S8x576x32 gather_S8x577x32_S576x1_S8x576x32_02_1_n_n_1_1_8132_wf
      (padRow bcast_S_S8x1x32 concatenates_S8x576x32_S8x1x32_S8x577x32_d1
        (matS bcast_S_S8x32x16x32 bcast_S_S1 scatter_S8x32x16x32_S1_S8x32x32_012_2_2_0_wf shapeCasts_S8x32x16x32_S8x512x32
          concatenates_S8x512x32_S8x64x32_S8x576x32_d1 u v))

/-- The second gated layer's matrices. -/
def m2X (w : FVec Ideal S8x16x16x9 .f32) (v : FVec Ideal S8x32x16 .f32) : FVec Ideal S8x288x256 .f32 :=
  takeRows bcast_S_S288 bcast_S288_S288x1_0 bcast_S_S288x1 bcast_S1_S1x1_1 bcast_S1x1_S288x1_0_1 reducesTo_S288x1_S288_d1 h_S_ 289#32 288#32
      (fun i => lit3 (S288.rowMajor i)) bcast_S288_S8x288x256_1 bcast_S_S8x288x256 gather_S8x289x256_S288x1_S8x288x256_02_1_n_n_1_1_81256_wf
      (padRow bcast_S_S8x1x256 concatenates_S8x288x256_S8x1x256_S8x289x256_d1
        (matX transposes_S16x16x8x16x16_S8x16x16x16x16_2_3_0_1_4 shapeCasts_S8x16x16x16x16_S8x256x256 bcast_S_S8x32x16x16 bcast_S_S1
          scatter_S8x32x16x16_S1_S8x32x16_012_2_2_0_wf shapeCasts_S8x32x16x16_S8x32x256 concatenates_S8x256x256_S8x32x256_S8x288x256_d1 (dotO w) v))
def m2S (u : FVec Ideal S8x16x32 .f32) (v : FVec Ideal S8x32x32 .f32) : FVec Ideal S8x288x32 .f32 :=
  takeRows bcast_S_S288 bcast_S288_S288x1_0 bcast_S_S288x1 bcast_S1_S1x1_1 bcast_S1x1_S288x1_0_1 reducesTo_S288x1_S288_d1 h_S_ 289#32 288#32
      (fun i => lit3 (S288.rowMajor i)) bcast_S288_S8x288x32_1 bcast_S_S8x288x32 gather_S8x289x32_S288x1_S8x288x32_02_1_n_n_1_1_8132_wf
      (padRow bcast_S_S8x1x32 concatenates_S8x288x32_S8x1x32_S8x289x32_d1
        (matS bcast_S_S8x16x16x32 bcast_S_S1 scatter_S8x16x16x32_S1_S8x16x32_012_2_2_0_wf shapeCasts_S8x16x16x32_S8x256x32
          concatenates_S8x256x32_S8x32x32_S8x288x32_d1 u v))

/-- Rows after the last are zero. -/
theorem canX_end {O P : ℕ} (B : Fin 9 → Fin 16 → Fin 16 → ℝ) (w : Fin O → Fin 16 → Fin 9 → ℝ) (v : Fin P → Fin 16 → ℝ) (c : Fin 256) (T : ℕ) (hT : T = 16 * O + P) :
    canX B w v T c = 0 := by
  rw [canX, dif_neg (by omega), dif_neg (by omega)]
theorem canS_end {O P : ℕ} (w : Fin O → Fin 32 → ℝ) (v : Fin P → Fin 32 → ℝ) (c : Fin 32) (T : ℕ) (hT : T = 16 * O + P) : canS w v T c = 0 := by
  rw [canS, dif_neg (by omega), dif_neg (by omega)]

theorem qkvX_real (w) (v) (W : Fin 8 → Fin 48 → Fin 16 → Fin 9 → ℝ) (hw : ∀ l o i k, w (ix4 l o i k) = ((W l o i k : ℝ) : EReal))
    (U : Fin 8 → Fin 96 → Fin 16 → ℝ) (hv : ∀ l p i, v (ix3 l p i) = ((U l p i : ℝ) : EReal)) (l : Fin 8) (r : Fin 704) (c : Fin 256) :
    qkvX w v (ix3 l r c) = ((qscl r * canX tables.B (W l) (U l) (qrow r) c : ℝ) : EReal) := by
  unfold qkvX
  refine (congrArg₂ (· * ·) (takeRows_real _ _ _ _ _ _ _ _ _ _ _ _ _ _ qrow table1 lit1_lt (by decide) (fun l r c => canX tables.B (W l) (U l) r c)
    (padRow_real _ _ _ rfl _ (matX_real _ _ _ _ _ _ _ _ _ rfl rfl _ W U (dotQ_real w W hw) hv) fun l c => canX_end _ _ _ _ _ rfl) l r c) (scale_real r)).trans ?_
  rw [mul_coe, mul_comm]

theorem qkvS_real (u) (v) (U : Fin 8 → Fin 48 → Fin 32 → ℝ) (hu : ∀ l o d, u (ix3 l o d) = ((U l o d : ℝ) : EReal))
    (Z : Fin 8 → Fin 96 → Fin 32 → ℝ) (hv : ∀ l p d, v (ix3 l p d) = ((Z l p d : ℝ) : EReal)) (l : Fin 8) (r : Fin 704) (c : Fin 32) :
    qkvS u v (ix3 l r c) = ((qscl r * canS (U l) (Z l) (qrow r) c : ℝ) : EReal) := by
  unfold qkvS
  refine (congrArg₂ (· * ·) (takeRows_real _ _ _ _ _ _ _ _ _ _ _ _ _ _ qrow table1 lit1_lt (by decide) (fun l r c => canS (U l) (Z l) r c)
    (padRow_real _ _ _ rfl _ (matS_real _ _ _ _ _ _ _ rfl rfl U Z hu hv) fun l c => canS_end _ _ _ _ rfl) l r c) (scale_real r)).trans ?_
  rw [mul_coe, mul_comm]

theorem outXS_real (w) (u) (v) (z) (W : Fin 8 → Fin 16 → Fin 16 → Fin 9 → ℝ) (hw : ∀ l o i k, w (ix4 l o i k) = ((W l o i k : ℝ) : EReal))
    (U : Fin 8 → Fin 16 → Fin 32 → ℝ) (hu : ∀ l o d, u (ix3 l o d) = ((U l o d : ℝ) : EReal))
    (V : Fin 8 → Fin 32 → Fin 16 → ℝ) (hv : ∀ l p i, v (ix3 l p i) = ((V l p i : ℝ) : EReal))
    (Z : Fin 8 → Fin 32 → Fin 32 → ℝ) (hz : ∀ l p d, z (ix3 l p d) = ((Z l p d : ℝ) : EReal)) (l : Fin 8) (r c : Fin 288) :
    outXS w u v z (ix3 l r c) = ((canXS tables.B (W l) (U l) (V l) (Z l) (orow r) (ocol c) : ℝ) : EReal) := by
  unfold outXS
  refine takeCols_real _ _ _ _ _ _ _ _ _ _ _ _ _ _ ocol table4 lit4_lt (by decide) (fun l r c => canXS tables.B (W l) (U l) (V l) (Z l) (orow r) c)
    (padCol_real _ _ _ rfl _ (fun l r c => takeRows_real _ _ _ _ _ _ _ _ _ _ _ _ _ _ orow table3 lit3_lt (by decide)
      (fun l r (c : Fin 288) => canXS tables.B (W l) (U l) (V l) (Z l) r c)
      (padRow_real (A := 8) (T := 288) (T' := 289) (C := 288) _ _ _ rfl (fun l r (c : Fin 288) => canXS tables.B (W l) (U l) (V l) (Z l) r c) (fun l r c => ?_) fun l c => ?_) l r c)
      fun l r => ?_) l r c
  · refine (concat_last (A := 8) (T := 288) (T1 := 256) (T2 := 32) (C := 288) _ _ concatenates_S8x288x256_S8x288x32_S8x288x288_d2 rfl l c r).trans ?_
    split
    · rename_i h
      rw [canXS, dif_pos h]
      exact matX_real _ _ _ _ _ _ _ _ _ rfl rfl _ W V (dotO_real w W hw) hv l r _
    · rename_i h
      have h' : (c : ℕ) - 256 < 32 := by omega
      rw [canXS, dif_neg h, dif_pos h']
      exact matS_real _ _ _ _ _ _ _ rfl rfl U Z hu hz l r _
  · show canXS _ _ _ _ _ 288 c = 0
    rw [canXS]
    split
    · exact canX_end _ _ _ _ _ rfl
    · split
      · exact canS_end _ _ _ _ rfl
      · rfl
  · show canXS _ _ _ _ _ _ 288 = 0
    rw [canXS, dif_neg (by decide), dif_neg (by decide)]

theorem m1X_real (w) (v) (W : Fin 8 → Fin 32 → Fin 16 → Fin 9 → ℝ) (hw : ∀ l o i k, w (ix4 l o i k) = ((W l o i k : ℝ) : EReal))
    (U : Fin 8 → Fin 64 → Fin 16 → ℝ) (hv : ∀ l p i, v (ix3 l p i) = ((U l p i : ℝ) : EReal)) (l : Fin 8) (r : Fin 576) (c : Fin 256) :
    m1X w v (ix3 l r c) = ((canX tables.B (W l) (U l) (mrow r) c : ℝ) : EReal) := by
  unfold m1X
  exact takeRows_real _ _ _ _ _ _ _ _ _ _ _ _ _ _ mrow table5 lit5_lt (by decide) (fun l r c => canX tables.B (W l) (U l) r c)
    (padRow_real _ _ _ rfl _ (matX_real _ _ _ _ _ _ _ _ _ rfl rfl _ W U (dotM_real w W hw) hv) fun l c => canX_end _ _ _ _ _ rfl) l r c
theorem m1S_real (u) (v) (U : Fin 8 → Fin 32 → Fin 32 → ℝ) (hu : ∀ l o d, u (ix3 l o d) = ((U l o d : ℝ) : EReal))
    (Z : Fin 8 → Fin 64 → Fin 32 → ℝ) (hv : ∀ l p d, v (ix3 l p d) = ((Z l p d : ℝ) : EReal)) (l : Fin 8) (r : Fin 576) (c : Fin 32) :
    m1S u v (ix3 l r c) = ((canS (U l) (Z l) (mrow r) c : ℝ) : EReal) := by
  unfold m1S
  exact takeRows_real _ _ _ _ _ _ _ _ _ _ _ _ _ _ mrow table5 lit5_lt (by decide) (fun l r c => canS (U l) (Z l) r c)
    (padRow_real _ _ _ rfl _ (matS_real _ _ _ _ _ _ _ rfl rfl U Z hu hv) fun l c => canS_end _ _ _ _ rfl) l r c

theorem m2X_real (w) (v) (W : Fin 8 → Fin 16 → Fin 16 → Fin 9 → ℝ) (hw : ∀ l o i k, w (ix4 l o i k) = ((W l o i k : ℝ) : EReal))
    (U : Fin 8 → Fin 32 → Fin 16 → ℝ) (hv : ∀ l p i, v (ix3 l p i) = ((U l p i : ℝ) : EReal)) (l : Fin 8) (r : Fin 288) (c : Fin 256) :
    m2X w v (ix3 l r c) = ((canX tables.B (W l) (U l) (orow r) c : ℝ) : EReal) := by
  unfold m2X
  exact takeRows_real _ _ _ _ _ _ _ _ _ _ _ _ _ _ orow table3 lit3_lt (by decide) (fun l r c => canX tables.B (W l) (U l) r c)
    (padRow_real _ _ _ rfl _ (matX_real _ _ _ _ _ _ _ _ _ rfl rfl _ W U (dotO_real w W hw) hv) fun l c => canX_end _ _ _ _ _ rfl) l r c
theorem m2S_real (u) (v) (U : Fin 8 → Fin 16 → Fin 32 → ℝ) (hu : ∀ l o d, u (ix3 l o d) = ((U l o d : ℝ) : EReal))
    (Z : Fin 8 → Fin 32 → Fin 32 → ℝ) (hv : ∀ l p d, v (ix3 l p d) = ((Z l p d : ℝ) : EReal)) (l : Fin 8) (r : Fin 288) (c : Fin 32) :
    m2S u v (ix3 l r c) = ((canS (U l) (Z l) (orow r) c : ℝ) : EReal) := by
  unfold m2S
  exact takeRows_real _ _ _ _ _ _ _ _ _ _ _ _ _ _ orow table3 lit3_lt (by decide) (fun l r c => canS (U l) (Z l) r c)
    (padRow_real _ _ _ rfl _ (matS_real _ _ _ _ _ _ _ rfl rfl U Z hu hv) fun l c => canS_end _ _ _ _ rfl) l r c

end Cert.KernelIdeal.Value

end
-- ==== Proof.KEnds.lean ====
module

public import proofs.«01_k».proof.Proof.KCanon
public import proofs.«01_k».proof.Proof.KLits
public import proofs.«01_k».proof.Proof.KTrip

@[expose] public section

set_option maxRecDepth 16384

noncomputable section

/-! The points, the input layer and the readout as the kernel's program lays them out. -/

namespace Cert.KernelIdeal.Value
open Idealize.ShloMosaic Idealize.ShloMosaic.TcCoe
open Cert.KernelIdeal Cert.KernelIdeal.Gen Cert.Lift Cert.Layout
open Cert.Model (eff tables rowOf)

/-- The points' coordinates, the homogeneous one, and zeros. -/
def pointsL (x : FVec Ideal S8x1024x3 .f32) : List ((s : Shape) × (s.Idx → EReal)) :=
  [⟨S8x3x1024, transpose S8x3x1024 [0, 2, 1] x transposes_S8x1024x3_S8x3x1024_0_2_1⟩,
    ⟨S8x1x1024, broadcastInDim S8x1x1024 ![] bcast_S_S8x1x1024 (constant S_ .f32 0x3F800000#32 : FVec Ideal S_ .f32)⟩,
    ⟨S8x4x1024, broadcastInDim S8x4x1024 ![] bcast_S_S8x4x1024 (constant S_ .f32 0x00000000#32 : FVec Ideal S_ .f32)⟩]
def pointsX (x : FVec Ideal S8x1024x3 .f32) : FVec Ideal S8x8x1024 .f32 :=
  concatenate S8x8x1024 1 (pointsL x) concatenates_S8x3x1024_S8x1x1024_S8x4x1024_S8x8x1024_d1

theorem pointsX_real (x) (p : Fin 8 → Fin 1024 → Fin 3 → ℝ) (h : ∀ b n j, x (ix3 b n j) = ((p b n j : ℝ) : EReal)) (b : Fin 8) (k : Fin 8) (n : Fin 1024) :
    pointsX x (ix3 b k n) = ((if h : (k : ℕ) < 3 then p b n ⟨k, h⟩ else if (k : ℕ) = 3 then 1 else 0 : ℝ) : EReal) := by
  unfold pointsX
  by_cases h3 : (k : ℕ) < 3
  · rw [dif_pos h3]
    refine (concatenate_apply_piece 1 (pointsL x) concatenates_S8x3x1024_S8x1x1024_S8x4x1024_S8x8x1024_d1 (ix3 b k n) 0 (by show 0 < 3; decide) S8x3x1024 _ rfl rfl 0 rfl (ix3 b ⟨k, h3⟩ n) (fun a ha => ?_) (Nat.zero_add _)).trans ?_
    · match a with
      | 0 => rfl
      | 1 => exact absurd rfl ha
      | 2 => rfl
    · refine (transpose_apply _ x _ _ (ix3 b n ⟨k, h3⟩) fun a => ?_).trans (h _ _ _)
      match a with
      | 0 => rfl
      | 1 => rfl
      | 2 => rfl
  · rw [dif_neg h3]
    by_cases h4 : (k : ℕ) = 3
    · rw [if_pos h4]
      refine (concatenate_apply_piece 1 (pointsL x) concatenates_S8x3x1024_S8x1x1024_S8x4x1024_S8x8x1024_d1 (ix3 b k n) 1 (by show 1 < 3; decide) S8x1x1024 _ rfl rfl 3 rfl (ix3 b 0 n) (fun a ha => ?_) ?_).trans ?_
      · match a with
        | 0 => rfl
        | 1 => exact absurd rfl ha
        | 2 => rfl
      · show 3 + 0 = (k : ℕ); omega
      · exact w_one
    · rw [if_neg h4]
      have h5 : (k : ℕ) - 4 < 4 := by omega
      refine (concatenate_apply_piece 1 (pointsL x) concatenates_S8x3x1024_S8x1x1024_S8x4x1024_S8x8x1024_d1 (ix3 b k n) 2 (by show 2 < 3; decide) S8x4x1024 _ rfl rfl 4 rfl (ix3 b ⟨k - 4, h5⟩ n) (fun a ha => ?_) ?_).trans ?_
      · match a with
        | 0 => rfl
        | 1 => exact absurd rfl ha
        | 2 => rfl
      · show 4 + ((k : ℕ) - 4) = (k : ℕ); omega
      · exact zeros_apply S8x4x1024 bcast_S_S8x4x1024 _

/-- The initial scalars at all points. -/
def biasX (x : FVec Ideal S32 .f32) : FVec Ideal S32x1024 .f32 :=
  broadcastInDim S32x1024 ![0, 1] bcast_S32x1_S32x1024_0_1 (broadcastInDim S32x1 ![0] bcast_S32_S32x1_0 x)
theorem biasX_real (x) (p : Fin 32 → ℝ) (h : ∀ d, x (ix1 d) = ((p d : ℝ) : EReal)) (d : Fin 32) (n : Fin 1024) : biasX x (ix2 d n) = ((p d : ℝ) : EReal) := by
  rw [← h]
  unfold biasX
  pointwise

/-- The input layer's matrix: row `16 s + o` is blade `s` of channel `o`. -/
def inX (x : FVec Ideal S16x1x9 .f32) : FVec Ideal S256x16 .f32 :=
  shapeCast S256x16 (transpose S16x16x16 [0, 2, 1] (Host.dotGeneral dot_S9x16x16_S16x9_S16x16x16_0_1_12_0_n_n (some .fp32) basis
    (shapeCast S16x9 x shapeCasts_S16x1x9_S16x9)) transposes_S16x16x16_S16x16x16_0_2_1) shapeCasts_S16x16x16_S256x16

theorem inX_real (x) (w : Fin 16 → Fin 1 → Fin 9 → ℝ) (h : ∀ o i k, x (ix3 o i k) = ((w o i k : ℝ) : EReal)) (R : Fin 256) (b : Fin 16) :
    inX x (ix2 R b) = ((rowOf (fun o s => eff tables.B w o 0 s b) R : ℝ) : EReal) := by
  unfold inX
  refine (shapeCast_apply _ _ _ (ix3 (⟨R / 16, by omega⟩ : Fin 16) (⟨R % 16, Nat.mod_lt _ (by norm_num)⟩ : Fin 16) b) ?_).trans ?_
  · rw [Shape.rowMajor_val_three, Shape.rowMajor_val_two]
    show (R.val / 16 * 16 + R.val % 16) * 16 + b.val = R.val * 16 + b.val
    omega
  show _ = ((eff tables.B w ⟨R % 16, _⟩ 0 ⟨R / 16, _⟩ b : ℝ) : EReal)
  generalize (⟨R / 16, _⟩ : Fin 16) = s
  generalize (⟨R % 16, _⟩ : Fin 16) = o
  refine (transpose_apply _ _ _ _ (ix3 s b o) fun a => ?_).trans ?_
  · match a with
    | 0 => rfl
    | 1 => rfl
    | 2 => rfl
  have e : ∀ k : Fin 9, shapeCast S16x9 x shapeCasts_S16x1x9_S16x9 (ix2 o k) = ((w o 0 k : ℝ) : EReal) := by
    intro k
    rw [← h]
    refine shapeCast_apply _ _ _ _ ?_
    rw [Shape.rowMajor_val_three, Shape.rowMajor_val_two]
    show (o.val * 1 + 0) * 9 + k.val = o.val * 9 + k.val
    omega
  generalize shapeCast S16x9 x shapeCasts_S16x1x9_S16x9 = y at e
  pointwise
  simp only [basis_real, e, mul_coe, sum_coe]
  rw [EReal.coe_eq_coe_iff, eff]
  exact Finset.sum_congr rfl fun k _ => mul_comm _ _

/-- The four columns of the input layer's matrix that meet the points, and four of zeros. -/
def negC (x : FVec Ideal S256 .f32) : FVec Ideal S256x1 .f32 := broadcastInDim S256x1 ![0] bcast_S256_S256x1_0 (Host.negf x)
def posC (x : FVec Ideal S256 .f32) : FVec Ideal S256x1 .f32 := broadcastInDim S256x1 ![0] bcast_S256_S256x1_0 x
def zeroC : FVec Ideal S256x1 .f32 := posC (broadcastInDim S256 ![] bcast_S_S256 (constant S_ .f32 0x00000000#32 : FVec Ideal S_ .f32))
def colX (off : Fin 2 → ℕ) (y : FVec Ideal S256x16 .f32) (h : S256x16.Slices off S256x1) : FVec Ideal S256 .f32 :=
  shapeCast S256 (extractStridedSlice S256x1 off y h) shapeCasts_S256x1_S256
def headF (y : FVec Ideal S256x16 .f32) : Fin 8 → FVec Ideal S256x1 .f32 :=
  ![negC (colX ![0, 13] y slices_S256x16_S256x1_0_13), posC (colX ![0, 12] y slices_S256x16_S256x1_0_12),
    negC (colX ![0, 11] y slices_S256x16_S256x1_0_11), posC (colX ![0, 14] y slices_S256x16_S256x1_0_14), zeroC, zeroC, zeroC, zeroC]
def headX (y : FVec Ideal S256x16 .f32) : FVec Ideal S256x8 .f32 :=
  concatenate S256x8 1 (List.ofFn fun k : Fin 8 => (⟨S256x1, headF y k⟩ : (s : Shape) × (s.Idx → EReal)))
    concatenates_S256x1_S256x1_S256x1_S256x1_S256x1_S256x1_S256x1_S256x1_S256x8_d1

theorem colX_apply (off : Fin 2 → ℕ) (y) (h) (q : Fin 16) (e : off = ![0, (q : ℕ)]) (R : Fin 256) : colX off y h (ix1 R) = y (ix2 R q) := by
  subst e
  unfold colX
  refine (shapeCast_apply _ _ _ (ix2 R (0 : Fin 1)) ?_).trans (extractStridedSlice_apply _ _ _ _ _ fun a => ?_)
  · rw [Shape.rowMajor_val_two, Shape.rowMajor_val_one]
    show R.val * 1 + 0 = R.val
    omega
  · match a with
    | 0 => show R.val = 0 + R.val; omega
    | 1 => rfl
theorem posC_apply (x) (R : Fin 256) : posC x (ix2 R 0) = x (ix1 R) := by unfold posC; pointwise
theorem negC_real (x : FVec Ideal S256 .f32) (R : Fin 256) (r : ℝ) (h : x (ix1 R) = ((r : ℝ) : EReal)) : negC x (ix2 R 0) = ((-r : ℝ) : EReal) := by
  unfold negC
  rw [← neg_coe, ← h]
  pointwise
theorem zeroC_apply (R : Fin 256) : zeroC (ix2 R 0) = ((0 : ℝ) : EReal) := by
  unfold zeroC
  rw [posC_apply]
  exact zeros_apply S256 bcast_S_S256 _

theorem headX_at (y) (R : Fin 256) (k : Fin 8) : headX y (ix2 R k) = headF y k (ix2 R 0) :=
  concatenate_ofFn_apply (t := S256x8) (s₁ := S256x1) 1 (headF y) concatenates_S256x1_S256x1_S256x1_S256x1_S256x1_S256x1_S256x1_S256x1_S256x8_d1 rfl 1 rfl (ix2 R k) k
    (Nat.div_one _) (ix2 R 0) (Nat.mod_one _).symm fun b hb => match b, hb with
    | ⟨0, _⟩, _ => rfl
    | ⟨1, _⟩, hb => absurd rfl hb

theorem headX_real (y) (f : Fin 256 → Fin 16 → ℝ) (h : ∀ R b, y (ix2 R b) = ((f R b : ℝ) : EReal)) (R : Fin 256) (k : Fin 8) : headX y (ix2 R k) =
    ((if k = 0 then -f R 13 else if k = 1 then f R 12 else if k = 2 then -f R 11 else if k = 3 then f R 14 else 0 : ℝ) : EReal) := by
  rw [headX_at]
  match k with
  | 0 => exact negC_real _ _ _ ((colX_apply ![0, 13] y slices_S256x16_S256x1_0_13 13 rfl R).trans (h _ _))
  | 1 => exact (posC_apply _ _).trans ((colX_apply ![0, 12] y slices_S256x16_S256x1_0_12 12 rfl R).trans (h _ _))
  | 2 => exact negC_real _ _ _ ((colX_apply ![0, 11] y slices_S256x16_S256x1_0_11 11 rfl R).trans (h _ _))
  | 3 => exact (posC_apply _ _).trans ((colX_apply ![0, 14] y slices_S256x16_S256x1_0_14 14 rfl R).trans (h _ _))
  | 4 => exact zeroC_apply R
  | 5 => exact zeroC_apply R
  | 6 => exact zeroC_apply R
  | 7 => exact zeroC_apply R

/-- The readout's multivector weights, in the first of eight rows. -/
def readX (x : FVec Ideal S1x16x9 .f32) : FVec Ideal S256 .f32 :=
  shapeCast S256 (shapeCast S16x16 (extractStridedSlice S1x1x16x16 ![0, 0, 0, 0] (transpose S1x16x16x16 [2, 0, 1, 3]
    (Host.dotGeneral dot_S9x16x16_S1x16x9_S16x16x1x16_0_2_12_01_n_n (some .fp32) basis x) transposes_S16x16x1x16_S1x16x16x16_2_0_1_3)
    slices_S1x16x16x16_S1x1x16x16_0_0_0_0) shapeCasts_S1x1x16x16_S16x16) shapeCasts_S16x16_S256
def rowX (x : FVec Ideal S256 .f32) : FVec Ideal S8x256 .f32 :=
  Host.scatter scatter_S8x256_S1_S256_0_0_0_0 (fun _ b => b) (broadcastInDim S8x256 ![] bcast_S_S8x256 (constant S_ .f32 0x00000000#32 : FVec Ideal S_ .f32))
    (broadcastInDim S1 ![] bcast_S_S1 (constantI S_ 32 0#32)) x
def rowS (x : FVec Ideal S1x32 .f32) : FVec Ideal S8x32 .f32 :=
  Host.scatter scatter_S8x32_S1_S32_0_0_0_0 (fun _ b => b) (broadcastInDim S8x32 ![] bcast_S_S8x32 (constant S_ .f32 0x00000000#32 : FVec Ideal S_ .f32))
    (broadcastInDim S1 ![] bcast_S_S1 (constantI S_ 32 0#32)) (shapeCast S32 x shapeCasts_S1x32_S32)

theorem readX_real (x) (w : Fin 1 → Fin 16 → Fin 9 → ℝ) (h : ∀ o i k, x (ix3 o i k) = ((w o i k : ℝ) : EReal)) (R : Fin 256) :
    readX x (ix1 R) = ((rowOf (fun i s => eff tables.B w 0 i 0 s) R : ℝ) : EReal) := by
  unfold readX
  refine (shapeCast_apply _ _ _ (ix2 (⟨R / 16, by omega⟩ : Fin 16) (⟨R % 16, Nat.mod_lt _ (by norm_num)⟩ : Fin 16)) ?_).trans ?_
  · rw [Shape.rowMajor_val_one, Shape.rowMajor_val_two]
    show R.val / 16 * 16 + R.val % 16 = R.val
    omega
  show _ = ((eff tables.B w 0 ⟨R % 16, _⟩ 0 ⟨R / 16, _⟩ : ℝ) : EReal)
  generalize (⟨R / 16, _⟩ : Fin 16) = s
  generalize (⟨R % 16, _⟩ : Fin 16) = i
  refine (shapeCast_apply _ _ _ (ix4 (0 : Fin 1) (0 : Fin 1) s i) ?_).trans ((extractStridedSlice_apply _ _ _ _ (ix4 (0 : Fin 1) (0 : Fin 16) s i) fun a => ?_).trans
    ((transpose_apply _ _ _ _ (ix4 (0 : Fin 16) s (0 : Fin 1) i) fun a => ?_).trans ?_))
  · rw [Shape.rowMajor_val_four, Shape.rowMajor_val_two]
    show ((0 * 1 + 0) * 16 + s.val) * 16 + i.val = s.val * 16 + i.val
    omega
  · match a with
    | 0 => rfl
    | 1 => rfl
    | 2 => show s.val = 0 + s.val; omega
    | 3 => show i.val = 0 + i.val; omega
  · match a with
    | 0 => rfl
    | 1 => rfl
    | 2 => rfl
    | 3 => rfl
  pointwise
  simp only [basis_real, h, mul_coe, sum_coe]
  rw [EReal.coe_eq_coe_iff, eff]
  exact Finset.sum_congr rfl fun k _ => mul_comm _ _

theorem rowX_apply (x) (R : Fin 256) : rowX x (ix2 0 R) = x (ix1 R) :=
  set_row (B := 8) (C := 256) scatter_S8x256_S1_S256_0_0_0_0_wf (by decide) _ _ (fun _ => rfl) x R
theorem rowS_real (x) (w : Fin 1 → Fin 32 → ℝ) (h : ∀ o d, x (ix2 o d) = ((w o d : ℝ) : EReal)) (d : Fin 32) : rowS x (ix2 0 d) = ((w 0 d : ℝ) : EReal) := by
  refine (set_row (B := 8) (C := 32) scatter_S8x32_S1_S32_0_0_0_0_wf (by decide) _ _ (fun _ => rfl) _ d).trans ?_
  rw [← h]
  refine shapeCast_apply _ _ _ _ ?_
  rw [Shape.rowMajor_val_one, Shape.rowMajor_val_two]
  show 0 * 32 + d.val = d.val
  omega

end Cert.KernelIdeal.Value

end
-- ==== Proof.KReads.lean ====
module

public import proofs.«01_k».proof.Proof.Ins
public import proofs.«01_k».proof.Proof.KHost
public import proofs.«01_k».proof.Proof.KEnds
public import Idealize.ShloMosaic.Lib.StableHlo.RunRead

@[expose] public section

set_option maxRecDepth 16384

noncomputable section

/-! The arrays the kernel's region is launched on, as functions of the arguments. -/

namespace Cert.KernelIdeal.Value
open Idealize.ShloMosaic Idealize.ShloMosaic.Pipeline Idealize.ShloMosaic.StableHlo Idealize.ShloMosaic.TcCoe
open Cert.KernelIdeal Cert.KernelIdeal.Gen Cert.Lift
open Cert.Model (Ins)

/-- The launched arrays. -/
def arrays (X : Ins) : Arrays where
  inp := pointsX X.x0
  bs := biasX X.x3
  a8 := headX (inX X.x1)
  mask := fun i => FloatOps.ofBits .f32 (lit6 (S256x128.rowMajor i))
  qh := hi (qkvX X.x4 X.x6)
  ql := lo (qkvX X.x4 X.x6)
  qs := qkvS X.x5 X.x7
  oh := hi (outXS X.x8 X.x9 X.x10 X.x11)
  ol := lo (outXS X.x8 X.x9 X.x10 X.x11)
  h1 := hi (m1X X.x12 X.x14)
  l1 := lo (m1X X.x12 X.x14)
  s1 := m1S X.x13 X.x15
  h2 := hi (m2X X.x16 X.x18)
  l2 := lo (m2X X.x16 X.x18)
  s2 := m2S X.x17 X.x19
  rx := rowX (readX X.x20)
  rs := rowS X.x21

/-- They hold the arguments' numbers in the kernel's layout. -/
theorem arrays_real (X : Ins) (H : X.Finite) : (arrays X).Real X.args where
  inp := pointsX_real X.x0 X.args.pts fun _ _ _ => H.x0.val _
  bs := biasX_real X.x3 X.args.bs fun _ => H.x3.val _
  a8 := headX_real _ _ (inX_real X.x1 X.args.win fun _ _ _ => H.x1.val _)
  mask := mask_real
  qh := qkvX_real X.x4 X.x6 (fun l => (X.args.W l).qw) (fun _ _ _ _ => H.x4.val _) (fun l => (X.args.W l).qms) fun _ _ _ => H.x6.val _
  ql l r c := lo_real _ _ _ (qkvX_real X.x4 X.x6 (fun l => (X.args.W l).qw) (fun _ _ _ _ => H.x4.val _) (fun l => (X.args.W l).qms) (fun _ _ _ => H.x6.val _) l r c)
  qs := qkvS_real X.x5 X.x7 (fun l => (X.args.W l).qsm) (fun _ _ _ => H.x5.val _) (fun l => (X.args.W l).qss) fun _ _ _ => H.x7.val _
  oh := outXS_real X.x8 X.x9 X.x10 X.x11 (fun l => (X.args.W l).ow) (fun _ _ _ _ => H.x8.val _) (fun l => (X.args.W l).osm) (fun _ _ _ => H.x9.val _) (fun l => (X.args.W l).oms) (fun _ _ _ => H.x10.val _) (fun l => (X.args.W l).oss) (fun _ _ _ => H.x11.val _)
  ol l r c := lo_real _ _ _ (outXS_real X.x8 X.x9 X.x10 X.x11 (fun l => (X.args.W l).ow) (fun _ _ _ _ => H.x8.val _) (fun l => (X.args.W l).osm) (fun _ _ _ => H.x9.val _) (fun l => (X.args.W l).oms) (fun _ _ _ => H.x10.val _) (fun l => (X.args.W l).oss) (fun _ _ _ => H.x11.val _) l r c)
  h1 := m1X_real X.x12 X.x14 (fun l => (X.args.W l).m1w) (fun _ _ _ _ => H.x12.val _) (fun l => (X.args.W l).m1ms) (fun _ _ _ => H.x14.val _)
  l1 l r c := lo_real _ _ _ (m1X_real X.x12 X.x14 (fun l => (X.args.W l).m1w) (fun _ _ _ _ => H.x12.val _) (fun l => (X.args.W l).m1ms) (fun _ _ _ => H.x14.val _) l r c)
  s1 := m1S_real X.x13 X.x15 (fun l => (X.args.W l).m1sm) (fun _ _ _ => H.x13.val _) (fun l => (X.args.W l).m1ss) fun _ _ _ => H.x15.val _
  h2 := m2X_real X.x16 X.x18 (fun l => (X.args.W l).m2w) (fun _ _ _ _ => H.x16.val _) (fun l => (X.args.W l).m2ms) (fun _ _ _ => H.x18.val _)
  l2 l r c := lo_real _ _ _ (m2X_real X.x16 X.x18 (fun l => (X.args.W l).m2w) (fun _ _ _ _ => H.x16.val _) (fun l => (X.args.W l).m2ms) (fun _ _ _ => H.x18.val _) l r c)
  s2 := m2S_real X.x17 X.x19 (fun l => (X.args.W l).m2sm) (fun _ _ _ => H.x17.val _) (fun l => (X.args.W l).m2ss) fun _ _ _ => H.x19.val _
  rx R := (rowX_apply _ R).trans (readX_real X.x20 X.args.wo (fun _ _ _ => H.x20.val _) R)
  rs := rowS_real X.x21 X.args.wos fun _ _ => H.x21.val _

/-- The rows and columns taken by each call. -/
theorem call0 (E : Valuation τ sig (Elt Ideal)) : StableHlo.after hostOps0_1 E (Proc.devRef .tc main_v16) =
    Cert.Layout.takeRows bcast_S_S704 bcast_S704_S704x1_0 bcast_S_S704x1 bcast_S1_S1x1_1 bcast_S1x1_S704x1_0_1 reducesTo_S704x1_S704_d1 h_S_ 865#32 864#32
      (E (Proc.devRef .tc main_c)) bcast_S704_S8x704x256_1 bcast_S_S8x704x256 gather_S8x865x256_S704x1_S8x704x256_02_1_n_n_1_1_81256_wf (E (Proc.devRef .tc main_v15)) := by
  after_reads_simp
  rfl
theorem call1 (E : Valuation τ sig (Elt Ideal)) : StableHlo.after hostOps0_3 E (Proc.devRef .tc main_v26) =
    Cert.Layout.takeRows bcast_S_S704 bcast_S704_S704x1_0 bcast_S_S704x1 bcast_S1_S1x1_1 bcast_S1x1_S704x1_0_1 reducesTo_S704x1_S704_d1 h_S_ 865#32 864#32
      (E (Proc.devRef .tc main_c)) bcast_S704_S8x704x32_1 bcast_S_S8x704x32 gather_S8x865x32_S704x1_S8x704x32_02_1_n_n_1_1_8132_wf (E (Proc.devRef .tc main_v25)) := by
  after_reads_simp
  rfl
theorem call2 (E : Valuation τ sig (Elt Ideal)) : StableHlo.after hostOps0_5 E (Proc.devRef .tc main_v46) =
    Cert.Layout.takeRows bcast_S_S288 bcast_S288_S288x1_0 bcast_S_S288x1 bcast_S1_S1x1_1 bcast_S1x1_S288x1_0_1 reducesTo_S288x1_S288_d1 h_S_ 289#32 288#32
      (E (Proc.devRef .tc main_c_1)) bcast_S288_S8x288x288_1 bcast_S_S8x288x288 gather_S8x289x288_S288x1_S8x288x288_02_1_n_n_1_1_81288_wf (E (Proc.devRef .tc main_v45)) := by
  after_reads_simp
  rfl
theorem call3 (E : Valuation τ sig (Elt Ideal)) : StableHlo.after hostOps0_7 E (Proc.devRef .tc main_v50) =
    Cert.Layout.takeCols bcast_S_S288 bcast_S288_S288x1_0 bcast_S_S288x1 bcast_S1_S1x1_1 bcast_S1x1_S288x1_0_1 reducesTo_S288x1_S288_d1 h_S_ 289#32 288#32
      (E (Proc.devRef .tc main_c_2)) bcast_S288_S8x288x288_2 bcast_S_S8x288x288 gather_S8x288x289_S288x1_S8x288x288_01_2_n_n_2_1_82881_wf (E (Proc.devRef .tc main_v49)) := by
  after_reads_simp
  rfl
theorem call4 (E : Valuation τ sig (Elt Ideal)) : StableHlo.after hostOps0_9 E (Proc.devRef .tc main_v71) =
    Cert.Layout.takeRows bcast_S_S576 bcast_S576_S576x1_0 bcast_S_S576x1 bcast_S1_S1x1_1 bcast_S1x1_S576x1_0_1 reducesTo_S576x1_S576_d1 h_S_ 577#32 576#32
      (E (Proc.devRef .tc main_c_3)) bcast_S576_S8x576x256_1 bcast_S_S8x576x256 gather_S8x577x256_S576x1_S8x576x256_02_1_n_n_1_1_81256_wf (E (Proc.devRef .tc main_v70)) := by
  after_reads_simp
  rfl
theorem call5 (E : Valuation τ sig (Elt Ideal)) : StableHlo.after hostOps0_11 E (Proc.devRef .tc main_v79) =
    Cert.Layout.takeRows bcast_S_S576 bcast_S576_S576x1_0 bcast_S_S576x1 bcast_S1_S1x1_1 bcast_S1x1_S576x1_0_1 reducesTo_S576x1_S576_d1 h_S_ 577#32 576#32
      (E (Proc.devRef .tc main_c_3)) bcast_S576_S8x576x32_1 bcast_S_S8x576x32 gather_S8x577x32_S576x1_S8x576x32_02_1_n_n_1_1_8132_wf (E (Proc.devRef .tc main_v78)) := by
  after_reads_simp
  rfl
theorem call6 (E : Valuation τ sig (Elt Ideal)) : StableHlo.after hostOps0_13 E (Proc.devRef .tc main_v96) =
    Cert.Layout.takeRows bcast_S_S288 bcast_S288_S288x1_0 bcast_S_S288x1 bcast_S1_S1x1_1 bcast_S1x1_S288x1_0_1 reducesTo_S288x1_S288_d1 h_S_ 289#32 288#32
      (E (Proc.devRef .tc main_c_1)) bcast_S288_S8x288x256_1 bcast_S_S8x288x256 gather_S8x289x256_S288x1_S8x288x256_02_1_n_n_1_1_81256_wf (E (Proc.devRef .tc main_v95)) := by
  after_reads_simp
  rfl
theorem call7 (E : Valuation τ sig (Elt Ideal)) : StableHlo.after hostOps0_15 E (Proc.devRef .tc main_v104) =
    Cert.Layout.takeRows bcast_S_S288 bcast_S288_S288x1_0 bcast_S_S288x1 bcast_S1_S1x1_1 bcast_S1x1_S288x1_0_1 reducesTo_S288x1_S288_d1 h_S_ 289#32 288#32
      (E (Proc.devRef .tc main_c_1)) bcast_S288_S8x288x32_1 bcast_S_S8x288x32 gather_S8x289x32_S288x1_S8x288x32_02_1_n_n_1_1_8132_wf (E (Proc.devRef .tc main_v103)) := by
  after_reads_simp
  rfl

theorem tail_inp (E : Valuation τ sig (Elt Ideal)) : StableHlo.after hostOps0_16 E (Proc.devRef .tc main_v132) = pointsX (E (Proc.devRef .tc main_arg0)) := by
  after_reads_simp
  rfl
theorem tail_a8 (E : Valuation τ sig (Elt Ideal)) : StableHlo.after hostOps0_16 E (Proc.devRef .tc main_v128) =
    headX (shapeCast S256x16 (transpose S16x16x16 [0, 2, 1] (Host.dotGeneral (F := Ideal) (φ₁ := .f32) (φ₂ := .f32) dot_S9x16x16_S16x9_S16x16x16_0_1_12_0_n_n (some .fp32) (E (Proc.devRef .tc main_cst))
      (shapeCast S16x9 (E (Proc.devRef .tc main_arg1)) shapeCasts_S16x1x9_S16x9)) transposes_S16x16x16_S16x16x16_0_2_1) shapeCasts_S16x16x16_S256x16) := by
  after_reads_simp
  rfl

section
variable (m : (ℓ : Loc nD τ sig) → Buf (Elt Ideal) ℓ) (c : Dev nD)

/-- The arguments in memory. -/
def ins : Ins where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)
  x20 := m ((c.tc : Thread nD τ).loc main_arg20)
  x21 := m ((c.tc : Thread nD τ).loc main_arg21)

/-- The buffers before each call. -/
def E0 : Valuation τ sig (Elt Ideal) := StableHlo.after hostOps0 fun b => m (c, b)
def E1 : Valuation τ sig (Elt Ideal) := StableHlo.after hostOps0_1 (E0 m c)
def E2 : Valuation τ sig (Elt Ideal) := StableHlo.after hostOps0_2 (E1 m c)
def E3 : Valuation τ sig (Elt Ideal) := StableHlo.after hostOps0_3 (E2 m c)
def E4 : Valuation τ sig (Elt Ideal) := StableHlo.after hostOps0_4 (E3 m c)
def E5 : Valuation τ sig (Elt Ideal) := StableHlo.after hostOps0_5 (E4 m c)
def E6 : Valuation τ sig (Elt Ideal) := StableHlo.after hostOps0_6 (E5 m c)
def E7 : Valuation τ sig (Elt Ideal) := StableHlo.after hostOps0_7 (E6 m c)
def E8 : Valuation τ sig (Elt Ideal) := StableHlo.after hostOps0_8 (E7 m c)
def E9 : Valuation τ sig (Elt Ideal) := StableHlo.after hostOps0_9 (E8 m c)
def E10 : Valuation τ sig (Elt Ideal) := StableHlo.after hostOps0_10 (E9 m c)
def E11 : Valuation τ sig (Elt Ideal) := StableHlo.after hostOps0_11 (E10 m c)
def E12 : Valuation τ sig (Elt Ideal) := StableHlo.after hostOps0_12 (E11 m c)
def E13 : Valuation τ sig (Elt Ideal) := StableHlo.after hostOps0_13 (E12 m c)
def E14 : Valuation τ sig (Elt Ideal) := StableHlo.after hostOps0_14 (E13 m c)
def E15 : Valuation τ sig (Elt Ideal) := StableHlo.after hostOps0_15 (E14 m c)

theorem fold0 : StableHlo.after hostOps0 (fun b => m (c, b)) = E0 m c := rfl
theorem fold1 : StableHlo.after hostOps0_1 (E0 m c) = E1 m c := rfl
theorem fold2 : StableHlo.after hostOps0_2 (E1 m c) = E2 m c := rfl
theorem fold3 : StableHlo.after hostOps0_3 (E2 m c) = E3 m c := rfl
theorem fold4 : StableHlo.after hostOps0_4 (E3 m c) = E4 m c := rfl
theorem fold5 : StableHlo.after hostOps0_5 (E4 m c) = E5 m c := rfl
theorem fold6 : StableHlo.after hostOps0_6 (E5 m c) = E6 m c := rfl
theorem fold7 : StableHlo.after hostOps0_7 (E6 m c) = E7 m c := rfl
theorem fold8 : StableHlo.after hostOps0_8 (E7 m c) = E8 m c := rfl
theorem fold9 : StableHlo.after hostOps0_9 (E8 m c) = E9 m c := rfl
theorem fold10 : StableHlo.after hostOps0_10 (E9 m c) = E10 m c := rfl
theorem fold11 : StableHlo.after hostOps0_11 (E10 m c) = E11 m c := rfl
theorem fold12 : StableHlo.after hostOps0_12 (E11 m c) = E12 m c := rfl
theorem fold13 : StableHlo.after hostOps0_13 (E12 m c) = E13 m c := rfl
theorem fold14 : StableHlo.after hostOps0_14 (E13 m c) = E14 m c := rfl
theorem fold15 : StableHlo.after hostOps0_15 (E14 m c) = E15 m c := rfl

/-- The tables and the matrices before each call, and what the call takes. -/
theorem tab0 : E0 m c (Proc.devRef .tc main_c) = (fun i => lit1 (S704.rowMajor i) : IVec S704 32) := by
  simp only [E0]
  after_reads_simp
  rfl
theorem pad0 : E0 m c (Proc.devRef .tc main_v15) = Cert.Layout.padRow bcast_S_S8x1x256 concatenates_S8x864x256_S8x1x256_S8x865x256_d1
    (Cert.Layout.matX transposes_S16x16x8x48x16_S8x48x16x16x16_2_3_0_1_4 shapeCasts_S8x48x16x16x16_S8x768x256 bcast_S_S8x96x16x16 bcast_S_S1
      scatter_S8x96x16x16_S1_S8x96x16_012_2_2_0_wf shapeCasts_S8x96x16x16_S8x96x256 concatenates_S8x768x256_S8x96x256_S8x864x256_d1 (dotQ (ins m c).x4) (ins m c).x6) := by
  simp only [E0]
  after_reads_simp
  refine congrArg₂ (fun (x : FVec Ideal S8x864x256 .f32) (y : FVec Ideal S8x1x256 .f32) => concatenate S8x865x256 1 [⟨S8x864x256, x⟩, ⟨S8x1x256, y⟩] concatenates_S8x864x256_S8x1x256_S8x865x256_d1) ?_ ?_
  · after_reads_simp
    refine congrArg₂ (fun (x : FVec Ideal S8x768x256 .f32) (y : FVec Ideal S8x96x256 .f32) => concatenate S8x864x256 1 [⟨S8x768x256, x⟩, ⟨S8x96x256, y⟩] concatenates_S8x768x256_S8x96x256_S8x864x256_d1) ?_ ?_ <;> (after_reads_simp; rfl)
  · after_reads_simp
    rfl
theorem out0 : E1 m c (Proc.devRef .tc main_v16) = Cert.Layout.takeRows bcast_S_S704 bcast_S704_S704x1_0 bcast_S_S704x1 bcast_S1_S1x1_1 bcast_S1x1_S704x1_0_1 reducesTo_S704x1_S704_d1 h_S_ 865#32 864#32
      (fun i => lit1 (S704.rowMajor i)) bcast_S704_S8x704x256_1 bcast_S_S8x704x256 gather_S8x865x256_S704x1_S8x704x256_02_1_n_n_1_1_81256_wf (Cert.Layout.padRow bcast_S_S8x1x256 concatenates_S8x864x256_S8x1x256_S8x865x256_d1
    (Cert.Layout.matX transposes_S16x16x8x48x16_S8x48x16x16x16_2_3_0_1_4 shapeCasts_S8x48x16x16x16_S8x768x256 bcast_S_S8x96x16x16 bcast_S_S1
      scatter_S8x96x16x16_S1_S8x96x16_012_2_2_0_wf shapeCasts_S8x96x16x16_S8x96x256 concatenates_S8x768x256_S8x96x256_S8x864x256_d1 (dotQ (ins m c).x4) (ins m c).x6)) :=
  (call0 (E0 m c)).trans (congrArg₂ (fun (I : IVec S704 32) (x : FVec Ideal S8x865x256 .f32) => Cert.Layout.takeRows bcast_S_S704 bcast_S704_S704x1_0 bcast_S_S704x1 bcast_S1_S1x1_1 bcast_S1x1_S704x1_0_1 reducesTo_S704x1_S704_d1 h_S_ 865#32 864#32
      (I) bcast_S704_S8x704x256_1 bcast_S_S8x704x256 gather_S8x865x256_S704x1_S8x704x256_02_1_n_n_1_1_81256_wf (x)) (tab0 m c) (pad0 m c))
theorem tab1 : E2 m c (Proc.devRef .tc main_c) = (fun i => lit1 (S704.rowMajor i) : IVec S704 32) := by
  simp only [E2, E1, E0]
  after_reads_simp
  rfl
theorem pad1 : E2 m c (Proc.devRef .tc main_v25) = Cert.Layout.padRow bcast_S_S8x1x32 concatenates_S8x864x32_S8x1x32_S8x865x32_d1
    (Cert.Layout.matS bcast_S_S8x48x16x32 bcast_S_S1 scatter_S8x48x16x32_S1_S8x48x32_012_2_2_0_wf shapeCasts_S8x48x16x32_S8x768x32
      concatenates_S8x768x32_S8x96x32_S8x864x32_d1 (ins m c).x5 (ins m c).x7) := by
  simp only [E2, E1, E0]
  after_reads_simp
  refine congrArg₂ (fun (x : FVec Ideal S8x864x32 .f32) (y : FVec Ideal S8x1x32 .f32) => concatenate S8x865x32 1 [⟨S8x864x32, x⟩, ⟨S8x1x32, y⟩] concatenates_S8x864x32_S8x1x32_S8x865x32_d1) ?_ ?_
  · after_reads_simp
    refine congrArg₂ (fun (x : FVec Ideal S8x768x32 .f32) (y : FVec Ideal S8x96x32 .f32) => concatenate S8x864x32 1 [⟨S8x768x32, x⟩, ⟨S8x96x32, y⟩] concatenates_S8x768x32_S8x96x32_S8x864x32_d1) ?_ ?_ <;> (after_reads_simp; rfl)
  · after_reads_simp
    rfl
theorem out1 : E3 m c (Proc.devRef .tc main_v26) = Cert.Layout.takeRows bcast_S_S704 bcast_S704_S704x1_0 bcast_S_S704x1 bcast_S1_S1x1_1 bcast_S1x1_S704x1_0_1 reducesTo_S704x1_S704_d1 h_S_ 865#32 864#32
      (fun i => lit1 (S704.rowMajor i)) bcast_S704_S8x704x32_1 bcast_S_S8x704x32 gather_S8x865x32_S704x1_S8x704x32_02_1_n_n_1_1_8132_wf (Cert.Layout.padRow bcast_S_S8x1x32 concatenates_S8x864x32_S8x1x32_S8x865x32_d1
    (Cert.Layout.matS bcast_S_S8x48x16x32 bcast_S_S1 scatter_S8x48x16x32_S1_S8x48x32_012_2_2_0_wf shapeCasts_S8x48x16x32_S8x768x32
      concatenates_S8x768x32_S8x96x32_S8x864x32_d1 (ins m c).x5 (ins m c).x7)) :=
  (call1 (E2 m c)).trans (congrArg₂ (fun (I : IVec S704 32) (x : FVec Ideal S8x865x32 .f32) => Cert.Layout.takeRows bcast_S_S704 bcast_S704_S704x1_0 bcast_S_S704x1 bcast_S1_S1x1_1 bcast_S1x1_S704x1_0_1 reducesTo_S704x1_S704_d1 h_S_ 865#32 864#32
      (I) bcast_S704_S8x704x32_1 bcast_S_S8x704x32 gather_S8x865x32_S704x1_S8x704x32_02_1_n_n_1_1_8132_wf (x)) (tab1 m c) (pad1 m c))
theorem tab2 : E4 m c (Proc.devRef .tc main_c_1) = (fun i => lit3 (S288.rowMajor i) : IVec S288 32) := by
  simp only [E4, E3, E2, E1, E0]
  after_reads_simp
  rfl
theorem pad2 : E4 m c (Proc.devRef .tc main_v45) = Cert.Layout.padRow bcast_S_S8x1x288 concatenates_S8x288x288_S8x1x288_S8x289x288_d1
    (concatenate S8x288x288 2
      [⟨S8x288x256, Cert.Layout.matX transposes_S16x16x8x16x16_S8x16x16x16x16_2_3_0_1_4 shapeCasts_S8x16x16x16x16_S8x256x256 bcast_S_S8x32x16x16 bcast_S_S1
        scatter_S8x32x16x16_S1_S8x32x16_012_2_2_0_wf shapeCasts_S8x32x16x16_S8x32x256 concatenates_S8x256x256_S8x32x256_S8x288x256_d1 (dotO (ins m c).x8) (ins m c).x10⟩,
       ⟨S8x288x32, Cert.Layout.matS bcast_S_S8x16x16x32 bcast_S_S1 scatter_S8x16x16x32_S1_S8x16x32_012_2_2_0_wf shapeCasts_S8x16x16x32_S8x256x32
        concatenates_S8x256x32_S8x32x32_S8x288x32_d1 (ins m c).x9 (ins m c).x11⟩] concatenates_S8x288x256_S8x288x32_S8x288x288_d2) := by
  simp only [E4, E3, E2, E1, E0]
  after_reads_simp
  refine congrArg₂ (fun (x : FVec Ideal S8x288x288 .f32) (y : FVec Ideal S8x1x288 .f32) => concatenate S8x289x288 1 [⟨S8x288x288, x⟩, ⟨S8x1x288, y⟩] concatenates_S8x288x288_S8x1x288_S8x289x288_d1) ?_ ?_
  · after_reads_simp
    refine congrArg₂ (fun (x : FVec Ideal S8x288x256 .f32) (y : FVec Ideal S8x288x32 .f32) => concatenate S8x288x288 2 [⟨S8x288x256, x⟩, ⟨S8x288x32, y⟩] concatenates_S8x288x256_S8x288x32_S8x288x288_d2) ?_ ?_
    · after_reads_simp
      refine congrArg₂ (fun (x : FVec Ideal S8x256x256 .f32) (y : FVec Ideal S8x32x256 .f32) => concatenate S8x288x256 1 [⟨S8x256x256, x⟩, ⟨S8x32x256, y⟩] concatenates_S8x256x256_S8x32x256_S8x288x256_d1) ?_ ?_ <;> (after_reads_simp; rfl)
    · after_reads_simp
      refine congrArg₂ (fun (x : FVec Ideal S8x256x32 .f32) (y : FVec Ideal S8x32x32 .f32) => concatenate S8x288x32 1 [⟨S8x256x32, x⟩, ⟨S8x32x32, y⟩] concatenates_S8x256x32_S8x32x32_S8x288x32_d1) ?_ ?_ <;> (after_reads_simp; rfl)
  · after_reads_simp
    rfl
theorem out2 : E5 m c (Proc.devRef .tc main_v46) = Cert.Layout.takeRows bcast_S_S288 bcast_S288_S288x1_0 bcast_S_S288x1 bcast_S1_S1x1_1 bcast_S1x1_S288x1_0_1 reducesTo_S288x1_S288_d1 h_S_ 289#32 288#32
      (fun i => lit3 (S288.rowMajor i)) bcast_S288_S8x288x288_1 bcast_S_S8x288x288 gather_S8x289x288_S288x1_S8x288x288_02_1_n_n_1_1_81288_wf (Cert.Layout.padRow bcast_S_S8x1x288 concatenates_S8x288x288_S8x1x288_S8x289x288_d1
    (concatenate S8x288x288 2
      [⟨S8x288x256, Cert.Layout.matX transposes_S16x16x8x16x16_S8x16x16x16x16_2_3_0_1_4 shapeCasts_S8x16x16x16x16_S8x256x256 bcast_S_S8x32x16x16 bcast_S_S1
        scatter_S8x32x16x16_S1_S8x32x16_012_2_2_0_wf shapeCasts_S8x32x16x16_S8x32x256 concatenates_S8x256x256_S8x32x256_S8x288x256_d1 (dotO (ins m c).x8) (ins m c).x10⟩,
       ⟨S8x288x32, Cert.Layout.matS bcast_S_S8x16x16x32 bcast_S_S1 scatter_S8x16x16x32_S1_S8x16x32_012_2_2_0_wf shapeCasts_S8x16x16x32_S8x256x32
        concatenates_S8x256x32_S8x32x32_S8x288x32_d1 (ins m c).x9 (ins m c).x11⟩] concatenates_S8x288x256_S8x288x32_S8x288x288_d2)) :=
  (call2 (E4 m c)).trans (congrArg₂ (fun (I : IVec S288 32) (x : FVec Ideal S8x289x288 .f32) => Cert.Layout.takeRows bcast_S_S288 bcast_S288_S288x1_0 bcast_S_S288x1 bcast_S1_S1x1_1 bcast_S1x1_S288x1_0_1 reducesTo_S288x1_S288_d1 h_S_ 289#32 288#32
      (I) bcast_S288_S8x288x288_1 bcast_S_S8x288x288 gather_S8x289x288_S288x1_S8x288x288_02_1_n_n_1_1_81288_wf (x)) (tab2 m c) (pad2 m c))
theorem tab3 : E6 m c (Proc.devRef .tc main_c_2) = (fun i => lit4 (S288.rowMajor i) : IVec S288 32) := by
  simp only [E6, E5, E4, E3, E2, E1, E0]
  after_reads_simp
  rfl
theorem pad3 : E6 m c (Proc.devRef .tc main_v49) = Cert.Layout.padCol bcast_S_S8x288x1 concatenates_S8x288x288_S8x288x1_S8x288x289_d2 (E5 m c (Proc.devRef .tc main_v46)) := by
  simp only [E6]
  after_reads_simp
  refine congrArg₂ (fun (x : FVec Ideal S8x288x288 .f32) (y : FVec Ideal S8x288x1 .f32) => concatenate S8x288x289 2 [⟨S8x288x288, x⟩, ⟨S8x288x1, y⟩] concatenates_S8x288x288_S8x288x1_S8x288x289_d2) ?_ ?_
  · after_reads_simp
  · after_reads_simp
    rfl
theorem out3 : E7 m c (Proc.devRef .tc main_v50) = outXS (ins m c).x8 (ins m c).x9 (ins m c).x10 (ins m c).x11 :=
  (call3 (E6 m c)).trans (congrArg₂ (fun (I : IVec S288 32) (x : FVec Ideal S8x288x289 .f32) => Cert.Layout.takeCols bcast_S_S288 bcast_S288_S288x1_0 bcast_S_S288x1 bcast_S1_S1x1_1 bcast_S1x1_S288x1_0_1 reducesTo_S288x1_S288_d1 h_S_ 289#32 288#32
      (I) bcast_S288_S8x288x288_2 bcast_S_S8x288x288 gather_S8x288x289_S288x1_S8x288x288_01_2_n_n_2_1_82881_wf (x)) (tab3 m c) ((pad3 m c).trans (congrArg (Cert.Layout.padCol bcast_S_S8x288x1 concatenates_S8x288x288_S8x288x1_S8x288x289_d2) (out2 m c))))
theorem tab4 : E8 m c (Proc.devRef .tc main_c_3) = (fun i => lit5 (S576.rowMajor i) : IVec S576 32) := by
  simp only [E8, E7, E6, E5, E4, E3, E2, E1, E0]
  after_reads_simp
  rfl
theorem pad4 : E8 m c (Proc.devRef .tc main_v70) = Cert.Layout.padRow bcast_S_S8x1x256 concatenates_S8x576x256_S8x1x256_S8x577x256_d1
    (Cert.Layout.matX transposes_S16x16x8x32x16_S8x32x16x16x16_2_3_0_1_4 shapeCasts_S8x32x16x16x16_S8x512x256 bcast_S_S8x64x16x16 bcast_S_S1
      scatter_S8x64x16x16_S1_S8x64x16_012_2_2_0_wf shapeCasts_S8x64x16x16_S8x64x256 concatenates_S8x512x256_S8x64x256_S8x576x256_d1 (dotM (ins m c).x12) (ins m c).x14) := by
  simp only [E8, E7, E6, E5, E4, E3, E2, E1, E0]
  after_reads_simp
  refine congrArg₂ (fun (x : FVec Ideal S8x576x256 .f32) (y : FVec Ideal S8x1x256 .f32) => concatenate S8x577x256 1 [⟨S8x576x256, x⟩, ⟨S8x1x256, y⟩] concatenates_S8x576x256_S8x1x256_S8x577x256_d1) ?_ ?_
  · after_reads_simp
    refine congrArg₂ (fun (x : FVec Ideal S8x512x256 .f32) (y : FVec Ideal S8x64x256 .f32) => concatenate S8x576x256 1 [⟨S8x512x256, x⟩, ⟨S8x64x256, y⟩] concatenates_S8x512x256_S8x64x256_S8x576x256_d1) ?_ ?_ <;> (after_reads_simp; rfl)
  · after_reads_simp
    rfl
theorem out4 : E9 m c (Proc.devRef .tc main_v71) = m1X (ins m c).x12 (ins m c).x14 :=
  (call4 (E8 m c)).trans (congrArg₂ (fun (I : IVec S576 32) (x : FVec Ideal S8x577x256 .f32) => Cert.Layout.takeRows bcast_S_S576 bcast_S576_S576x1_0 bcast_S_S576x1 bcast_S1_S1x1_1 bcast_S1x1_S576x1_0_1 reducesTo_S576x1_S576_d1 h_S_ 577#32 576#32
      (I) bcast_S576_S8x576x256_1 bcast_S_S8x576x256 gather_S8x577x256_S576x1_S8x576x256_02_1_n_n_1_1_81256_wf (x)) (tab4 m c) (pad4 m c))
theorem tab5 : E10 m c (Proc.devRef .tc main_c_3) = (fun i => lit5 (S576.rowMajor i) : IVec S576 32) := by
  simp only [E10, E9, E8, E7, E6, E5, E4, E3, E2, E1, E0]
  after_reads_simp
  rfl
theorem pad5 : E10 m c (Proc.devRef .tc main_v78) = Cert.Layout.padRow bcast_S_S8x1x32 concatenates_S8x576x32_S8x1x32_S8x577x32_d1
    (Cert.Layout.matS bcast_S_S8x32x16x32 bcast_S_S1 scatter_S8x32x16x32_S1_S8x32x32_012_2_2_0_wf shapeCasts_S8x32x16x32_S8x512x32
      concatenates_S8x512x32_S8x64x32_S8x576x32_d1 (ins m c).x13 (ins m c).x15) := by
  simp only [E10, E9, E8, E7, E6, E5, E4, E3, E2, E1, E0]
  after_reads_simp
  refine congrArg₂ (fun (x : FVec Ideal S8x576x32 .f32) (y : FVec Ideal S8x1x32 .f32) => concatenate S8x577x32 1 [⟨S8x576x32, x⟩, ⟨S8x1x32, y⟩] concatenates_S8x576x32_S8x1x32_S8x577x32_d1) ?_ ?_
  · after_reads_simp
    refine congrArg₂ (fun (x : FVec Ideal S8x512x32 .f32) (y : FVec Ideal S8x64x32 .f32) => concatenate S8x576x32 1 [⟨S8x512x32, x⟩, ⟨S8x64x32, y⟩] concatenates_S8x512x32_S8x64x32_S8x576x32_d1) ?_ ?_ <;> (after_reads_simp; rfl)
  · after_reads_simp
    rfl
theorem out5 : E11 m c (Proc.devRef .tc main_v79) = m1S (ins m c).x13 (ins m c).x15 :=
  (call5 (E10 m c)).trans (congrArg₂ (fun (I : IVec S576 32) (x : FVec Ideal S8x577x32 .f32) => Cert.Layout.takeRows bcast_S_S576 bcast_S576_S576x1_0 bcast_S_S576x1 bcast_S1_S1x1_1 bcast_S1x1_S576x1_0_1 reducesTo_S576x1_S576_d1 h_S_ 577#32 576#32
      (I) bcast_S576_S8x576x32_1 bcast_S_S8x576x32 gather_S8x577x32_S576x1_S8x576x32_02_1_n_n_1_1_8132_wf (x)) (tab5 m c) (pad5 m c))
theorem tab6 : E12 m c (Proc.devRef .tc main_c_1) = (fun i => lit3 (S288.rowMajor i) : IVec S288 32) := by
  simp only [E12, E11, E10, E9, E8, E7, E6, E5, E4, E3, E2, E1, E0]
  after_reads_simp
  rfl
theorem pad6 : E12 m c (Proc.devRef .tc main_v95) = Cert.Layout.padRow bcast_S_S8x1x256 concatenates_S8x288x256_S8x1x256_S8x289x256_d1
    (Cert.Layout.matX transposes_S16x16x8x16x16_S8x16x16x16x16_2_3_0_1_4 shapeCasts_S8x16x16x16x16_S8x256x256 bcast_S_S8x32x16x16 bcast_S_S1
      scatter_S8x32x16x16_S1_S8x32x16_012_2_2_0_wf shapeCasts_S8x32x16x16_S8x32x256 concatenates_S8x256x256_S8x32x256_S8x288x256_d1 (dotO (ins m c).x16) (ins m c).x18) := by
  simp only [E12, E11, E10, E9, E8, E7, E6, E5, E4, E3, E2, E1, E0]
  after_reads_simp
  refine congrArg₂ (fun (x : FVec Ideal S8x288x256 .f32) (y : FVec Ideal S8x1x256 .f32) => concatenate S8x289x256 1 [⟨S8x288x256, x⟩, ⟨S8x1x256, y⟩] concatenates_S8x288x256_S8x1x256_S8x289x256_d1) ?_ ?_
  · after_reads_simp
    refine congrArg₂ (fun (x : FVec Ideal S8x256x256 .f32) (y : FVec Ideal S8x32x256 .f32) => concatenate S8x288x256 1 [⟨S8x256x256, x⟩, ⟨S8x32x256, y⟩] concatenates_S8x256x256_S8x32x256_S8x288x256_d1) ?_ ?_ <;> (after_reads_simp; rfl)
  · after_reads_simp
    rfl
theorem out6 : E13 m c (Proc.devRef .tc main_v96) = m2X (ins m c).x16 (ins m c).x18 :=
  (call6 (E12 m c)).trans (congrArg₂ (fun (I : IVec S288 32) (x : FVec Ideal S8x289x256 .f32) => Cert.Layout.takeRows bcast_S_S288 bcast_S288_S288x1_0 bcast_S_S288x1 bcast_S1_S1x1_1 bcast_S1x1_S288x1_0_1 reducesTo_S288x1_S288_d1 h_S_ 289#32 288#32
      (I) bcast_S288_S8x288x256_1 bcast_S_S8x288x256 gather_S8x289x256_S288x1_S8x288x256_02_1_n_n_1_1_81256_wf (x)) (tab6 m c) (pad6 m c))
theorem tab7 : E14 m c (Proc.devRef .tc main_c_1) = (fun i => lit3 (S288.rowMajor i) : IVec S288 32) := by
  simp only [E14, E13, E12, E11, E10, E9, E8, E7, E6, E5, E4, E3, E2, E1, E0]
  after_reads_simp
  rfl
theorem pad7 : E14 m c (Proc.devRef .tc main_v103) = Cert.Layout.padRow bcast_S_S8x1x32 concatenates_S8x288x32_S8x1x32_S8x289x32_d1
    (Cert.Layout.matS bcast_S_S8x16x16x32 bcast_S_S1 scatter_S8x16x16x32_S1_S8x16x32_012_2_2_0_wf shapeCasts_S8x16x16x32_S8x256x32
      concatenates_S8x256x32_S8x32x32_S8x288x32_d1 (ins m c).x17 (ins m c).x19) := by
  simp only [E14, E13, E12, E11, E10, E9, E8, E7, E6, E5, E4, E3, E2, E1, E0]
  after_reads_simp
  refine congrArg₂ (fun (x : FVec Ideal S8x288x32 .f32) (y : FVec Ideal S8x1x32 .f32) => concatenate S8x289x32 1 [⟨S8x288x32, x⟩, ⟨S8x1x32, y⟩] concatenates_S8x288x32_S8x1x32_S8x289x32_d1) ?_ ?_
  · after_reads_simp
    refine congrArg₂ (fun (x : FVec Ideal S8x256x32 .f32) (y : FVec Ideal S8x32x32 .f32) => concatenate S8x288x32 1 [⟨S8x256x32, x⟩, ⟨S8x32x32, y⟩] concatenates_S8x256x32_S8x32x32_S8x288x32_d1) ?_ ?_ <;> (after_reads_simp; rfl)
  · after_reads_simp
    rfl
theorem out7 : E15 m c (Proc.devRef .tc main_v104) = m2S (ins m c).x17 (ins m c).x19 :=
  (call7 (E14 m c)).trans (congrArg₂ (fun (I : IVec S288 32) (x : FVec Ideal S8x289x32 .f32) => Cert.Layout.takeRows bcast_S_S288 bcast_S288_S288x1_0 bcast_S_S288x1 bcast_S1_S1x1_1 bcast_S1x1_S288x1_0_1 reducesTo_S288x1_S288_d1 h_S_ 289#32 288#32
      (I) bcast_S288_S8x288x32_1 bcast_S_S8x288x32 gather_S8x289x32_S288x1_S8x288x32_02_1_n_n_1_1_8132_wf (x)) (tab7 m c) (pad7 m c))
theorem scale1 : E1 m c (Proc.devRef .tc main_cst_0) = (fun i => FloatOps.ofBits .f32 (lit2 (S1x704x1.rowMajor i)) : FVec Ideal S1x704x1 .f32) := by
  simp only [E1, E0]
  after_reads_simp
  rfl
theorem scale3 : E3 m c (Proc.devRef .tc main_cst_0) = (fun i => FloatOps.ofBits .f32 (lit2 (S1x704x1.rowMajor i)) : FVec Ideal S1x704x1 .f32) := by
  simp only [E3, E2, E1, E0]
  after_reads_simp
  rfl
theorem late0 : E15 m c (Proc.devRef .tc main_arg0) = (ins m c).x0 := by
  simp only [E15, E14, E13, E12, E11, E10, E9, E8, E7, E6, E5, E4, E3, E2, E1, E0]
  after_reads_simp
  rfl
theorem late1 : E15 m c (Proc.devRef .tc main_arg1) = (ins m c).x1 := by
  simp only [E15, E14, E13, E12, E11, E10, E9, E8, E7, E6, E5, E4, E3, E2, E1, E0]
  after_reads_simp
  rfl
theorem late3 : E15 m c (Proc.devRef .tc main_arg3) = (ins m c).x3 := by
  simp only [E15, E14, E13, E12, E11, E10, E9, E8, E7, E6, E5, E4, E3, E2, E1, E0]
  after_reads_simp
  rfl
theorem late20 : E15 m c (Proc.devRef .tc main_arg20) = (ins m c).x20 := by
  simp only [E15, E14, E13, E12, E11, E10, E9, E8, E7, E6, E5, E4, E3, E2, E1, E0]
  after_reads_simp
  rfl
theorem late21 : E15 m c (Proc.devRef .tc main_arg21) = (ins m c).x21 := by
  simp only [E15, E14, E13, E12, E11, E10, E9, E8, E7, E6, E5, E4, E3, E2, E1, E0]
  after_reads_simp
  rfl
theorem lateB : E15 m c (Proc.devRef .tc main_cst) = basis := by
  simp only [E15, E14, E13, E12, E11, E10, E9, E8, E7, E6, E5, E4, E3, E2, E1, E0]
  after_reads_simp
  rfl
theorem lateM : E15 m c (Proc.devRef .tc main_cst_4) = (fun i => FloatOps.ofBits .f32 (lit6 (S256x128.rowMajor i)) : FVec Ideal S256x128 .f32) := by
  simp only [E15, E14, E13, E12, E11, E10, E9, E8, E7, E6, E5, E4, E3, E2, E1, E0]
  after_reads_simp
  rfl

/-- The region is launched on these arrays of the arguments. -/
theorem reads_inp : V m c main_v132 = (arrays (ins m c)).inp := by
  show StableHlo.after (List.flatten _) _ _ = _
  simp only [List.flatten_cons, List.flatten_nil, List.append_nil, after_append]
  simp only [fold0, fold1, fold2, fold3, fold4, fold5, fold6, fold7, fold8, fold9, fold10, fold11, fold12, fold13, fold14, fold15]
  rw [tail_inp]
  rw [late0]
  rfl
theorem reads_bs : V m c main_v134 = (arrays (ins m c)).bs := by
  show StableHlo.after (List.flatten _) _ _ = _
  simp only [List.flatten_cons, List.flatten_nil, List.append_nil, after_append]
  simp only [fold0, fold1, fold2, fold3, fold4, fold5, fold6, fold7, fold8, fold9, fold10, fold11, fold12, fold13, fold14, fold15]
  after_reads_simp
  rw [late3]
  rfl
theorem reads_a8 : V m c main_v128 = (arrays (ins m c)).a8 := by
  show StableHlo.after (List.flatten _) _ _ = _
  simp only [List.flatten_cons, List.flatten_nil, List.append_nil, after_append]
  simp only [fold0, fold1, fold2, fold3, fold4, fold5, fold6, fold7, fold8, fold9, fold10, fold11, fold12, fold13, fold14, fold15]
  rw [tail_a8]
  rw [lateB, late1]
  rfl
theorem reads_mask : V m c main_cst_4 = (arrays (ins m c)).mask := by
  show StableHlo.after (List.flatten _) _ _ = _
  simp only [List.flatten_cons, List.flatten_nil, List.append_nil, after_append]
  simp only [fold0, fold1, fold2, fold3, fold4, fold5, fold6, fold7, fold8, fold9, fold10, fold11, fold12, fold13, fold14, fold15]
  after_reads_simp
  rw [lateM]
  rfl
theorem reads_qh : V m c main_v19 = (arrays (ins m c)).qh := by
  show StableHlo.after (List.flatten _) _ _ = _
  simp only [List.flatten_cons, List.flatten_nil, List.append_nil, after_append]
  simp only [fold0, fold1]
  after_reads_simp
  rw [out0, scale1]
  rfl
theorem reads_ql : V m c main_v22 = (arrays (ins m c)).ql := by
  show StableHlo.after (List.flatten _) _ _ = _
  simp only [List.flatten_cons, List.flatten_nil, List.append_nil, after_append]
  simp only [fold0, fold1]
  after_reads_simp
  rw [out0, scale1]
  rfl
theorem reads_qs : V m c main_v28 = (arrays (ins m c)).qs := by
  show StableHlo.after (List.flatten _) _ _ = _
  simp only [List.flatten_cons, List.flatten_nil, List.append_nil, after_append]
  simp only [fold0, fold1, fold2, fold3]
  after_reads_simp
  rw [out1, scale3]
  rfl
theorem reads_oh : V m c main_v51 = (arrays (ins m c)).oh := by
  show StableHlo.after (List.flatten _) _ _ = _
  simp only [List.flatten_cons, List.flatten_nil, List.append_nil, after_append]
  simp only [fold0, fold1, fold2, fold3, fold4, fold5, fold6, fold7]
  after_reads_simp
  rw [out3]
  rfl
theorem reads_ol : V m c main_v54 = (arrays (ins m c)).ol := by
  show StableHlo.after (List.flatten _) _ _ = _
  simp only [List.flatten_cons, List.flatten_nil, List.append_nil, after_append]
  simp only [fold0, fold1, fold2, fold3, fold4, fold5, fold6, fold7]
  after_reads_simp
  rw [out3]
  rfl
theorem reads_h1 : V m c main_v72 = (arrays (ins m c)).h1 := by
  show StableHlo.after (List.flatten _) _ _ = _
  simp only [List.flatten_cons, List.flatten_nil, List.append_nil, after_append]
  simp only [fold0, fold1, fold2, fold3, fold4, fold5, fold6, fold7, fold8, fold9]
  after_reads_simp
  rw [out4]
  rfl
theorem reads_l1 : V m c main_v75 = (arrays (ins m c)).l1 := by
  show StableHlo.after (List.flatten _) _ _ = _
  simp only [List.flatten_cons, List.flatten_nil, List.append_nil, after_append]
  simp only [fold0, fold1, fold2, fold3, fold4, fold5, fold6, fold7, fold8, fold9]
  after_reads_simp
  rw [out4]
  rfl
theorem reads_s1 : V m c main_v79 = (arrays (ins m c)).s1 := by
  show StableHlo.after (List.flatten _) _ _ = _
  simp only [List.flatten_cons, List.flatten_nil, List.append_nil, after_append]
  simp only [fold0, fold1, fold2, fold3, fold4, fold5, fold6, fold7, fold8, fold9, fold10, fold11]
  after_reads_simp
  rw [out5]
  rfl
theorem reads_h2 : V m c main_v97 = (arrays (ins m c)).h2 := by
  show StableHlo.after (List.flatten _) _ _ = _
  simp only [List.flatten_cons, List.flatten_nil, List.append_nil, after_append]
  simp only [fold0, fold1, fold2, fold3, fold4, fold5, fold6, fold7, fold8, fold9, fold10, fold11, fold12, fold13]
  after_reads_simp
  rw [out6]
  rfl
theorem reads_l2 : V m c main_v100 = (arrays (ins m c)).l2 := by
  show StableHlo.after (List.flatten _) _ _ = _
  simp only [List.flatten_cons, List.flatten_nil, List.append_nil, after_append]
  simp only [fold0, fold1, fold2, fold3, fold4, fold5, fold6, fold7, fold8, fold9, fold10, fold11, fold12, fold13]
  after_reads_simp
  rw [out6]
  rfl
theorem reads_s2 : V m c main_v104 = (arrays (ins m c)).s2 := by
  show StableHlo.after (List.flatten _) _ _ = _
  simp only [List.flatten_cons, List.flatten_nil, List.append_nil, after_append]
  simp only [fold0, fold1, fold2, fold3, fold4, fold5, fold6, fold7, fold8, fold9, fold10, fold11, fold12, fold13, fold14, fold15]
  after_reads_simp
  rw [out7]
  rfl
theorem reads_rx : V m c main_v142 = (arrays (ins m c)).rx := by
  show StableHlo.after (List.flatten _) _ _ = _
  simp only [List.flatten_cons, List.flatten_nil, List.append_nil, after_append]
  simp only [fold0, fold1, fold2, fold3, fold4, fold5, fold6, fold7, fold8, fold9, fold10, fold11, fold12, fold13, fold14, fold15]
  after_reads_simp
  rw [lateB, late20]
  rfl
theorem reads_rs : V m c main_v146 = (arrays (ins m c)).rs := by
  show StableHlo.after (List.flatten _) _ _ = _
  simp only [List.flatten_cons, List.flatten_nil, List.append_nil, after_append]
  simp only [fold0, fold1, fold2, fold3, fold4, fold5, fold6, fold7, fold8, fold9, fold10, fold11, fold12, fold13, fold14, fold15]
  after_reads_simp
  rw [late21]
  rfl

theorem reads : (arrays (ins m c)).Reads m c :=
  ⟨reads_inp m c, reads_bs m c, reads_a8 m c, reads_mask m c, reads_qh m c, reads_ql m c, reads_qs m c, reads_oh m c, reads_ol m c, reads_h1 m c, reads_l1 m c,
    reads_s1 m c, reads_h2 m c, reads_l2 m c, reads_s2 m c, reads_rx m c, reads_rs m c⟩
end

end Cert.KernelIdeal.Value

end
-- ==== Proof.KRun.lean ====
module

public import proofs.«01_k».proof.Proof.KTrip

@[expose] public section

set_option maxRecDepth 16384

noncomputable section

/-! The kernel's region: from the arrays it is launched on to its result array. -/

namespace Cert.KernelIdeal.Value
open Idealize.ShloMosaic Idealize.ShloMosaic.TcCoe Idealize.SL.Sem
open Idealize.ShloMosaic.Pipeline (Dat)
open Cert.KernelIdeal Cert.KernelIdeal.Gen Cert.Lift
open Cert.Model (rowOf sum256)

/-- The readout's row over any two state arrays. -/
theorem out_real (X : FVec Ideal S256x1024 .f32) (S : FVec Ideal S32x1024 .f32) (rx : FVec Ideal S8x256 .f32) (rs : FVec Ideal S8x32 .f32)
    (x : Model.Mv) (s : Model.Sc) (wo : Fin 1 → Fin 16 → Fin 9 → ℝ) (wos : Fin 1 → Fin 32 → ℝ)
    (hX : ∀ R n, X (ix2 R n) = ((rowOf (x n) R : ℝ) : EReal)) (hS : ∀ d n, S (ix2 d n) = ((s n d : ℝ) : EReal))
    (hrx : ∀ R, rx (ix2 0 R) = ((rowOf (fun i s => Model.eff Model.tables.B wo 0 i 0 s) R : ℝ) : EReal))
    (hrs : ∀ d, rs (ix2 0 d) = ((wos 0 d : ℝ) : EReal)) (j : Fin 128) :
    k0_pay6 X S rx rs (ix3 0 0 j) = ((Model.readout Model.tables.B wo wos x s : ℝ) : EReal) := by
  pointwise [k0_pay6]
  simp only [hX, hS, hrx, hrs, mul_coe, sum_coe, add_coe, w_1024th]
  rw [EReal.coe_eq_coe_iff, Model.readout]
  have e (n : Fin 1024) : (∑ R : Fin 256, rowOf (fun i s => Model.eff Model.tables.B wo 0 i 0 s) R * rowOf (x n) R) + ∑ d, wos 0 d * s n d =
      Model.lin Model.tables.B wo wos (x n) (s n) 0 0 := by
    rw [sum256 (fun i b => Model.eff Model.tables.B wo 0 i 0 b * x n i b), Model.lin, if_pos rfl]
  simp only [e]
  rw [mul_one_div]

/-- The points embedded and sent through the input layer. -/
theorem in_real (A : Arrays) (a : Model.Args) (H : A.Real a) (b : Fin 8) (y : FVec Ideal S1x8x1024 .f32) (hy : ∀ k n, y (ix3 0 k n) = A.inp (ix3 b k n))
    (R : Fin 256) (n : Fin 1024) :
    k0_pay1 (F := Ideal) A.a8 y (ix2 R n) = ((rowOf (Model.initMv Model.tables.B a.win (fun n => Model.embed (a.pts b n)) n) R : ℝ) : EReal) := by
  pointwise [k0_pay1]
  simp only [hy, H.inp, H.a8, mul_coe, sum_coe]
  rw [EReal.coe_eq_coe_iff]
  unfold rowOf Model.initMv
  simp only [Fin.sum_univ_succ, Fin.sum_univ_zero]
  simp [Model.embed, Fin.ext_iff]
  ring

/-- The state before every trip is the model's. -/
theorem st_real (c : Dev nD) (i : grid0.Coords) (a0 : Memref sig .tc .vmem S1x8x1024 .f32) (h0 : a0.IsWhole) (a1 : Memref sig .tc .vmem S32x1024 .f32) (h1 : a1.IsWhole) (a2 : Memref sig .tc .vmem S256x8 .f32) (h2 : a2.IsWhole) (a3 : Memref sig .tc .vmem S256x128 .f32) (h3 : a3.IsWhole) (a4 : Memref sig .tc .vmem S8x704x256 .bf16) (h4 : a4.IsWhole) (a5 : Memref sig .tc .vmem S8x704x256 .bf16) (h5 : a5.IsWhole) (a6 : Memref sig .tc .vmem S8x704x32 .f32) (h6 : a6.IsWhole) (a7 : Memref sig .tc .vmem S8x288x288 .bf16) (h7 : a7.IsWhole) (a8 : Memref sig .tc .vmem S8x288x288 .bf16) (h8 : a8.IsWhole) (a9 : Memref sig .tc .vmem S8x576x256 .bf16) (h9 : a9.IsWhole) (a10 : Memref sig .tc .vmem S8x576x256 .bf16) (h10 : a10.IsWhole) (a11 : Memref sig .tc .vmem S8x576x32 .f32) (h11 : a11.IsWhole) (a12 : Memref sig .tc .vmem S8x288x256 .bf16) (h12 : a12.IsWhole) (a13 : Memref sig .tc .vmem S8x288x256 .bf16) (h13 : a13.IsWhole) (a14 : Memref sig .tc .vmem S8x288x32 .f32) (h14 : a14.IsWhole) (a15 : Memref sig .tc .vmem S8x256 .f32) (h15 : a15.IsWhole) (a16 : Memref sig .tc .vmem S8x32 .f32) (h16 : a16.IsWhole) (a17 : Memref sig .tc .vmem S1x1x128 .f32) (h17 : a17.IsWhole)
    (A : Arrays) (a : Model.Args) (H : A.Real a) (b : Fin 8) (init : FVec Ideal S256x1024 .f32 × FVec Ideal S32x1024 .f32)
    (hi1 : ∀ R n, init.1 (ix2 R n) = ((rowOf ((a.st b 0).1 n) R : ℝ) : EReal)) (hi2 : ∀ d n, init.2 (ix2 d n) = (((a.st b 0).2 n d : ℝ) : EReal)) (k : ℕ) (hk : k ≤ 8) :
    (∀ R n, (st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) A.mask (Rect.unit ![0, 0] ![256, 1] inb_S256x128_S256x1_0_0)) (h4.unread A.qh) (h5.unread A.ql) (h6.unread A.qs) (h7.unread A.oh) (h8.unread A.ol) (h9.unread A.h1) (h10.unread A.l1) (h11.unread A.s1) (h12.unread A.h2) (h13.unread A.l2) (h14.unread A.s2) init k).1 (ix2 R n) = ((rowOf ((a.st b k).1 n) R : ℝ) : EReal)) ∧
    ∀ d n, (st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) A.mask (Rect.unit ![0, 0] ![256, 1] inb_S256x128_S256x1_0_0)) (h4.unread A.qh) (h5.unread A.ql) (h6.unread A.qs) (h7.unread A.oh) (h8.unread A.ol) (h9.unread A.h1) (h10.unread A.l1) (h11.unread A.s1) (h12.unread A.h2) (h13.unread A.l2) (h14.unread A.s2) init k).2 (ix2 d n) = (((a.st b k).2 n d : ℝ) : EReal) := by
  induction k with
  | zero => exact ⟨hi1, hi2⟩
  | succ k ih =>
    obtain ⟨i1, i2⟩ := ih (by omega)
    have hl : k < k0_t1_loop.trips := by rw [trips_eq]; omega
    have e := st_step c i a0 h0 a1 h1 a2 h2 a3 h3 a4 h4 a5 h5 a6 h6 a7 h7 a8 h8 a9 h9 a10 h10 a11 h11 a12 h12 a13 h13 a14 h14 a15 h15 a16 h16 a17 h17 A.mask A.qh A.ql A.qs A.oh A.ol A.h1 A.l1 A.s1 A.h2 A.l2 A.s2 init ⟨k, hl⟩
    have ho := A.ops_real a H ⟨k, by omega⟩
    rw [show k + 1 = ((⟨k, hl⟩ : Fin k0_t1_loop.trips) : ℕ) + 1 from rfl, e]
    have hw : a.layer k = a.W ⟨k, by omega⟩ := a.layer_val ⟨k, by omega⟩
    rw [← hw] at ho
    exact ⟨layerX_real _ _ _ _ ho _ _ i1 i2, layerS_real _ _ _ _ ho _ _ i1 i2⟩

/-- What the body stores at a grid point. -/
theorem point (c : Dev nD) (i : grid0.Coords) (a0 : Memref sig .tc .vmem S1x8x1024 .f32) (h0 : a0.IsWhole) (a1 : Memref sig .tc .vmem S32x1024 .f32) (h1 : a1.IsWhole) (a2 : Memref sig .tc .vmem S256x8 .f32) (h2 : a2.IsWhole) (a3 : Memref sig .tc .vmem S256x128 .f32) (h3 : a3.IsWhole) (a4 : Memref sig .tc .vmem S8x704x256 .bf16) (h4 : a4.IsWhole) (a5 : Memref sig .tc .vmem S8x704x256 .bf16) (h5 : a5.IsWhole) (a6 : Memref sig .tc .vmem S8x704x32 .f32) (h6 : a6.IsWhole) (a7 : Memref sig .tc .vmem S8x288x288 .bf16) (h7 : a7.IsWhole) (a8 : Memref sig .tc .vmem S8x288x288 .bf16) (h8 : a8.IsWhole) (a9 : Memref sig .tc .vmem S8x576x256 .bf16) (h9 : a9.IsWhole) (a10 : Memref sig .tc .vmem S8x576x256 .bf16) (h10 : a10.IsWhole) (a11 : Memref sig .tc .vmem S8x576x32 .f32) (h11 : a11.IsWhole) (a12 : Memref sig .tc .vmem S8x288x256 .bf16) (h12 : a12.IsWhole) (a13 : Memref sig .tc .vmem S8x288x256 .bf16) (h13 : a13.IsWhole) (a14 : Memref sig .tc .vmem S8x288x32 .f32) (h14 : a14.IsWhole) (a15 : Memref sig .tc .vmem S8x256 .f32) (h15 : a15.IsWhole) (a16 : Memref sig .tc .vmem S8x32 .f32) (h16 : a16.IsWhole) (a17 : Memref sig .tc .vmem S1x1x128 .f32) (h17 : a17.IsWhole)
    (A : Arrays) (a : Model.Args) (H : A.Real a) (b : Fin 8) (x0 : FVec Ideal S1x8x1024 .f32) (e0 : ∀ k n, x0 (ix3 0 k n) = A.inp (ix3 b k n))
    (x1 : FVec Ideal S32x1024 .f32) (x2 : FVec Ideal S256x8 .f32) (x3 : FVec Ideal S256x128 .f32) (x4 : FVec Ideal S8x704x256 .bf16) (x5 : FVec Ideal S8x704x256 .bf16) (x6 : FVec Ideal S8x704x32 .f32) (x7 : FVec Ideal S8x288x288 .bf16) (x8 : FVec Ideal S8x288x288 .bf16) (x9 : FVec Ideal S8x576x256 .bf16) (x10 : FVec Ideal S8x576x256 .bf16) (x11 : FVec Ideal S8x576x32 .f32) (x12 : FVec Ideal S8x288x256 .bf16) (x13 : FVec Ideal S8x288x256 .bf16) (x14 : FVec Ideal S8x288x32 .f32) (x15 : FVec Ideal S8x256 .f32) (x16 : FVec Ideal S8x32 .f32)
    (e1 : x1 = A.bs) (e2 : x2 = A.a8) (e3 : x3 = A.mask) (e4 : x4 = A.qh) (e5 : x5 = A.ql) (e6 : x6 = A.qs) (e7 : x7 = A.oh) (e8 : x8 = A.ol) (e9 : x9 = A.h1) (e10 : x10 = A.l1) (e11 : x11 = A.s1) (e12 : x12 = A.h2) (e13 : x13 = A.l2) (e14 : x14 = A.s2) (e15 : x15 = A.rx) (e16 : x16 = A.rs) (y : S1x1x128.Idx) :
    k0_pay6 (st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) x3 (Rect.unit ![0, 0] ![256, 1] inb_S256x128_S256x1_0_0)) (h4.unread x4) (h5.unread x5) (h6.unread x6) (h7.unread x7) (h8.unread x8) (h9.unread x9) (h10.unread x10) (h11.unread x11) (h12.unread x12) (h13.unread x13) (h14.unread x14) (k0_pay1 x2 x0, k0_pay2 x1) (Scf.trips (0#32) (Scalar.addi 0#32 8#32) 1#32)).1 (st_k0_t1 Variants.none c none i a0 h0 a1 h1 a2 h2 a3 h3 a4 h4 a5 h5 a6 h6 a7 h7 a8 h8 a9 h9 a10 h10 a11 h11 a12 h12 a13 h13 a14 h14 a15 h15 a16 h16 a17 h17 (View.ld (S := S256x128) (Val := Elt Ideal) (e' := .f32) x3 (Rect.unit ![0, 0] ![256, 1] inb_S256x128_S256x1_0_0)) (h4.unread x4) (h5.unread x5) (h6.unread x6) (h7.unread x7) (h8.unread x8) (h9.unread x9) (h10.unread x10) (h11.unread x11) (h12.unread x12) (h13.unread x13) (h14.unread x14) (k0_pay1 x2 x0, k0_pay2 x1) (Scf.trips (0#32) (Scalar.addi 0#32 8#32) 1#32)).2 x15 x16 y = ((a.out b : ℝ) : EReal) := by
  subst e1 e2 e3 e4 e5 e6 e7 e8 e9 e10 e11 e12 e13 e14 e15 e16
  have e : Scf.trips (0#32) (Scalar.addi 0#32 8#32) 1#32 = 8 := by decide +kernel
  rw [e]
  have hS := st_real c i a0 h0 a1 h1 a2 h2 a3 h3 a4 h4 a5 h5 a6 h6 a7 h7 a8 h8 a9 h9 a10 h10 a11 h11 a12 h12 a13 h13 a14 h14 a15 h15 a16 h16 a17 h17 A a H b (k0_pay1 A.a8 x0, k0_pay2 A.bs) (in_real A a H b x0 e0) (fun d n => by pointwise [k0_pay2]; exact H.bs d n) 8 le_rfl
  have hy : y = ix3 0 0 (y 2) := by
    funext i
    match i with
    | 0 => exact Fin.ext (by have := (y 0).isLt; change (y 0 : ℕ) < 1 at this; show (y 0 : ℕ) = 0; omega)
    | 1 => exact Fin.ext (by have := (y 1).isLt; change (y 1 : ℕ) < 1 at this; show (y 1 : ℕ) = 0; omega)
    | 2 => rfl
  rw [hy]
  exact out_real _ _ _ _ _ _ a.wo a.wos hS.1 hS.2 H.rx H.rs _

section
variable (m : (ℓ : Loc nD τ sig) → Buf (Elt Ideal) ℓ) (A : Arrays) (c : Dev nD) (hA : A.Reads m c) (t : Fin cfg0.N)
include hA

theorem mask_blk : (iblk m c 3 t : FVec Ideal S256x128 .f32) = A.mask := by
  unfold iblk
  rw [show V m c (Pipeline.arrRef spec0 3) = A.mask from hA.mask]
  blk_ext! [idx t]
theorem inp_blk : ∀ k n, (iblk m c 0 t : FVec Ideal S1x8x1024 .f32) (ix3 0 k n) = A.inp (ix3 ⟨t, t.isLt⟩ k n) := by
  intro k n
  unfold iblk
  rw [show V m c (Pipeline.arrRef spec0 0) = A.inp from hA.inp]
  blk_ext [idx t]
theorem bs_blk : (iblk m c 1 t : FVec Ideal S32x1024 .f32) = A.bs := by
  unfold iblk
  rw [show V m c (Pipeline.arrRef spec0 1) = A.bs from hA.bs]
  blk_ext! [idx t]
theorem a8_blk : (iblk m c 2 t : FVec Ideal S256x8 .f32) = A.a8 := by
  unfold iblk
  rw [show V m c (Pipeline.arrRef spec0 2) = A.a8 from hA.a8]
  blk_ext! [idx t]
theorem qh_blk : (iblk m c 4 t : FVec Ideal S8x704x256 .bf16) = A.qh := by
  unfold iblk
  rw [show V m c (Pipeline.arrRef spec0 4) = A.qh from hA.qh]
  blk_ext! [idx t]
theorem ql_blk : (iblk m c 5 t : FVec Ideal S8x704x256 .bf16) = A.ql := by
  unfold iblk
  rw [show V m c (Pipeline.arrRef spec0 5) = A.ql from hA.ql]
  blk_ext! [idx t]
theorem qs_blk : (iblk m c 6 t : FVec Ideal S8x704x32 .f32) = A.qs := by
  unfold iblk
  rw [show V m c (Pipeline.arrRef spec0 6) = A.qs from hA.qs]
  blk_ext! [idx t]
theorem oh_blk : (iblk m c 7 t : FVec Ideal S8x288x288 .bf16) = A.oh := by
  unfold iblk
  rw [show V m c (Pipeline.arrRef spec0 7) = A.oh from hA.oh]
  blk_ext! [idx t]
theorem ol_blk : (iblk m c 8 t : FVec Ideal S8x288x288 .bf16) = A.ol := by
  unfold iblk
  rw [show V m c (Pipeline.arrRef spec0 8) = A.ol from hA.ol]
  blk_ext! [idx t]
theorem h1_blk : (iblk m c 9 t : FVec Ideal S8x576x256 .bf16) = A.h1 := by
  unfold iblk
  rw [show V m c (Pipeline.arrRef spec0 9) = A.h1 from hA.h1]
  blk_ext! [idx t]
theorem l1_blk : (iblk m c 10 t : FVec Ideal S8x576x256 .bf16) = A.l1 := by
  unfold iblk
  rw [show V m c (Pipeline.arrRef spec0 10) = A.l1 from hA.l1]
  blk_ext! [idx t]
theorem s1_blk : (iblk m c 11 t : FVec Ideal S8x576x32 .f32) = A.s1 := by
  unfold iblk
  rw [show V m c (Pipeline.arrRef spec0 11) = A.s1 from hA.s1]
  blk_ext! [idx t]
theorem h2_blk : (iblk m c 12 t : FVec Ideal S8x288x256 .bf16) = A.h2 := by
  unfold iblk
  rw [show V m c (Pipeline.arrRef spec0 12) = A.h2 from hA.h2]
  blk_ext! [idx t]
theorem l2_blk : (iblk m c 13 t : FVec Ideal S8x288x256 .bf16) = A.l2 := by
  unfold iblk
  rw [show V m c (Pipeline.arrRef spec0 13) = A.l2 from hA.l2]
  blk_ext! [idx t]
theorem s2_blk : (iblk m c 14 t : FVec Ideal S8x288x32 .f32) = A.s2 := by
  unfold iblk
  rw [show V m c (Pipeline.arrRef spec0 14) = A.s2 from hA.s2]
  blk_ext! [idx t]
theorem rx_blk : (iblk m c 15 t : FVec Ideal S8x256 .f32) = A.rx := by
  unfold iblk
  rw [show V m c (Pipeline.arrRef spec0 15) = A.rx from hA.rx]
  blk_ext! [idx t]
theorem rs_blk : (iblk m c 16 t : FVec Ideal S8x32 .f32) = A.rs := by
  unfold iblk
  rw [show V m c (Pipeline.arrRef spec0 16) = A.rs from hA.rs]
  blk_ext! [idx t]

/-- The result array of the region. -/
theorem final (a : Model.Args) (H : A.Real a) : (dats m 0 c).arrAt 17 (cfgs 0).N =
    (fun y => ((a.out (y 0) : ℝ) : EReal) : FVec Ideal S8x1x128 .f32) := by
  refine (dats m 0 c).arrAt_eq_of_covers 17 _ (by decide +kernel) fun t _ y => ?_
  blk_simp
  rw [after0_17]; unfold outsAt0; frame_out
  refine (point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) A a H ⟨t, t.isLt⟩ (iblk m c 0 t) (inp_blk m A c hA t)
    (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (bs_blk m A c hA t) (a8_blk m A c hA t) (mask_blk m A c hA t) (qh_blk m A c hA t) (ql_blk m A c hA t) (qs_blk m A c hA t) (oh_blk m A c hA t) (ol_blk m A c hA t) (h1_blk m A c hA t) (l1_blk m A c hA t) (s1_blk m A c hA t) (h2_blk m A c hA t) (l2_blk m A c hA t) (s2_blk m A c hA t) (rx_blk m A c hA t) (rs_blk m A c hA t) y).trans ?_
  refine congrArg (fun b => ((a.out b : ℝ) : EReal)) (Fin.ext ?_)
  have hy : (y 0 : ℕ) < 1 := (y 0).isLt
  blk_simp [idx t]
end
end Cert.KernelIdeal.Value

end
-- ==== Proof.KOut.lean ====
module

public import proofs.«01_k».proof.Proof.KReads
public import proofs.«01_k».proof.Proof.KRun
public import proofs.«01_k».proof.Proof.Gen.KernelIdeal.Run

@[expose] public section

set_option maxRecDepth 16384

noncomputable section

/-! The kernel's result as a function of the real arguments. -/

namespace Cert.Model
open Idealize.ShloMosaic

/-- The model's results as an array. -/
def Args.outV (a : Args) : FVec Ideal ⟨2, ![8, 1]⟩ .f32 := fun i => ((a.out (i 0) : ℝ) : EReal)

end Cert.Model

namespace Cert.KernelIdeal.Value
open Idealize.ShloMosaic Idealize.ShloMosaic.TcCoe
open Cert.KernelIdeal Cert.KernelIdeal.Gen

theorem kernel_out (m : (ℓ : Loc nD τ sig) → Buf (Elt Ideal) ℓ) (c : Dev nD) (H : (ins m c).Finite) (h1) (h2) :
    shapeCast S8x1 (extractStridedSlice S8x1x1 ![0, 0, 0] (reg_main_v147 (F := Ideal) m c) h1) h2 = (ins m c).args.outV := by
  have e : reg_main_v147 (F := Ideal) m c = (fun y => (((ins m c).args.out (y 0) : ℝ) : EReal) : FVec Ideal S8x1x128 .f32) :=
    final m _ c (reads m c) _ (arrays_real _ H)
  rw [e]
  funext i
  obtain ⟨b, z, rfl⟩ : ∃ (b : Fin 8) (z : Fin 1), i = ix2 b z := ⟨i 0, i 1, by funext a; match a with | 0 => rfl | 1 => rfl⟩
  refine (shapeCast_apply _ _ _ (ix3 b (0 : Fin 1) z) ?_).trans (extractStridedSlice_apply _ _ _ _ (ix3 b (0 : Fin 1) ⟨z, by omega⟩) fun a => ?_)
  · rw [Shape.rowMajor_val_three, Shape.rowMajor_val_two]
    show (b.val * 1 + 0) * 1 + z.val = b.val * 1 + z.val
    omega
  · match a with
    | 0 => show b.val = 0 + b.val; omega
    | 1 => rfl
    | 2 => show z.val = 0 + z.val; omega

end Cert.KernelIdeal.Value

end
-- ==== Proof.RLin.lean ====
module

public import proofs.«01_k».proof.Proof.Gen.ReferenceIdeal.Run
public import proofs.«01_k».proof.Proof.Lift
public import Idealize.ShloMosaic.Init
public import Idealize.ShloMosaic.Lib.Pointwise

@[expose] public section

set_option maxRecDepth 16384

noncomputable section

/-! The reference's products of the equivariant linear layers. -/

namespace Cert.ReferenceIdeal.Value
open Idealize.ShloMosaic Cert.Lift Cert.ReferenceIdeal.Gen

/-- The basis applied first, then the weights. -/
theorem eff_basis_first {O I : ℕ} (B : Fin 9 → Fin 16 → Fin 16 → ℝ) (w : Fin O → Fin I → Fin 9 → ℝ) (x : Fin I → Fin 16 → ℝ) (o : Fin O) (a : Fin 16) :
    ∑ i, ∑ k, (∑ b, x i b * B k a b) * w o i k = ∑ i, ∑ b, Model.eff B w o i a b * x i b := by
  refine Finset.sum_congr rfl fun i _ => ?_
  simp only [Model.eff, Finset.sum_mul]
  rw [Finset.sum_comm]
  exact Finset.sum_congr rfl fun b _ => Finset.sum_congr rfl fun k _ => by ring

/-- The weights applied to the basis first. -/
theorem eff_weights_first {O I : ℕ} (B : Fin 9 → Fin 16 → Fin 16 → ℝ) (w : Fin O → Fin I → Fin 9 → ℝ) (x : Fin I → Fin 16 → ℝ) (o : Fin O) (a : Fin 16) :
    ∑ b, ∑ i, (∑ k, B k a b * w o i k) * x i b = ∑ i, ∑ b, Model.eff B w o i a b * x i b := by
  rw [Finset.sum_comm]
  refine Finset.sum_congr rfl fun i _ => Finset.sum_congr rfl fun b _ => ?_
  rw [Model.eff]
  exact congrArg (· * x i b) (Finset.sum_congr rfl fun k _ => mul_comm _ _)

section
variable (x : Fin 8 → Model.Mv) (B : Fin 9 → Fin 16 → Fin 16 → ℝ) (Bv : FVec Ideal S9x16x16 .f32) (X : FVec Ideal S8x1024x16x16 .f32)
  (hB : ∀ k a b, Bv (ix3 k a b) = ((B k a b : ℝ) : EReal)) (hX : ∀ b n i a, X (ix4 b n i a) = ((x b n i a : ℝ) : EReal))
include hB hX

/-- The product of 48 channels. -/
theorem lin48_real (W : FVec Ideal S48x16x9 .f32) (w : Fin 48 → Fin 16 → Fin 9 → ℝ) (hW : ∀ o i k, W (ix3 o i k) = ((w o i k : ℝ) : EReal))
    (b : Fin 8) (n : Fin 1024) (o : Fin 48) (a : Fin 16) :
    transpose S8x1024x48x16 [0, 1, 3, 2] (Host.dotGeneral dot_S8x1024x16x9x16_S48x16x9_S8x1024x16x48_23_12_014_0_n_n none (Host.dotGeneral dot_S8x1024x16x16_S9x16x16_S8x1024x16x9x16_3_2_012_01_n_n none X Bv) W) transposes_S8x1024x16x48_S8x1024x48x16_0_1_3_2 (ix4 b n o a)
      = ((∑ i, ∑ c, Model.eff B w o i a c * x b n i c : ℝ) : EReal) := by
  rw [← eff_basis_first]
  pointwise
  simp only [hX, hB, hW, mul_coe, sum_coe]

/-- The product of 32 channels. -/
theorem lin32_real (W : FVec Ideal S32x16x9 .f32) (w : Fin 32 → Fin 16 → Fin 9 → ℝ) (hW : ∀ o i k, W (ix3 o i k) = ((w o i k : ℝ) : EReal))
    (b : Fin 8) (n : Fin 1024) (o : Fin 32) (a : Fin 16) :
    transpose S8x1024x32x16 [0, 1, 3, 2] (Host.dotGeneral dot_S8x1024x16x9x16_S32x16x9_S8x1024x16x32_23_12_014_0_n_n none (Host.dotGeneral dot_S8x1024x16x16_S9x16x16_S8x1024x16x9x16_3_2_012_01_n_n none X Bv) W) transposes_S8x1024x16x32_S8x1024x32x16_0_1_3_2 (ix4 b n o a)
      = ((∑ i, ∑ c, Model.eff B w o i a c * x b n i c : ℝ) : EReal) := by
  rw [← eff_basis_first]
  pointwise
  simp only [hX, hB, hW, mul_coe, sum_coe]

/-- The product of 16 channels. -/
theorem lin16_real (W : FVec Ideal S16x16x9 .f32) (w : Fin 16 → Fin 16 → Fin 9 → ℝ) (hW : ∀ o i k, W (ix3 o i k) = ((w o i k : ℝ) : EReal))
    (b : Fin 8) (n : Fin 1024) (o : Fin 16) (a : Fin 16) :
    transpose S8x1024x16x16 [2, 3, 1, 0] (Host.dotGeneral dot_S16x16x16x16_S8x1024x16x16_S16x16x8x1024_13_32_02_01_n_n none (Host.dotGeneral dot_S9x16x16_S16x16x9_S16x16x16x16_0_2_12_01_n_n none Bv W) X) transposes_S16x16x8x1024_S8x1024x16x16_2_3_1_0 (ix4 b n o a)
      = ((∑ i, ∑ c, Model.eff B w o i a c * x b n i c : ℝ) : EReal) := by
  rw [← eff_weights_first]
  pointwise
  simp only [hX, hB, hW, mul_coe, sum_coe]
end

section
variable (s : Fin 8 → Model.Sc) (S : FVec Ideal S8x1024x32 .f32) (hS : ∀ b n i, S (ix3 b n i) = ((s b n i : ℝ) : EReal))
  (x : Fin 8 → Model.Mv) (X : FVec Ideal S8x1024x16x16 .f32) (hX : ∀ b n i a, X (ix4 b n i a) = ((x b n i a : ℝ) : EReal))
include hS

theorem sc48_real (W : FVec Ideal S48x32 .f32) (w : Fin 48 → Fin 32 → ℝ) (hW : ∀ o i, W (ix2 o i) = ((w o i : ℝ) : EReal))
    (b : Fin 8) (n : Fin 1024) (o : Fin 48) :
    Host.dotGeneral dot_S8x1024x32_S48x32_S8x1024x48_2_1_01_0_n_n none S W (ix3 b n o) = ((∑ d, w o d * s b n d : ℝ) : EReal) := by
  pointwise
  simp only [hS, hW, mul_coe, sum_coe, mul_comm]
theorem sc32_real (W : FVec Ideal S32x32 .f32) (w : Fin 32 → Fin 32 → ℝ) (hW : ∀ o i, W (ix2 o i) = ((w o i : ℝ) : EReal))
    (b : Fin 8) (n : Fin 1024) (o : Fin 32) :
    Host.dotGeneral dot_S8x1024x32_S32x32_S8x1024x32_2_1_01_0_n_n none S W (ix3 b n o) = ((∑ d, w o d * s b n d : ℝ) : EReal) := by
  pointwise
  simp only [hS, hW, mul_coe, sum_coe, mul_comm]
theorem sc16_real (W : FVec Ideal S16x32 .f32) (w : Fin 16 → Fin 32 → ℝ) (hW : ∀ o i, W (ix2 o i) = ((w o i : ℝ) : EReal))
    (b : Fin 8) (n : Fin 1024) (o : Fin 16) :
    Host.dotGeneral dot_S8x1024x32_S16x32_S8x1024x16_2_1_01_0_n_n none S W (ix3 b n o) = ((∑ d, w o d * s b n d : ℝ) : EReal) := by
  pointwise
  simp only [hS, hW, mul_coe, sum_coe, mul_comm]
theorem sc1_real (W : FVec Ideal S1x32 .f32) (w : Fin 1 → Fin 32 → ℝ) (hW : ∀ o i, W (ix2 o i) = ((w o i : ℝ) : EReal))
    (b : Fin 8) (n : Fin 1024) (o : Fin 1) :
    Host.dotGeneral dot_S8x1024x32_S1x32_S8x1024x1_2_1_01_0_n_n none S W (ix3 b n o) = ((∑ d, w o d * s b n d : ℝ) : EReal) := by
  pointwise
  simp only [hS, hW, mul_coe, sum_coe, mul_comm]

include hX
/-- The scalars of 96, 64 and 32 outputs. -/
theorem linS96_real (W : FVec Ideal S96x32 .f32) (w : Fin 96 → Fin 32 → ℝ) (hW : ∀ o i, W (ix2 o i) = ((w o i : ℝ) : EReal))
    (U : FVec Ideal S96x16 .f32) (u : Fin 96 → Fin 16 → ℝ) (hU : ∀ o i, U (ix2 o i) = ((u o i : ℝ) : EReal))
    (b : Fin 8) (n : Fin 1024) (o : Fin 96) :
    addf (Host.dotGeneral dot_S8x1024x32_S96x32_S8x1024x96_2_1_01_0_n_n none S W) (Host.dotGeneral dot_S8x1024x16_S96x16_S8x1024x96_2_1_01_0_n_n none (shapeCast S8x1024x16 (extractStridedSlice S8x1024x16x1 ![0, 0, 0, 0] X slices_S8x1024x16x16_S8x1024x16x1_0_0_0_0) shapeCasts_S8x1024x16x1_S8x1024x16) U) (ix3 b n o)
      = ((Model.linS u w (x b n) (s b n) o : ℝ) : EReal) := by
  pointwise
  simp only [hS, hX, hW, hU, mul_coe, sum_coe, add_coe, Model.linS, mul_comm]
theorem linS64_real (W : FVec Ideal S64x32 .f32) (w : Fin 64 → Fin 32 → ℝ) (hW : ∀ o i, W (ix2 o i) = ((w o i : ℝ) : EReal))
    (U : FVec Ideal S64x16 .f32) (u : Fin 64 → Fin 16 → ℝ) (hU : ∀ o i, U (ix2 o i) = ((u o i : ℝ) : EReal))
    (b : Fin 8) (n : Fin 1024) (o : Fin 64) :
    addf (Host.dotGeneral dot_S8x1024x32_S64x32_S8x1024x64_2_1_01_0_n_n none S W) (Host.dotGeneral dot_S8x1024x16_S64x16_S8x1024x64_2_1_01_0_n_n none (shapeCast S8x1024x16 (extractStridedSlice S8x1024x16x1 ![0, 0, 0, 0] X slices_S8x1024x16x16_S8x1024x16x1_0_0_0_0) shapeCasts_S8x1024x16x1_S8x1024x16) U) (ix3 b n o)
      = ((Model.linS u w (x b n) (s b n) o : ℝ) : EReal) := by
  pointwise
  simp only [hS, hX, hW, hU, mul_coe, sum_coe, add_coe, Model.linS, mul_comm]
theorem linS32_real (W : FVec Ideal S32x32 .f32) (w : Fin 32 → Fin 32 → ℝ) (hW : ∀ o i, W (ix2 o i) = ((w o i : ℝ) : EReal))
    (U : FVec Ideal S32x16 .f32) (u : Fin 32 → Fin 16 → ℝ) (hU : ∀ o i, U (ix2 o i) = ((u o i : ℝ) : EReal))
    (b : Fin 8) (n : Fin 1024) (o : Fin 32) :
    addf (Host.dotGeneral dot_S8x1024x32_S32x32_S8x1024x32_2_1_01_0_n_n none S W) (Host.dotGeneral dot_S8x1024x16_S32x16_S8x1024x32_2_1_01_0_n_n none (shapeCast S8x1024x16 (extractStridedSlice S8x1024x16x1 ![0, 0, 0, 0] X slices_S8x1024x16x16_S8x1024x16x1_0_0_0_0) shapeCasts_S8x1024x16x1_S8x1024x16) U) (ix3 b n o)
      = ((Model.linS u w (x b n) (s b n) o : ℝ) : EReal) := by
  pointwise
  simp only [hS, hX, hW, hU, mul_coe, sum_coe, add_coe, Model.linS, mul_comm]
end

end Cert.ReferenceIdeal.Value

end
-- ==== Proof.ROut.lean ====
module

public import proofs.«01_k».proof.Proof.RefRun
public import proofs.«01_k».proof.Proof.RLin

@[expose] public section

set_option maxRecDepth 16384

noncomputable section

/-! The reference's readout as real arithmetic. -/

namespace Cert.ReferenceIdeal.Value
open Idealize.ShloMosaic Cert.Lift
open Cert.ReferenceIdeal Cert.ReferenceIdeal.Gen

/-- The product of the one output channel. -/
def outMv (B : FVec Ideal S9x16x16 .f32) (W : FVec Ideal S1x16x9 .f32) (X : FVec Ideal S8x1024x16x16 .f32) : FVec Ideal S8x1024x1x16 .f32 :=
  transpose S8x1024x1x16 [2, 3, 1, 0]
    (Host.dotGeneral dot_S16x16x1x16_S8x1024x16x16_S16x1x8x1024_13_32_02_01_n_n none
      (Host.dotGeneral dot_S9x16x16_S1x16x9_S16x16x1x16_0_2_12_01_n_n none B W) X) transposes_S16x1x8x1024_S8x1024x1x16_2_3_1_0

theorem outMv_real (x : Fin 8 → Model.Mv) (B : Fin 9 → Fin 16 → Fin 16 → ℝ) (Bv : FVec Ideal S9x16x16 .f32) (X : FVec Ideal S8x1024x16x16 .f32)
    (hB : ∀ k a b, Bv (ix3 k a b) = ((B k a b : ℝ) : EReal)) (hX : ∀ b n i a, X (ix4 b n i a) = ((x b n i a : ℝ) : EReal))
    (W : FVec Ideal S1x16x9 .f32) (w : Fin 1 → Fin 16 → Fin 9 → ℝ) (hW : ∀ o i k, W (ix3 o i k) = ((w o i k : ℝ) : EReal))
    (b : Fin 8) (n : Fin 1024) (o : Fin 1) (a : Fin 16) :
    outMv Bv W X (ix4 b n o a) = ((∑ i, ∑ c, Model.eff B w o i a c * x b n i c : ℝ) : EReal) := by
  obtain rfl : o = 0 := Subsingleton.elim _ _
  rw [← eff_weights_first]
  unfold outMv
  pointwise
  simp only [hX, hB, hW, mul_coe, sum_coe]

/-- The scalar blade with the scalars' product added. -/
def scalarBlade (O : FVec Ideal S8x1024x1x16 .f32) (Y : FVec Ideal S8x1024x1 .f32) : FVec Ideal S8x1024x1x1 .f32 :=
  addf (extractStridedSlice S8x1024x1x1 ![0, 0, 0, 0] O slices_S8x1024x1x16_S8x1024x1x1_0_0_0_0)
    (broadcastInDim S8x1024x1x1 ![0, 1, 2] bcast_S8x1024x1_S8x1024x1x1_0_1_2 Y)

theorem scalarBlade_real (y : Fin 8 → Fin 1024 → ℝ) (z : Fin 8 → Fin 1024 → ℝ) (O : FVec Ideal S8x1024x1x16 .f32) (Y : FVec Ideal S8x1024x1 .f32)
    (hO : ∀ b n, O (ix4 b n 0 0) = ((y b n : ℝ) : EReal)) (hY : ∀ b n, Y (ix3 b n 0) = ((z b n : ℝ) : EReal)) (b : Fin 8) (n : Fin 1024) :
    scalarBlade O Y (ix4 b n 0 0) = ((y b n + z b n : ℝ) : EReal) := by
  refine (congrArg₂ (fun u v : EReal => u + v) ((extractStridedSlice_apply _ _ _ _ (ix4 b n (0 : Fin 1) (0 : Fin 16)) fun a => ?_).trans (hO b n))
    ((broadcastInDim_apply _ _ _ _ (ix3 b n (0 : Fin 1)) fun a => ?_).trans (hY b n))).trans (add_coe _ _)
  · match a with
    | 0 => exact (Nat.zero_add _).symm
    | 1 => exact (Nat.zero_add _).symm
    | 2 => rfl
    | 3 => rfl
  · match a with
    | 0 => rfl
    | 1 => rfl
    | 2 => rfl

/-- The scalar blade put back before the others and taken again. -/
def again (A : FVec Ideal S8x1024x1x1 .f32) (R : FVec Ideal S8x1024x1x15 .f32) : FVec Ideal S8x1024x1x1 .f32 :=
  extractStridedSlice S8x1024x1x1 ![0, 0, 0, 0]
    (concatenate S8x1024x1x16 3 [⟨S8x1024x1x1, A⟩, ⟨S8x1024x1x15, R⟩] concatenates_S8x1024x1x1_S8x1024x1x15_S8x1024x1x16_d3) slices_S8x1024x1x16_S8x1024x1x1_0_0_0_0

theorem again_apply (A : FVec Ideal S8x1024x1x1 .f32) (R : FVec Ideal S8x1024x1x15 .f32) (b : Fin 8) (n : Fin 1024) : again A R (ix4 b n 0 0) = A (ix4 b n 0 0) := by
  refine (extractStridedSlice_apply _ _ _ _ (ix4 b n (0 : Fin 1) (0 : Fin 16)) fun a => ?_).trans ?_
  · match a with
    | 0 => exact (Nat.zero_add _).symm
    | 1 => exact (Nat.zero_add _).symm
    | 2 => rfl
    | 3 => rfl
  · refine concatenate_pair_apply_left (t := S8x1024x1x16) 3 A R _ _ rfl (ix4 b n (0 : Fin 1) (0 : Fin 1)) fun a => ?_
    match a with
    | 0 => rfl
    | 1 => rfl
    | 2 => rfl
    | 3 => rfl

/-- The mean over the points. -/
def meanPts (A : FVec Ideal S8x1024x1x1 .f32) : FVec Ideal S8x1 .f32 :=
  Host.divf (Host.reduceAdd A (constant S_ .f32 0#32) reducesTo_S8x1024x1x1_S8x1_d1_2 h_S_)
    (broadcastInDim S8x1 ![] bcast_S_S8x1 (constant S_ .f32 0x44800000#32))

/-- The sum over the points, which two axes hold, the second of one entry. -/
theorem sumPts (y : Fin 8 → Fin 1024 → ℝ) (A : FVec Ideal S8x1024x1x1 .f32) (hA : ∀ b n, A (ix4 b n 0 0) = ((y b n : ℝ) : EReal)) (b : Fin 8) :
    Ideal.hostReduceAdd reducesTo_S8x1024x1x1_S8x1_d1_2 A 0 (ix2 b 0) = ((∑ n, y b n : ℝ) : EReal) := by
  rw [← sum_coe]
  show 0 + ∑ i ∈ Finset.univ.filter (fun i => reducesTo_S8x1024x1x1_S8x1_d1_2.drop i = ix2 b 0), A i = _
  rw [zero_add]
  have at_ix (i : S8x1024x1x1.Idx) (h : reducesTo_S8x1024x1x1_S8x1_d1_2.drop i = ix2 b 0) : i = ix4 b (i 1 : Fin 1024) (0 : Fin 1) (0 : Fin 1) := by
    have h0 : (i 0 : ℕ) = b := congrArg (fun j : S8x1.Idx => (j 0 : ℕ)) h
    funext a
    match a with
    | 0 => exact Fin.ext h0
    | 1 => rfl
    | 2 => exact Subsingleton.elim (α := Fin 1) _ _
    | 3 => exact Subsingleton.elim (α := Fin 1) _ _
  refine Finset.sum_bij' (fun i _ => (i 1 : Fin 1024)) (fun n _ => ix4 b n (0 : Fin 1) (0 : Fin 1)) (fun _ _ => Finset.mem_univ _) (fun n _ => ?_)
    (fun i hi => (at_ix i (Finset.mem_filter.mp hi).2).symm) (fun _ _ => rfl) fun i hi => ?_
  · refine Finset.mem_filter.mpr ⟨Finset.mem_univ _, funext fun a => ?_⟩
    match a with
    | 0 => rfl
    | 1 => rfl
  · exact (congrArg A (at_ix i (Finset.mem_filter.mp hi).2)).trans (hA b _)

theorem meanPts_real (y : Fin 8 → Fin 1024 → ℝ) (A : FVec Ideal S8x1024x1x1 .f32) (hA : ∀ b n, A (ix4 b n 0 0) = ((y b n : ℝ) : EReal)) (b : Fin 8) :
    meanPts A (ix2 b 0) = (((∑ n, y b n) / 1024 : ℝ) : EReal) := by
  unfold meanPts
  pointwise
  rw [sumPts y A hA b, w_1024, div_coe _ (by norm_num)]

theorem tailTerm_eq (B : FVec Ideal S9x16x16 .f32) (W : FVec Ideal S1x16x9 .f32) (U : FVec Ideal S1x32 .f32) (X : FVec Ideal S8x1024x16x16 .f32) (S : FVec Ideal S8x1024x32 .f32) :
    tailTerm B W U X S = meanPts (again (scalarBlade (outMv B W X) (Host.dotGeneral dot_S8x1024x32_S1x32_S8x1024x1_2_1_01_0_n_n none S U))
      (extractStridedSlice S8x1024x1x15 ![0, 0, 0, 1] (outMv B W X) slices_S8x1024x1x16_S8x1024x1x15_0_0_0_1)) := rfl

/-- The result is the model's readout. -/
theorem tailTerm_real (B : Fin 9 → Fin 16 → Fin 16 → ℝ) (Bv : FVec Ideal S9x16x16 .f32) (hB : ∀ k a b, Bv (ix3 k a b) = ((B k a b : ℝ) : EReal))
    (w : Fin 1 → Fin 16 → Fin 9 → ℝ) (W : FVec Ideal S1x16x9 .f32) (hW : ∀ o i k, W (ix3 o i k) = ((w o i k : ℝ) : EReal))
    (u : Fin 1 → Fin 32 → ℝ) (U : FVec Ideal S1x32 .f32) (hU : ∀ o i, U (ix2 o i) = ((u o i : ℝ) : EReal))
    (x : Fin 8 → Model.Mv) (X : FVec Ideal S8x1024x16x16 .f32) (hX : ∀ b n i a, X (ix4 b n i a) = ((x b n i a : ℝ) : EReal))
    (s : Fin 8 → Model.Sc) (S : FVec Ideal S8x1024x32 .f32) (hS : ∀ b n d, S (ix3 b n d) = ((s b n d : ℝ) : EReal)) (b : Fin 8) :
    tailTerm Bv W U X S (ix2 b 0) = ((Model.readout B w u (x b) (s b) : ℝ) : EReal) := by
  rw [tailTerm_eq]
  refine (meanPts_real (fun b n => Model.lin B w u (x b n) (s b n) 0 0) _ (fun b n => ?_) b).trans rfl
  refine (again_apply _ _ b n).trans ((scalarBlade_real _ _ _ _ (fun b n => outMv_real x B Bv X hB hX W w hW b n 0 0) (fun b n => sc1_real s S hS U u hU b n 0) b n).trans ?_)
  rw [Model.lin, if_pos rfl]

end Cert.ReferenceIdeal.Value

end
-- ==== Proof.RPick.lean ====
module

public import proofs.«01_k».proof.Proof.Gen.ReferenceIdeal.Run
public import proofs.«01_k».proof.Proof.Lift
public import Idealize.ShloMosaic.Init
public import Idealize.ShloMosaic.Lib.Pointwise
public import Idealize.ShloMosaic.Lib.DynamicIndex

@[expose] public section

set_option maxRecDepth 16384

noncomputable section

/-! The reference's reading of one layer's weights, and its addition of the scalars into the scalar blade. -/

namespace Cert.ReferenceIdeal.Value
open Idealize.ShloMosaic Cert.Lift Cert.ReferenceIdeal.Gen

abbrev zeroI : IVec S_ 32 := constantI S_ 32 0#32
/-- A loop counter as a position in the stacked weights: it is not negative. -/
abbrev wrapI (c : IVec S_ 32) (e : BitVec 32) : IVec S_ 32 := select (cmpi .slt c zeroI) (addi c (constantI S_ 32 e)) c

theorem wrap_val (c : IVec S_ 32) (e : BitVec 32) (l : ℕ) (i : S_.Idx) (hc : (c i).toInt = l) : (wrapI c e i).toInt = l := by
  unfold wrapI
  rw [select_slt_zero_of_nonneg c _ _ i (by omega), hc]

section
variable {O I K : ℕ}

/-- One layer of a stack of linear weights. -/
def pick4 (W : FVec Ideal ⟨4, ![8, O, I, K]⟩ .f32) (c : IVec S_ 32) (e1 e2 e3 : BitVec 32)
    (h : (⟨4, ![8, O, I, K]⟩ : Shape).Slices (fun _ => 0) ⟨4, ![1, O, I, K]⟩)
    (h2 : (⟨4, ![1, O, I, K]⟩ : Shape).ShapeCasts ⟨3, ![O, I, K]⟩) : FVec Ideal ⟨3, ![O, I, K]⟩ .f32 :=
  shapeCast ⟨3, ![O, I, K]⟩ (Host.dynamicSlice ⟨4, ![1, O, I, K]⟩ W
    (fun k => (((![wrapI c 8#32, wrapI zeroI e1, wrapI zeroI e2, wrapI zeroI e3] : Fin 4 → IVec S_ 32)) k (Shape.Idx.first h_S_)).toInt) h) h2

theorem pick4_apply (W : FVec Ideal ⟨4, ![8, O, I, K]⟩ .f32) (c : IVec S_ 32) (e1 e2 e3 : BitVec 32)
    (h : (⟨4, ![8, O, I, K]⟩ : Shape).Slices (fun _ => 0) ⟨4, ![1, O, I, K]⟩)
    (h2 : (⟨4, ![1, O, I, K]⟩ : Shape).ShapeCasts ⟨3, ![O, I, K]⟩) (l : Fin 8) (hc : ∀ i, (c i).toInt = (l : ℕ))
    (o : Fin O) (i : Fin I) (k : Fin K) : pick4 W c e1 e2 e3 h h2 (ix3 o i k) = W (ix4 l o i k) := by
  have hz (e : BitVec 32) : (wrapI zeroI e (Shape.Idx.first h_S_)).toInt = (0 : ℕ) := wrap_val _ _ 0 _ rfl
  have hs : (⟨4, ![8, O, I, K]⟩ : Shape).Slices ![l.val, 0, 0, 0] ⟨4, ![1, O, I, K]⟩ := ⟨rfl, fun a => by
    match a with
    | 0 => show l.val + 1 ≤ 8; omega
    | 1 => show 0 + O ≤ O; omega
    | 2 => show 0 + I ≤ I; omega
    | 3 => show 0 + K ≤ K; omega⟩
  unfold pick4
  rw [Host.dynamicSlice_eq_extractStridedSlice ⟨4, ![1, O, I, K]⟩ W _ ![l.val, 0, 0, 0] h hs (fun a => by
    match a with
    | 0 => exact wrap_val c _ l _ (hc _)
    | 1 => exact hz e1
    | 2 => exact hz e2
    | 3 => exact hz e3)]
  rw [shapeCast_apply _ h2 (ix3 o i k) (ix4 0 o i k) (by
    rw [Shape.rowMajor_val_four, Shape.rowMajor_val_three]
    show ((0 * O + o.val) * I + i.val) * K + k.val = (o.val * I + i.val) * K + k.val
    rw [Nat.zero_mul, Nat.zero_add])]
  exact extractStridedSlice_apply _ W hs _ _ (fun a => by
    match a with
    | 0 => rfl
    | 1 => exact (Nat.zero_add _).symm
    | 2 => exact (Nat.zero_add _).symm
    | 3 => exact (Nat.zero_add _).symm)

/-- One layer of a stack of scalar weights. -/
def pick3 (W : FVec Ideal ⟨3, ![8, O, I]⟩ .f32) (c : IVec S_ 32) (e1 e2 : BitVec 32)
    (h : (⟨3, ![8, O, I]⟩ : Shape).Slices (fun _ => 0) ⟨3, ![1, O, I]⟩)
    (h2 : (⟨3, ![1, O, I]⟩ : Shape).ShapeCasts ⟨2, ![O, I]⟩) : FVec Ideal ⟨2, ![O, I]⟩ .f32 :=
  shapeCast ⟨2, ![O, I]⟩ (Host.dynamicSlice ⟨3, ![1, O, I]⟩ W
    (fun k => (((![wrapI c 8#32, wrapI zeroI e1, wrapI zeroI e2] : Fin 3 → IVec S_ 32)) k (Shape.Idx.first h_S_)).toInt) h) h2

theorem pick3_apply (W : FVec Ideal ⟨3, ![8, O, I]⟩ .f32) (c : IVec S_ 32) (e1 e2 : BitVec 32)
    (h : (⟨3, ![8, O, I]⟩ : Shape).Slices (fun _ => 0) ⟨3, ![1, O, I]⟩)
    (h2 : (⟨3, ![1, O, I]⟩ : Shape).ShapeCasts ⟨2, ![O, I]⟩) (l : Fin 8) (hc : ∀ i, (c i).toInt = (l : ℕ))
    (o : Fin O) (i : Fin I) : pick3 W c e1 e2 h h2 (ix2 o i) = W (ix3 l o i) := by
  have hz (e : BitVec 32) : (wrapI zeroI e (Shape.Idx.first h_S_)).toInt = (0 : ℕ) := wrap_val _ _ 0 _ rfl
  have hs : (⟨3, ![8, O, I]⟩ : Shape).Slices ![l.val, 0, 0] ⟨3, ![1, O, I]⟩ := ⟨rfl, fun a => by
    match a with
    | 0 => show l.val + 1 ≤ 8; omega
    | 1 => show 0 + O ≤ O; omega
    | 2 => show 0 + I ≤ I; omega⟩
  unfold pick3
  rw [Host.dynamicSlice_eq_extractStridedSlice ⟨3, ![1, O, I]⟩ W _ ![l.val, 0, 0] h hs (fun a => by
    match a with
    | 0 => exact wrap_val c _ l _ (hc _)
    | 1 => exact hz e1
    | 2 => exact hz e2)]
  rw [shapeCast_apply _ h2 (ix2 o i) (ix3 0 o i) (by
    rw [Shape.rowMajor_val_three, Shape.rowMajor_val_two]
    show (0 * O + o.val) * I + i.val = o.val * I + i.val
    rw [Nat.zero_mul, Nat.zero_add])]
  exact extractStridedSlice_apply _ W hs _ _ (fun a => by
    match a with
    | 0 => rfl
    | 1 => exact (Nat.zero_add _).symm
    | 2 => exact (Nat.zero_add _).symm)

/-- The multivectors with the scalars' part added into the scalar blade. -/
def addScalar (A : FVec Ideal ⟨4, ![8, 1024, O, 16]⟩ .f32) (y : FVec Ideal ⟨3, ![8, 1024, O]⟩ .f32)
    (h1 : (⟨4, ![8, 1024, O, 16]⟩ : Shape).Slices ![0, 0, 0, 0] ⟨4, ![8, 1024, O, 1]⟩)
    (h2 : (⟨3, ![8, 1024, O]⟩ : Shape).BroadcastsInDim ⟨4, ![8, 1024, O, 1]⟩ ![0, 1, 2])
    (h3 : (⟨4, ![8, 1024, O, 16]⟩ : Shape).Slices ![0, 0, 0, 1] ⟨4, ![8, 1024, O, 15]⟩)
    (h4 : Shape.Concatenates [⟨4, ![8, 1024, O, 1]⟩, ⟨4, ![8, 1024, O, 15]⟩] ⟨4, ![8, 1024, O, 16]⟩ 3) :
    FVec Ideal ⟨4, ![8, 1024, O, 16]⟩ .f32 :=
  concatenate ⟨4, ![8, 1024, O, 16]⟩ 3
    [⟨⟨4, ![8, 1024, O, 1]⟩, addf (extractStridedSlice ⟨4, ![8, 1024, O, 1]⟩ ![0, 0, 0, 0] A h1) (broadcastInDim ⟨4, ![8, 1024, O, 1]⟩ ![0, 1, 2] h2 y)⟩,
     ⟨⟨4, ![8, 1024, O, 15]⟩, extractStridedSlice ⟨4, ![8, 1024, O, 15]⟩ ![0, 0, 0, 1] A h3⟩] h4

theorem addScalar_real (A : FVec Ideal ⟨4, ![8, 1024, O, 16]⟩ .f32) (y : FVec Ideal ⟨3, ![8, 1024, O]⟩ .f32)
    (h1 : (⟨4, ![8, 1024, O, 16]⟩ : Shape).Slices ![0, 0, 0, 0] ⟨4, ![8, 1024, O, 1]⟩)
    (h2 : (⟨3, ![8, 1024, O]⟩ : Shape).BroadcastsInDim ⟨4, ![8, 1024, O, 1]⟩ ![0, 1, 2])
    (h3 : (⟨4, ![8, 1024, O, 16]⟩ : Shape).Slices ![0, 0, 0, 1] ⟨4, ![8, 1024, O, 15]⟩)
    (h4 : Shape.Concatenates [⟨4, ![8, 1024, O, 1]⟩, ⟨4, ![8, 1024, O, 15]⟩] ⟨4, ![8, 1024, O, 16]⟩ 3)
    (a : Fin 8 → Fin 1024 → Fin O → Fin 16 → ℝ) (s : Fin 8 → Fin 1024 → Fin O → ℝ)
    (hA : ∀ b n o c, A (ix4 b n o c) = ((a b n o c : ℝ) : EReal)) (hy : ∀ b n o, y (ix3 b n o) = ((s b n o : ℝ) : EReal))
    (hO : 1 < O) (b : Fin 8) (n : Fin 1024) (o : Fin O) (c : Fin 16) :
    addScalar A y h1 h2 h3 h4 (ix4 b n o c) = ((a b n o c + (if c = 0 then s b n o else 0) : ℝ) : EReal) := by
  by_cases hc : c = 0
  · subst hc
    rw [if_pos rfl]
    refine (concatenate_pair_apply_left 3 _ _ h4 _ rfl (ix4 b n o 0) fun x => ?_).trans ?_
    · match x with
      | 0 => rfl
      | 1 => rfl
      | 2 => rfl
      | 3 => rfl
    rw [← add_coe, ← hA, ← hy]
    refine congrArg₂ (fun u v : EReal => u + v) (extractStridedSlice_apply _ A h1 _ (ix4 b n o 0) fun x => ?_)
      (broadcastInDim_apply _ h2 y _ (ix3 b n o) fun x => ?_)
    · match x with
      | 0 => exact (Nat.zero_add _).symm
      | 1 => exact (Nat.zero_add _).symm
      | 2 => exact (Nat.zero_add _).symm
      | 3 => rfl
    · match x with
      | 0 => rfl
      | 1 => rfl
      | 2 => exact (if_neg (show ¬O = 1 by omega)).symm
  · rw [if_neg hc, add_zero, ← hA]
    have hc' : c.val ≠ 0 := fun h => hc (Fin.ext h)
    refine (concatenate_pair_apply_right 3 _ _ h4 _ rfl rfl (ix4 b n o ⟨c.val - 1, by omega⟩) (fun x hx => ?_) ?_).trans ?_
    · match x with
      | 0 => rfl
      | 1 => rfl
      | 2 => rfl
      | 3 => exact absurd rfl hx
    · show c.val - 1 + 1 = c.val
      omega
    · refine extractStridedSlice_apply _ A h3 _ (ix4 b n o c) fun x => ?_
      match x with
      | 0 => exact (Nat.zero_add _).symm
      | 1 => exact (Nat.zero_add _).symm
      | 2 => exact (Nat.zero_add _).symm
      | 3 => show c.val = 1 + (c.val - 1); omega

end

end Cert.ReferenceIdeal.Value

end
-- ==== Proof.RNorm.lean ====
module

public import proofs.«01_k».proof.Proof.Gen.ReferenceIdeal.Run
public import proofs.«01_k».proof.Proof.Lift
public import Idealize.ShloMosaic.Init
public import Idealize.ShloMosaic.Lib.Pointwise

@[expose] public section

set_option maxRecDepth 16384

noncomputable section

/-! The reference's two normalisations. -/

namespace Cert.ReferenceIdeal.Value
open Idealize.ShloMosaic Cert.Lift Cert.ReferenceIdeal.Gen

/-- The multivectors over the root of their mean inner norm. -/
def rmsMv (X : FVec Ideal S8x1024x16x16 .f32) (N : FVec Ideal S16 .f32) : FVec Ideal S8x1024x16x16 .f32 :=
  Host.divf X (broadcastInDim S8x1024x16x16 ![0, 1, 2, 3] bcast_S8x1024x1x1_S8x1024x16x16_0_1_2_3 (broadcastInDim S8x1024x1x1 ![0, 1, 2] bcast_S8x1024x1_S8x1024x1x1_0_1_2 (Host.sqrt (addf (Host.divf (broadcastInDim S8x1024x1 ![0, 1] bcast_S8x1024_S8x1024x1_0_1 (Host.reduceAdd (Host.reduceAdd (mulf (mulf X X) (broadcastInDim S8x1024x16x16 ![0, 1, 2, 3] bcast_S1x1x1x16_S8x1024x16x16_0_1_2_3 (broadcastInDim S1x1x1x16 ![3] bcast_S16_S1x1x1x16_3 N))) (constant S_ .f32 0x00000000#32) reducesTo_S8x1024x16x16_S8x1024x16_d3 h_S_) (constant S_ .f32 0x00000000#32) reducesTo_S8x1024x16_S8x1024_d2 h_S_)) (broadcastInDim S8x1024x1 ![] bcast_S_S8x1024x1 (constant S_ .f32 0x41800000#32))) (broadcastInDim S8x1024x1 ![] bcast_S_S8x1024x1 (constant S_ .f32 0x358637BD#32))))))

/-- The scalars over the root of their mean square. -/
def rmsS (X : FVec Ideal S8x1024x32 .f32) : FVec Ideal S8x1024x32 .f32 :=
  Host.divf X (broadcastInDim S8x1024x32 ![0, 1, 2] bcast_S8x1024x1_S8x1024x32_0_1_2 (Host.sqrt (addf (Host.divf (broadcastInDim S8x1024x1 ![0, 1] bcast_S8x1024_S8x1024x1_0_1 (Host.reduceAdd (mulf X X) (constant S_ .f32 0x00000000#32) reducesTo_S8x1024x32_S8x1024_d2 h_S_)) (broadcastInDim S8x1024x1 ![] bcast_S_S8x1024x1 (constant S_ .f32 0x42000000#32))) (broadcastInDim S8x1024x1 ![] bcast_S_S8x1024x1 (constant S_ .f32 0x358637BD#32)))))

theorem rmsMv_real (X : FVec Ideal S8x1024x16x16 .f32) (N : FVec Ideal S16 .f32) (x : Fin 8 → Model.Mv) (t : Fin 16 → ℝ) (ht : ∀ a, 0 ≤ t a)
    (hX : ∀ b n i a, X (ix4 b n i a) = ((x b n i a : ℝ) : EReal)) (hN : ∀ a, N (ix1 a) = ((t a : ℝ) : EReal))
    (b : Fin 8) (n : Fin 1024) (i a : Fin 16) : rmsMv X N (ix4 b n i a) = ((Model.normMv t (x b n) i a : ℝ) : EReal) := by
  have hs : 0 < (∑ j, ∑ d, x b n j d * x b n j d * t d) / 16 + Model.eps := by
    have : 0 ≤ ∑ i, ∑ d, x b n i d * x b n i d * t d :=
      Finset.sum_nonneg fun i _ => Finset.sum_nonneg fun b _ => mul_nonneg (mul_self_nonneg _) (ht b)
    have := eps_pos
    positivity
  have e1 := sqrt_coe hs.le
  unfold rmsMv
  pointwise
  simp only [hX, hN, mul_coe, sum_coe, w_16, w_eps, div_coe _ (show (16 : ℝ) ≠ 0 by norm_num), add_coe, e1,
    div_coe _ (Real.sqrt_pos.mpr hs).ne']
  rfl

theorem rmsS_real (X : FVec Ideal S8x1024x32 .f32) (s : Fin 8 → Model.Sc)
    (hX : ∀ b n i, X (ix3 b n i) = ((s b n i : ℝ) : EReal))
    (b : Fin 8) (n : Fin 1024) (i : Fin 32) : rmsS X (ix3 b n i) = ((Model.normS (s b n) i : ℝ) : EReal) := by
  have hs : 0 < (∑ d, s b n d * s b n d) / 32 + Model.eps := by
    have : 0 ≤ ∑ d, s b n d * s b n d := Finset.sum_nonneg fun d _ => mul_self_nonneg _
    have := eps_pos
    positivity
  have e1 := sqrt_coe hs.le
  unfold rmsS
  pointwise
  simp only [hX, mul_coe, sum_coe, w_32, w_eps, div_coe _ (show (32 : ℝ) ≠ 0 by norm_num), add_coe, e1,
    div_coe _ (Real.sqrt_pos.mpr hs).ne']
  rfl

end Cert.ReferenceIdeal.Value

end
-- ==== Proof.RAttn.lean ====
module

public import proofs.«01_k».proof.Proof.Gen.ReferenceIdeal.Run
public import proofs.«01_k».proof.Proof.Lift
public import Idealize.ShloMosaic.Init
public import Idealize.ShloMosaic.Lib.Pointwise
public import Idealize.ShloMosaic.PureOps.Reduce

@[expose] public section

set_option maxRecDepth 16384

noncomputable section

/-! The reference's attention: scores, softmax, and the weighted means of the values. -/

namespace Cert.ReferenceIdeal.Value
open Idealize.ShloMosaic Cert.Lift Cert.ReferenceIdeal.Gen

/-- The scores. -/
def scores (Q : FVec Ideal S8x1024x48x16 .f32) (T : FVec Ideal S8x1024x96 .f32) (N : FVec Ideal S16 .f32) : FVec Ideal S8x8x1024x1024 .f32 :=
  mulf (addf (Host.dotGeneral dot_S8x1024x8x2x16_S8x1024x8x2x16_S8x8x1024x1024_34_34_1_1_02_02 none (mulf (shapeCast S8x1024x8x2x16 (extractStridedSlice S8x1024x16x16 ![0, 0, 0, 0] Q slices_S8x1024x48x16_S8x1024x16x16_0_0_0_0) shapeCasts_S8x1024x16x16_S8x1024x8x2x16) (broadcastInDim S8x1024x8x2x16 ![0, 1, 2, 3, 4] bcast_S1x1x1x1x16_S8x1024x8x2x16_0_1_2_3_4 (broadcastInDim S1x1x1x1x16 ![4] bcast_S16_S1x1x1x1x16_4 N))) (shapeCast S8x1024x8x2x16 (extractStridedSlice S8x1024x16x16 ![0, 0, 16, 0] Q slices_S8x1024x48x16_S8x1024x16x16_0_0_16_0) shapeCasts_S8x1024x16x16_S8x1024x8x2x16)) (Host.dotGeneral dot_S8x1024x8x4_S8x1024x8x4_S8x8x1024x1024_3_3_1_1_02_02 none (shapeCast S8x1024x8x4 (extractStridedSlice S8x1024x32 ![0, 0, 0] T slices_S8x1024x96_S8x1024x32_0_0_0) shapeCasts_S8x1024x32_S8x1024x8x4) (shapeCast S8x1024x8x4 (extractStridedSlice S8x1024x32 ![0, 0, 32] T slices_S8x1024x96_S8x1024x32_0_0_32) shapeCasts_S8x1024x32_S8x1024x8x4))) (broadcastInDim S8x8x1024x1024 ![] bcast_S_S8x8x1024x1024 (constant S_ .f32 0x3E64F92E#32))

/-- The largest of each row. -/
def rowMax (Z : FVec Ideal S8x8x1024x1024 .f32) : FVec Ideal S8x8x1024 .f32 :=
  Host.reduce FloatOps.maximumf Z (constant S_ .f32 0xFF800000#32) reducesTo_S8x8x1024x1024_S8x8x1024_d3 h_S_

/-- The exponentials of a row shifted by a number. -/
def shiftExp (Z : FVec Ideal S8x8x1024x1024 .f32) (R : FVec Ideal S8x8x1024 .f32) : FVec Ideal S8x8x1024x1024 .f32 :=
  Host.exp (subf Z (broadcastInDim S8x8x1024x1024 ![0, 1, 2, 3] bcast_S8x8x1024x1_S8x8x1024x1024_0_1_2_3 (broadcastInDim S8x8x1024x1 ![0, 1, 2] bcast_S8x8x1024_S8x8x1024x1_0_1_2 (maximumf (broadcastInDim S8x8x1024 ![] bcast_S_S8x8x1024 (constant S_ .f32 0xFF800000#32)) R))))

/-- Each row of exponentials over its sum. -/
def probs (E : FVec Ideal S8x8x1024x1024 .f32) : FVec Ideal S8x8x1024x1024 .f32 :=
  Host.divf E (broadcastInDim S8x8x1024x1024 ![0, 1, 2, 3] bcast_S8x8x1024x1_S8x8x1024x1024_0_1_2_3 (broadcastInDim S8x8x1024x1 ![0, 1, 2] bcast_S8x8x1024_S8x8x1024x1_0_1_2 (Host.reduceAdd E (constant S_ .f32 0x00000000#32) reducesTo_S8x8x1024x1024_S8x8x1024_d3 h_S_)))

def meanMv (Q : FVec Ideal S8x1024x48x16 .f32) (P : FVec Ideal S8x8x1024x1024 .f32) : FVec Ideal S8x1024x16x16 .f32 :=
  shapeCast S8x1024x16x16 (transpose S8x1024x8x2x16 [0, 4, 1, 2, 3] (Host.dotGeneral dot_S8x1024x8x2x16_S8x8x1024x1024_S8x8x2x16x1024_1_3_34_2_02_01 none (shapeCast S8x1024x8x2x16 (extractStridedSlice S8x1024x16x16 ![0, 0, 32, 0] Q slices_S8x1024x48x16_S8x1024x16x16_0_0_32_0) shapeCasts_S8x1024x16x16_S8x1024x8x2x16) P) transposes_S8x8x2x16x1024_S8x1024x8x2x16_0_4_1_2_3) shapeCasts_S8x1024x8x2x16_S8x1024x16x16

def meanS (T : FVec Ideal S8x1024x96 .f32) (P : FVec Ideal S8x8x1024x1024 .f32) : FVec Ideal S8x1024x32 .f32 :=
  shapeCast S8x1024x32 (transpose S8x1024x8x4 [0, 3, 1, 2] (Host.dotGeneral dot_S8x1024x8x4_S8x8x1024x1024_S8x8x4x1024_1_3_3_2_02_01 none (shapeCast S8x1024x8x4 (extractStridedSlice S8x1024x32 ![0, 0, 64] T slices_S8x1024x96_S8x1024x32_0_0_64) shapeCasts_S8x1024x32_S8x1024x8x4) P) transposes_S8x8x4x1024_S8x1024x8x4_0_3_1_2) shapeCasts_S8x1024x8x4_S8x1024x32

section
variable (Q : FVec Ideal S8x1024x48x16 .f32) (T : FVec Ideal S8x1024x96 .f32) (N : FVec Ideal S16 .f32)
  (q : Fin 8 → Fin 1024 → Fin 48 → Fin 16 → ℝ) (t : Fin 8 → Fin 1024 → Fin 96 → ℝ) (g : Fin 16 → ℝ)
  (hQ : ∀ b n c a, Q (ix4 b n c a) = ((q b n c a : ℝ) : EReal)) (hT : ∀ b n d, T (ix3 b n d) = ((t b n d : ℝ) : EReal))
  (hN : ∀ a, N (ix1 a) = ((g a : ℝ) : EReal))
include hQ hT hN

theorem scores_real (b h : Fin 8) (n m : Fin 1024) : scores Q T N (ix4 b h n m) = ((Model.score g (q b) (t b) h n m : ℝ) : EReal) := by
  unfold scores
  pointwise
  simp only [hQ, hT, hN, mul_coe, sum_coe, add_coe, w_qscale]
  rw [EReal.coe_eq_coe_iff]
  unfold Model.score
  simp only [Nat.mul_comm _ 2, Nat.mul_comm _ 4]
end

/-- The exponentials shifted by a number: the shift cancels against the sum. -/
theorem shift_cancel (z : Fin 1024 → ℝ) (M : ℝ) (m : Fin 1024) :
    Real.exp (z m - M) / ∑ k, Real.exp (z k - M) = Real.exp (z m) / ∑ k, Real.exp (z k) := by
  simp only [Real.exp_sub, ← Finset.sum_div]
  exact div_div_div_cancel_right₀ (Real.exp_pos M).ne' _ _

theorem rowMax_apply (Z : FVec Ideal S8x8x1024x1024 .f32) (z : Fin 8 → Fin 8 → Fin 1024 → Fin 1024 → ℝ)
    (hZ : ∀ b h n m, Z (ix4 b h n m) = ((z b h n m : ℝ) : EReal)) (b h : Fin 8) (n : Fin 1024) :
    rowMax Z (ix3 b h n) = Finset.fold max (⊥ : EReal) (fun m => ((z b h n m : ℝ) : EReal)) (Finset.univ : Finset (Fin 1024)) := by
  have hr : S8x8x1024x1024.Reduces [3] S8x8x1024 := by decide
  have hf : (Z ∘ hr.lift (ix3 b h n)) = fun m : Fin 1024 => ((z b h n m : ℝ) : EReal) := funext fun m => by
    refine (congrArg Z (funext fun c => Fin.ext ?_)).trans (hZ b h n m)
    match c with
    | 0 => rfl
    | 1 => rfl
    | 2 => rfl
    | 3 => rfl
  have hi : (constant S_ .f32 0xFF800000#32 : FVec Ideal S_ .f32) (Shape.Idx.first h_S_) = ⊥ := w_bot
  unfold rowMax
  refine (Host.reduce_eq_fold_single FloatOps.maximumf Z _ _ hr h_S_ _).trans ?_
  rw [hi]
  exact congrArg (fun f => Finset.fold max (⊥ : EReal) f (Finset.univ : Finset (Fin 1024))) hf

theorem shiftExp_real (Z : FVec Ideal S8x8x1024x1024 .f32) (R : FVec Ideal S8x8x1024 .f32) (z : Fin 8 → Fin 8 → Fin 1024 → Fin 1024 → ℝ) (M : ℝ)
    (hZ : ∀ b h n m, Z (ix4 b h n m) = ((z b h n m : ℝ) : EReal)) (b h : Fin 8) (n : Fin 1024) (hR : R (ix3 b h n) = (M : EReal)) (m : Fin 1024) :
    shiftExp Z R (ix4 b h n m) = ((Real.exp (z b h n m - M) : ℝ) : EReal) := by
  unfold shiftExp
  pointwise
  simp only [hR, hZ, w_bot, bot_sup_eq, sub_coe, exp_coe]

theorem probs_of_shift (E : FVec Ideal S8x8x1024x1024 .f32) (z : Fin 1024 → ℝ) (M : ℝ) (b h : Fin 8) (n : Fin 1024)
    (hE : ∀ m, E (ix4 b h n m) = ((Real.exp (z m - M) : ℝ) : EReal)) (m : Fin 1024) :
    probs E (ix4 b h n m) = ((Real.exp (z m) / ∑ k, Real.exp (z k) : ℝ) : EReal) := by
  have hpos : 0 < ∑ k, Real.exp (z k - M) := Finset.sum_pos (fun k _ => Real.exp_pos _) Finset.univ_nonempty
  unfold probs
  pointwise
  simp only [hE, sum_coe, div_coe _ hpos.ne', shift_cancel]

theorem probs_real (Z : FVec Ideal S8x8x1024x1024 .f32) (z : Fin 8 → Fin 8 → Fin 1024 → Fin 1024 → ℝ)
    (hZ : ∀ b h n m, Z (ix4 b h n m) = ((z b h n m : ℝ) : EReal)) (b h : Fin 8) (n m : Fin 1024) :
    probs (shiftExp Z (rowMax Z)) (ix4 b h n m) = ((Real.exp (z b h n m) / ∑ k, Real.exp (z b h n k) : ℝ) : EReal) := by
  obtain ⟨M, hM, -⟩ := fold_max (Finset.univ : Finset (Fin 1024)) Finset.univ_nonempty (z b h n)
  exact probs_of_shift _ (z b h n) M b h n (shiftExp_real Z _ z M hZ b h n ((rowMax_apply Z z hZ b h n).trans hM)) m

/-- The values weighted by the probabilities. -/
theorem soft_eq (v z : Fin 1024 → ℝ) : ∑ m, v m * (Real.exp (z m) / ∑ k, Real.exp (z k)) = Model.soft z v := by
  unfold Model.soft
  rw [Finset.sum_div]
  exact Finset.sum_congr rfl fun m _ => (mul_div_assoc _ _ _).symm

section
variable (P : FVec Ideal S8x8x1024x1024 .f32) (z : Fin 8 → Fin 8 → Fin 1024 → Fin 1024 → ℝ)
  (hP : ∀ b h n m, P (ix4 b h n m) = ((Real.exp (z b h n m) / ∑ k, Real.exp (z b h n k) : ℝ) : EReal))
include hP
theorem meanMv_real (Q : FVec Ideal S8x1024x48x16 .f32) (q : Fin 8 → Fin 1024 → Fin 48 → Fin 16 → ℝ)
    (hQ : ∀ b n c a, Q (ix4 b n c a) = ((q b n c a : ℝ) : EReal)) (b : Fin 8) (n : Fin 1024) (c a : Fin 16) :
    meanMv Q P (ix4 b n c a) = ((Model.soft (z b ⟨c / 2, by omega⟩ n) fun m => q b m ⟨32 + c, by omega⟩ a : ℝ) : EReal) := by
  rw [← soft_eq]
  unfold meanMv
  pointwise
  simp only [hQ, hP _ _ _ _, mul_coe, sum_coe]

theorem meanS_real (T : FVec Ideal S8x1024x96 .f32) (t : Fin 8 → Fin 1024 → Fin 96 → ℝ)
    (hT : ∀ b n c, T (ix3 b n c) = ((t b n c : ℝ) : EReal)) (b : Fin 8) (n : Fin 1024) (d : Fin 32) :
    meanS T P (ix3 b n d) = ((Model.soft (z b ⟨d / 4, by omega⟩ n) fun m => t b m ⟨64 + d, by omega⟩ : ℝ) : EReal) := by
  rw [← soft_eq]
  unfold meanS
  pointwise
  simp only [hT, hP, mul_coe, sum_coe]
end

end Cert.ReferenceIdeal.Value

end
-- ==== Proof.RGate.lean ====
module

public import proofs.«01_k».proof.Proof.Gen.ReferenceIdeal.Run
public import proofs.«01_k».proof.Proof.Lift
public import Idealize.ShloMosaic.Init
public import Idealize.ShloMosaic.Lib.Pointwise

@[expose] public section

set_option maxRecDepth 16384

noncomputable section

/-! The reference's geometric product and gates. -/

namespace Cert.ReferenceIdeal.Value
open Idealize.ShloMosaic Cert.Lift Cert.ReferenceIdeal.Gen

/-- The geometric products of the channels' halves. -/
def products (H : FVec Ideal S8x1024x32x16 .f32) (G : FVec Ideal S16x16x16 .f32) : FVec Ideal S8x1024x16x16 .f32 :=
  Host.dotGeneral dot_S8x1024x16x16x16_S8x1024x16x16_S8x1024x16x16_3_3_4_n_012_012 none (Host.dotGeneral dot_S8x1024x16x16_S16x16x16_S8x1024x16x16x16_3_0_012_12_n_n none (extractStridedSlice S8x1024x16x16 ![0, 0, 0, 0] H slices_S8x1024x32x16_S8x1024x16x16_0_0_0_0) G) (extractStridedSlice S8x1024x16x16 ![0, 0, 16, 0] H slices_S8x1024x32x16_S8x1024x16x16_0_0_16_0)

theorem products_real (H : FVec Ideal S8x1024x32x16 .f32) (G : FVec Ideal S16x16x16 .f32)
    (h : Fin 8 → Fin 1024 → Fin 32 → Fin 16 → ℝ) (g : Fin 16 → Fin 16 → Fin 16 → ℝ)
    (hH : ∀ b n c a, H (ix4 b n c a) = ((h b n c a : ℝ) : EReal)) (hG : ∀ i j k, G (ix3 i j k) = ((g i j k : ℝ) : EReal))
    (b : Fin 8) (n : Fin 1024) (c k : Fin 16) : products H G (ix4 b n c k) = ((Model.gprod g (h b n) c k : ℝ) : EReal) := by
  unfold products
  pointwise
  simp only [hH, hG, mul_coe, sum_coe]
  rw [EReal.coe_eq_coe_iff]
  unfold Model.gprod
  refine Finset.sum_congr rfl fun j _ => congrArg₂ (fun u v : ℝ => u * v) (Finset.sum_congr rfl fun i _ => ?_) ?_
  · rw [mul_comm]
  · rfl

/-- The products times the gelu of their scalar blade. -/
def gatedMv (P : FVec Ideal S8x1024x16x16 .f32) (A : FVec Ideal S8x1024x16x1 .f32) : FVec Ideal S8x1024x16x16 .f32 :=
  mulf P (broadcastInDim S8x1024x16x16 ![0, 1, 2, 3] bcast_S8x1024x16x1_S8x1024x16x16_0_1_2_3 (mulf A (mulf (broadcastInDim S8x1024x16x1 ![] bcast_S_S8x1024x16x1 (constant S_ .f32 0x3F000000#32)) (addf (broadcastInDim S8x1024x16x1 ![] bcast_S_S8x1024x16x1 (constant S_ .f32 0x3F800000#32)) (Host.tanh (mulf (broadcastInDim S8x1024x16x1 ![] bcast_S_S8x1024x16x1 (constant S_ .f32 0x3F4C422A#32)) (addf A (mulf (broadcastInDim S8x1024x16x1 ![] bcast_S_S8x1024x16x1 (constant S_ .f32 0x3D372713#32)) (mulf (mulf A A) A)))))))))

theorem gatedMv_real (P : FVec Ideal S8x1024x16x16 .f32) (p : Fin 8 → Fin 1024 → Fin 16 → Fin 16 → ℝ)
    (hP : ∀ b n c a, P (ix4 b n c a) = ((p b n c a : ℝ) : EReal)) (b : Fin 8) (n : Fin 1024) (c k : Fin 16) :
    gatedMv P (extractStridedSlice S8x1024x16x1 ![0, 0, 0, 0] P slices_S8x1024x16x16_S8x1024x16x1_0_0_0_0) (ix4 b n c k)
      = ((p b n c k * Model.gelu (p b n c 0) : ℝ) : EReal) := by
  unfold gatedMv
  pointwise
  simp only [hP, mul_coe, add_coe, tanh_coe, w_half, w_gc1, w_gc2]
  rfl

/-- The first half of the scalars times the gelu of the second. -/
def gatedS (T : FVec Ideal S8x1024x64 .f32) (A : FVec Ideal S8x1024x32 .f32) : FVec Ideal S8x1024x32 .f32 :=
  mulf (extractStridedSlice S8x1024x32 ![0, 0, 0] T slices_S8x1024x64_S8x1024x32_0_0_0) (mulf A (mulf (broadcastInDim S8x1024x32 ![] bcast_S_S8x1024x32 (constant S_ .f32 0x3F000000#32)) (addf (broadcastInDim S8x1024x32 ![] bcast_S_S8x1024x32 (constant S_ .f32 0x3F800000#32)) (Host.tanh (mulf (broadcastInDim S8x1024x32 ![] bcast_S_S8x1024x32 (constant S_ .f32 0x3F4C422A#32)) (addf A (mulf (broadcastInDim S8x1024x32 ![] bcast_S_S8x1024x32 (constant S_ .f32 0x3D372713#32)) (mulf (mulf A A) A))))))))

theorem gatedS_real (T : FVec Ideal S8x1024x64 .f32) (t : Fin 8 → Fin 1024 → Fin 64 → ℝ)
    (hT : ∀ b n c, T (ix3 b n c) = ((t b n c : ℝ) : EReal)) (b : Fin 8) (n : Fin 1024) (d : Fin 32) :
    gatedS T (extractStridedSlice S8x1024x32 ![0, 0, 32] T slices_S8x1024x64_S8x1024x32_0_0_32) (ix3 b n d)
      = ((Model.gateS (t b n) d : ℝ) : EReal) := by
  unfold gatedS
  pointwise
  simp only [hT, mul_coe, add_coe, tanh_coe, w_half, w_gc1, w_gc2]
  rfl

end Cert.ReferenceIdeal.Value

end
-- ==== Proof.RCarry.lean ====
module

public import proofs.«01_k».proof.Proof.RPick
public import proofs.«01_k».proof.Proof.RNorm
public import proofs.«01_k».proof.Proof.RLin
public import proofs.«01_k».proof.Proof.RAttn
public import proofs.«01_k».proof.Proof.RGate

@[expose] public section

set_option maxRecDepth 16384

noncomputable section

/-! What the reference's loop carries: the tables and the stacked weights, which no trip changes, and the weights of one layer. -/

namespace Cert.ReferenceIdeal.Value
open Idealize.ShloMosaic Cert.Lift Cert.ReferenceIdeal.Gen

/-- The carried buffers hold the tables and the weights of the eight layers. -/
structure Consts (V : Valuation τ sig (Elt Ideal)) (T : Model.Tables) (W : Fin 8 → Model.Weights) : Prop where
  inner : ∀ a, (V (Proc.devRef .tc main_v19_0) : FVec Ideal S16 .f32) (ix1 a) = ((T.N a : ℝ) : EReal)
  basis : ∀ k a b, (V (Proc.devRef .tc main_v19_9) : FVec Ideal S9x16x16 .f32) (ix3 k a b) = ((T.B k a b : ℝ) : EReal)
  prod : ∀ i j k, (V (Proc.devRef .tc main_v19_18) : FVec Ideal S16x16x16 .f32) (ix3 i j k) = ((T.G i j k : ℝ) : EReal)
  qw : ∀ l o i k, (V (Proc.devRef .tc main_v19_1) : FVec Ideal S8x48x16x9 .f32) (ix4 l o i k) = (((W l).qw o i k : ℝ) : EReal)
  qsm : ∀ l o i, (V (Proc.devRef .tc main_v19_2) : FVec Ideal S8x48x32 .f32) (ix3 l o i) = (((W l).qsm o i : ℝ) : EReal)
  qms : ∀ l o i, (V (Proc.devRef .tc main_v19_3) : FVec Ideal S8x96x16 .f32) (ix3 l o i) = (((W l).qms o i : ℝ) : EReal)
  qss : ∀ l o i, (V (Proc.devRef .tc main_v19_4) : FVec Ideal S8x96x32 .f32) (ix3 l o i) = (((W l).qss o i : ℝ) : EReal)
  ow : ∀ l o i k, (V (Proc.devRef .tc main_v19_5) : FVec Ideal S8x16x16x9 .f32) (ix4 l o i k) = (((W l).ow o i k : ℝ) : EReal)
  osm : ∀ l o i, (V (Proc.devRef .tc main_v19_6) : FVec Ideal S8x16x32 .f32) (ix3 l o i) = (((W l).osm o i : ℝ) : EReal)
  oms : ∀ l o i, (V (Proc.devRef .tc main_v19_7) : FVec Ideal S8x32x16 .f32) (ix3 l o i) = (((W l).oms o i : ℝ) : EReal)
  oss : ∀ l o i, (V (Proc.devRef .tc main_v19_8) : FVec Ideal S8x32x32 .f32) (ix3 l o i) = (((W l).oss o i : ℝ) : EReal)
  m1w : ∀ l o i k, (V (Proc.devRef .tc main_v19_10) : FVec Ideal S8x32x16x9 .f32) (ix4 l o i k) = (((W l).m1w o i k : ℝ) : EReal)
  m1sm : ∀ l o i, (V (Proc.devRef .tc main_v19_11) : FVec Ideal S8x32x32 .f32) (ix3 l o i) = (((W l).m1sm o i : ℝ) : EReal)
  m1ms : ∀ l o i, (V (Proc.devRef .tc main_v19_12) : FVec Ideal S8x64x16 .f32) (ix3 l o i) = (((W l).m1ms o i : ℝ) : EReal)
  m1ss : ∀ l o i, (V (Proc.devRef .tc main_v19_13) : FVec Ideal S8x64x32 .f32) (ix3 l o i) = (((W l).m1ss o i : ℝ) : EReal)
  m2w : ∀ l o i k, (V (Proc.devRef .tc main_v19_14) : FVec Ideal S8x16x16x9 .f32) (ix4 l o i k) = (((W l).m2w o i k : ℝ) : EReal)
  m2sm : ∀ l o i, (V (Proc.devRef .tc main_v19_15) : FVec Ideal S8x16x32 .f32) (ix3 l o i) = (((W l).m2sm o i : ℝ) : EReal)
  m2ms : ∀ l o i, (V (Proc.devRef .tc main_v19_16) : FVec Ideal S8x32x16 .f32) (ix3 l o i) = (((W l).m2ms o i : ℝ) : EReal)
  m2ss : ∀ l o i, (V (Proc.devRef .tc main_v19_17) : FVec Ideal S8x32x32 .f32) (ix3 l o i) = (((W l).m2ss o i : ℝ) : EReal)

/-- A trip keeps them. -/
theorem Consts.step {V : Valuation τ sig (Elt Ideal)} {T : Model.Tables} {W : Fin 8 → Model.Weights} (C : Consts V T W) : Consts (STEP V) T W where
  inner := (STEP_main_v19_0 V).symm ▸ C.inner
  basis := (STEP_main_v19_9 V).symm ▸ C.basis
  prod := (STEP_main_v19_18 V).symm ▸ C.prod
  qw := (STEP_main_v19_1 V).symm ▸ C.qw
  qsm := (STEP_main_v19_2 V).symm ▸ C.qsm
  qms := (STEP_main_v19_3 V).symm ▸ C.qms
  qss := (STEP_main_v19_4 V).symm ▸ C.qss
  ow := (STEP_main_v19_5 V).symm ▸ C.ow
  osm := (STEP_main_v19_6 V).symm ▸ C.osm
  oms := (STEP_main_v19_7 V).symm ▸ C.oms
  oss := (STEP_main_v19_8 V).symm ▸ C.oss
  m1w := (STEP_main_v19_10 V).symm ▸ C.m1w
  m1sm := (STEP_main_v19_11 V).symm ▸ C.m1sm
  m1ms := (STEP_main_v19_12 V).symm ▸ C.m1ms
  m1ss := (STEP_main_v19_13 V).symm ▸ C.m1ss
  m2w := (STEP_main_v19_14 V).symm ▸ C.m2w
  m2sm := (STEP_main_v19_15 V).symm ▸ C.m2sm
  m2ms := (STEP_main_v19_16 V).symm ▸ C.m2ms
  m2ss := (STEP_main_v19_17 V).symm ▸ C.m2ss

section
variable {V : Valuation τ sig (Elt Ideal)} {T : Model.Tables} {W : Fin 8 → Model.Weights} (C : Consts V T W) (l : Fin 8)
  (hl : ∀ i, ((V (Proc.devRef .tc main_v19_20) : IVec S_ 32) i).toInt = (l : ℕ))
include C hl

/-! One layer's weights, as the body of the loop reads them. -/

theorem qw_real (o : Fin 48) (i : Fin 16) (k : Fin 9) :
    pick4 (V (Proc.devRef .tc main_v19_1)) (V (Proc.devRef .tc main_v19_20)) 48#32 16#32 9#32 sliceFits_S8x48x16x9_S1x48x16x9 shapeCasts_S1x48x16x9_S48x16x9 (ix3 o i k) = (((W l).qw o i k : ℝ) : EReal) :=
  (pick4_apply _ _ _ _ _ _ _ l hl o i k).trans (C.qw l o i k)
theorem qsm_real (o : Fin 48) (i : Fin 32) :
    pick3 (V (Proc.devRef .tc main_v19_2)) (V (Proc.devRef .tc main_v19_20)) 48#32 32#32 sliceFits_S8x48x32_S1x48x32 shapeCasts_S1x48x32_S48x32 (ix2 o i) = (((W l).qsm o i : ℝ) : EReal) :=
  (pick3_apply _ _ _ _ _ _ l hl o i).trans (C.qsm l o i)
theorem qms_real (o : Fin 96) (i : Fin 16) :
    pick3 (V (Proc.devRef .tc main_v19_3)) (V (Proc.devRef .tc main_v19_20)) 96#32 16#32 sliceFits_S8x96x16_S1x96x16 shapeCasts_S1x96x16_S96x16 (ix2 o i) = (((W l).qms o i : ℝ) : EReal) :=
  (pick3_apply _ _ _ _ _ _ l hl o i).trans (C.qms l o i)
theorem qss_real (o : Fin 96) (i : Fin 32) :
    pick3 (V (Proc.devRef .tc main_v19_4)) (V (Proc.devRef .tc main_v19_20)) 96#32 32#32 sliceFits_S8x96x32_S1x96x32 shapeCasts_S1x96x32_S96x32 (ix2 o i) = (((W l).qss o i : ℝ) : EReal) :=
  (pick3_apply _ _ _ _ _ _ l hl o i).trans (C.qss l o i)
theorem ow_real (o : Fin 16) (i : Fin 16) (k : Fin 9) :
    pick4 (V (Proc.devRef .tc main_v19_5)) (V (Proc.devRef .tc main_v19_20)) 16#32 16#32 9#32 sliceFits_S8x16x16x9_S1x16x16x9 shapeCasts_S1x16x16x9_S16x16x9 (ix3 o i k) = (((W l).ow o i k : ℝ) : EReal) :=
  (pick4_apply _ _ _ _ _ _ _ l hl o i k).trans (C.ow l o i k)
theorem osm_real (o : Fin 16) (i : Fin 32) :
    pick3 (V (Proc.devRef .tc main_v19_6)) (V (Proc.devRef .tc main_v19_20)) 16#32 32#32 sliceFits_S8x16x32_S1x16x32 shapeCasts_S1x16x32_S16x32 (ix2 o i) = (((W l).osm o i : ℝ) : EReal) :=
  (pick3_apply _ _ _ _ _ _ l hl o i).trans (C.osm l o i)
theorem oms_real (o : Fin 32) (i : Fin 16) :
    pick3 (V (Proc.devRef .tc main_v19_7)) (V (Proc.devRef .tc main_v19_20)) 32#32 16#32 sliceFits_S8x32x16_S1x32x16 shapeCasts_S1x32x16_S32x16 (ix2 o i) = (((W l).oms o i : ℝ) : EReal) :=
  (pick3_apply _ _ _ _ _ _ l hl o i).trans (C.oms l o i)
theorem oss_real (o : Fin 32) (i : Fin 32) :
    pick3 (V (Proc.devRef .tc main_v19_8)) (V (Proc.devRef .tc main_v19_20)) 32#32 32#32 sliceFits_S8x32x32_S1x32x32 shapeCasts_S1x32x32_S32x32 (ix2 o i) = (((W l).oss o i : ℝ) : EReal) :=
  (pick3_apply _ _ _ _ _ _ l hl o i).trans (C.oss l o i)
theorem m1w_real (o : Fin 32) (i : Fin 16) (k : Fin 9) :
    pick4 (V (Proc.devRef .tc main_v19_10)) (V (Proc.devRef .tc main_v19_20)) 32#32 16#32 9#32 sliceFits_S8x32x16x9_S1x32x16x9 shapeCasts_S1x32x16x9_S32x16x9 (ix3 o i k) = (((W l).m1w o i k : ℝ) : EReal) :=
  (pick4_apply _ _ _ _ _ _ _ l hl o i k).trans (C.m1w l o i k)
theorem m1sm_real (o : Fin 32) (i : Fin 32) :
    pick3 (V (Proc.devRef .tc main_v19_11)) (V (Proc.devRef .tc main_v19_20)) 32#32 32#32 sliceFits_S8x32x32_S1x32x32 shapeCasts_S1x32x32_S32x32 (ix2 o i) = (((W l).m1sm o i : ℝ) : EReal) :=
  (pick3_apply _ _ _ _ _ _ l hl o i).trans (C.m1sm l o i)
theorem m1ms_real (o : Fin 64) (i : Fin 16) :
    pick3 (V (Proc.devRef .tc main_v19_12)) (V (Proc.devRef .tc main_v19_20)) 64#32 16#32 sliceFits_S8x64x16_S1x64x16 shapeCasts_S1x64x16_S64x16 (ix2 o i) = (((W l).m1ms o i : ℝ) : EReal) :=
  (pick3_apply _ _ _ _ _ _ l hl o i).trans (C.m1ms l o i)
theorem m1ss_real (o : Fin 64) (i : Fin 32) :
    pick3 (V (Proc.devRef .tc main_v19_13)) (V (Proc.devRef .tc main_v19_20)) 64#32 32#32 sliceFits_S8x64x32_S1x64x32 shapeCasts_S1x64x32_S64x32 (ix2 o i) = (((W l).m1ss o i : ℝ) : EReal) :=
  (pick3_apply _ _ _ _ _ _ l hl o i).trans (C.m1ss l o i)
theorem m2w_real (o : Fin 16) (i : Fin 16) (k : Fin 9) :
    pick4 (V (Proc.devRef .tc main_v19_14)) (V (Proc.devRef .tc main_v19_20)) 16#32 16#32 9#32 sliceFits_S8x16x16x9_S1x16x16x9 shapeCasts_S1x16x16x9_S16x16x9 (ix3 o i k) = (((W l).m2w o i k : ℝ) : EReal) :=
  (pick4_apply _ _ _ _ _ _ _ l hl o i k).trans (C.m2w l o i k)
theorem m2sm_real (o : Fin 16) (i : Fin 32) :
    pick3 (V (Proc.devRef .tc main_v19_15)) (V (Proc.devRef .tc main_v19_20)) 16#32 32#32 sliceFits_S8x16x32_S1x16x32 shapeCasts_S1x16x32_S16x32 (ix2 o i) = (((W l).m2sm o i : ℝ) : EReal) :=
  (pick3_apply _ _ _ _ _ _ l hl o i).trans (C.m2sm l o i)
theorem m2ms_real (o : Fin 32) (i : Fin 16) :
    pick3 (V (Proc.devRef .tc main_v19_16)) (V (Proc.devRef .tc main_v19_20)) 32#32 16#32 sliceFits_S8x32x16_S1x32x16 shapeCasts_S1x32x16_S32x16 (ix2 o i) = (((W l).m2ms o i : ℝ) : EReal) :=
  (pick3_apply _ _ _ _ _ _ l hl o i).trans (C.m2ms l o i)
theorem m2ss_real (o : Fin 32) (i : Fin 32) :
    pick3 (V (Proc.devRef .tc main_v19_17)) (V (Proc.devRef .tc main_v19_20)) 32#32 32#32 sliceFits_S8x32x32_S1x32x32 shapeCasts_S1x32x32_S32x32 (ix2 o i) = (((W l).m2ss o i : ℝ) : EReal) :=
  (pick3_apply _ _ _ _ _ _ l hl o i).trans (C.m2ss l o i)
end

end Cert.ReferenceIdeal.Value

end
-- ==== Proof.REmbed.lean ====
module

public import proofs.«01_k».proof.Proof.RLin

@[expose] public section

set_option maxRecDepth 16384

noncomputable section

/-! The reference's embedding of the points and its input layer. -/

namespace Cert.ReferenceIdeal.Value
open Idealize.ShloMosaic Cert.Lift Cert.ReferenceIdeal.Gen

/-- The embedding's sixteen blades. -/
def embedF (X : FVec Ideal S8x1024x3 .f32) : Fin 16 → FVec Ideal S8x1024x1 .f32 :=
  let z := broadcastInDim S8x1024x1 ![] bcast_S_S8x1024x1 (constant (F := Ideal) S_ .f32 0x00000000#32)
  ![z, z, z, z, z, z, z, z, z, z, z,
    Host.negf (extractStridedSlice S8x1024x1 ![0, 0, 2] X slices_S8x1024x3_S8x1024x1_0_0_2),
    extractStridedSlice S8x1024x1 ![0, 0, 1] X slices_S8x1024x3_S8x1024x1_0_0_1,
    Host.negf (extractStridedSlice S8x1024x1 ![0, 0, 0] X slices_S8x1024x3_S8x1024x1_0_0_0),
    addf z (broadcastInDim S8x1024x1 ![] bcast_S_S8x1024x1 (constant (F := Ideal) S_ .f32 0x3F800000#32)), z]

/-- The blades along the last axis. -/
def joinT (f : Fin 16 → FVec Ideal S8x1024x1 .f32) : FVec Ideal S8x1024x16 .f32 :=
  concatenate S8x1024x16 2 [⟨S8x1024x1, f 0⟩, ⟨S8x1024x1, f 1⟩, ⟨S8x1024x1, f 2⟩, ⟨S8x1024x1, f 3⟩, ⟨S8x1024x1, f 4⟩, ⟨S8x1024x1, f 5⟩, ⟨S8x1024x1, f 6⟩, ⟨S8x1024x1, f 7⟩, ⟨S8x1024x1, f 8⟩, ⟨S8x1024x1, f 9⟩, ⟨S8x1024x1, f 10⟩, ⟨S8x1024x1, f 11⟩, ⟨S8x1024x1, f 12⟩, ⟨S8x1024x1, f 13⟩, ⟨S8x1024x1, f 14⟩, ⟨S8x1024x1, f 15⟩]
    concatenates_S8x1024x1_S8x1024x1_S8x1024x1_S8x1024x1_S8x1024x1_S8x1024x1_S8x1024x1_S8x1024x1_S8x1024x1_S8x1024x1_S8x1024x1_S8x1024x1_S8x1024x1_S8x1024x1_S8x1024x1_S8x1024x1_S8x1024x16_d2

theorem joinT_at (f : Fin 16 → FVec Ideal S8x1024x1 .f32) (b : Fin 8) (n : Fin 1024) (e : Fin 16) : joinT f (ix3 b n e) = f e (ix3 b n 0) :=
  concatenate_ofFn_apply (t := S8x1024x16) (s₁ := S8x1024x1) 2 f concatenates_S8x1024x1_S8x1024x1_S8x1024x1_S8x1024x1_S8x1024x1_S8x1024x1_S8x1024x1_S8x1024x1_S8x1024x1_S8x1024x1_S8x1024x1_S8x1024x1_S8x1024x1_S8x1024x1_S8x1024x1_S8x1024x1_S8x1024x16_d2 rfl 1 rfl (ix3 b n e) e
    (Nat.div_one _) (ix3 b n 0) (Nat.mod_one _).symm fun x hx => match x, hx with
    | ⟨0, _⟩, _ => rfl
    | ⟨1, _⟩, _ => rfl
    | ⟨2, _⟩, hx => absurd rfl hx

/-- The embedded points, one channel. -/
def pointsT (X : FVec Ideal S8x1024x3 .f32) : FVec Ideal S8x1024x1x16 .f32 :=
  broadcastInDim S8x1024x1x16 ![0, 1, 3] bcast_S8x1024x16_S8x1024x1x16_0_1_3 (joinT (embedF X))

/-- The input layer's multivectors and scalars. -/
def startMv (X : FVec Ideal S8x1024x3 .f32) (W : FVec Ideal S16x1x9 .f32) (B : FVec Ideal S9x16x16 .f32) : FVec Ideal S8x1024x16x16 .f32 :=
  transpose S8x1024x16x16 [2, 3, 1, 0] (Host.dotGeneral dot_S16x16x16x1_S8x1024x1x16_S16x16x8x1024_13_32_02_01_n_n none
    (Host.dotGeneral dot_S9x16x16_S16x1x9_S16x16x16x1_0_2_12_01_n_n none B W) (pointsT X)) transposes_S16x16x8x1024_S8x1024x16x16_2_3_1_0
def startS (X : FVec Ideal S8x1024x3 .f32) (U : FVec Ideal S32x1 .f32) (b : FVec Ideal S32 .f32) : FVec Ideal S8x1024x32 .f32 :=
  addf (Host.dotGeneral dot_S8x1024x1_S32x1_S8x1024x32_2_1_01_0_n_n none
      (shapeCast S8x1024x1 (extractStridedSlice S8x1024x1x1 ![0, 0, 0, 0] (pointsT X) slices_S8x1024x1x16_S8x1024x1x1_0_0_0_0) shapeCasts_S8x1024x1x1_S8x1024x1) U)
    (broadcastInDim S8x1024x32 ![0, 1, 2] bcast_S1x1x32_S8x1024x32_0_1_2 (broadcastInDim S1x1x32 ![2] bcast_S32_S1x1x32_2 b))

section
variable (X : FVec Ideal S8x1024x3 .f32) (x : Fin 8 → Fin 1024 → Fin 3 → ℝ) (hX : ∀ b n j, X (ix3 b n j) = ((x b n j : ℝ) : EReal))
include hX

theorem blade_real (b : Fin 8) (n : Fin 1024) (e : Fin 16) : embedF X e (ix3 b n 0) = ((Model.embed (x b n) e : ℝ) : EReal) := by
  fin_cases e <;> simp only [embedF, Model.embed] <;> pointwise <;> simp [hX]

theorem pointsT_real (b : Fin 8) (n : Fin 1024) (e : Fin 16) : pointsT X (ix4 b n 0 e) = ((Model.embed (x b n) e : ℝ) : EReal) := by
  refine (broadcastInDim_apply _ _ _ _ (ix3 b n e) fun a => ?_).trans ((joinT_at _ b n e).trans (blade_real X x hX b n e))
  match a with
  | 0 => rfl
  | 1 => rfl
  | 2 => rfl

theorem startMv_real (W : FVec Ideal S16x1x9 .f32) (w : Fin 16 → Fin 1 → Fin 9 → ℝ) (hW : ∀ o i k, W (ix3 o i k) = ((w o i k : ℝ) : EReal))
    (Bv : FVec Ideal S9x16x16 .f32) (B : Fin 9 → Fin 16 → Fin 16 → ℝ) (hB : ∀ k a b, Bv (ix3 k a b) = ((B k a b : ℝ) : EReal))
    (b : Fin 8) (n : Fin 1024) (o a : Fin 16) :
    startMv X W Bv (ix4 b n o a) = ((Model.initMv B w (fun n => Model.embed (x b n)) n o a : ℝ) : EReal) := by
  have hP := pointsT_real X x hX
  unfold startMv
  generalize pointsT X = P at hP ⊢
  pointwise
  simp only [Fin.sum_univ_one, hP, hB, hW, mul_coe, sum_coe]
  rw [EReal.coe_eq_coe_iff]
  unfold Model.initMv Model.eff
  simp only [mul_comm]

theorem startS_real (U : FVec Ideal S32x1 .f32) (u : Fin 32 → Fin 1 → ℝ) (hU : ∀ o i, U (ix2 o i) = ((u o i : ℝ) : EReal))
    (B : FVec Ideal S32 .f32) (s : Fin 32 → ℝ) (hB : ∀ d, B (ix1 d) = ((s d : ℝ) : EReal))
    (b : Fin 8) (n : Fin 1024) (d : Fin 32) : startS X U B (ix3 b n d) = ((Model.initS s n d : ℝ) : EReal) := by
  have hP := pointsT_real X x hX
  unfold startS
  generalize pointsT X = P at hP ⊢
  pointwise
  simp only [hP, hB, hU, mul_coe, sum_coe, add_coe]
  rw [EReal.coe_eq_coe_iff]
  simp [Model.initS, Model.embed]
end

end Cert.ReferenceIdeal.Value

end
-- ==== Proof.RLits.lean ====
module

public import proofs.«01_k».proof.Proof.Words
public import proofs.«01_k».proof.Proof.Canon
public import proofs.«01_k».proof.ReferenceIdeal

@[expose] public section

set_option maxRecDepth 16384

noncomputable section

/-! The reference's literal tables: the linear basis, the inner product's blades and the geometric product. -/

namespace Cert.ReferenceIdeal.Value
open Idealize.ShloMosaic
open Cert.ReferenceIdeal Cert.Model

theorem lit0_words : ∀ n : Fin 2304, lit0 n = word (bInt ⟨n / 256, by omega⟩ ⟨n / 16 % 16, Nat.mod_lt _ (by decide)⟩ ⟨n % 16, Nat.mod_lt _ (by decide)⟩) := by
  decide +kernel
theorem lit1_words : ∀ a : Fin 16, lit1 a = word (nSgn a) := by decide +kernel
theorem lit2_words : ∀ n : Fin 4096, lit2 n = word (gInt ⟨n / 256, by omega⟩ ⟨n / 16 % 16, Nat.mod_lt _ (by decide)⟩ ⟨n % 16, Nat.mod_lt _ (by decide)⟩) := by
  decide +kernel

/-- The three coordinates of a position. -/
theorem coords {A : ℕ} (k : Fin A) (a b : Fin 16) (h : (k.val * 256 + a.val * 16 + b.val) / 256 < A) :
    (⟨(k.val * 256 + a.val * 16 + b.val) / 256, h⟩ : Fin A) = k ∧
    (⟨(k.val * 256 + a.val * 16 + b.val) / 16 % 16, Nat.mod_lt _ (by decide)⟩ : Fin 16) = a ∧
    (⟨(k.val * 256 + a.val * 16 + b.val) % 16, Nat.mod_lt _ (by decide)⟩ : Fin 16) = b :=
  ⟨Fin.ext (show (k.val * 256 + a.val * 16 + b.val) / 256 = k by omega), Fin.ext (show (k.val * 256 + a.val * 16 + b.val) / 16 % 16 = a by omega),
    Fin.ext (show (k.val * 256 + a.val * 16 + b.val) % 16 = b by omega)⟩

theorem lit0_at (k : Fin 9) (a b : Fin 16) : lit0 ⟨k.val * 256 + a.val * 16 + b.val, by omega⟩ = word (bInt k a b) := by
  obtain ⟨e1, e2, e3⟩ := coords k a b (by omega)
  refine (lit0_words _).trans (congrArg word ?_)
  show bInt ⟨(k.val * 256 + a.val * 16 + b.val) / 256, _⟩ ⟨(k.val * 256 + a.val * 16 + b.val) / 16 % 16, _⟩ ⟨(k.val * 256 + a.val * 16 + b.val) % 16, _⟩ = _
  rw [e1, e2, e3]
theorem lit2_at (i j k : Fin 16) : lit2 ⟨i.val * 256 + j.val * 16 + k.val, by omega⟩ = word (gInt i j k) := by
  obtain ⟨e1, e2, e3⟩ := coords i j k (by omega)
  refine (lit2_words _).trans (congrArg word ?_)
  show gInt ⟨(i.val * 256 + j.val * 16 + k.val) / 256, _⟩ ⟨(i.val * 256 + j.val * 16 + k.val) / 16 % 16, _⟩ ⟨(i.val * 256 + j.val * 16 + k.val) % 16, _⟩ = _
  rw [e1, e2, e3]

def basisT : FVec Ideal S9x16x16 .f32 := fun i => FloatOps.ofBits .f32 (lit0 (S9x16x16.rowMajor i))
def innerT : FVec Ideal S16 .f32 := fun i => FloatOps.ofBits .f32 (lit1 (S16.rowMajor i))
def prodT : FVec Ideal S16x16x16 .f32 := fun i => FloatOps.ofBits .f32 (lit2 (S16x16x16.rowMajor i))

theorem basisT_real (k : Fin 9) (a b : Fin 16) : basisT (ix3 k a b) = ((tables.B k a b : ℝ) : EReal) := by
  have e : S9x16x16.rowMajor (ix3 k a b) = (⟨k * 256 + a * 16 + b, by omega⟩ : Fin 2304) := by
    refine Fin.ext ?_
    rw [Shape.rowMajor_val_three]
    show (k.val * 16 + a.val) * 16 + b.val = k.val * 256 + a.val * 16 + b.val
    omega
  refine (congrArg (fun n => Ideal.ofBits .f32 (lit0 n)) e).trans ?_
  exact (congrArg (Ideal.ofBits .f32) (lit0_at k a b)).trans (word_val _ (bInt_unit k a b))

theorem innerT_real (a : Fin 16) : innerT (ix1 a) = ((tables.N a : ℝ) : EReal) := by
  have e : S16.rowMajor (ix1 a) = a := Fin.ext (Shape.rowMajor_val_one _)
  refine (congrArg (fun n => Ideal.ofBits .f32 (lit1 n)) e).trans ?_
  exact (congrArg (Ideal.ofBits .f32) (lit1_words a)).trans (word_val _ (nSgn_unit a))

theorem prodT_real (i j k : Fin 16) : prodT (ix3 i j k) = ((tables.G i j k : ℝ) : EReal) := by
  have e : S16x16x16.rowMajor (ix3 i j k) = (⟨i * 256 + j * 16 + k, by omega⟩ : Fin 4096) := by
    refine Fin.ext ?_
    rw [Shape.rowMajor_val_three]
    show (i.val * 16 + j.val) * 16 + k.val = i.val * 256 + j.val * 16 + k.val
    omega
  refine (congrArg (fun n => Ideal.ofBits .f32 (lit2 n)) e).trans ?_
  exact (congrArg (Ideal.ofBits .f32) (lit2_at i j k)).trans (word_val _ (gInt_unit i j k))

end Cert.ReferenceIdeal.Value

end
-- ==== Proof.REntry.lean ====
module

public import proofs.«01_k».proof.Proof.RCarry
public import proofs.«01_k».proof.Proof.REmbed
public import proofs.«01_k».proof.Proof.RLits
public import proofs.«01_k».proof.Proof.Ins
public import Idealize.ShloMosaic.Lib.StableHlo.RunRead

@[expose] public section

set_option maxRecDepth 16384

noncomputable section

/-! What the reference's loop is entered with, as functions of the arguments. -/

namespace Cert.ReferenceIdeal.Value
open Idealize.ShloMosaic Idealize.ShloMosaic.Pipeline Idealize.ShloMosaic.StableHlo Idealize.ShloMosaic.TcCoe
open Cert.ReferenceIdeal Cert.ReferenceIdeal.Gen Cert.Lift
open Cert.Model (Ins)

section
variable (E : Valuation τ sig (Elt Ideal))

theorem read_cst : StableHlo.after hostOps0 E (Proc.devRef .tc main_cst) = basisT := by
  after_reads_simp
  rfl
theorem read0 : StableHlo.after hostOps0 E (Proc.devRef .tc main_v19_0) = innerT := by
  after_reads_simp
  rfl
theorem read1 : StableHlo.after hostOps0 E (Proc.devRef .tc main_v19_1) = E (Proc.devRef .tc main_arg4) := by
  after_reads_simp
  rfl
theorem read2 : StableHlo.after hostOps0 E (Proc.devRef .tc main_v19_2) = E (Proc.devRef .tc main_arg5) := by
  after_reads_simp
  rfl
theorem read3 : StableHlo.after hostOps0 E (Proc.devRef .tc main_v19_3) = E (Proc.devRef .tc main_arg6) := by
  after_reads_simp
  rfl
theorem read4 : StableHlo.after hostOps0 E (Proc.devRef .tc main_v19_4) = E (Proc.devRef .tc main_arg7) := by
  after_reads_simp
  rfl
theorem read5 : StableHlo.after hostOps0 E (Proc.devRef .tc main_v19_5) = E (Proc.devRef .tc main_arg8) := by
  after_reads_simp
  rfl
theorem read6 : StableHlo.after hostOps0 E (Proc.devRef .tc main_v19_6) = E (Proc.devRef .tc main_arg9) := by
  after_reads_simp
  rfl
theorem read7 : StableHlo.after hostOps0 E (Proc.devRef .tc main_v19_7) = E (Proc.devRef .tc main_arg10) := by
  after_reads_simp
  rfl
theorem read8 : StableHlo.after hostOps0 E (Proc.devRef .tc main_v19_8) = E (Proc.devRef .tc main_arg11) := by
  after_reads_simp
  rfl
theorem read9 : StableHlo.after hostOps0 E (Proc.devRef .tc main_v19_9) = basisT := by
  after_reads_simp
  rfl
theorem read10 : StableHlo.after hostOps0 E (Proc.devRef .tc main_v19_10) = E (Proc.devRef .tc main_arg12) := by
  after_reads_simp
  rfl
theorem read11 : StableHlo.after hostOps0 E (Proc.devRef .tc main_v19_11) = E (Proc.devRef .tc main_arg13) := by
  after_reads_simp
  rfl
theorem read12 : StableHlo.after hostOps0 E (Proc.devRef .tc main_v19_12) = E (Proc.devRef .tc main_arg14) := by
  after_reads_simp
  rfl
theorem read13 : StableHlo.after hostOps0 E (Proc.devRef .tc main_v19_13) = E (Proc.devRef .tc main_arg15) := by
  after_reads_simp
  rfl
theorem read14 : StableHlo.after hostOps0 E (Proc.devRef .tc main_v19_14) = E (Proc.devRef .tc main_arg16) := by
  after_reads_simp
  rfl
theorem read15 : StableHlo.after hostOps0 E (Proc.devRef .tc main_v19_15) = E (Proc.devRef .tc main_arg17) := by
  after_reads_simp
  rfl
theorem read16 : StableHlo.after hostOps0 E (Proc.devRef .tc main_v19_16) = E (Proc.devRef .tc main_arg18) := by
  after_reads_simp
  rfl
theorem read17 : StableHlo.after hostOps0 E (Proc.devRef .tc main_v19_17) = E (Proc.devRef .tc main_arg19) := by
  after_reads_simp
  rfl
theorem read18 : StableHlo.after hostOps0 E (Proc.devRef .tc main_v19_18) = prodT := by
  after_reads_simp
  rfl
theorem read20 : StableHlo.after hostOps0 E (Proc.devRef .tc main_v19_20) = (constantI S_ 32 0#32 : IVec S_ 32) := by
  after_reads_simp
  rfl
theorem read21 : StableHlo.after hostOps0 E (Proc.devRef .tc main_v19_21) = startMv (E (Proc.devRef .tc main_arg0)) (E (Proc.devRef .tc main_arg1)) basisT := by
  after_reads_simp
  rfl
theorem read22 : StableHlo.after hostOps0 E (Proc.devRef .tc main_v19_22) = startS (E (Proc.devRef .tc main_arg0)) (E (Proc.devRef .tc main_arg2)) (E (Proc.devRef .tc main_arg3)) := by
  after_reads_simp
  rfl
end

section
variable (m : (ℓ : Loc nD τ sig) → Buf (Elt Ideal) ℓ) (c : Dev nD)

/-- The arguments in memory. -/
def ins : Ins where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)
  x20 := m ((c.tc : Thread nD τ).loc main_arg20)
  x21 := m ((c.tc : Thread nD τ).loc main_arg21)

theorem entry_eq : entryContents preI m c = StableHlo.after hostOps0 fun b => m (c, b) := by
  simp only [entryContents, afterL_cons, afterL_nil]

/-- The loop is entered with the tables and the weights. -/
theorem entry_consts (H : (ins m c).Finite) : Consts (entryContents preI m c) Model.tables (ins m c).args.W := by
  rw [entry_eq]
  exact {
    inner := fun a => (congrFun (read0 _) _).trans (innerT_real a)
    qw := fun l o i k => (congrFun (read1 _) _).trans (H.x4.val _)
    qsm := fun l o i => (congrFun (read2 _) _).trans (H.x5.val _)
    qms := fun l o i => (congrFun (read3 _) _).trans (H.x6.val _)
    qss := fun l o i => (congrFun (read4 _) _).trans (H.x7.val _)
    ow := fun l o i k => (congrFun (read5 _) _).trans (H.x8.val _)
    osm := fun l o i => (congrFun (read6 _) _).trans (H.x9.val _)
    oms := fun l o i => (congrFun (read7 _) _).trans (H.x10.val _)
    oss := fun l o i => (congrFun (read8 _) _).trans (H.x11.val _)
    basis := fun k a b => (congrFun (read9 _) _).trans (basisT_real k a b)
    m1w := fun l o i k => (congrFun (read10 _) _).trans (H.x12.val _)
    m1sm := fun l o i => (congrFun (read11 _) _).trans (H.x13.val _)
    m1ms := fun l o i => (congrFun (read12 _) _).trans (H.x14.val _)
    m1ss := fun l o i => (congrFun (read13 _) _).trans (H.x15.val _)
    m2w := fun l o i k => (congrFun (read14 _) _).trans (H.x16.val _)
    m2sm := fun l o i => (congrFun (read15 _) _).trans (H.x17.val _)
    m2ms := fun l o i => (congrFun (read16 _) _).trans (H.x18.val _)
    m2ss := fun l o i => (congrFun (read17 _) _).trans (H.x19.val _)
    prod := fun i j k => (congrFun (read18 _) _).trans (prodT_real i j k)
  }
theorem entry_mv (H : (ins m c).Finite) (b : Fin 8) (n : Fin 1024) (o a : Fin 16) :
    (entryContents preI m c (Proc.devRef .tc main_v19_21) : FVec Ideal S8x1024x16x16 .f32) (ix4 b n o a) = ((((ins m c).args.st b 0).1 n o a : ℝ) : EReal) := by
  rw [entry_eq]
  exact (congrFun (read21 _) _).trans (startMv_real (ins m c).x0 (ins m c).args.pts (fun _ _ _ => H.x0.val _) (ins m c).x1 (ins m c).args.win (fun _ _ _ => H.x1.val _)
    basisT Model.tables.B basisT_real b n o a)
theorem entry_s (H : (ins m c).Finite) (b : Fin 8) (n : Fin 1024) (d : Fin 32) :
    (entryContents preI m c (Proc.devRef .tc main_v19_22) : FVec Ideal S8x1024x32 .f32) (ix3 b n d) = ((((ins m c).args.st b 0).2 n d : ℝ) : EReal) := by
  rw [entry_eq]
  exact (congrFun (read22 _) _).trans (startS_real (ins m c).x0 (ins m c).args.pts (fun _ _ _ => H.x0.val _) (ins m c).x2 (fun o i => ((ins m c).x2 (ix2 o i)).toReal) (fun _ _ => H.x2.val _)
    (ins m c).x3 (ins m c).args.bs (fun _ => H.x3.val _) b n d)
theorem entry_count : (entryContents preI m c (Proc.devRef .tc main_v19_20) : IVec S_ 32) = fun _ => BitVec.ofNat 32 0 := by
  rw [entry_eq]
  exact read20 _
theorem entry_cst : (entryContents preI m c (Proc.devRef .tc main_cst) : FVec Ideal S9x16x16 .f32) = basisT := by
  rw [entry_eq]
  exact read_cst _
end

end Cert.ReferenceIdeal.Value

end
-- ==== Proof.RStep.lean ====
module

public import proofs.«01_k».proof.Proof.RCarry

@[expose] public section

set_option maxRecDepth 16384

noncomputable section

/-! One trip of the reference's loop is one layer of the network. -/

namespace Cert.ReferenceIdeal.Value
open Idealize.ShloMosaic Cert.Lift Cert.ReferenceIdeal.Gen

section
variable {V : Valuation τ sig (Elt Ideal)} {T : Model.Tables} {W : Fin 8 → Model.Weights} (C : Consts V T W) (hT : ∀ a, 0 ≤ T.N a) (l : Fin 8)
  (hl : ∀ i, ((V (Proc.devRef .tc main_v19_20) : IVec S_ 32) i).toInt = (l : ℕ))
  (x : Fin 8 → Model.Mv) (s : Fin 8 → Model.Sc)
  (hx : ∀ b n c a, (V (Proc.devRef .tc main_v19_21) : FVec Ideal S8x1024x16x16 .f32) (ix4 b n c a) = ((x b n c a : ℝ) : EReal))
  (hs : ∀ b n d, (V (Proc.devRef .tc main_v19_22) : FVec Ideal S8x1024x32 .f32) (ix3 b n d) = ((s b n d : ℝ) : EReal))
include C hT hl hx hs

theorem n1_mv : ∀ b n c a, (res_main_while0b_v48 V : FVec Ideal S8x1024x16x16 .f32) (ix4 b n c a) = ((Model.normMv T.N (x b n) c a : ℝ) : EReal) := by
  intro b n c a
  exact rmsMv_real (V (Proc.devRef .tc main_v19_21)) (V (Proc.devRef .tc main_v19_0)) x T.N hT hx C.inner b n c a
theorem n1_s : ∀ b n d, (res_main_while0b_v58 V : FVec Ideal S8x1024x32 .f32) (ix3 b n d) = ((Model.normS (s b n) d : ℝ) : EReal) := by
  intro b n d
  exact rmsS_real (V (Proc.devRef .tc main_v19_22)) s hs b n d
theorem q_lin : ∀ b n c a, (res_main_while0b_v163 V : FVec Ideal S8x1024x48x16 .f32) (ix4 b n c a) = ((∑ i, ∑ e, Model.eff T.B (W l).qw c i a e * (fun b n => Model.normMv T.N (x b n)) b n i e : ℝ) : EReal) := by
  intro b n c a
  exact lin48_real (fun b n => Model.normMv T.N (x b n)) T.B (V (Proc.devRef .tc main_v19_9)) (res_main_while0b_v48 V) C.basis (n1_mv C hT l hl x s hx hs) (pick4 (V (Proc.devRef .tc main_v19_1)) (V (Proc.devRef .tc main_v19_20)) 48#32 16#32 9#32 sliceFits_S8x48x16x9_S1x48x16x9 shapeCasts_S1x48x16x9_S48x16x9) (W l).qw (qw_real C l hl) b n c a
theorem q_mv : ∀ b n c a, (res_main_while0b_v169 V : FVec Ideal S8x1024x48x16 .f32) (ix4 b n c a) = ((Model.qkvMv T (W l) (x b) (s b) n c a : ℝ) : EReal) := by
  intro b n c a
  exact addScalar_real (res_main_while0b_v163 V) (Host.dotGeneral dot_S8x1024x32_S48x32_S8x1024x48_2_1_01_0_n_n none (res_main_while0b_v58 V) (pick3 (V (Proc.devRef .tc main_v19_2)) (V (Proc.devRef .tc main_v19_20)) 48#32 32#32 sliceFits_S8x48x32_S1x48x32 shapeCasts_S1x48x32_S48x32)) slices_S8x1024x48x16_S8x1024x48x1_0_0_0_0 bcast_S8x1024x48_S8x1024x48x1_0_1_2 slices_S8x1024x48x16_S8x1024x48x15_0_0_0_1 concatenates_S8x1024x48x1_S8x1024x48x15_S8x1024x48x16_d3 (fun b n c a => ∑ i, ∑ e, Model.eff T.B (W l).qw c i a e * (fun b n => Model.normMv T.N (x b n)) b n i e) (fun b n o => ∑ d, (W l).qsm o d * (fun b n => Model.normS (s b n)) b n d) (q_lin C hT l hl x s hx hs) (sc48_real (fun b n => Model.normS (s b n)) (res_main_while0b_v58 V) (n1_s C hT l hl x s hx hs) (pick3 (V (Proc.devRef .tc main_v19_2)) (V (Proc.devRef .tc main_v19_20)) 48#32 32#32 sliceFits_S8x48x32_S1x48x32 shapeCasts_S1x48x32_S48x32) (W l).qsm (qsm_real C l hl)) (by decide) b n c a
theorem q_s : ∀ b n d, (res_main_while0b_v174 V : FVec Ideal S8x1024x96 .f32) (ix3 b n d) = ((Model.qkvS T (W l) (x b) (s b) n d : ℝ) : EReal) := by
  intro b n d
  exact linS96_real (fun b n => Model.normS (s b n)) (res_main_while0b_v58 V) (n1_s C hT l hl x s hx hs) (fun b n => Model.normMv T.N (x b n)) (res_main_while0b_v48 V) (n1_mv C hT l hl x s hx hs) (pick3 (V (Proc.devRef .tc main_v19_4)) (V (Proc.devRef .tc main_v19_20)) 96#32 32#32 sliceFits_S8x96x32_S1x96x32 shapeCasts_S1x96x32_S96x32) (W l).qss (qss_real C l hl) (pick3 (V (Proc.devRef .tc main_v19_3)) (V (Proc.devRef .tc main_v19_20)) 96#32 16#32 sliceFits_S8x96x16_S1x96x16 shapeCasts_S1x96x16_S96x16) (W l).qms (qms_real C l hl) b n d
theorem z : ∀ b h n m, (res_main_while0b_v194 V : FVec Ideal S8x8x1024x1024 .f32) (ix4 b h n m) = ((Model.score T.N (Model.qkvMv T (W l) (x b)  (s b)) (Model.qkvS T (W l) (x b) (s b)) h n m : ℝ) : EReal) := by
  intro b h n m
  exact scores_real (res_main_while0b_v169 V) (res_main_while0b_v174 V) (V (Proc.devRef .tc main_v19_0)) (fun b => Model.qkvMv T (W l) (x b) (s b)) (fun b => Model.qkvS T (W l) (x b) (s b)) T.N (q_mv C hT l hl x s hx hs) (q_s C hT l hl x s hx hs) C.inner b h n m
theorem p : ∀ b h n m, (res_main_while0b_v205 V : FVec Ideal S8x8x1024x1024 .f32) (ix4 b h n m) = ((Real.exp ((fun b h n m => Model.score T.N (Model.qkvMv T (W l) (x b) (s b)) (Model.qkvS T (W l) (x b) (s b)) h n m) b h n m) / ∑ k, Real.exp ((fun b h n m => Model.score T.N (Model.qkvMv T (W l) (x b) (s b)) (Model.qkvS T (W l) (x b) (s b)) h n m) b h n k) : ℝ) : EReal) := by
  intro b h n m
  exact probs_real (res_main_while0b_v194 V) (fun b h n m => Model.score T.N (Model.qkvMv T (W l) (x b) (s b)) (Model.qkvS T (W l) (x b) (s b)) h n m) (z C hT l hl x s hx hs) b h n m
theorem o_mv : ∀ b n c a, (res_main_while0b_v208 V : FVec Ideal S8x1024x16x16 .f32) (ix4 b n c a) = ((Model.attMv T (W l) (x b) (s b) n c a : ℝ) : EReal) := by
  intro b n c a
  exact meanMv_real (res_main_while0b_v205 V) (fun b h n m => Model.score T.N (Model.qkvMv T (W l) (x b) (s b)) (Model.qkvS T (W l) (x b) (s b)) h n m) (p C hT l hl x s hx hs) (res_main_while0b_v169 V) (fun b => Model.qkvMv T (W l) (x b) (s b)) (q_mv C hT l hl x s hx hs) b n c a
theorem o_s : ∀ b n d, (res_main_while0b_v211 V : FVec Ideal S8x1024x32 .f32) (ix3 b n d) = ((Model.attS T (W l) (x b) (s b) n d : ℝ) : EReal) := by
  intro b n d
  exact meanS_real (res_main_while0b_v205 V) (fun b h n m => Model.score T.N (Model.qkvMv T (W l) (x b) (s b)) (Model.qkvS T (W l) (x b) (s b)) h n m) (p C hT l hl x s hx hs) (res_main_while0b_v174 V) (fun b => Model.qkvS T (W l) (x b) (s b)) (q_s C hT l hl x s hx hs) b n d
theorem o_lin : ∀ b n c a, (res_main_while0b_v214 V : FVec Ideal S8x1024x16x16 .f32) (ix4 b n c a) = ((∑ i, ∑ e, Model.eff T.B (W l).ow c i a e * (fun b => Model.attMv T (W l) (x b) (s b)) b n i e : ℝ) : EReal) := by
  intro b n c a
  exact lin16_real (fun b => Model.attMv T (W l) (x b) (s b)) T.B (V (Proc.devRef .tc main_v19_9)) (res_main_while0b_v208 V) C.basis (o_mv C hT l hl x s hx hs) (pick4 (V (Proc.devRef .tc main_v19_5)) (V (Proc.devRef .tc main_v19_20)) 16#32 16#32 9#32 sliceFits_S8x16x16x9_S1x16x16x9 shapeCasts_S1x16x16x9_S16x16x9) (W l).ow (ow_real C l hl) b n c a
theorem mid_mv : ∀ b n c a, (res_main_while0b_v226 V : FVec Ideal S8x1024x16x16 .f32) (ix4 b n c a) = ((Model.midMv T (W l) (x b) (s b) n c a : ℝ) : EReal) := by
  intro b n c a
  exact (congrArg₂ (fun u v : EReal => u + v) (hx b n c a) (addScalar_real (res_main_while0b_v214 V) (Host.dotGeneral dot_S8x1024x32_S16x32_S8x1024x16_2_1_01_0_n_n none (res_main_while0b_v211 V) (pick3 (V (Proc.devRef .tc main_v19_6)) (V (Proc.devRef .tc main_v19_20)) 16#32 32#32 sliceFits_S8x16x32_S1x16x32 shapeCasts_S1x16x32_S16x32)) slices_S8x1024x16x16_S8x1024x16x1_0_0_0_0 bcast_S8x1024x16_S8x1024x16x1_0_1_2 slices_S8x1024x16x16_S8x1024x16x15_0_0_0_1 concatenates_S8x1024x16x1_S8x1024x16x15_S8x1024x16x16_d3 (fun b n c a => ∑ i, ∑ e, Model.eff T.B (W l).ow c i a e * (fun b => Model.attMv T (W l) (x b) (s b)) b n i e) (fun b n o => ∑ d, (W l).osm o d * (fun b => Model.attS T (W l) (x b) (s b)) b n d) (o_lin C hT l hl x s hx hs) (sc16_real (fun b => Model.attS T (W l) (x b) (s b)) (res_main_while0b_v211 V) (o_s C hT l hl x s hx hs) (pick3 (V (Proc.devRef .tc main_v19_6)) (V (Proc.devRef .tc main_v19_20)) 16#32 32#32 sliceFits_S8x16x32_S1x16x32 shapeCasts_S1x16x32_S16x32) (W l).osm (osm_real C l hl)) (by decide) b n c a)).trans (add_coe _ _)
theorem mid_s : ∀ b n d, (res_main_while0b_v227 V : FVec Ideal S8x1024x32 .f32) (ix3 b n d) = ((Model.midS T (W l) (x b) (s b) n d : ℝ) : EReal) := by
  intro b n d
  exact (congrArg₂ (fun u v : EReal => u + v) (hs b n d) (linS32_real (fun b => Model.attS T (W l) (x b) (s b)) (res_main_while0b_v211 V) (o_s C hT l hl x s hx hs) (fun b => Model.attMv T (W l) (x b) (s b)) (res_main_while0b_v208 V) (o_mv C hT l hl x s hx hs) (pick3 (V (Proc.devRef .tc main_v19_8)) (V (Proc.devRef .tc main_v19_20)) 32#32 32#32 sliceFits_S8x32x32_S1x32x32 shapeCasts_S1x32x32_S32x32) (W l).oss (oss_real C l hl) (pick3 (V (Proc.devRef .tc main_v19_7)) (V (Proc.devRef .tc main_v19_20)) 32#32 16#32 sliceFits_S8x32x16_S1x32x16 shapeCasts_S1x32x16_S32x16) (W l).oms (oms_real C l hl) b n d)).trans (add_coe _ _)
theorem n2_mv : ∀ b n c a, (res_main_while0b_v242 V : FVec Ideal S8x1024x16x16 .f32) (ix4 b n c a) = ((Model.normMv T.N (Model.midMv T (W l) (x b) (s b) n) c a : ℝ) : EReal) := by
  intro b n c a
  exact rmsMv_real (res_main_while0b_v226 V) (V (Proc.devRef .tc main_v19_0)) (fun b => Model.midMv T (W l) (x b) (s b)) T.N hT (mid_mv C hT l hl x s hx hs) C.inner b n c a
theorem n2_s : ∀ b n d, (res_main_while0b_v252 V : FVec Ideal S8x1024x32 .f32) (ix3 b n d) = ((Model.normS (Model.midS T (W l) (x b) (s b) n) d : ℝ) : EReal) := by
  intro b n d
  exact rmsS_real (res_main_while0b_v227 V) (fun b => Model.midS T (W l) (x b) (s b)) (mid_s C hT l hl x s hx hs) b n d
theorem h_lin : ∀ b n c a, (res_main_while0b_v357 V : FVec Ideal S8x1024x32x16 .f32) (ix4 b n c a) = ((∑ i, ∑ e, Model.eff T.B (W l).m1w c i a e * (fun b n => Model.normMv T.N (Model.midMv T (W l) (x b) (s b) n)) b n i e : ℝ) : EReal) := by
  intro b n c a
  exact lin32_real (fun b n => Model.normMv T.N (Model.midMv T (W l) (x b) (s b) n)) T.B (V (Proc.devRef .tc main_v19_9)) (res_main_while0b_v242 V) C.basis (n2_mv C hT l hl x s hx hs) (pick4 (V (Proc.devRef .tc main_v19_10)) (V (Proc.devRef .tc main_v19_20)) 32#32 16#32 9#32 sliceFits_S8x32x16x9_S1x32x16x9 shapeCasts_S1x32x16x9_S32x16x9) (W l).m1w (m1w_real C l hl) b n c a
theorem h_mv : ∀ b n c a, (res_main_while0b_v363 V : FVec Ideal S8x1024x32x16 .f32) (ix4 b n c a) = ((Model.lin T.B (W l).m1w (W l).m1sm ((fun b n => Model.normMv T.N (Model.midMv T (W l) (x b) (s b) n)) b n) ((fun b n => Model.normS (Model.midS T (W l) (x b) (s b) n)) b n) c a : ℝ) : EReal) := by
  intro b n c a
  exact addScalar_real (res_main_while0b_v357 V) (Host.dotGeneral dot_S8x1024x32_S32x32_S8x1024x32_2_1_01_0_n_n none (res_main_while0b_v252 V) (pick3 (V (Proc.devRef .tc main_v19_11)) (V (Proc.devRef .tc main_v19_20)) 32#32 32#32 sliceFits_S8x32x32_S1x32x32 shapeCasts_S1x32x32_S32x32)) slices_S8x1024x32x16_S8x1024x32x1_0_0_0_0 bcast_S8x1024x32_S8x1024x32x1_0_1_2 slices_S8x1024x32x16_S8x1024x32x15_0_0_0_1 concatenates_S8x1024x32x1_S8x1024x32x15_S8x1024x32x16_d3 (fun b n c a => ∑ i, ∑ e, Model.eff T.B (W l).m1w c i a e * (fun b n => Model.normMv T.N (Model.midMv T (W l) (x b) (s b) n)) b n i e) (fun b n o => ∑ d, (W l).m1sm o d * (fun b n => Model.normS (Model.midS T (W l) (x b) (s b) n)) b n d) (h_lin C hT l hl x s hx hs) (sc32_real (fun b n => Model.normS (Model.midS T (W l) (x b) (s b) n)) (res_main_while0b_v252 V) (n2_s C hT l hl x s hx hs) (pick3 (V (Proc.devRef .tc main_v19_11)) (V (Proc.devRef .tc main_v19_20)) 32#32 32#32 sliceFits_S8x32x32_S1x32x32 shapeCasts_S1x32x32_S32x32) (W l).m1sm (m1sm_real C l hl)) (by decide) b n c a
theorem h_s : ∀ b n d, (res_main_while0b_v368 V : FVec Ideal S8x1024x64 .f32) (ix3 b n d) = ((Model.linS (W l).m1ms (W l).m1ss ((fun b n => Model.normMv T.N (Model.midMv T (W l) (x b) (s b) n)) b n) ((fun b n => Model.normS (Model.midS T (W l) (x b) (s b) n)) b n) d : ℝ) : EReal) := by
  intro b n d
  exact linS64_real (fun b n => Model.normS (Model.midS T (W l) (x b) (s b) n)) (res_main_while0b_v252 V) (n2_s C hT l hl x s hx hs) (fun b n => Model.normMv T.N (Model.midMv T (W l) (x b) (s b) n)) (res_main_while0b_v242 V) (n2_mv C hT l hl x s hx hs) (pick3 (V (Proc.devRef .tc main_v19_13)) (V (Proc.devRef .tc main_v19_20)) 64#32 32#32 sliceFits_S8x64x32_S1x64x32 shapeCasts_S1x64x32_S64x32) (W l).m1ss (m1ss_real C l hl) (pick3 (V (Proc.devRef .tc main_v19_12)) (V (Proc.devRef .tc main_v19_20)) 64#32 16#32 sliceFits_S8x64x16_S1x64x16 shapeCasts_S1x64x16_S64x16) (W l).m1ms (m1ms_real C l hl) b n d
theorem g_prod : ∀ b n c a, (res_main_while0b_v372 V : FVec Ideal S8x1024x16x16 .f32) (ix4 b n c a) = ((Model.gprod T.G (Model.lin T.B (W l).m1w (W l).m1sm ((fun b n => Model.normMv T.N (Model.midMv T (W l) (x b) (s b) n)) b n) ((fun b n => Model.normS (Model.midS T (W l) (x b) (s b) n)) b n)) c a : ℝ) : EReal) := by
  intro b n c a
  exact products_real (res_main_while0b_v363 V) (V (Proc.devRef .tc main_v19_18)) (fun b n => Model.lin T.B (W l).m1w (W l).m1sm ((fun b n => Model.normMv T.N (Model.midMv T (W l) (x b) (s b) n)) b n) ((fun b n => Model.normS (Model.midS T (W l) (x b) (s b) n)) b n)) T.G (h_mv C hT l hl x s hx hs) C.prod b n c a
theorem g_mv : ∀ b n c a, (res_main_while0b_v388 V : FVec Ideal S8x1024x16x16 .f32) (ix4 b n c a) = ((Model.gateMv T.G (Model.lin T.B (W l).m1w (W l).m1sm ((fun b n => Model.normMv T.N (Model.midMv T (W l) (x b) (s b) n)) b n) ((fun b n => Model.normS (Model.midS T (W l) (x b) (s b) n)) b n)) c a : ℝ) : EReal) := by
  intro b n c a
  exact gatedMv_real (res_main_while0b_v372 V) (fun b n => Model.gprod T.G (Model.lin T.B (W l).m1w (W l).m1sm ((fun b n => Model.normMv T.N (Model.midMv T (W l) (x b) (s b) n)) b n) ((fun b n => Model.normS (Model.midS T (W l) (x b) (s b) n)) b n))) (g_prod C hT l hl x s hx hs) b n c a
theorem g_s : ∀ b n d, (res_main_while0b_v404 V : FVec Ideal S8x1024x32 .f32) (ix3 b n d) = ((Model.gateS (Model.linS (W l).m1ms (W l).m1ss ((fun b n => Model.normMv T.N (Model.midMv T (W l) (x b) (s b) n)) b n) ((fun b n => Model.normS (Model.midS T (W l) (x b) (s b) n)) b n)) d : ℝ) : EReal) := by
  intro b n d
  exact gatedS_real (res_main_while0b_v368 V) (fun b n => Model.linS (W l).m1ms (W l).m1ss ((fun b n => Model.normMv T.N (Model.midMv T (W l) (x b) (s b) n)) b n) ((fun b n => Model.normS (Model.midS T (W l) (x b) (s b) n)) b n)) (h_s C hT l hl x s hx hs) b n d
theorem m_lin : ∀ b n c a, (res_main_while0b_v407 V : FVec Ideal S8x1024x16x16 .f32) (ix4 b n c a) = ((∑ i, ∑ e, Model.eff T.B (W l).m2w c i a e * (fun b n => Model.gateMv T.G (Model.lin T.B (W l).m1w (W l).m1sm ((fun b n => Model.normMv T.N (Model.midMv T (W l) (x b) (s b) n)) b n) ((fun b n => Model.normS (Model.midS T (W l) (x b) (s b) n)) b n))) b n i e : ℝ) : EReal) := by
  intro b n c a
  exact lin16_real (fun b n => Model.gateMv T.G (Model.lin T.B (W l).m1w (W l).m1sm ((fun b n => Model.normMv T.N (Model.midMv T (W l) (x b) (s b) n)) b n) ((fun b n => Model.normS (Model.midS T (W l) (x b) (s b) n)) b n))) T.B (V (Proc.devRef .tc main_v19_9)) (res_main_while0b_v388 V) C.basis (g_mv C hT l hl x s hx hs) (pick4 (V (Proc.devRef .tc main_v19_14)) (V (Proc.devRef .tc main_v19_20)) 16#32 16#32 9#32 sliceFits_S8x16x16x9_S1x16x16x9 shapeCasts_S1x16x16x9_S16x16x9) (W l).m2w (m2w_real C l hl) b n c a
/-- The multivectors after the trip. -/
theorem step_mv (b : Fin 8) (n : Fin 1024) (c a : Fin 16) : (step_main_v19_21 V : FVec Ideal S8x1024x16x16 .f32) (ix4 b n c a) = ((Model.stepMv T (W l) (x b) (s b) n c a : ℝ) : EReal) :=
  (congrArg₂ (fun u v : EReal => u + v) (mid_mv C hT l hl x s hx hs b n c a) (addScalar_real (res_main_while0b_v407 V) (Host.dotGeneral dot_S8x1024x32_S16x32_S8x1024x16_2_1_01_0_n_n none (res_main_while0b_v404 V) (pick3 (V (Proc.devRef .tc main_v19_15)) (V (Proc.devRef .tc main_v19_20)) 16#32 32#32 sliceFits_S8x16x32_S1x16x32 shapeCasts_S1x16x32_S16x32)) slices_S8x1024x16x16_S8x1024x16x1_0_0_0_0 bcast_S8x1024x16_S8x1024x16x1_0_1_2 slices_S8x1024x16x16_S8x1024x16x15_0_0_0_1 concatenates_S8x1024x16x1_S8x1024x16x15_S8x1024x16x16_d3 (fun b n c a => ∑ i, ∑ e, Model.eff T.B (W l).m2w c i a e * (fun b n => Model.gateMv T.G (Model.lin T.B (W l).m1w (W l).m1sm ((fun b n => Model.normMv T.N (Model.midMv T (W l) (x b) (s b) n)) b n) ((fun b n => Model.normS (Model.midS T (W l) (x b) (s b) n)) b n))) b n i e) (fun b n o => ∑ d, (W l).m2sm o d * (fun b n => Model.gateS (Model.linS (W l).m1ms (W l).m1ss ((fun b n => Model.normMv T.N (Model.midMv T (W l) (x b) (s b) n)) b n) ((fun b n => Model.normS (Model.midS T (W l) (x b) (s b) n)) b n))) b n d) (m_lin C hT l hl x s hx hs) (sc16_real (fun b n => Model.gateS (Model.linS (W l).m1ms (W l).m1ss ((fun b n => Model.normMv T.N (Model.midMv T (W l) (x b) (s b) n)) b n) ((fun b n => Model.normS (Model.midS T (W l) (x b) (s b) n)) b n))) (res_main_while0b_v404 V) (g_s C hT l hl x s hx hs) (pick3 (V (Proc.devRef .tc main_v19_15)) (V (Proc.devRef .tc main_v19_20)) 16#32 32#32 sliceFits_S8x16x32_S1x16x32 shapeCasts_S1x16x32_S16x32) (W l).m2sm (m2sm_real C l hl)) (by decide) b n c a)).trans (add_coe _ _)
/-- The scalars after the trip. -/
theorem step_s (b : Fin 8) (n : Fin 1024) (d : Fin 32) : (step_main_v19_22 V : FVec Ideal S8x1024x32 .f32) (ix3 b n d) = ((Model.stepS T (W l) (x b) (s b) n d : ℝ) : EReal) :=
  (congrArg₂ (fun u v : EReal => u + v) (mid_s C hT l hl x s hx hs b n d) (linS32_real (fun b n => Model.gateS (Model.linS (W l).m1ms (W l).m1ss ((fun b n => Model.normMv T.N (Model.midMv T (W l) (x b) (s b) n)) b n) ((fun b n => Model.normS (Model.midS T (W l) (x b) (s b) n)) b n))) (res_main_while0b_v404 V) (g_s C hT l hl x s hx hs) (fun b n => Model.gateMv T.G (Model.lin T.B (W l).m1w (W l).m1sm ((fun b n => Model.normMv T.N (Model.midMv T (W l) (x b) (s b) n)) b n) ((fun b n => Model.normS (Model.midS T (W l) (x b) (s b) n)) b n))) (res_main_while0b_v388 V) (g_mv C hT l hl x s hx hs) (pick3 (V (Proc.devRef .tc main_v19_17)) (V (Proc.devRef .tc main_v19_20)) 32#32 32#32 sliceFits_S8x32x32_S1x32x32 shapeCasts_S1x32x32_S32x32) (W l).m2ss (m2ss_real C l hl) (pick3 (V (Proc.devRef .tc main_v19_16)) (V (Proc.devRef .tc main_v19_20)) 32#32 16#32 sliceFits_S8x32x16_S1x32x16 shapeCasts_S1x32x16_S32x16) (W l).m2ms (m2ms_real C l hl) b n d)).trans (add_coe _ _)
end

end Cert.ReferenceIdeal.Value

end
-- ==== Proof.RLoop.lean ====
module

public import proofs.«01_k».proof.Proof.REntry
public import proofs.«01_k».proof.Proof.RStep
public import proofs.«01_k».proof.Proof.RefRun

@[expose] public section

set_option maxRecDepth 16384

noncomputable section

/-! What the reference's loop holds before every trip. -/

namespace Cert.ReferenceIdeal.Value
open Idealize.ShloMosaic Idealize.ShloMosaic.TcCoe
open Cert.ReferenceIdeal Cert.ReferenceIdeal.Gen

/-- The contents before trip `l`, for the states `x` and `s` of the eight examples. -/
structure At (V : Valuation τ sig (Elt Ideal)) (W : Fin 8 → Model.Weights) (l : ℕ) (x : Fin 8 → Model.Mv) (s : Fin 8 → Model.Sc) : Prop where
  consts : Consts V Model.tables W
  count : (V (Proc.devRef .tc main_v19_20) : IVec S_ 32) = fun _ => BitVec.ofNat 32 l
  mv : ∀ b n c a, (V (Proc.devRef .tc main_v19_21) : FVec Ideal S8x1024x16x16 .f32) (ix4 b n c a) = ((x b n c a : ℝ) : EReal)
  sc : ∀ b n d, (V (Proc.devRef .tc main_v19_22) : FVec Ideal S8x1024x32 .f32) (ix3 b n d) = ((s b n d : ℝ) : EReal)

theorem toInt_trip (l : Fin 8) : (BitVec.ofNat 32 (l : ℕ)).toInt = ((l : ℕ) : ℤ) := by revert l; decide

/-- One trip. -/
theorem At.step {V : Valuation τ sig (Elt Ideal)} {W : Fin 8 → Model.Weights} {x : Fin 8 → Model.Mv} {s : Fin 8 → Model.Sc} (l : Fin 8) (A : At V W l x s) :
    At (STEP V) W (l + 1) (fun b => Model.stepMv Model.tables (W l) (x b) (s b)) (fun b => Model.stepS Model.tables (W l) (x b) (s b)) where
  consts := A.consts.step
  count := by
    refine (STEP_main_v19_20 V).trans (funext fun i => (congrArg (fun w : BitVec 32 => w + 1#32) (congrFun A.count i)).trans ?_)
    exact (BitVec.ofNat_add _ _).symm
  mv := fun b n c a => (congrFun (STEP_main_v19_21 V) _).trans
    (step_mv A.consts Model.tables_N_nonneg l (fun i => (congrArg BitVec.toInt (congrFun A.count i)).trans (toInt_trip l)) x s A.mv A.sc b n c a)
  sc := fun b n d => (congrFun (STEP_main_v19_22 V) _).trans
    (step_s A.consts Model.tables_N_nonneg l (fun i => (congrArg BitVec.toInt (congrFun A.count i)).trans (toInt_trip l)) x s A.mv A.sc b n d)

variable (m : (ℓ : Loc nD τ sig) → Buf (Elt Ideal) ℓ) (c : Dev nD)

/-- The contents before trip `k` hold the model's state before layer `k`. -/
theorem carry_at (H : (ins m c).Finite) : ∀ k, k ≤ 8 → At (carry m c k) (ins m c).args.W k (fun b => ((ins m c).args.st b k).1) (fun b => ((ins m c).args.st b k).2)
  | 0, _ => ⟨entry_consts m c H, entry_count m c, entry_mv m c H, entry_s m c H⟩
  | k + 1, hk => by
    have h := (carry_at H k (by omega)).step (l := ⟨k, by omega⟩)
    rw [show carry m c (k + 1) = STEP (carry m c k) from Function.iterate_succ_apply' _ _ _]
    have e : (ins m c).args.layer k = (ins m c).args.W ⟨k, by omega⟩ := (ins m c).args.layer_val ⟨k, by omega⟩
    rw [← e] at h
    exact h

end Cert.ReferenceIdeal.Value

end
-- ==== Proof.Pre.lean ====
module

public import proofs.«01_k».proof.Pre_all_finite
public import proofs.«01_k».proof.Proof.Ins
public import Idealize.ShloMosaic.PureOps.Reduce
public import Idealize.ShloMosaic.PureOps.Ideal

@[expose] public section

set_option maxRecDepth 16384

noncomputable section

/-! The precondition: every entry of every argument is a real number. -/

namespace Cert.Pre_all_finite
open Idealize.ShloMosaic
open Cert.Model (Ins IsReal)

theorem word_and_eq_one (a b : BitVec 1) : IntOp.andi a b = 1#1 ↔ a = 1#1 ∧ b = 1#1 := by revert a b; decide

theorem andi_eq_one (a b : IVec S_ 1) (i : S_.Idx) : andi a b i = 1#1 ↔ a i = 1#1 ∧ b i = 1#1 := word_and_eq_one _ _

/-- A conjunction of words that is one has every word one. -/
theorem fold_and {ι : Type*} (s : Finset ι) (f : ι → BitVec 1) (b : BitVec 1) (h : s.fold IntOp.andi b f = 1#1) : ∀ i ∈ s, f i = 1#1 := by
  induction s using Finset.cons_induction with
  | empty => exact fun i hi => absurd hi (Finset.notMem_empty i)
  | cons a s ha ih =>
    rw [Finset.fold_cons, word_and_eq_one] at h
    intro i hi
    rcases Finset.mem_cons.mp hi with rfl | hi
    · exact h.1
    · exact ih h.2 i hi

theorem w_top : Ideal.ofBits .f32 0x7F800000#32 = ⊤ := by simp [Ideal.ofBits, Ideal.ieee]

/-- An array whose entries are all below infinity in absolute value is an array of real numbers. -/
theorem isReal_of {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1) :
    IsReal x := by
  intro i
  rw [Host.reduce_eq_fold] at e
  have hi := fold_and _ _ _ e i (Finset.mem_filter.mpr ⟨Finset.mem_univ _, funext fun a => a.elim0⟩)
  have hlt : max (x i : EReal) (-(x i : EReal)) < Ideal.ofBits .f32 0x7F800000#32 := by
    by_contra hn
    have h0 : Ideal.cmp .olt (max (x i : EReal) (-(x i : EReal))) (Ideal.ofBits .f32 0x7F800000#32) = 1#1 := hi
    simp [Ideal.cmp, hn] at h0
  rw [w_top] at hlt
  have h1 : (x i : EReal) < ⊤ := lt_of_le_of_lt (le_max_left _ _) hlt
  have h2 : -(x i : EReal) < ⊤ := lt_of_le_of_lt (le_max_right _ _) hlt
  refine ⟨(x i : EReal).toReal, (EReal.coe_toReal h1.ne fun hbot => ?_).symm⟩
  rw [hbot] at h2
  exact absurd h2 (by simp)

theorem finite [Facts] (X : Ins)
    (h : fn (F := Ideal) X.x0 X.x1 X.x2 X.x3 X.x4 X.x5 X.x6 X.x7 X.x8 X.x9 X.x10 X.x11 X.x12 X.x13 X.x14 X.x15 X.x16 X.x17 X.x18 X.x19 X.x20 X.x21 = fun _ => 1#1) :
    X.Finite := by
  have e := congrFun h (fun a => a.elim0)
  simp only [fn, fn_part1, fn_part2, fn_part3, fn_part4, fn_part5, fn_part6, andi_eq_one] at e
  obtain ⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩ := e
  exact ⟨isReal_of _ _ _ _ _ e0, isReal_of _ _ _ _ _ e1, isReal_of _ _ _ _ _ e2, isReal_of _ _ _ _ _ e3, isReal_of _ _ _ _ _ e4, isReal_of _ _ _ _ _ e5,
    isReal_of _ _ _ _ _ e6, isReal_of _ _ _ _ _ e7, isReal_of _ _ _ _ _ e8, isReal_of _ _ _ _ _ e9, isReal_of _ _ _ _ _ e10, isReal_of _ _ _ _ _ e11,
    isReal_of _ _ _ _ _ e12, isReal_of _ _ _ _ _ e13, isReal_of _ _ _ _ _ e14, isReal_of _ _ _ _ _ e15, isReal_of _ _ _ _ _ e16, isReal_of _ _ _ _ _ e17,
    isReal_of _ _ _ _ _ e18, isReal_of _ _ _ _ _ e19, isReal_of _ _ _ _ _ e20, isReal_of _ _ _ _ _ e21⟩

end Cert.Pre_all_finite

end
-- ==== Proof.Equal.lean ====
module

public import proofs.«01_k».proof.Defs
public import proofs.«01_k».proof.Proof.KOut
public import proofs.«01_k».proof.Proof.ROut
public import proofs.«01_k».proof.Proof.RLoop
public import proofs.«01_k».proof.Proof.Pre
public import proofs.«01_k».proof.Proof.Gen.Pre_all_finite

@[expose] public section

set_option maxRecDepth 16384

noncomputable section

/-! The kernel's result and the reference's are the model's result of the same arguments. -/

namespace Cert.ReferenceIdeal.Value
open Idealize.ShloMosaic Idealize.ShloMosaic.StableHlo Idealize.ShloMosaic.TcCoe
open Cert.ReferenceIdeal Cert.ReferenceIdeal.Gen

/-- The reference's result as a function of the real arguments. -/
theorem reference_out (m : (ℓ : Loc nD τ sig) → Buf (Elt Ideal) ℓ) (c : Dev nD) (H : (ins m c).Finite) :
    tailTerm (entryContents preI m c (Proc.devRef .tc main_cst)) (m ((c.tc : Thread nD τ).loc main_arg20)) (m ((c.tc : Thread nD τ).loc main_arg21))
      (carry m c 8 (Proc.devRef .tc main_v19_21)) (carry m c 8 (Proc.devRef .tc main_v19_22)) = (ins m c).args.outV := by
  have A := carry_at m c H 8 le_rfl
  rw [entry_cst m c]
  funext i
  obtain ⟨b, rfl⟩ : ∃ b : Fin 8, i = ix2 b 0 := ⟨i 0, funext fun a => match a with | 0 => rfl | 1 => Subsingleton.elim (α := Fin 1) _ _⟩
  exact tailTerm_real Model.tables.B basisT basisT_real (ins m c).args.wo (ins m c).x20 (fun _ _ _ => H.x20.val _)
    (ins m c).args.wos (ins m c).x21 (fun _ _ => H.x21.val _) _ _ A.mv _ _ A.sc b

end Cert.ReferenceIdeal.Value

namespace Cert.Proof
open Idealize.ShloMosaic Idealize.SL.Sem

/-- Under the precondition every entry of the kernel's arguments is a real number. -/
theorem kernel_finite (m : (ℓ : Loc Cert.KernelIdeal.nD Cert.KernelIdeal.τ Cert.KernelIdeal.sig) → Buf (Elt Ideal) ℓ) (h : Cert.Pre_KernelIdeal_all_finite m)
    (c : Dev Cert.KernelIdeal.nD) : (Cert.KernelIdeal.Value.ins m c).Finite :=
  Cert.Pre_all_finite.finite (Cert.KernelIdeal.Value.ins m c) (h c)

/-- The kernel and the reference, over the extended reals and from the same finite arguments, end with the same result. -/
theorem equal : Cert.algebraic_KernelIdeal_ReferenceIdeal_pre_all_finite := by
  intro m g m' g' hpre hargs
  have e (c : Dev Cert.KernelIdeal.nD) : Cert.ReferenceIdeal.Value.ins m' c = Cert.KernelIdeal.Value.ins m c := by
    obtain ⟨h0, h1, h2, h3, h4, h5, h6, h7, h8, h9, h10, h11, h12, h13, h14, h15, h16, h17, h18, h19, h20, h21⟩ := hargs c
    exact (Model.Ins.mk.injEq ..).mpr ⟨h0, h1, h2, h3, h4, h5, h6, h7, h8, h9, h10, h11, h12, h13, h14, h15, h16, h17, h18, h19, h20, h21⟩
  have H := kernel_finite m hpre
  refine ⟨fun c => (Cert.KernelIdeal.Value.ins m c).args.outV, ?_, ?_⟩
  · exact (θ_run Cert.KernelIdeal.defs _ _).mono (fun r h c => ⟨(h c).1.trans (Cert.KernelIdeal.Value.kernel_out m c (H c) _ _), (h c).2⟩)
      (Cert.KernelIdeal.Value.run (F := Ideal) m g)
  · refine (θ_run Cert.ReferenceIdeal.defs _ _).mono (fun r h c => ⟨(h c).1.trans ?_, (h c).2⟩) (Cert.ReferenceIdeal.Value.run_closed (F := Ideal) m' g')
    have Hr : (Cert.ReferenceIdeal.Value.ins m' c).Finite := (e c).symm ▸ H c
    exact (Cert.ReferenceIdeal.Value.reference_out m' c Hr).trans (congrArg (fun X : Model.Ins => X.args.outV) (e c))

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Run
public import proofs.«01_k».proof.Proof.Gen.ReferenceIdeal.Run
public import proofs.«01_k».proof.Proof.Gen.Pre_all_finite
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem

/-- The reference runs, leaves its arguments as they were, and every semaphore counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run_closed (F := Ideal) m ρ)

theorem claim : Cert.Claim := ⟨Cert.Kernel.Gen.facts, Cert.KernelIdeal.Gen.facts, Cert.ReferenceIdeal.Gen.facts, Cert.Pre_all_finite.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, equal⟩

end Cert.Proof

end
